-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_pre_attn_fwd [hPre_pre_attn_fwd : Cert.Pre_pre_attn_fwd.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre_attn_fwd.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre_attn_fwd [hPre_pre_attn_fwd : Cert.Pre_pre_attn_fwd.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre_attn_fwd.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pre_final_loss [hPre_pre_final_loss : Cert.Pre_pre_final_loss.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pre_final_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pre_final_loss [hPre_pre_final_loss : Cert.Pre_pre_final_loss.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pre_final_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_pre_rel_bias_fwd [hPre_pre_rel_bias_fwd : Cert.Pre_pre_rel_bias_fwd.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_pre_rel_bias_fwd.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_pre_rel_bias_fwd [hPre_pre_rel_bias_fwd : Cert.Pre_pre_rel_bias_fwd.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_pre_rel_bias_fwd.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_pre_rel_bias_bwd [hPre_pre_rel_bias_bwd : Cert.Pre_pre_rel_bias_bwd.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_pre_rel_bias_bwd.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_pre_rel_bias_bwd [hPre_pre_rel_bias_bwd : Cert.Pre_pre_rel_bias_bwd.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_pre_rel_bias_bwd.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_pre_attn_fwd [hKernel3Ideal : Cert.Kernel3Ideal.Facts] [hPre_pre_attn_fwd : Cert.Pre_pre_attn_fwd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_pre_attn_fwd m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_pre_attn_fwd [hReference3Ideal : Cert.Reference3Ideal.Facts] [hPre_pre_attn_fwd : Cert.Pre_pre_attn_fwd.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre_attn_fwd m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_pre_final_loss [hKernel5Ideal : Cert.Kernel5Ideal.Facts] [hPre_pre_final_loss : Cert.Pre_pre_final_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pre_final_loss m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_pre_final_loss [hReference5Ideal : Cert.Reference5Ideal.Facts] [hPre_pre_final_loss : Cert.Pre_pre_final_loss.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pre_final_loss m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Kernel24Ideal_pre_pre_rel_bias_fwd [hKernel24Ideal : Cert.Kernel24Ideal.Facts] [hPre_pre_rel_bias_fwd : Cert.Pre_pre_rel_bias_fwd.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_pre_rel_bias_fwd m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Reference24Ideal_pre_pre_rel_bias_fwd [hReference24Ideal : Cert.Reference24Ideal.Facts] [hPre_pre_rel_bias_fwd : Cert.Pre_pre_rel_bias_fwd.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_pre_rel_bias_fwd m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Kernel25Ideal_pre_pre_rel_bias_bwd [hKernel25Ideal : Cert.Kernel25Ideal.Facts] [hPre_pre_rel_bias_bwd : Cert.Pre_pre_rel_bias_bwd.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_pre_rel_bias_bwd m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Reference25Ideal_pre_pre_rel_bias_bwd [hReference25Ideal : Cert.Reference25Ideal.Facts] [hPre_pre_rel_bias_bwd : Cert.Pre_pre_rel_bias_bwd.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_pre_rel_bias_bwd m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v80_3)) (v4 : (c : Dev Cert.KernelIdeal.nD) → Buf (Elt Ideal) ((c.tc : Thread Cert.KernelIdeal.nD Cert.KernelIdeal.τ).loc Cert.KernelIdeal.main_v80_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v80_3) = v3 c
          ∧ r.2.mem ((c.tc : Thread Cert.KernelIdeal.nD Cert.KernelIdeal.τ).loc Cert.KernelIdeal.main_v80_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_v188) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xF149F2CA#32 ⊥

def algebraic_Kernel3Ideal_Reference3Ideal_pre_pre_attn_fwd [hKernel3Ideal : Cert.Kernel3Ideal.Facts] [hReference3Ideal : Cert.Reference3Ideal.Facts] [hPre_pre_attn_fwd : Cert.Pre_pre_attn_fwd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_pre_attn_fwd m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v155) = v0 c
          ∧ r.2.mem ((c.tc : Thread Cert.Reference3Ideal.nD Cert.Reference3Ideal.τ).loc Cert.Reference3Ideal.main_v156) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_pre_final_loss [hKernel5Ideal : Cert.Kernel5Ideal.Facts] [hReference5Ideal : Cert.Reference5Ideal.Facts] [hPre_pre_final_loss : Cert.Pre_pre_final_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pre_final_loss m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v60) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_v68) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v11) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal_pre_pre_rel_bias_fwd [hKernel24Ideal : Cert.Kernel24Ideal.Facts] [hReference24Ideal : Cert.Reference24Ideal.Facts] [hPre_pre_rel_bias_fwd : Cert.Pre_pre_rel_bias_fwd.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_pre_rel_bias_fwd m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v8)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v8) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal_pre_pre_rel_bias_bwd [hKernel25Ideal : Cert.Kernel25Ideal.Facts] [hReference25Ideal : Cert.Reference25Ideal.Facts] [hPre_pre_rel_bias_bwd : Cert.Pre_pre_rel_bias_bwd.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_pre_rel_bias_bwd m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v9)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v9) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v11) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  IdealRules.named_const.Statement Cert.Kernel26Ideal.κ "corr1" .f32 0x3FC48605#32 ((8388608 / 5463681 : ℝ) : EReal)
  ∧ IdealRules.named_const.Statement Cert.Kernel26Ideal.κ "corr2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg3) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "corr1" .f32 0x3FC48605#32 ((8388608 / 5463681 : ℝ) : EReal)
  ∧ IdealRules.named_const.Statement Cert.Kernel27Ideal.κ "corr2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg3) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "corr1" .f32 0x3FC48605#32 ((8388608 / 5463681 : ℝ) : EReal)
  ∧ IdealRules.named_const.Statement Cert.Kernel28Ideal.κ "corr2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg3) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "corr1" .f32 0x3FC48605#32 ((8388608 / 5463681 : ℝ) : EReal)
  ∧ IdealRules.named_const.Statement Cert.Kernel29Ideal.κ "corr2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg3) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_pre : Cert.Pre_pre.Facts) (hPre_pre_attn_fwd : Cert.Pre_pre_attn_fwd.Facts) (hPre_pre_final_loss : Cert.Pre_pre_final_loss.Facts) (hPre_pre_rel_bias_fwd : Cert.Pre_pre_rel_bias_fwd.Facts) (hPre_pre_rel_bias_bwd : Cert.Pre_pre_rel_bias_bwd.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_pre_attn_fwd (hKernel3Ideal := hKernel3Ideal) (hPre_pre_attn_fwd := hPre_pre_attn_fwd)
    ∧ quiescent_Reference3Ideal (hReference3Ideal := hReference3Ideal)
    ∧ quiescent_Reference3Ideal_pre_pre_attn_fwd (hReference3Ideal := hReference3Ideal) (hPre_pre_attn_fwd := hPre_pre_attn_fwd)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pre_final_loss (hKernel5Ideal := hKernel5Ideal) (hPre_pre_final_loss := hPre_pre_final_loss)
    ∧ quiescent_Reference5Ideal (hReference5Ideal := hReference5Ideal)
    ∧ quiescent_Reference5Ideal_pre_pre_final_loss (hReference5Ideal := hReference5Ideal) (hPre_pre_final_loss := hPre_pre_final_loss)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_pre_rel_bias_fwd (hKernel24Ideal := hKernel24Ideal) (hPre_pre_rel_bias_fwd := hPre_pre_rel_bias_fwd)
    ∧ quiescent_Reference24Ideal (hReference24Ideal := hReference24Ideal)
    ∧ quiescent_Reference24Ideal_pre_pre_rel_bias_fwd (hReference24Ideal := hReference24Ideal) (hPre_pre_rel_bias_fwd := hPre_pre_rel_bias_fwd)
    ∧ quiescent_Kernel25 (hKernel25 := hKernel25)
    ∧ quiescent_Kernel25Ideal (hKernel25Ideal := hKernel25Ideal)
    ∧ quiescent_Kernel25Ideal_pre_pre_rel_bias_bwd (hKernel25Ideal := hKernel25Ideal) (hPre_pre_rel_bias_bwd := hPre_pre_rel_bias_bwd)
    ∧ quiescent_Reference25Ideal (hReference25Ideal := hReference25Ideal)
    ∧ quiescent_Reference25Ideal_pre_pre_rel_bias_bwd (hReference25Ideal := hReference25Ideal) (hPre_pre_rel_bias_bwd := hPre_pre_rel_bias_bwd)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_pre_attn_fwd (hKernel3Ideal := hKernel3Ideal) (hReference3Ideal := hReference3Ideal) (hPre_pre_attn_fwd := hPre_pre_attn_fwd)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pre_final_loss (hKernel5Ideal := hKernel5Ideal) (hReference5Ideal := hReference5Ideal) (hPre_pre_final_loss := hPre_pre_final_loss)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_pre_rel_bias_fwd (hKernel24Ideal := hKernel24Ideal) (hReference24Ideal := hReference24Ideal) (hPre_pre_rel_bias_fwd := hPre_pre_rel_bias_fwd)
    ∧ preserves_Kernel25_Kernel25Ideal
    ∧ algebraic_Kernel25Ideal_Reference25Ideal_pre_pre_rel_bias_bwd (hKernel25Ideal := hKernel25Ideal) (hReference25Ideal := hReference25Ideal) (hPre_pre_rel_bias_bwd := hPre_pre_rel_bias_bwd)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_pre.lean ====
abbrev S4096x10752 : Shape := ⟨2, ![4096, 10752]⟩
abbrev S4096x2048 : Shape := ⟨2, ![4096, 2048]⟩
abbrev S32x128x256 : Shape := ⟨3, ![32, 128, 256]⟩
abbrev S1x32 : Shape := ⟨2, ![1, 32]⟩
abbrev S_ : Shape := ⟨0, ![]⟩

class Facts : Prop where
  bitsLt_bf16_f32 : FTy.bits .bf16 < FTy.bits .f32
  bcast_S_S4096x10752 : S_.BroadcastsInDim S4096x10752 (![] : Fin 0 → Fin S4096x10752.rank)
  reducesTo_S4096x10752_S_d0_1 : S4096x10752.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S32x128x256 : S_.BroadcastsInDim S32x128x256 (![] : Fin 0 → Fin S32x128x256.rank)
  reducesTo_S32x128x256_S_d0_1_2 : S32x128x256.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_v15 : IVec S_ 1) (main_v16 : FVec F S1x32 .f32) (main_cst_4 : FVec F S_ .f32) : IVec S_ 1 :=
  let main_v17 : FVec F S1x32 .f32 := broadcastInDim S1x32 ![] bcast_S_S1x32 main_cst_4
  let main_v18 : IVec S1x32 1 := cmpf .olt main_v16 main_v17
  let main_c_5 : IVec S_ 1 := constantI S_ 1 1#1
  let main_v19 : IVec S_ 1 := (fun x v => Host.reduce IntOp.andi x v reducesTo_S1x32_S_d0_1 h_S_) main_v18 main_c_5
  let main_v20 : IVec S_ 1 := andi main_v15 main_v19
  main_v20

def fn {F : FTy → Type} [FloatOps F] (main_arg0 : FVec F S4096x10752 .bf16) (main_arg1 : FVec F S4096x2048 .bf16) (main_arg2 : FVec F S32x128x256 .f32) (main_arg3 : FVec F S1x32 .f32) (main_arg4 : FVec F S4096x10752 .bf16) : IVec S_ 1 :=
  let main_v0 : FVec F S4096x10752 .f32 := (extf .f32 · bitsLt_bf16_f32) main_arg0
  let main_v1 : FVec F S4096x10752 .f32 := Host.absf main_v0
  let main_cst : FVec F S_ .f32 := constant S_ .f32 0x7F800000#32
  let main_v2 : FVec F S4096x10752 .f32 := broadcastInDim S4096x10752 ![] bcast_S_S4096x10752 main_cst
  let main_v3 : IVec S4096x10752 1 := cmpf .olt main_v1 main_v2
  let main_c : IVec S_ 1 := constantI S_ 1 1#1
  let main_v4 : IVec S_ 1 := (fun x v => Host.reduce IntOp.andi x v reducesTo_S4096x10752_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S32x128x256 .f32 := Host.absf main_arg2
  let main_cst_2 : FVec F S_ .f32 := constant S_ .f32 0x7F800000#32
  let main_v12 : FVec F S32x128x256 .f32 := broadcastInDim S32x128x256 ![] bcast_S_S32x128x256 main_cst_2
  let main_v13 : IVec S32x128x256 1 := cmpf .olt main_v11 main_v12
  let main_c_3 : IVec S_ 1 := constantI S_ 1 1#1
  let main_v14 : IVec S_ 1 := (fun x v => Host.reduce IntOp.andi x v reducesTo_S32x128x256_S_d0_1_2 h_S_) main_v13 main_c_3
  let main_v15 : IVec S_ 1 := andi main_v10 main_v14
  let main_v16 : FVec F S1x32 .f32 := Host.absf main_arg3
  let main_cst_4 : FVec F S_ .f32 := constant S_ .f32 0x7F800000#32
  fn_part1 (F := F) main_v15 main_v16 main_cst_4
-- ==== Pre_pre_attn_fwd.lean ====
abbrev S4096x10752 : Shape := ⟨2, ![4096, 10752]⟩
abbrev S32x128x256 : Shape := ⟨3, ![32, 128, 256]⟩
abbrev S1x32 : Shape := ⟨2, ![1, 32]⟩
abbrev S_ : Shape := ⟨0, ![]⟩

class Facts : Prop where
  bitsLt_bf16_f32 : FTy.bits .bf16 < FTy.bits .f32
  bcast_S_S4096x10752 : S_.BroadcastsInDim S4096x10752 (![] : Fin 0 → Fin S4096x10752.rank)
  reducesTo_S4096x10752_S_d0_1 : S4096x10752.ReducesTo [0, 1] S_
  h_S_ : 0 < S_.numel
  bcast_S_S32x128x256 : S_.BroadcastsInDim S32x128x256 (![] : Fin 0 → Fin S32x128x256.rank)
  reducesTo_S32x128x256_S_d0_1_2 : S32x128x256.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S4096x10752 .bf16) (main_arg1 : FVec F S32x128x256 .f32) (main_arg2 : FVec F S1x32 .f32) : IVec S_ 1 :=
  let main_v0 : FVec F S4096x10752 .f32 := (extf .f32 · bitsLt_bf16_f32) main_arg0
  let main_v1 : FVec F S4096x10752 .f32 := Host.absf main_v0
  let main_cst : FVec F S_ .f32 := constant S_ .f32 0x7F800000#32
  let main_v2 : FVec F S4096x10752 .f32 := broadcastInDim S4096x10752 ![] bcast_S_S4096x10752 main_cst
  let main_v3 : IVec S4096x10752 1 := cmpf .olt main_v1 main_v2
  let main_c : IVec S_ 1 := constantI S_ 1 1#1
  let main_v4 : IVec S_ 1 := (fun x v => Host.reduce IntOp.andi x v reducesTo_S4096x10752_S_d0_1 h_S_) main_v3 main_c
  let main_v5 : FVec F S32x128x256 .f32 := Host.absf main_arg1
  let main_cst_0 : FVec F S_ .f32 := constant S_ .f32 0x7F800000#32
  let main_v6 : FVec F S32x128x256 .f32 := broadcastInDim S32x128x256 ![] bcast_S_S32x128x256 main_cst_0
  let main_v7 : IVec S32x128x256 1 := cmpf .olt main_v5 main_v6
  let main_c_1 : IVec S_ 1 := constantI S_ 1 1#1
  let main_v8 : IVec S_ 1 := (fun x v => Host.reduce IntOp.andi x v reducesTo_S32x128x256_S_d0_1_2 h_S_) main_v7 main_c_1
  let main_v9 : IVec S_ 1 := andi main_v4 main_v8
  let main_v10 : FVec F S1x32 .f32 := Host.absf main_arg2
  let main_cst_2 : FVec F S_ .f32 := constant S_ .f32 0x7F800000#32
  let main_v11 : FVec F S1x32 .f32 := broadcastInDim S1x32 ![] bcast_S_S1x32 main_cst_2
  let main_v12 : IVec S1x32 1 := cmpf .olt main_v10 main_v11
  let main_c_3 : IVec S_ 1 := constantI S_ 1 1#1
  let main_v13 : IVec S_ 1 := (fun x v => Host.reduce IntOp.andi x v reducesTo_S1x32_S_d0_1 h_S_) main_v12 main_c_3
  let main_v14 : IVec S_ 1 := andi main_v9 main_v13
  main_v14
-- ==== Pre_pre_final_loss.lean ====
abbrev S4096x2048 : Shape := ⟨2, ![4096, 2048]⟩
abbrev S1x12288 : Shape := ⟨2, ![1, 12288]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S1x12288 : S_.BroadcastsInDim S1x12288 (![] : Fin 0 → Fin S1x12288.rank)
  reducesTo_S1x12288_S_d0_1 : S1x12288.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S4096x2048 .f32) (main_v14 : IVec S_ 1) (main_v15 : FVec F S2048 .f32) (main_v16 : FVec F S2048 .f32) : IVec S_ 1 :=
  let main_v17 : IVec S2048 1 := cmpf .olt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v14 main_v18
  let main_v20 : FVec F S4096x2048 .f32 := Host.absf main_arg4
  let main_cst_6 : FVec F S_ .f32 := constant S_ .f32 0x7F800000#32
  let main_v21 : FVec F S4096x2048 .f32 := broadcastInDim S4096x2048 ![] bcast_S_S4096x2048 main_cst_6
  let main_v22 : IVec S4096x2048 1 := cmpf .olt main_v20 main_v21
  let main_c_7 : IVec S_ 1 := constantI S_ 1 1#1
  let main_v23 : IVec S_ 1 := (fun x v => Host.reduce IntOp.andi x v reducesTo_S4096x2048_S_d0_1 h_S_) main_v22 main_c_7
  let main_v24 : IVec S_ 1 := andi main_v19 main_v23
  main_v24

def fn {F : FTy → Type} [FloatOps F] (main_arg0 : FVec F S4096x2048 .f32) (main_arg1 : FVec F S4096x2048 .bf16) (main_arg2 : FVec F S1x12288 .f32) (main_arg3 : FVec F S2048 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S1x12288 .f32 := Host.absf main_arg2
  let main_cst_2 : FVec F S_ .f32 := constant S_ .f32 0x7F800000#32
  let main_v11 : FVec F S1x12288 .f32 := broadcastInDim S1x12288 ![] bcast_S_S1x12288 main_cst_2
  let main_v12 : IVec S1x12288 1 := cmpf .olt main_v10 main_v11
  let main_c_3 : IVec S_ 1 := constantI S_ 1 1#1
  let main_v13 : IVec S_ 1 := (fun x v => Host.reduce IntOp.andi x v reducesTo_S1x12288_S_d0_1 h_S_) main_v12 main_c_3
  let main_v14 : IVec S_ 1 := andi main_v9 main_v13
  let main_v15 : FVec F S2048 .f32 := Host.absf main_arg3
  let main_cst_4 : FVec F S_ .f32 := constant S_ .f32 0x7F800000#32
  let main_v16 : FVec F S2048 .f32 := broadcastInDim S2048 ![] bcast_S_S2048 main_cst_4
  fn_part1 (F := F) main_arg4 main_v14 main_v15 main_v16
-- ==== Pre_pre_rel_bias_bwd.lean ====
abbrev S32x128x256 : Shape := ⟨3, ![32, 128, 256]⟩
abbrev S128x256 : Shape := ⟨2, ![128, 256]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel

variable [Facts]

def fn {F : FTy → Type} [FloatOps F] (main_arg0 : FVec F S32x128x256 .f32) (main_arg1 : IVec S128x256 32) : IVec S_ 1 :=
  let main_c : IVec S_ 32 := constantI S_ 32 0#32
  let main_v0 : IVec S128x256 32 := broadcastInDim S128x256 ![] bcast_S_S128x256 main_c
  let main_v1 : IVec S128x256 1 := cmpi .sge main_arg1 main_v0
  let main_c_0 : IVec S_ 32 := constantI S_ 32 32#32
  let main_v2 : IVec S128x256 32 := broadcastInDim S128x256 ![] bcast_S_S128x256 main_c_0
  let main_v3 : IVec S128x256 1 := cmpi .slt main_arg1 main_v2
  let main_v4 : IVec S128x256 1 := andi main_v1 main_v3
  let main_c_1 : IVec S_ 1 := constantI S_ 1 1#1
  let main_v5 : IVec S_ 1 := (fun x v => Host.reduce IntOp.andi x v reducesTo_S128x256_S_d0_1 h_S_) main_v4 main_c_1
  main_v5
-- ==== Pre_pre_rel_bias_fwd.lean ====
abbrev S32x32 : Shape := ⟨2, ![32, 32]⟩
abbrev S128x256 : Shape := ⟨2, ![128, 256]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel

variable [Facts]

def fn {F : FTy → Type} [FloatOps F] (main_arg0 : FVec F S32x32 .f32) (main_arg1 : IVec S128x256 32) : IVec S_ 1 :=
  let main_c : IVec S_ 32 := constantI S_ 32 0#32
  let main_v0 : IVec S128x256 32 := broadcastInDim S128x256 ![] bcast_S_S128x256 main_c
  let main_v1 : IVec S128x256 1 := cmpi .sge main_arg1 main_v0
  let main_c_0 : IVec S_ 32 := constantI S_ 32 32#32
  let main_v2 : IVec S128x256 32 := broadcastInDim S128x256 ![] bcast_S_S128x256 main_c_0
  let main_v3 : IVec S128x256 1 := cmpi .slt main_arg1 main_v2
  let main_v4 : IVec S128x256 1 := andi main_v1 main_v3
  let main_c_1 : IVec S_ 1 := constantI S_ 1 1#1
  let main_v5 : IVec S_ 1 := (fun x v => Host.reduce IntOp.andi x v reducesTo_S128x256_S_d0_1 h_S_) main_v4 main_c_1
  main_v5
-- ==== Kernel.lean ====
abbrev S4096x10752 : Shape := ⟨2, ![4096, 10752]⟩
abbrev S4096x2048 : Shape := ⟨2, ![4096, 2048]⟩
abbrev S32x128x256 : Shape := ⟨3, ![32, 128, 256]⟩
abbrev S1x32 : Shape := ⟨2, ![1, 32]⟩
abbrev S4096x256 : Shape := ⟨2, ![4096, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x4x8x64 : Shape := ⟨5, ![32, 128, 4, 8, 64]⟩
abbrev S4096x4x64 : Shape := ⟨3, ![4096, 4, 64]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S32x1x1x128x256 : Shape := ⟨5, ![32, 1, 1, 128, 256]⟩
abbrev S4x8x128x256 : Shape := ⟨4, ![4, 8, 128, 256]⟩
abbrev S1x4x8x128x256 : Shape := ⟨5, ![1, 4, 8, 128, 256]⟩
abbrev S4x8 : Shape := ⟨2, ![4, 8]⟩
abbrev S1x4x8x1x1 : Shape := ⟨5, ![1, 4, 8, 1, 1]⟩
abbrev S32x4x8x128 : Shape := ⟨4, ![32, 4, 8, 128]⟩
abbrev S32x4x8x128x1 : Shape := ⟨5, ![32, 4, 8, 128, 1]⟩
abbrev S32x32x128 : Shape := ⟨3, ![32, 32, 128]⟩
abbrev S32x128x32 : Shape := ⟨3, ![32, 128, 32]⟩
abbrev S4096x32 : Shape := ⟨2, ![4096, 32]⟩
abbrev S4096x128 : Shape := ⟨2, ![4096, 128]⟩
abbrev S4224x256 : Shape := ⟨2, ![4224, 256]⟩
abbrev S8x128 : Shape := ⟨2, ![8, 128]⟩
abbrev S128x2048 : Shape := ⟨2, ![128, 2048]⟩
abbrev S128x128 : Shape := ⟨2, ![128, 128]⟩
abbrev S1x128 : Shape := ⟨2, ![1, 128]⟩
abbrev S256x256 : Shape := ⟨2, ![256, 256]⟩
abbrev S256x64 : Shape := ⟨2, ![256, 64]⟩
abbrev S256x128 : Shape := ⟨2, ![256, 128]⟩
abbrev S1024x128 : Shape := ⟨2, ![1024, 128]⟩
abbrev S1x128x1 : Shape := ⟨3, ![1, 128, 1]⟩
abbrev S8x128x1 : Shape := ⟨3, ![8, 128, 1]⟩
abbrev S8x128x256 : Shape := ⟨3, ![8, 128, 256]⟩
abbrev S1 : Shape := ⟨1, ![1]⟩
abbrev S1024x256 : Shape := ⟨2, ![1024, 256]⟩
abbrev S8x1 : Shape := ⟨2, ![8, 1]⟩
abbrev S8x1x1 : Shape := ⟨3, ![8, 1, 1]⟩
abbrev S1x1x1 : Shape := ⟨3, ![1, 1, 1]⟩
abbrev S1x1 : Shape := ⟨2, ![1, 1]⟩
abbrev S128x512 : Shape := ⟨2, ![128, 512]⟩

abbrev nBuf : Space → Nat
  | .hbm => 106
  | .vmem => 21
  | .smem => 1
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S32x128x256, .f32⟩
  | .hbm, ⟨3, _⟩ => ⟨S1x32, .f32⟩
  | .hbm, ⟨4, _⟩ => ⟨S4096x10752, .bf16⟩
  | .hbm, ⟨5, _⟩ => ⟨S4096x10752, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x256, .f32⟩
  | .hbm, ⟨10, _⟩ => ⟨S4096x256, .f32⟩
  | .hbm, ⟨11, _⟩ => ⟨S4096x2048, .f32⟩
  | .hbm, ⟨12, _⟩ => ⟨S4096x2048, .f32⟩
  | .hbm, ⟨13, _⟩ => ⟨S128, .i32⟩
  | .hbm, ⟨14, _⟩ => ⟨S128x1, .i32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S32, .i32⟩
  | .hbm, ⟨24, _⟩ => ⟨S32x1x1, .i32⟩
  | .hbm, ⟨25, _⟩ => ⟨S_, .i32⟩
  | .hbm, ⟨26, _⟩ => ⟨S32x1x1, .i32⟩
  | .hbm, ⟨27, _⟩ => ⟨S32x1x1, .i32⟩
  | .hbm, ⟨28, _⟩ => ⟨S_, .i32⟩
  | .hbm, ⟨29, _⟩ => ⟨S32x1x1, .i32⟩
  | .hbm, ⟨30, _⟩ => ⟨S32x1x1, .i32⟩
  | .hbm, ⟨31, _⟩ => ⟨S1x1x256, .i32⟩
  | .hbm, ⟨32, _⟩ => ⟨S32x1x256, .i32⟩
  | .hbm, ⟨33, _⟩ => ⟨S32x1x256, .i32⟩
  | .hbm, ⟨34, _⟩ => ⟨S32x1x256, .i32⟩
  | .hbm, ⟨35, _⟩ => ⟨S_, .i32⟩
  | .hbm, ⟨36, _⟩ => ⟨S32x1x256, .i32⟩
  | .hbm, ⟨37, _⟩ => ⟨S32x1x256, .i1⟩
  | .hbm, ⟨38, _⟩ => ⟨S1x128x256, .i32⟩
  | .hbm, ⟨39, _⟩ => ⟨S_, .i32⟩
  | .hbm, ⟨40, _⟩ => ⟨S1x128x256, .i32⟩
  | .hbm, ⟨41, _⟩ => ⟨S1x128x256, .i1⟩
  | .hbm, ⟨42, _⟩ => ⟨S32x128x256, .i1⟩
  | .hbm, ⟨43, _⟩ => ⟨S32x128x256, .i1⟩
  | .hbm, ⟨44, _⟩ => ⟨S32x128x256, .i1⟩
  | .hbm, ⟨45, _⟩ => ⟨S1x128x256, .i32⟩
  | .hbm, ⟨46, _⟩ => ⟨S_, .i32⟩
  | .hbm, ⟨47, _⟩ => ⟨S1x128x256, .i32⟩
  | .hbm, ⟨48, _⟩ => ⟨S1x128x256, .i1⟩
  | .hbm, ⟨49, _⟩ => ⟨S32x128x256, .i1⟩
  | .hbm, ⟨50, _⟩ => ⟨S32x128x256, .i1⟩
  | .hbm, ⟨51, _⟩ => ⟨S32x128x4x8x64, .f32⟩
  | .hbm, ⟨52, _⟩ => ⟨S4096x4x64, .f32⟩
  | .hbm, ⟨53, _⟩ => ⟨S_, .f32⟩
  | .hbm, ⟨54, _⟩ => ⟨S128x4x64, .f32⟩
  | .hbm, ⟨55, _⟩ => ⟨S4224x4x64, .f32⟩
  | .hbm, ⟨56, _⟩ => ⟨S33x128x4x64, .f32⟩
  | .hbm, ⟨57, _⟩ => ⟨S32x128x4x64, .f32⟩
  | .hbm, ⟨58, _⟩ => ⟨S32x128x4x64, .f32⟩
  | .hbm, ⟨59, _⟩ => ⟨S32x256x4x64, .f32⟩
  | .hbm, ⟨60, _⟩ => ⟨S32x4x256x128x8, .f32⟩
  | .hbm, ⟨61, _⟩ => ⟨S32x4x8x128x256, .f32⟩
  | .hbm, ⟨62, _⟩ => ⟨S_, .f32⟩
  | .hbm, ⟨63, _⟩ => ⟨S32x4x8x128x256, .f32⟩
  | .hbm, ⟨64, _⟩ => ⟨S32x4x8x128x256, .f32⟩
  | .hbm, ⟨65, _⟩ => ⟨S32x1x1x128x256, .i1⟩
  | .hbm, ⟨66, _⟩ => ⟨S4x8x128x256, .f32⟩
  | .hbm, ⟨67, _⟩ => ⟨S1x4x8x128x256, .f32⟩
  | .hbm, ⟨68, _⟩ => ⟨S32x4x8x128x256, .f32⟩
  | .hbm, ⟨69, _⟩ => ⟨S32x4x8x128x256, .f32⟩
  | .hbm, ⟨70, _⟩ => ⟨S_, .f32⟩
  | .hbm, ⟨71, _⟩ => ⟨S_, .f32⟩
  | .hbm, ⟨72, _⟩ => ⟨S32x4x8x128x256, .i1⟩
  | .hbm, ⟨73, _⟩ => ⟨S32x4x8x128x256, .f32⟩
  | .hbm, ⟨74, _⟩ => ⟨S32x4x8x128x256, .f32⟩
  | .hbm, ⟨75, _⟩ => ⟨S4x8, .f32⟩
  | .hbm, ⟨76, _⟩ => ⟨S1x4x8x1x1, .f32⟩
  | .hbm, ⟨77, _⟩ => ⟨S_, .f32⟩
  | .hbm, ⟨78, _⟩ => ⟨S32x4x8x128, .f32⟩
  | .hbm, ⟨79, _⟩ => ⟨S32x4x8x128x1, .f32⟩
  | .hbm, ⟨80, _⟩ => ⟨S32x4x8x128x1, .f32⟩
  | .hbm, ⟨81, _⟩ => ⟨S32x4x8x128x1, .f32⟩
  | .hbm, ⟨82, _⟩ => ⟨S32x4x8x128x256, .f32⟩
  | .hbm, ⟨83, _⟩ => ⟨S32x4x8x128x256, .f32⟩
  | .hbm, ⟨84, _⟩ => ⟨S32x4x8x128x256, .f32⟩
  | .hbm, ⟨85, _⟩ => ⟨S_, .f32⟩
  | .hbm, ⟨86, _⟩ => ⟨S32x4x8x128, .f32⟩
  | .hbm, ⟨87, _⟩ => ⟨S32x4x8x128x1, .f32⟩
  | .hbm, ⟨88, _⟩ => ⟨S32x4x8x128x1, .f32⟩
  | .hbm, ⟨89, _⟩ => ⟨S32x4x8x128x1, .f32⟩
  | .hbm, ⟨90, _⟩ => ⟨S32x4x8x128x1, .f32⟩
  | .hbm, ⟨91, _⟩ => ⟨S32x4x8x128x1, .f32⟩
  | .hbm, ⟨92, _⟩ => ⟨S32x4x8x128x1, .f32⟩
  | .hbm, ⟨93, _⟩ => ⟨S32x4x8x128x1, .f32⟩
  | .hbm, ⟨94, _⟩ => ⟨S32x32x128, .f32⟩
  | .hbm, ⟨95, _⟩ => ⟨S32x128x32, .f32⟩
  | .hbm, ⟨96, _⟩ => ⟨S4096x32, .f32⟩
  | .hbm, ⟨97, _⟩ => ⟨S_, .i32⟩
  | .hbm, ⟨98, _⟩ => ⟨S_, .f32⟩
  | .hbm, ⟨99, _⟩ => ⟨S4096x128, .f32⟩
  | .hbm, ⟨100, _⟩ => ⟨S32, .f32⟩
  | .hbm, ⟨101, _⟩ => ⟨S4096x10752, .bf16⟩
  | .hbm, ⟨102, _⟩ => ⟨S4224x256, .f32⟩
  | .hbm, ⟨103, _⟩ => ⟨S4224x256, .f32⟩
  | .hbm, ⟨104, _⟩ => ⟨S32x128x256, .f32⟩
  | .hbm, ⟨105, _⟩ => ⟨S8x128, .f32⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S32x128x256, .f32⟩
  | .local _ .vmem, ⟨11, _⟩ => ⟨S128x2048, .bf16⟩
  | .local _ .vmem, ⟨12, _⟩ => ⟨S128x2048, .bf16⟩
  | .local _ .vmem, ⟨13, _⟩ => ⟨S128x128, .f32⟩
  | .local _ .vmem, ⟨14, _⟩ => ⟨S128x128, .f32⟩
  | .local _ .vmem, ⟨15, _⟩ => ⟨S128x2048, .bf16⟩
  | .local _ .vmem, ⟨16, _⟩ => ⟨S128x2048, .bf16⟩
  | .local _ .vmem, ⟨17, _⟩ => ⟨S4224x256, .f32⟩
  | .local _ .vmem, ⟨18, _⟩ => ⟨S4224x256, .f32⟩
  | .local _ .vmem, ⟨19, _⟩ => ⟨S32x128x256, .f32⟩
  | .local _ .vmem, ⟨20, _⟩ => ⟨S8x128, .f32⟩
  | .local _ .smem, ⟨0, _⟩ => ⟨S32, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_c_9 : Ref sig .tc := ⟨.hbm, 97, rfl⟩
abbrev main_call1_v0 : Ref sig .tc := ⟨.hbm, 98, rfl⟩
abbrev main_v78 : Ref sig .tc := ⟨.hbm, 99, rfl⟩
abbrev main_v79 : Ref sig .tc := ⟨.hbm, 100, rfl⟩
abbrev main_v80_0 : Ref sig .tc := ⟨.hbm, 101, rfl⟩
abbrev main_v80_1 : Ref sig .tc := ⟨.hbm, 102, rfl⟩
abbrev main_v80_2 : Ref sig .tc := ⟨.hbm, 103, rfl⟩
abbrev main_v80_3 : Ref sig .tc := ⟨.hbm, 104, rfl⟩
abbrev main_v80_4 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32_262 : BitVec 32 := 128#32
  let v1166 : BitVec 32 := Scalar.muli arg0 c128_i32_262
  v1166
def k0_off1 (i : grid0.Coords) : Fin 2 → Nat :=
  let arg0 : BitVec 32 := BitVec.ofNat 32 (i 0).val
  let c128_i32_262 : BitVec 32 := 128#32
  let v1166 : BitVec 32 := Scalar.muli arg0 c128_i32_262
  let v1167 : BitVec 32 := v1166
  let v1168 : Index := Scalar.indexCast v1167
  let c0_263 : Index := 0#32
  ![v1168.toNat, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_4 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4224x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4224x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x10752 : Shape := ⟨2, ![4096, 10752]⟩
abbrev S4096x2048 : Shape := ⟨2, ![4096, 2048]⟩
abbrev S32x128x256 : Shape := ⟨3, ![32, 128, 256]⟩
abbrev S1x32 : Shape := ⟨2, ![1, 32]⟩
abbrev S4096x256 : Shape := ⟨2, ![4096, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x4x8x64 : Shape := ⟨5, ![32, 128, 4, 8, 64]⟩
abbrev S4096x4x64 : Shape := ⟨3, ![4096, 4, 64]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S32x1x1x128x256 : Shape := ⟨5, ![32, 1, 1, 128, 256]⟩
abbrev S4x8x128x256 : Shape := ⟨4, ![4, 8, 128, 256]⟩
abbrev S1x4x8x128x256 : Shape := ⟨5, ![1, 4, 8, 128, 256]⟩
abbrev S4x8 : Shape := ⟨2, ![4, 8]⟩
abbrev S1x4x8x1x1 : Shape := ⟨5, ![1, 4, 8, 1, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S4x8x1 : Shape := ⟨3, ![4, 8, 1]⟩
abbrev S32x4x128x8x64 : Shape := ⟨5, ![32, 4, 128, 8, 64]⟩
abbrev S32x4x256x64 : Shape := ⟨4, ![32, 4, 256, 64]⟩
abbrev S4096x4096 : Shape := ⟨2, ![4096, 4096]⟩
abbrev S4096x4608 : Shape := ⟨2, ![4096, 4608]⟩
abbrev S4224x256 : Shape := ⟨2, ![4224, 256]⟩
abbrev S8x128 : Shape := ⟨2, ![8, 128]⟩

abbrev nBuf : Space → Nat
  | .hbm => 243
  | .vmem => 0
  | .smem => 0
  | _ => 0

abbrev hbmTy0_0 (i : Nat) : BufTy := match i % 128 with
  | 0 => ⟨S4096x10752, .bf16⟩
  | 1 => ⟨S4096x2048, .bf16⟩
  | 2 => ⟨S32x128x256, .f32⟩
  | 3 => ⟨S1x32, .f32⟩
  | 4 => ⟨S4096x10752, .bf16⟩
  | 5 => ⟨S4096x10752, .f32⟩
  | 6 => ⟨S4096x2048, .f32⟩
  | 7 => ⟨S4096x2048, .f32⟩
  | 8 => ⟨S4096x2048, .f32⟩
  | 9 => ⟨S4096x256, .f32⟩
  | 10 => ⟨S4096x256, .f32⟩
  | 11 => ⟨S4096x2048, .f32⟩
  | 12 => ⟨S4096x2048, .f32⟩
  | 13 => ⟨S128, .i32⟩
  | 14 => ⟨S128x1, .i32⟩
  | 15 => ⟨S256, .i32⟩
  | 16 => ⟨S1x256, .i32⟩
  | 17 => ⟨S_, .i32⟩
  | 18 => ⟨S128x1, .i32⟩
  | 19 => ⟨S128x1, .i32⟩
  | 20 => ⟨S128x256, .i32⟩
  | 21 => ⟨S128x256, .i32⟩
  | 22 => ⟨S128x256, .i32⟩
  | 23 => ⟨S32, .i32⟩
  | 24 => ⟨S32x1x1, .i32⟩
  | 25 => ⟨S_, .i32⟩
  | 26 => ⟨S32x1x1, .i32⟩
  | 27 => ⟨S32x1x1, .i32⟩
  | 28 => ⟨S_, .i32⟩
  | 29 => ⟨S32x1x1, .i32⟩
  | 30 => ⟨S32x1x1, .i32⟩
  | 31 => ⟨S1x1x256, .i32⟩
  | 32 => ⟨S32x1x256, .i32⟩
  | 33 => ⟨S32x1x256, .i32⟩
  | 34 => ⟨S32x1x256, .i32⟩
  | 35 => ⟨S_, .i32⟩
  | 36 => ⟨S32x1x256, .i32⟩
  | 37 => ⟨S32x1x256, .i1⟩
  | 38 => ⟨S1x128x256, .i32⟩
  | 39 => ⟨S_, .i32⟩
  | 40 => ⟨S1x128x256, .i32⟩
  | 41 => ⟨S1x128x256, .i1⟩
  | 42 => ⟨S32x128x256, .i1⟩
  | 43 => ⟨S32x128x256, .i1⟩
  | 44 => ⟨S32x128x256, .i1⟩
  | 45 => ⟨S1x128x256, .i32⟩
  | 46 => ⟨S_, .i32⟩
  | 47 => ⟨S1x128x256, .i32⟩
  | 48 => ⟨S1x128x256, .i1⟩
  | 49 => ⟨S32x128x256, .i1⟩
  | 50 => ⟨S32x128x256, .i1⟩
  | 51 => ⟨S32x128x4x8x64, .f32⟩
  | 52 => ⟨S4096x4x64, .f32⟩
  | 53 => ⟨S_, .f32⟩
  | 54 => ⟨S128x4x64, .f32⟩
  | 55 => ⟨S4224x4x64, .f32⟩
  | 56 => ⟨S_, .f32⟩
  | 57 => ⟨S128x4x64, .f32⟩
  | 58 => ⟨S33x128x4x64, .f32⟩
  | 59 => ⟨S32x128x4x64, .f32⟩
  | 60 => ⟨S32x128x4x64, .f32⟩
  | 61 => ⟨S32x256x4x64, .f32⟩
  | 62 => ⟨S32x4x256x128x8, .f32⟩
  | 63 => ⟨S32x4x8x128x256, .f32⟩
  | 64 => ⟨S_, .f32⟩
  | 65 => ⟨S32x4x8x128x256, .f32⟩
  | 66 => ⟨S32x4x8x128x256, .f32⟩
  | 67 => ⟨S32x1x1x128x256, .i1⟩
  | 68 => ⟨S4x8x128x256, .f32⟩
  | 69 => ⟨S1x4x8x128x256, .f32⟩
  | 70 => ⟨S32x4x8x128x256, .f32⟩
  | 71 => ⟨S32x4x8x128x256, .f32⟩
  | 72 => ⟨S_, .f32⟩
  | 73 => ⟨S_, .f32⟩
  | 74 => ⟨S32x4x8x128x256, .i1⟩
  | 75 => ⟨S32x4x8x128x256, .f32⟩
  | 76 => ⟨S32x4x8x128x256, .f32⟩
  | 77 => ⟨S_, .f32⟩
  | 78 => ⟨S32x4x8x128x256, .f32⟩
  | 79 => ⟨S4x8, .f32⟩
  | 80 => ⟨S1x4x8x1x1, .f32⟩
  | 81 => ⟨S_, .f32⟩
  | 82 => ⟨S32x4x8x128, .f32⟩
  | 83 => ⟨S32x4x8x128x1, .f32⟩
  | 84 => ⟨S32x4x8x128x256, .f32⟩
  | 85 => ⟨S32x4x8x128x256, .i1⟩
  | 86 => ⟨S32x4x8x128x256, .f32⟩
  | 87 => ⟨S_, .f32⟩
  | 88 => ⟨S32x4x8x128, .f32⟩
  | 89 => ⟨S32x4x8x128x1, .f32⟩
  | 90 => ⟨S32x4x8x128x1, .f32⟩
  | 91 => ⟨S32x4x8x128x1, .f32⟩
  | 92 => ⟨S32x4x8x128x1, .f32⟩
  | 93 => ⟨S32x4x8x128x1, .i1⟩
  | 94 => ⟨S32x4x8x128x1, .f32⟩
  | 95 => ⟨S32x4x8x128x1, .i1⟩
  | 96 => ⟨S_, .f32⟩
  | 97 => ⟨S32x4x8x128x1, .f32⟩
  | 98 => ⟨S_, .f32⟩
  | 99 => ⟨S32x4x8x128x1, .f32⟩
  | 100 => ⟨S_, .f32⟩
  | 101 => ⟨S32x4x8x128x1, .f32⟩
  | 102 => ⟨S32x4x8x128x1, .f32⟩
  | 103 => ⟨S32x4x8x128x1, .f32⟩
  | 104 => ⟨S32x4x8x128x1, .f32⟩
  | 105 => ⟨S32x4x8x128x1, .i1⟩
  | 106 => ⟨S32x4x8x128x1, .f32⟩
  | 107 => ⟨S32x4x8x128x1, .i1⟩
  | 108 => ⟨S_, .f32⟩
  | 109 => ⟨S32x4x8x128x1, .f32⟩
  | 110 => ⟨S_, .f32⟩
  | 111 => ⟨S32x4x8x128x1, .f32⟩
  | 112 => ⟨S_, .f32⟩
  | 113 => ⟨S32x4x8x128x1, .f32⟩
  | 114 => ⟨S32x4x8x128x1, .f32⟩
  | 115 => ⟨S32x4x8x128x1, .f32⟩
  | 116 => ⟨S32x4x8x128x256, .f32⟩
  | 117 => ⟨S32x4x8x128x256, .f32⟩
  | 118 => ⟨S32x4x8x128x256, .f32⟩
  | 119 => ⟨S_, .f32⟩
  | 120 => ⟨S32x4x8x128, .f32⟩
  | 121 => ⟨S32x4x8x128x1, .f32⟩
  | 122 => ⟨S32x4x8x128x1, .f32⟩
  | 123 => ⟨S32x4x8x128x1, .f32⟩
  | 124 => ⟨S32x4x8x128x1, .f32⟩
  | 125 => ⟨S32x4x8x128x1, .f32⟩
  | 126 => ⟨S32x4x8x128x256, .f32⟩
  | 127 => ⟨S32x4x8x128x256, .f32⟩
  | _ => ⟨S4096x10752, .bf16⟩

abbrev hbmTy0_1 (i : Nat) : BufTy := match i % 128 with
  | 0 => ⟨S32x4x8x128x1, .f32⟩
  | 1 => ⟨S_, .f32⟩
  | 2 => ⟨S32x4x8x128x1, .f32⟩
  | 3 => ⟨S32x4x8x128x1, .f32⟩
  | 4 => ⟨S4096x4x64, .f32⟩
  | 5 => ⟨S_, .f32⟩
  | 6 => ⟨S128x4x64, .f32⟩
  | 7 => ⟨S4224x4x64, .f32⟩
  | 8 => ⟨S_, .f32⟩
  | 9 => ⟨S128x4x64, .f32⟩
  | 10 => ⟨S33x128x4x64, .f32⟩
  | 11 => ⟨S32x128x4x64, .f32⟩
  | 12 => ⟨S32x128x4x64, .f32⟩
  | 13 => ⟨S32x256x4x64, .f32⟩
  | 14 => ⟨S32x4x64x8x128, .f32⟩
  | 15 => ⟨S32x128x4x8x64, .f32⟩
  | 16 => ⟨S4096x2048, .f32⟩
  | 17 => ⟨S4096x2048, .f32⟩
  | 18 => ⟨S32x128x4x8x64, .f32⟩
  | 19 => ⟨S32x4x64x8x128, .f32⟩
  | 20 => ⟨S32x4x8x128x256, .f32⟩
  | 21 => ⟨S32x4x64x256, .f32⟩
  | 22 => ⟨S32x256x4x64, .f32⟩
  | 23 => ⟨S32x128x4x64, .f32⟩
  | 24 => ⟨S32x128x4x64, .f32⟩
  | 25 => ⟨S_, .f32⟩
  | 26 => ⟨S33x128x4x64, .f32⟩
  | 27 => ⟨S_, .f32⟩
  | 28 => ⟨S33x128x4x64, .f32⟩
  | 29 => ⟨S33x128x4x64, .f32⟩
  | 30 => ⟨S4224x4x64, .f32⟩
  | 31 => ⟨S128x4x64, .f32⟩
  | 32 => ⟨S4096x4x64, .f32⟩
  | 33 => ⟨S4096x256, .f32⟩
  | 34 => ⟨S32x4x8x128x256, .f32⟩
  | 35 => ⟨S32x4x8x128x256, .f32⟩
  | 36 => ⟨S32x4x8x128x256, .f32⟩
  | 37 => ⟨S_, .f32⟩
  | 38 => ⟨S32x4x8x128, .f32⟩
  | 39 => ⟨S32x4x8x128x1, .f32⟩
  | 40 => ⟨S32x4x8x128x1, .f32⟩
  | 41 => ⟨S32x4x8x128x256, .f32⟩
  | 42 => ⟨S32x4x8x128x256, .f32⟩
  | 43 => ⟨S32x4x8x128x1, .f32⟩
  | 44 => ⟨S_, .f32⟩
  | 45 => ⟨S4x8x1, .f32⟩
  | 46 => ⟨S1x4x8x1x1, .f32⟩
  | 47 => ⟨S32x4x8x128x1, .f32⟩
  | 48 => ⟨S_, .f32⟩
  | 49 => ⟨S32x4x8x128, .f32⟩
  | 50 => ⟨S32x4x8x128x256, .f32⟩
  | 51 => ⟨S32x4x8x128x256, .f32⟩
  | 52 => ⟨S32x4x8x128x256, .f32⟩
  | 53 => ⟨S32x4x8x128x256, .f32⟩
  | 54 => ⟨S_, .f32⟩
  | 55 => ⟨S32x4x8x128, .f32⟩
  | 56 => ⟨S32x4x8x128x1, .f32⟩
  | 57 => ⟨S32x4x8x128x1, .f32⟩
  | 58 => ⟨S32x4x8x128x1, .f32⟩
  | 59 => ⟨S_, .f32⟩
  | 60 => ⟨S4x8x1, .f32⟩
  | 61 => ⟨S1x4x8x1x1, .f32⟩
  | 62 => ⟨S1x4x8x1x1, .f32⟩
  | 63 => ⟨S32x4x8x128x1, .f32⟩
  | 64 => ⟨S_, .f32⟩
  | 65 => ⟨S32x4x8x128, .f32⟩
  | 66 => ⟨S32x4x8x128, .f32⟩
  | 67 => ⟨S32x4x8x128x256, .f32⟩
  | 68 => ⟨S32x4x8x128x256, .f32⟩
  | 69 => ⟨S32x4x8x128x256, .f32⟩
  | 70 => ⟨S_, .f32⟩
  | 71 => ⟨S4x8, .f32⟩
  | 72 => ⟨S1x32, .f32⟩
  | 73 => ⟨S_, .f32⟩
  | 74 => ⟨S32x4x8x128x256, .f32⟩
  | 75 => ⟨S32x4x8x128x256, .f32⟩
  | 76 => ⟨S_, .f32⟩
  | 77 => ⟨S4x8x128x256, .f32⟩
  | 78 => ⟨S1x4x8x128x256, .f32⟩
  | 79 => ⟨S_, .f32⟩
  | 80 => ⟨S4x8x128x256, .f32⟩
  | 81 => ⟨S32x128x256, .f32⟩
  | 82 => ⟨S_, .f32⟩
  | 83 => ⟨S32x4x8x128x256, .f32⟩
  | 84 => ⟨S32x4x8x128x256, .f32⟩
  | 85 => ⟨S32x4x256x128x8, .f32⟩
  | 86 => ⟨S32x4x128x8x64, .f32⟩
  | 87 => ⟨S32x128x4x8x64, .f32⟩
  | 88 => ⟨S32x4x256x64, .f32⟩
  | 89 => ⟨S32x256x4x64, .f32⟩
  | 90 => ⟨S32x128x4x64, .f32⟩
  | 91 => ⟨S32x128x4x64, .f32⟩
  | 92 => ⟨S_, .f32⟩
  | 93 => ⟨S33x128x4x64, .f32⟩
  | 94 => ⟨S_, .f32⟩
  | 95 => ⟨S33x128x4x64, .f32⟩
  | 96 => ⟨S33x128x4x64, .f32⟩
  | 97 => ⟨S4224x4x64, .f32⟩
  | 98 => ⟨S128x4x64, .f32⟩
  | 99 => ⟨S4096x4x64, .f32⟩
  | 100 => ⟨S4096x256, .f32⟩
  | 101 => ⟨S4096x2048, .f32⟩
  | 102 => ⟨S4096x4096, .bf16⟩
  | 103 => ⟨S4096x2048, .bf16⟩
  | 104 => ⟨S4096x4608, .bf16⟩
  | 105 => ⟨S4096x10752, .bf16⟩
  | 106 => ⟨S_, .i32⟩
  | 107 => ⟨S_, .f32⟩
  | 108 => ⟨S4224x256, .f32⟩
  | 109 => ⟨S_, .i32⟩
  | 110 => ⟨S_, .f32⟩
  | 111 => ⟨S4224x256, .f32⟩
  | 112 => ⟨S_, .i32⟩
  | 113 => ⟨S_, .f32⟩
  | 114 => ⟨S8x128, .f32⟩
  | _ => ⟨S4096x10752, .bf16⟩

abbrev hbmTy (i : Nat) : BufTy := match i / 128 with
  | 0 => hbmTy0_0 i
  | 1 => hbmTy0_1 i
  | _ => ⟨S4096x10752, .bf16⟩

abbrev bufTy : (tb : Table) → Fin (tcTables nBuf tb) → BufTy
  | .hbm, ⟨i, _⟩ => hbmTy i
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_call0_v0 : Ref sig .tc := ⟨.hbm, 73, rfl⟩
abbrev main_v58_1 : Ref sig .tc := ⟨.hbm, 74, rfl⟩
abbrev main_call0_v2 : Ref sig .tc := ⟨.hbm, 75, rfl⟩
abbrev main_v58_0 : Ref sig .tc := ⟨.hbm, 76, rfl⟩
abbrev main_call0_cst : Ref sig .tc := ⟨.hbm, 77, rfl⟩
abbrev main_v58_2 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_18 : Ref sig .tc := ⟨.hbm, 133, rfl⟩
abbrev main_v103 : Ref sig .tc := ⟨.hbm, 134, rfl⟩
abbrev main_v104 : Ref sig .tc := ⟨.hbm, 135, rfl⟩
abbrev main_cst_19 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_20 : Ref sig .tc := ⟨.hbm, 153, rfl⟩
abbrev main_v121 : Ref sig .tc := ⟨.hbm, 154, rfl⟩
abbrev main_cst_21 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_22 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_23 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_24 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_25 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_26 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_27 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_28 : Ref sig .tc := ⟨.hbm, 198, rfl⟩
abbrev main_v158 : Ref sig .tc := ⟨.hbm, 199, rfl⟩
abbrev main_v159 : Ref sig .tc := ⟨.hbm, 200, rfl⟩
abbrev main_call1_cst : Ref sig .tc := ⟨.hbm, 201, rfl⟩
abbrev main_call1_v0 : Ref sig .tc := ⟨.hbm, 202, rfl⟩
abbrev main_v160 : Ref sig .tc := ⟨.hbm, 203, rfl⟩
abbrev main_cst_29 : Ref sig .tc := ⟨.hbm, 204, rfl⟩
abbrev main_v161 : Ref sig .tc := ⟨.hbm, 205, rfl⟩
abbrev main_v162 : Ref sig .tc := ⟨.hbm, 206, rfl⟩
abbrev main_cst_30 : Ref sig .tc := ⟨.hbm, 207, rfl⟩
abbrev main_v163 : Ref sig .tc := ⟨.hbm, 208, rfl⟩
abbrev main_v164 : Ref sig .tc := ⟨.hbm, 209, rfl⟩
abbrev main_cst_31 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_32 : Ref sig .tc := ⟨.hbm, 220, rfl⟩
abbrev main_v174 : Ref sig .tc := ⟨.hbm, 221, rfl⟩
abbrev main_cst_33 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_c_34 : Ref sig .tc := ⟨.hbm, 234, rfl⟩
abbrev main_call2_v0 : Ref sig .tc := ⟨.hbm, 235, rfl⟩
abbrev main_v186 : Ref sig .tc := ⟨.hbm, 236, rfl⟩
abbrev main_c_35 : Ref sig .tc := ⟨.hbm, 237, rfl⟩
abbrev main_call3_v0 : Ref sig .tc := ⟨.hbm, 238, rfl⟩
abbrev main_v187 : Ref sig .tc := ⟨.hbm, 239, rfl⟩
abbrev main_c_36 : Ref sig .tc := ⟨.hbm, 240, rfl⟩
abbrev main_call4_v0 : Ref sig .tc := ⟨.hbm, 241, rfl⟩
abbrev main_v188 : Ref sig .tc := ⟨.hbm, 242, rfl⟩

abbrev nD : Nat := 1
abbrev τ : Topo := Topo.v7x

variable {F : FTy → Type} [FloatOps F]

def κ : String → Option EReal := fun
  | "mask" => some ⊥
  | _ => none
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .bf16⟩
  | .hbm, ⟨3, _⟩ => ⟨S8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x10752 : Shape := ⟨2, ![4096, 10752]⟩
abbrev S32x128x256 : Shape := ⟨3, ![32, 128, 256]⟩
abbrev S1x32 : Shape := ⟨2, ![1, 32]⟩
abbrev S32 : Shape := ⟨1, ![32]⟩
abbrev S4096x2048 : Shape := ⟨2, ![4096, 2048]⟩
abbrev S4096x128 : Shape := ⟨2, ![4096, 128]⟩
abbrev S128x2048 : Shape := ⟨2, ![128, 2048]⟩
abbrev S128x256 : Shape := ⟨2, ![128, 256]⟩
abbrev S128x128 : Shape := ⟨2, ![128, 128]⟩
abbrev S1x128 : Shape := ⟨2, ![1, 128]⟩
abbrev S256x256 : Shape := ⟨2, ![256, 256]⟩
abbrev S256x64 : Shape := ⟨2, ![256, 64]⟩
abbrev S128x64 : Shape := ⟨2, ![128, 64]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 6
  | .vmem => 15
  | .smem => 1
  | _ => 0

abbrev bufTy : (tb : Table) → Fin (tcTables nBuf tb) → BufTy
  | .hbm, ⟨0, _⟩ => ⟨S4096x10752, .bf16⟩
  | .hbm, ⟨1, _⟩ => ⟨S32x128x256, .f32⟩
  | .hbm, ⟨2, _⟩ => ⟨S1x32, .f32⟩
  | .hbm, ⟨3, _⟩ => ⟨S32, .f32⟩
  | .hbm, ⟨4, _⟩ => ⟨S4096x2048, .bf16⟩
  | .hbm, ⟨5, _⟩ => ⟨S4096x128, .f32⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S32x128x256, .f32⟩
  | .local _ .vmem, ⟨11, _⟩ => ⟨S128x2048, .bf16⟩
  | .local _ .vmem, ⟨12, _⟩ => ⟨S128x2048, .bf16⟩
  | .local _ .vmem, ⟨13, _⟩ => ⟨S128x128, .f32⟩
  | .local _ .vmem, ⟨14, _⟩ => ⟨S128x128, .f32⟩
  | .local _ .smem, ⟨0, _⟩ => ⟨S32, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_4 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S4096x10752 : Shape := ⟨2, ![4096, 10752]⟩
abbrev S32x128x256 : Shape := ⟨3, ![32, 128, 256]⟩
abbrev S1x32 : Shape := ⟨2, ![1, 32]⟩
abbrev S4096x2048 : Shape := ⟨2, ![4096, 2048]⟩
abbrev S4096x256 : Shape := ⟨2, ![4096, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x4x8x64 : Shape := ⟨5, ![32, 128, 4, 8, 64]⟩
abbrev S4096x4x64 : Shape := ⟨3, ![4096, 4, 64]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S32x1x1x128x256 : Shape := ⟨5, ![32, 1, 1, 128, 256]⟩
abbrev S4x8x128x256 : Shape := ⟨4, ![4, 8, 128, 256]⟩
abbrev S1x4x8x128x256 : Shape := ⟨5, ![1, 4, 8, 128, 256]⟩
abbrev S4x8 : Shape := ⟨2, ![4, 8]⟩
abbrev S1x4x8x1x1 : Shape := ⟨5, ![1, 4, 8, 1, 1]⟩
abbrev S32x4x8x128 : Shape := ⟨4, ![32, 4, 8, 128]⟩
abbrev S32x4x8x128x1 : Shape := ⟨5, ![32, 4, 8, 128, 1]⟩
abbrev S32x32x128 : Shape := ⟨3, ![32, 32, 128]⟩
abbrev S32x128x32 : Shape := ⟨3, ![32, 128, 32]⟩
abbrev S4096x32 : Shape := ⟨2, ![4096, 32]⟩
abbrev S32x4x64x8x128 : Shape := ⟨5, ![32, 4, 64, 8, 128]⟩
abbrev S4096x128 : Shape := ⟨2, ![4096, 128]⟩

abbrev nBuf : Space → Nat
  | .hbm => 191
  | .vmem => 0
  | .smem => 0
  | _ => 0

abbrev hbmTy0_0 (i : Nat) : BufTy := match i % 128 with
  | 0 => ⟨S4096x10752, .bf16⟩
  | 1 => ⟨S32x128x256, .f32⟩
  | 2 => ⟨S1x32, .f32⟩
  | 3 => ⟨S4096x10752, .f32⟩
  | 4 => ⟨S4096x2048, .f32⟩
  | 5 => ⟨S4096x2048, .f32⟩
  | 6 => ⟨S4096x2048, .f32⟩
  | 7 => ⟨S4096x256, .f32⟩
  | 8 => ⟨S4096x256, .f32⟩
  | 9 => ⟨S4096x2048, .f32⟩
  | 10 => ⟨S4096x2048, .f32⟩
  | 11 => ⟨S128, .i32⟩
  | 12 => ⟨S128x1, .i32⟩
  | 13 => ⟨S256, .i32⟩
  | 14 => ⟨S1x256, .i32⟩
  | 15 => ⟨S_, .i32⟩
  | 16 => ⟨S128x1, .i32⟩
  | 17 => ⟨S128x1, .i32⟩
  | 18 => ⟨S128x256, .i32⟩
  | 19 => ⟨S128x256, .i32⟩
  | 20 => ⟨S128x256, .i32⟩
  | 21 => ⟨S32, .i32⟩
  | 22 => ⟨S32x1x1, .i32⟩
  | 23 => ⟨S_, .i32⟩
  | 24 => ⟨S32x1x1, .i32⟩
  | 25 => ⟨S32x1x1, .i32⟩
  | 26 => ⟨S_, .i32⟩
  | 27 => ⟨S32x1x1, .i32⟩
  | 28 => ⟨S32x1x1, .i32⟩
  | 29 => ⟨S1x1x256, .i32⟩
  | 30 => ⟨S32x1x256, .i32⟩
  | 31 => ⟨S32x1x256, .i32⟩
  | 32 => ⟨S32x1x256, .i32⟩
  | 33 => ⟨S_, .i32⟩
  | 34 => ⟨S32x1x256, .i32⟩
  | 35 => ⟨S32x1x256, .i1⟩
  | 36 => ⟨S1x128x256, .i32⟩
  | 37 => ⟨S_, .i32⟩
  | 38 => ⟨S1x128x256, .i32⟩
  | 39 => ⟨S1x128x256, .i1⟩
  | 40 => ⟨S32x128x256, .i1⟩
  | 41 => ⟨S32x128x256, .i1⟩
  | 42 => ⟨S32x128x256, .i1⟩
  | 43 => ⟨S1x128x256, .i32⟩
  | 44 => ⟨S_, .i32⟩
  | 45 => ⟨S1x128x256, .i32⟩
  | 46 => ⟨S1x128x256, .i1⟩
  | 47 => ⟨S32x128x256, .i1⟩
  | 48 => ⟨S32x128x256, .i1⟩
  | 49 => ⟨S32x128x4x8x64, .f32⟩
  | 50 => ⟨S4096x4x64, .f32⟩
  | 51 => ⟨S_, .f32⟩
  | 52 => ⟨S128x4x64, .f32⟩
  | 53 => ⟨S4224x4x64, .f32⟩
  | 54 => ⟨S33x128x4x64, .f32⟩
  | 55 => ⟨S32x128x4x64, .f32⟩
  | 56 => ⟨S32x128x4x64, .f32⟩
  | 57 => ⟨S32x256x4x64, .f32⟩
  | 58 => ⟨S32x4x256x128x8, .f32⟩
  | 59 => ⟨S32x4x8x128x256, .f32⟩
  | 60 => ⟨S_, .f32⟩
  | 61 => ⟨S32x4x8x128x256, .f32⟩
  | 62 => ⟨S32x4x8x128x256, .f32⟩
  | 63 => ⟨S32x1x1x128x256, .i1⟩
  | 64 => ⟨S4x8x128x256, .f32⟩
  | 65 => ⟨S1x4x8x128x256, .f32⟩
  | 66 => ⟨S32x4x8x128x256, .f32⟩
  | 67 => ⟨S32x4x8x128x256, .f32⟩
  | 68 => ⟨S_, .f32⟩
  | 69 => ⟨S_, .f32⟩
  | 70 => ⟨S32x4x8x128x256, .i1⟩
  | 71 => ⟨S32x4x8x128x256, .f32⟩
  | 72 => ⟨S32x4x8x128x256, .f32⟩
  | 73 => ⟨S4x8, .f32⟩
  | 74 => ⟨S1x4x8x1x1, .f32⟩
  | 75 => ⟨S_, .f32⟩
  | 76 => ⟨S32x4x8x128, .f32⟩
  | 77 => ⟨S32x4x8x128x1, .f32⟩
  | 78 => ⟨S32x4x8x128x1, .f32⟩
  | 79 => ⟨S32x4x8x128x1, .f32⟩
  | 80 => ⟨S32x4x8x128x256, .f32⟩
  | 81 => ⟨S32x4x8x128x256, .f32⟩
  | 82 => ⟨S32x4x8x128x256, .f32⟩
  | 83 => ⟨S_, .f32⟩
  | 84 => ⟨S32x4x8x128, .f32⟩
  | 85 => ⟨S32x4x8x128x1, .f32⟩
  | 86 => ⟨S32x4x8x128x1, .f32⟩
  | 87 => ⟨S32x4x8x128x1, .f32⟩
  | 88 => ⟨S32x4x8x128x1, .f32⟩
  | 89 => ⟨S32x4x8x128x1, .f32⟩
  | 90 => ⟨S32x4x8x128x1, .f32⟩
  | 91 => ⟨S32x4x8x128x1, .f32⟩
  | 92 => ⟨S32x32x128, .f32⟩
  | 93 => ⟨S32x128x32, .f32⟩
  | 94 => ⟨S4096x32, .f32⟩
  | 95 => ⟨S128, .i32⟩
  | 96 => ⟨S128x1, .i32⟩
  | 97 => ⟨S256, .i32⟩
  | 98 => ⟨S1x256, .i32⟩
  | 99 => ⟨S_, .i32⟩
  | 100 => ⟨S128x1, .i32⟩
  | 101 => ⟨S128x1, .i32⟩
  | 102 => ⟨S128x256, .i32⟩
  | 103 => ⟨S128x256, .i32⟩
  | 104 => ⟨S128x256, .i32⟩
  | 105 => ⟨S32, .i32⟩
  | 106 => ⟨S32x1x1, .i32⟩
  | 107 => ⟨S_, .i32⟩
  | 108 => ⟨S32x1x1, .i32⟩
  | 109 => ⟨S32x1x1, .i32⟩
  | 110 => ⟨S_, .i32⟩
  | 111 => ⟨S32x1x1, .i32⟩
  | 112 => ⟨S32x1x1, .i32⟩
  | 113 => ⟨S1x1x256, .i32⟩
  | 114 => ⟨S32x1x256, .i32⟩
  | 115 => ⟨S32x1x256, .i32⟩
  | 116 => ⟨S32x1x256, .i32⟩
  | 117 => ⟨S_, .i32⟩
  | 118 => ⟨S32x1x256, .i32⟩
  | 119 => ⟨S32x1x256, .i1⟩
  | 120 => ⟨S1x128x256, .i32⟩
  | 121 => ⟨S_, .i32⟩
  | 122 => ⟨S1x128x256, .i32⟩
  | 123 => ⟨S1x128x256, .i1⟩
  | 124 => ⟨S32x128x256, .i1⟩
  | 125 => ⟨S32x128x256, .i1⟩
  | 126 => ⟨S32x128x256, .i1⟩
  | 127 => ⟨S1x128x256, .i32⟩
  | _ => ⟨S4096x10752, .bf16⟩

abbrev hbmTy0_1 (i : Nat) : BufTy := match i % 128 with
  | 0 => ⟨S_, .i32⟩
  | 1 => ⟨S1x128x256, .i32⟩
  | 2 => ⟨S1x128x256, .i1⟩
  | 3 => ⟨S32x128x256, .i1⟩
  | 4 => ⟨S32x128x256, .i1⟩
  | 5 => ⟨S32x128x4x8x64, .f32⟩
  | 6 => ⟨S4096x4x64, .f32⟩
  | 7 => ⟨S_, .f32⟩
  | 8 => ⟨S128x4x64, .f32⟩
  | 9 => ⟨S4224x4x64, .f32⟩
  | 10 => ⟨S33x128x4x64, .f32⟩
  | 11 => ⟨S32x128x4x64, .f32⟩
  | 12 => ⟨S32x128x4x64, .f32⟩
  | 13 => ⟨S32x256x4x64, .f32⟩
  | 14 => ⟨S32x4x256x128x8, .f32⟩
  | 15 => ⟨S32x4x8x128x256, .f32⟩
  | 16 => ⟨S_, .f32⟩
  | 17 => ⟨S32x4x8x128x256, .f32⟩
  | 18 => ⟨S32x4x8x128x256, .f32⟩
  | 19 => ⟨S32x1x1x128x256, .i1⟩
  | 20 => ⟨S4x8x128x256, .f32⟩
  | 21 => ⟨S1x4x8x128x256, .f32⟩
  | 22 => ⟨S32x4x8x128x256, .f32⟩
  | 23 => ⟨S32x4x8x128x256, .f32⟩
  | 24 => ⟨S_, .f32⟩
  | 25 => ⟨S_, .f32⟩
  | 26 => ⟨S32x4x8x128x256, .i1⟩
  | 27 => ⟨S32x4x8x128x256, .f32⟩
  | 28 => ⟨S32x4x8x128x256, .f32⟩
  | 29 => ⟨S4x8, .f32⟩
  | 30 => ⟨S1x4x8x1x1, .f32⟩
  | 31 => ⟨S_, .f32⟩
  | 32 => ⟨S32x4x8x128, .f32⟩
  | 33 => ⟨S32x4x8x128x1, .f32⟩
  | 34 => ⟨S32x4x8x128x1, .f32⟩
  | 35 => ⟨S32x4x8x128x1, .f32⟩
  | 36 => ⟨S32x4x8x128x256, .f32⟩
  | 37 => ⟨S32x4x8x128x256, .f32⟩
  | 38 => ⟨S32x4x8x128x256, .f32⟩
  | 39 => ⟨S_, .f32⟩
  | 40 => ⟨S32x4x8x128, .f32⟩
  | 41 => ⟨S32x4x8x128x1, .f32⟩
  | 42 => ⟨S32x4x8x128x1, .f32⟩
  | 43 => ⟨S32x4x8x128x1, .f32⟩
  | 44 => ⟨S32x4x8x128x1, .f32⟩
  | 45 => ⟨S32x4x8x128x1, .f32⟩
  | 46 => ⟨S32x4x8x128x256, .f32⟩
  | 47 => ⟨S32x4x8x128x256, .f32⟩
  | 48 => ⟨S4096x4x64, .f32⟩
  | 49 => ⟨S_, .f32⟩
  | 50 => ⟨S128x4x64, .f32⟩
  | 51 => ⟨S4224x4x64, .f32⟩
  | 52 => ⟨S33x128x4x64, .f32⟩
  | 53 => ⟨S32x128x4x64, .f32⟩
  | 54 => ⟨S32x128x4x64, .f32⟩
  | 55 => ⟨S32x256x4x64, .f32⟩
  | 56 => ⟨S32x4x64x8x128, .f32⟩
  | 57 => ⟨S32x128x4x8x64, .f32⟩
  | 58 => ⟨S4096x2048, .f32⟩
  | 59 => ⟨S4096x2048, .bf16⟩
  | 60 => ⟨S_, .i32⟩
  | 61 => ⟨S_, .f32⟩
  | 62 => ⟨S4096x128, .f32⟩
  | _ => ⟨S4096x10752, .bf16⟩

abbrev hbmTy (i : Nat) : BufTy := match i / 128 with
  | 0 => hbmTy0_0 i
  | 1 => hbmTy0_1 i
  | _ => ⟨S4096x10752, .bf16⟩

abbrev bufTy : (tb : Table) → Fin (tcTables nBuf tb) → BufTy
  | .hbm, ⟨i, _⟩ => hbmTy i
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_c_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c_10 : Ref sig .tc := ⟨.hbm, 107, rfl⟩
abbrev main_v89 : Ref sig .tc := ⟨.hbm, 108, rfl⟩
abbrev main_v90 : Ref sig .tc := ⟨.hbm, 109, rfl⟩
abbrev main_c_11 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_c_12 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_13 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_c_14 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_15 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_16 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_17 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_18 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_19 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_20 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_c_21 : Ref sig .tc := ⟨.hbm, 188, rfl⟩
abbrev main_call2_v0 : Ref sig .tc := ⟨.hbm, 189, rfl⟩
abbrev main_v156 : Ref sig .tc := ⟨.hbm, 190, rfl⟩

abbrev nD : Nat := 1
abbrev τ : Topo := Topo.v7x

variable {F : FTy → Type} [FloatOps F]

def κ : String → Option EReal := fun
  | "mask" => some ⊥
  | _ => none
-- ==== Kernel4.lean ====
abbrev S8x2048 : Shape := ⟨2, ![8, 2048]⟩
abbrev S8x1536 : Shape := ⟨2, ![8, 1536]⟩
abbrev S2048x8 : Shape := ⟨2, ![2048, 8]⟩
abbrev S2048x1536 : Shape := ⟨2, ![2048, 1536]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 4
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x8, .f32⟩
  | .hbm, ⟨3, _⟩ => ⟨S2048x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1536, .f32⟩
  | .hbm, ⟨14, _⟩ => ⟨S1536x2048, .f32⟩
  | .hbm, ⟨15, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S4096x2048 : Shape := ⟨2, ![4096, 2048]⟩
abbrev S1x12288 : Shape := ⟨2, ![1, 12288]⟩
abbrev S2048 : Shape := ⟨1, ![2048]⟩
abbrev S6x2048 : Shape := ⟨2, ![6, 2048]⟩
abbrev S_ : Shape := ⟨0, ![]⟩
abbrev S2x2048 : Shape := ⟨2, ![2, 2048]⟩
abbrev S8x2048 : Shape := ⟨2, ![8, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 19
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x12288, .f32⟩
  | .hbm, ⟨3, _⟩ => ⟨S2048, .f32⟩
  | .hbm, ⟨4, _⟩ => ⟨S4096x2048, .f32⟩
  | .hbm, ⟨5, _⟩ => ⟨S6x2048, .f32⟩
  | .hbm, ⟨6, _⟩ => ⟨S_, .f32⟩
  | .hbm, ⟨7, _⟩ => ⟨S2x2048, .f32⟩
  | .hbm, ⟨8, _⟩ => ⟨S8x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S1x2048, .f32⟩
  | .hbm, ⟨15, _⟩ => ⟨S8x128, .f32⟩
  | .hbm, ⟨16, _⟩ => ⟨S4096x2048, .f32⟩
  | .hbm, ⟨17, _⟩ => ⟨S4096x2048, .bf16⟩
  | .hbm, ⟨18, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S8x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S8x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v66 : BitVec 1 := Scalar.cmpi .eq arg0 c15_i32
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x2048 : Shape := ⟨2, ![4096, 2048]⟩
abbrev S1x12288 : Shape := ⟨2, ![1, 12288]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S6x2048 : Shape := ⟨2, ![6, 2048]⟩
abbrev S8x2048 : Shape := ⟨2, ![8, 2048]⟩
abbrev S8x128 : Shape := ⟨2, ![8, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x12288, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x2048, .f32⟩
  | .hbm, ⟨71, _⟩ => ⟨S4096x2048, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S1x2048, .f32⟩
  | .hbm, ⟨90, _⟩ => ⟨S_, .f32⟩
  | .hbm, ⟨91, _⟩ => ⟨S6x2048, .f32⟩
  | .hbm, ⟨92, _⟩ => ⟨S8x2048, .f32⟩
  | .hbm, ⟨93, _⟩ => ⟨S8x128, .f32⟩
  | .hbm, ⟨94, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel6.lean ====
abbrev S4096x10752 : Shape := ⟨2, ![4096, 10752]⟩
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .bf16⟩
  | .hbm, ⟨5, _⟩ => ⟨S2048x2048, .bf16⟩
  | .hbm, ⟨6, _⟩ => ⟨S4096x2048, .bf16⟩
  | .hbm, ⟨7, _⟩ => ⟨S4096x2048, .bf16⟩
  | .hbm, ⟨8, _⟩ => ⟨S4096x10752, .bf16⟩
  | .hbm, ⟨9, _⟩ => ⟨S4096x2048, .bf16⟩
  | .hbm, ⟨10, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference6Ideal.lean ====
abbrev S4096x10752 : Shape := ⟨2, ![4096, 10752]⟩
abbrev S4096x2048 : Shape := ⟨2, ![4096, 2048]⟩
abbrev S2048x2048 : Shape := ⟨2, ![2048, 2048]⟩
abbrev S4096x256 : Shape := ⟨2, ![4096, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .bf16⟩
  | .hbm, ⟨5, _⟩ => ⟨S4096x10752, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x256, .f32⟩
  | .hbm, ⟨10, _⟩ => ⟨S4096x256, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S4096x2048, .bf16⟩
  | .hbm, ⟨53, _⟩ => ⟨S4096x2048, .bf16⟩
  | .hbm, ⟨54, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x10752 : Shape := ⟨2, ![4096, 10752]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .bf16⟩
  | .hbm, ⟨3, _⟩ => ⟨S4096x10752, .bf16⟩
  | .hbm, ⟨4, _⟩ => ⟨S2048x2048, .bf16⟩
  | .hbm, ⟨5, _⟩ => ⟨S4096x2048, .bf16⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S4096x2048 : Shape := ⟨2, ![4096, 2048]⟩
abbrev S2048x2048 : Shape := ⟨2, ![2048, 2048]⟩
abbrev S4096x10752 : Shape := ⟨2, ![4096, 10752]⟩
abbrev S4096x256 : Shape := ⟨2, ![4096, 256]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .bf16⟩
  | .hbm, ⟨3, _⟩ => ⟨S4096x10752, .bf16⟩
  | .hbm, ⟨4, _⟩ => ⟨S4096x10752, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x256, .f32⟩
  | .hbm, ⟨9, _⟩ => ⟨S4096x256, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S1x12288 : Shape := ⟨2, ![1, 12288]⟩
abbrev S6x2048 : Shape := ⟨2, ![6, 2048]⟩
abbrev S_ : Shape := ⟨0, ![]⟩
abbrev S2x2048 : Shape := ⟨2, ![2, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S6x2048, .f32⟩
  | .hbm, ⟨4, _⟩ => ⟨S_, .f32⟩
  | .hbm, ⟨5, _⟩ => ⟨S2x2048, .f32⟩
  | .hbm, ⟨6, _⟩ => ⟨S8x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S8x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S1x12288 : Shape := ⟨2, ![1, 12288]⟩
abbrev S6x2048 : Shape := ⟨2, ![6, 2048]⟩
abbrev S_ : Shape := ⟨0, ![]⟩
abbrev S2x2048 : Shape := ⟨2, ![2, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S6x2048, .f32⟩
  | .hbm, ⟨4, _⟩ => ⟨S_, .f32⟩
  | .hbm, ⟨5, _⟩ => ⟨S2x2048, .f32⟩
  | .hbm, ⟨6, _⟩ => ⟨S8x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S8x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x12288 : Shape := ⟨2, ![1, 12288]⟩
abbrev S6x2048 : Shape := ⟨2, ![6, 2048]⟩
abbrev S_ : Shape := ⟨0, ![]⟩
abbrev S2x2048 : Shape := ⟨2, ![2, 2048]⟩
abbrev S8x2048 : Shape := ⟨2, ![8, 2048]⟩
abbrev S1024x2048 : Shape := ⟨2, ![1024, 2048]⟩
abbrev S2048x1024 : Shape := ⟨2, ![2048, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x12288, .f32⟩
  | .hbm, ⟨4, _⟩ => ⟨S6x2048, .f32⟩
  | .hbm, ⟨5, _⟩ => ⟨S_, .f32⟩
  | .hbm, ⟨6, _⟩ => ⟨S2x2048, .f32⟩
  | .hbm, ⟨7, _⟩ => ⟨S8x2048, .f32⟩
  | .hbm, ⟨8, _⟩ => ⟨S2048x2048, .bf16⟩
  | .hbm, ⟨9, _⟩ => ⟨S4096x2048, .bf16⟩
  | .hbm, ⟨10, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x2048 : Shape := ⟨2, ![4096, 2048]⟩
abbrev S2048x2048 : Shape := ⟨2, ![2048, 2048]⟩
abbrev S1x12288 : Shape := ⟨2, ![1, 12288]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel11.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S4096x8192, .bf16⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x8192 : Shape := ⟨2, ![4096, 8192]⟩
abbrev S4096x2048 : Shape := ⟨2, ![4096, 2048]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x8192 : Shape := ⟨2, ![4096, 8192]⟩
abbrev S4096x2048 : Shape := ⟨2, ![4096, 2048]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x8192 : Shape := ⟨2, ![4096, 8192]⟩
abbrev S4096x2048 : Shape := ⟨2, ![4096, 2048]⟩
abbrev S_ : Shape := ⟨0, ![]⟩
abbrev S2048x8192 : Shape := ⟨2, ![2048, 8192]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S4096x10752 : Shape := ⟨2, ![4096, 10752]⟩
abbrev S4096x2048 : Shape := ⟨2, ![4096, 2048]⟩
abbrev S10752x2048 : Shape := ⟨2, ![10752, 2048]⟩
abbrev S2048x768 : Shape := ⟨2, ![2048, 768]⟩
abbrev S2048x2048 : Shape := ⟨2, ![2048, 2048]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S10752x2048, .bf16⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![14, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x10752 : Shape := ⟨2, ![4096, 10752]⟩
abbrev S4096x2048 : Shape := ⟨2, ![4096, 2048]⟩
abbrev S_ : Shape := ⟨0, ![]⟩
abbrev S2048x10752 : Shape := ⟨2, ![2048, 10752]⟩
abbrev S10752x2048 : Shape := ⟨2, ![10752, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S_, .f32⟩
  | .hbm, ⟨3, _⟩ => ⟨S2048x10752, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S10752x2048, .f32⟩
  | .hbm, ⟨8, _⟩ => ⟨S2048x10752, .f32⟩
  | .hbm, ⟨9, _⟩ => ⟨S10752x2048, .f32⟩
  | .hbm, ⟨10, _⟩ => ⟨S10752x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S4096x10752 : Shape := ⟨2, ![4096, 10752]⟩
abbrev S2048x10752 : Shape := ⟨2, ![2048, 10752]⟩
abbrev S10752x2048 : Shape := ⟨2, ![10752, 2048]⟩
abbrev S4096x2048 : Shape := ⟨2, ![4096, 2048]⟩
abbrev S1024x2688 : Shape := ⟨2, ![1024, 2688]⟩
abbrev S2688x1024 : Shape := ⟨2, ![2688, 1024]⟩
abbrev S1024x1024 : Shape := ⟨2, ![1024, 1024]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S10752x2048, .f32⟩
  | .hbm, ⟨3, _⟩ => ⟨S10752x2048, .bf16⟩
  | .hbm, ⟨4, _⟩ => ⟨S4096x2048, .bf16⟩
  | .hbm, ⟨5, _⟩ => ⟨S2048x2048, .bf16⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x10752 : Shape := ⟨2, ![4096, 10752]⟩
abbrev S2048x10752 : Shape := ⟨2, ![2048, 10752]⟩
abbrev S_ : Shape := ⟨0, ![]⟩
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S_, .f32⟩
  | .hbm, ⟨3, _⟩ => ⟨S4096x2048, .f32⟩
  | .hbm, ⟨4, _⟩ => ⟨S4096x10752, .f32⟩
  | .hbm, ⟨5, _⟩ => ⟨S4096x10752, .f32⟩
  | .hbm, ⟨6, _⟩ => ⟨S4096x2048, .f32⟩
  | .hbm, ⟨7, _⟩ => ⟨S2048x2048, .f32⟩
  | .hbm, ⟨8, _⟩ => ⟨S2048x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x10752 : Shape := ⟨2, ![4096, 10752]⟩
abbrev S2048x10752 : Shape := ⟨2, ![2048, 10752]⟩
abbrev S4096x2048 : Shape := ⟨2, ![4096, 2048]⟩
abbrev S10752x2048 : Shape := ⟨2, ![10752, 2048]⟩
abbrev S1024x2688 : Shape := ⟨2, ![1024, 2688]⟩
abbrev S2688x1024 : Shape := ⟨2, ![2688, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S4096x2048, .bf16⟩
  | .hbm, ⟨3, _⟩ => ⟨S10752x2048, .f32⟩
  | .hbm, ⟨4, _⟩ => ⟨S10752x2048, .bf16⟩
  | .hbm, ⟨5, _⟩ => ⟨S4096x2048, .bf16⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x10752 : Shape := ⟨2, ![4096, 10752]⟩
abbrev S2048x10752 : Shape := ⟨2, ![2048, 10752]⟩
abbrev S4096x2048 : Shape := ⟨2, ![4096, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .f32⟩
  | .hbm, ⟨2, _⟩ => ⟨S4096x2048, .bf16⟩
  | .hbm, ⟨3, _⟩ => ⟨S_, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S4096x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel24.lean ====
abbrev S32x32 : Shape := ⟨2, ![32, 32]⟩
abbrev S128x256 : Shape := ⟨2, ![128, 256]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S32x8192 : Shape := ⟨2, ![32, 8192]⟩
abbrev S32x128x256 : Shape := ⟨3, ![32, 128, 256]⟩

abbrev nBuf : Space → Nat
  | .hbm => 11
  | .vmem => 5
  | .smem => 0
  | _ => 0

abbrev bufTy : (tb : Table) → Fin (tcTables nBuf tb) → BufTy
  | .hbm, ⟨0, _⟩ => ⟨S32x32, .f32⟩
  | .hbm, ⟨1, _⟩ => ⟨S128x256, .i32⟩
  | .hbm, ⟨2, _⟩ => ⟨S1x32768, .i32⟩
  | .hbm, ⟨3, _⟩ => ⟨S32, .i32⟩
  | .hbm, ⟨4, _⟩ => ⟨S32x1, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S32x32768, .f32⟩
  | .hbm, ⟨9, _⟩ => ⟨S32x32768, .f32⟩
  | .hbm, ⟨10, _⟩ => ⟨S32x128x256, .f32⟩
  | .local _ .vmem, ⟨0, _⟩ => ⟨S32x32, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S32x8192, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S32x32 : Shape := ⟨2, ![32, 32]⟩
abbrev S128x256 : Shape := ⟨2, ![128, 256]⟩
abbrev S_ : Shape := ⟨0, ![]⟩
abbrev S128x256x1 : Shape := ⟨3, ![128, 256, 1]⟩
abbrev S128x256x32 : Shape := ⟨3, ![128, 256, 32]⟩
abbrev S32x128x256 : Shape := ⟨3, ![32, 128, 256]⟩

abbrev nBuf : Space → Nat
  | .hbm => 12
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S128x256, .i32⟩
  | .hbm, ⟨2, _⟩ => ⟨S_, .i32⟩
  | .hbm, ⟨3, _⟩ => ⟨S128x256, .i32⟩
  | .hbm, ⟨4, _⟩ => ⟨S128x256, .i1⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256x1, .i32⟩
  | .hbm, ⟨10, _⟩ => ⟨S128x256x32, .f32⟩
  | .hbm, ⟨11, _⟩ => ⟨S32x128x256, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S32x128x256 : Shape := ⟨3, ![32, 128, 256]⟩
abbrev S128x256 : Shape := ⟨2, ![128, 256]⟩
abbrev S32x32768 : Shape := ⟨2, ![32, 32768]⟩
abbrev S1x32768 : Shape := ⟨2, ![1, 32768]⟩
abbrev S32 : Shape := ⟨1, ![32]⟩
abbrev S32x1 : Shape := ⟨2, ![32, 1]⟩
abbrev S32x32 : Shape := ⟨2, ![32, 32]⟩

abbrev nBuf : Space → Nat
  | .hbm => 12
  | .vmem => 3
  | .smem => 0
  | _ => 0

abbrev bufTy : (tb : Table) → Fin (tcTables nBuf tb) → BufTy
  | .hbm, ⟨0, _⟩ => ⟨S32x128x256, .f32⟩
  | .hbm, ⟨1, _⟩ => ⟨S128x256, .i32⟩
  | .hbm, ⟨2, _⟩ => ⟨S32x32768, .f32⟩
  | .hbm, ⟨3, _⟩ => ⟨S1x32768, .i32⟩
  | .hbm, ⟨4, _⟩ => ⟨S32, .i32⟩
  | .hbm, ⟨5, _⟩ => ⟨S32x1, .i32⟩
  | .hbm, ⟨6, _⟩ => ⟨S32x32768, .i32⟩
  | .hbm, ⟨7, _⟩ => ⟨S32x32768, .i32⟩
  | .hbm, ⟨8, _⟩ => ⟨S32x32768, .i1⟩
  | .hbm, ⟨9, _⟩ => ⟨S32x32768, .f32⟩
  | .hbm, ⟨10, _⟩ => ⟨S32x32, .f32⟩
  | .hbm, ⟨11, _⟩ => ⟨S32x32, .f32⟩
  | .local _ .vmem, ⟨0, _⟩ => ⟨S32x32768, .f32⟩
  | .local _ .vmem, ⟨1, _⟩ => ⟨S32x32768, .f32⟩
  | .local _ .vmem, ⟨2, _⟩ => ⟨S32x32, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference25Ideal.lean ====
abbrev S32x128x256 : Shape := ⟨3, ![32, 128, 256]⟩
abbrev S128x256 : Shape := ⟨2, ![128, 256]⟩
abbrev S_ : Shape := ⟨0, ![]⟩
abbrev S32x32 : Shape := ⟨2, ![32, 32]⟩
abbrev S128x256x1 : Shape := ⟨3, ![128, 256, 1]⟩
abbrev S128x256x32 : Shape := ⟨3, ![128, 256, 32]⟩

abbrev nBuf : Space → Nat
  | .hbm => 18
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S128x256, .i32⟩
  | .hbm, ⟨2, _⟩ => ⟨S_, .f32⟩
  | .hbm, ⟨3, _⟩ => ⟨S32x32, .f32⟩
  | .hbm, ⟨4, _⟩ => ⟨S_, .i32⟩
  | .hbm, ⟨5, _⟩ => ⟨S128x256, .i32⟩
  | .hbm, ⟨6, _⟩ => ⟨S128x256, .i1⟩
  | .hbm, ⟨7, _⟩ => ⟨S_, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256x1, .i32⟩
  | .hbm, ⟨12, _⟩ => ⟨S128x256x32, .f32⟩
  | .hbm, ⟨13, _⟩ => ⟨S32x128x256, .f32⟩
  | .hbm, ⟨14, _⟩ => ⟨S128x256x32, .f32⟩
  | .hbm, ⟨15, _⟩ => ⟨S_, .f32⟩
  | .hbm, ⟨16, _⟩ => ⟨S32x32, .f32⟩
  | .hbm, ⟨17, _⟩ => ⟨S32x32, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel26.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel26Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference26Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2048x1024 : Shape := ⟨2, ![2048, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel27Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference27Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2048x1344 : Shape := ⟨2, ![2048, 1344]⟩
abbrev S128x1344 : Shape := ⟨2, ![128, 1344]⟩

abbrev nBuf : Space → Nat
  | .hbm => 8
  | .vmem => 16
  | .smem => 0
  | _ => 0

abbrev bufTy : (tb : Table) → Fin (tcTables nBuf tb) → BufTy
  | .hbm, ⟨0, _⟩ => ⟨S2048x1344, .f32⟩
  | .hbm, ⟨1, _⟩ => ⟨S2048x1344, .f32⟩
  | .hbm, ⟨2, _⟩ => ⟨S2048x1344, .f32⟩
  | .hbm, ⟨3, _⟩ => ⟨S2048x1344, .f32⟩
  | .hbm, ⟨4, _⟩ => ⟨S2048x1344, .f32⟩
  | .hbm, ⟨5, _⟩ => ⟨S2048x1344, .f32⟩
  | .hbm, ⟨6, _⟩ => ⟨S2048x1344, .f32⟩
  | .hbm, ⟨7, _⟩ => ⟨S2048x1344, .f32⟩
  | .local _ .vmem, ⟨0, _⟩ => ⟨S128x1344, .f32⟩
  | .local _ .vmem, ⟨1, _⟩ => ⟨S128x1344, .f32⟩
  | .local _ .vmem, ⟨2, _⟩ => ⟨S128x1344, .f32⟩
  | .local _ .vmem, ⟨3, _⟩ => ⟨S128x1344, .f32⟩
  | .local _ .vmem, ⟨4, _⟩ => ⟨S128x1344, .f32⟩
  | .local _ .vmem, ⟨5, _⟩ => ⟨S128x1344, .f32⟩
  | .local _ .vmem, ⟨6, _⟩ => ⟨S128x1344, .f32⟩
  | .local _ .vmem, ⟨7, _⟩ => ⟨S128x1344, .f32⟩
  | .local _ .vmem, ⟨8, _⟩ => ⟨S128x1344, .f32⟩
  | .local _ .vmem, ⟨9, _⟩ => ⟨S128x1344, .f32⟩
  | .local _ .vmem, ⟨10, _⟩ => ⟨S128x1344, .f32⟩
  | .local _ .vmem, ⟨11, _⟩ => ⟨S128x1344, .f32⟩
  | .local _ .vmem, ⟨12, _⟩ => ⟨S128x1344, .f32⟩
  | .local _ .vmem, ⟨13, _⟩ => ⟨S128x1344, .f32⟩
  | .local _ .vmem, ⟨14, _⟩ => ⟨S128x1344, .f32⟩
  | .local _ .vmem, ⟨15, _⟩ => ⟨S128x1344, .f32⟩
  | _, _ => ⟨S2048x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel28Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference28Ideal.lean ====
abbrev S2048x1344 : Shape := ⟨2, ![2048, 1344]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1344, .f32⟩
  | .hbm, ⟨1, _⟩ => ⟨S2048x1344, .f32⟩
  | .hbm, ⟨2, _⟩ => ⟨S2048x1344, .f32⟩
  | .hbm, ⟨3, _⟩ => ⟨S2048x1344, .f32⟩
  | .hbm, ⟨4, _⟩ => ⟨S_, .f32⟩
  | .hbm, ⟨5, _⟩ => ⟨S2048x1344, .f32⟩
  | .hbm, ⟨6, _⟩ => ⟨S2048x1344, .f32⟩
  | .hbm, ⟨7, _⟩ => ⟨S_, .f32⟩
  | .hbm, ⟨8, _⟩ => ⟨S2048x1344, .f32⟩
  | .hbm, ⟨9, _⟩ => ⟨S2048x1344, .f32⟩
  | .hbm, ⟨10, _⟩ => ⟨S2048x1344, .f32⟩
  | .hbm, ⟨11, _⟩ => ⟨S_, .f32⟩
  | .hbm, ⟨12, _⟩ => ⟨S2048x1344, .f32⟩
  | .hbm, ⟨13, _⟩ => ⟨S2048x1344, .f32⟩
  | .hbm, ⟨14, _⟩ => ⟨S2048x1344, .f32⟩
  | .hbm, ⟨15, _⟩ => ⟨S_, .f32⟩
  | .hbm, ⟨16, _⟩ => ⟨S2048x1344, .f32⟩
  | .hbm, ⟨17, _⟩ => ⟨S2048x1344, .f32⟩
  | .hbm, ⟨18, _⟩ => ⟨S2048x1344, .f32⟩
  | .hbm, ⟨19, _⟩ => ⟨S_, .f32⟩
  | .hbm, ⟨20, _⟩ => ⟨S2048x1344, .f32⟩
  | .hbm, ⟨21, _⟩ => ⟨S2048x1344, .f32⟩
  | .hbm, ⟨22, _⟩ => ⟨S_, .f32⟩
  | .hbm, ⟨23, _⟩ => ⟨S2048x1344, .f32⟩
  | .hbm, ⟨24, _⟩ => ⟨S2048x1344, .f32⟩
  | .hbm, ⟨25, _⟩ => ⟨S2048x1344, .f32⟩
  | .hbm, ⟨26, _⟩ => ⟨S_, .f32⟩
  | .hbm, ⟨27, _⟩ => ⟨S2048x1344, .f32⟩
  | .hbm, ⟨28, _⟩ => ⟨S2048x1344, .f32⟩
  | .hbm, ⟨29, _⟩ => ⟨S2048x1344, .f32⟩
  | .hbm, ⟨30, _⟩ => ⟨S_, .f32⟩
  | .hbm, ⟨31, _⟩ => ⟨S2048x1344, .f32⟩
  | .hbm, ⟨32, _⟩ => ⟨S2048x1344, .f32⟩
  | .hbm, ⟨33, _⟩ => ⟨S2048x1344, .f32⟩
  | .hbm, ⟨34, _⟩ => ⟨S_, .f32⟩
  | .hbm, ⟨35, _⟩ => ⟨S2048x1344, .f32⟩
  | .hbm, ⟨36, _⟩ => ⟨S2048x1344, .f32⟩
  | _, _ => ⟨S2048x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x256 : Shape := ⟨2, ![4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel29Ideal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== Reference29Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attn.Core.lean ====
module
public import proofs.«01_k».proof.Proof.Gen.KernelIdeal.Skeleton
public import Idealize.ShloMosaic.Lib.Pipeline.ValueKit
public import Idealize.ShloMosaic.Lib.Pointwise
public import Idealize.ShloMosaic.Lib.WordCmp
@[expose] public section
set_option maxRecDepth 16384
noncomputable section
open Idealize.ShloMosaic Idealize.ShloMosaic.TcCoe Idealize.SL.Sem
namespace Cert.KernelIdeal.Attn
open Cert.KernelIdeal Cert.KernelIdeal.Gen

/-! What one key/value head of a block reads: its eight query heads stacked on top of each other, its own 64 lanes
of keys or values twice, its eight columns of row log-sums and its eight sink logits. -/

theorem slab (o : Nat) (h : o + 128 ≤ 2048) : S128x2048.Slices ![0, o] S128x128 :=
  ⟨rfl, fun a => by fin_cases a <;> [exact Nat.le_refl 128; exact h]⟩
theorem headLanes (o : Nat) (h : o + 64 ≤ 256) : S256x256.Slices ![0, o] S256x64 :=
  ⟨rfl, fun a => by fin_cases a <;> [exact Nat.le_refl 256; exact h]⟩
theorem column (o : Nat) (h : o + 1 ≤ 128) : S128x128.Slices ![0, o] S128x1 :=
  ⟨rfl, fun a => by fin_cases a <;> [exact Nat.le_refl 128; exact h]⟩

/-- The lower 64 lanes of a 128-lane slab, zeros in the upper ones. -/
def evenHead (x : Vec Ideal S128x2048 .bf16) (o : Nat) (h : o + 128 ≤ 2048) : FVec Ideal S128x128 .bf16 :=
  select (broadcastTo S128x128 (shapeCast S1x128 k0_pay16 shapeCasts_S1x128_S1x128) broadcasts_S1x128_S128x128)
    (extractStridedSlice S128x128 ![0, o] x (slab o h)) (broadcast S128x128 (Scalar.ofBits .bf16 0x0000#16))
/-- The upper 64 lanes of a 128-lane slab, zeros in the lower ones. -/
def oddHead (x : Vec Ideal S128x2048 .bf16) (o : Nat) (h : o + 128 ≤ 2048) : FVec Ideal S128x128 .bf16 :=
  select (broadcastTo S128x128 (shapeCast S1x128 (xori k0_pay16 (constantI S1x128 1 1#1)) shapeCasts_S1x128_S1x128)
      broadcasts_S1x128_S128x128)
    (extractStridedSlice S128x128 ![0, o] x (slab o h)) (broadcast S128x128 (Scalar.ofBits .bf16 0x0000#16))
/-- Eight heads of 64 lanes stacked over the rows, each kept in its own half of its slab. -/
def stack (x : Vec Ideal S128x2048 .bf16) (o : Nat) (h : o + 512 ≤ 2048) : FVec Ideal S1024x128 .bf16 :=
  concatenate S1024x128 0 [⟨S128x128, evenHead x o (by omega)⟩, ⟨S128x128, oddHead x o (by omega)⟩,
    ⟨S128x128, evenHead x (o + 128) (by omega)⟩, ⟨S128x128, oddHead x (o + 128) (by omega)⟩,
    ⟨S128x128, evenHead x (o + 256) (by omega)⟩, ⟨S128x128, oddHead x (o + 256) (by omega)⟩,
    ⟨S128x128, evenHead x (o + 384) (by omega)⟩, ⟨S128x128, oddHead x (o + 384) (by omega)⟩]
    concatenates_S128x128_S128x128_S128x128_S128x128_S128x128_S128x128_S128x128_S128x128_S1024x128_d0
/-- A head's 64 lanes of keys (values), twice side by side. -/
def dup (x : FVec Ideal S256x256 .bf16) (o : Nat) (h : o + 64 ≤ 256) : FVec Ideal S256x128 .bf16 :=
  concatenate S256x128 1 [⟨S256x64, extractStridedSlice S256x64 ![0, o] x (headLanes o h)⟩,
    ⟨S256x64, extractStridedSlice S256x64 ![0, o] x (headLanes o h)⟩] concatenates_S256x64_S256x64_S256x128_d1
/-- One column of a 128-lane array as a plane of one. -/
def plane (x : FVec Ideal S128x128 .f32) (o : Nat) (h : o + 1 ≤ 128) : FVec Ideal S1x128x1 .f32 :=
  shapeCast S1x128x1 (extractStridedSlice S128x1 ![0, o] x (column o h)) shapeCasts_S128x1_S1x128x1
/-- Eight neighbouring columns, one plane each. -/
def planes (x : FVec Ideal S128x128 .f32) (o : Nat) (h : o + 8 ≤ 128) : FVec Ideal S8x128x1 .f32 :=
  concatenate S8x128x1 0 [⟨S1x128x1, plane x o (by omega)⟩, ⟨S1x128x1, plane x (o + 1) (by omega)⟩,
    ⟨S1x128x1, plane x (o + 2) (by omega)⟩, ⟨S1x128x1, plane x (o + 3) (by omega)⟩,
    ⟨S1x128x1, plane x (o + 4) (by omega)⟩, ⟨S1x128x1, plane x (o + 5) (by omega)⟩,
    ⟨S1x128x1, plane x (o + 6) (by omega)⟩, ⟨S1x128x1, plane x (o + 7) (by omega)⟩]
    concatenates_S1x128x1_S1x128x1_S1x128x1_S1x128x1_S1x128x1_S1x128x1_S1x128x1_S1x128x1_S8x128x1_d0

theorem evenHead_apply (x : Vec Ideal S128x2048 .bf16) (o : Nat) (h : o + 128 ≤ 2048) (i d : Fin 128) :
    evenHead x o h (ix2 i d) = if d.val < 64 then x (ix2 i ⟨o + d.val, by omega⟩) else (0 : EReal) := by
  pointwise [evenHead, k0_pay16]
  word_cmp
theorem oddHead_apply (x : Vec Ideal S128x2048 .bf16) (o : Nat) (h : o + 128 ≤ 2048) (i d : Fin 128) :
    oddHead x o h (ix2 i d) = if d.val < 64 then (0 : EReal) else x (ix2 i ⟨o + d.val, by omega⟩) := by
  pointwise [oddHead, k0_pay16]
  simp (disch := word_cmp_side) only [hlo_ix]
  by_cases hd : d.val < 64
  · rw [if_pos hd, decide_eq_true hd]; rfl
  · rw [if_neg hd, decide_eq_false hd]; rfl
theorem stack_apply (x : Vec Ideal S128x2048 .bf16) (o : Nat) (h : o + 512 ≤ 2048) (g : Fin 8) (i d : Fin 128) :
    stack x o h (ix2 ⟨g.val * 128 + i.val, by omega⟩ d)
      = if d.val / 64 = g.val % 2 then x (ix2 i ⟨o + g.val / 2 * 128 + d.val, by omega⟩) else (0 : EReal) := by
  have h0 : d.val / 64 = 0 ↔ d.val < 64 := by omega
  have h1 : d.val / 64 = 1 ↔ ¬d.val < 64 := by omega
  obtain ⟨g, hg⟩ := g
  interval_cases g
  all_goals pointwise [stack, evenHead_apply, oddHead_apply, h0, h1]
  all_goals (try rw [ite_not])
  all_goals (simp (disch := omega) only [dif_pos, dif_neg])
  all_goals first
    | exact if_congr Iff.rfl (congrArg x ((ix2_inj ..).2 ⟨Fin.ext (by simp only []; omega), rfl⟩)) rfl
    | exact if_congr Iff.rfl rfl (congrArg x ((ix2_inj ..).2 ⟨Fin.ext (by simp only []; omega), rfl⟩))
theorem dup_apply (x : FVec Ideal S256x256 .bf16) (o : Nat) (h : o + 64 ≤ 256) (j : Fin 256) (d : Fin 128) :
    dup x o h (ix2 j d) = x (ix2 j ⟨o + d.val % 64, by omega⟩) := by
  pointwise [dup]
  split
  · exact congrArg x ((ix2_inj ..).2 ⟨rfl, Fin.ext (by simp; omega)⟩)
  · exact congrArg x ((ix2_inj ..).2 ⟨rfl, Fin.ext (by simp; omega)⟩)
theorem planes_apply (x : FVec Ideal S128x128 .f32) (o : Nat) (h : o + 8 ≤ 128) (g : Fin 8) (i : Fin 128) :
    planes x o h (ix3 g i 0) = x (ix2 i ⟨o + g.val, by omega⟩) := by
  obtain ⟨g, hg⟩ := g
  interval_cases g
  all_goals pointwise [planes, plane]

/-- Key `j` of block `n`'s band is one query `i` may look at: within the last 128 positions, and there at all. -/
def ok (n : Nat) (i : Fin 128) (j : Fin 256) : Prop := (j.val ≤ i.val + 128 ∧ i.val < j.val) ∧ (128 ≤ j.val ∨ n ≠ 0)
instance (n : Nat) (i : Fin 128) : DecidablePred (ok n i) := fun j => by unfold ok; infer_instance

theorem mask_apply (c : grid0.Coords) (i : Fin 128) (j : Fin 256) :
    k0_pay6 c (ix2 i j) = BitVec.ofBool (decide (ok (c 0).val i j)) := by
  pointwise [k0_pay6]
  have hc : (c 0).val < 32 := (c 0).isLt
  have e : (IntOp.subi (IntOp.addi (BitVec.ofNat 32 i.val) 128#32) (BitVec.ofNat 32 j.val)).toNat
      = (2 ^ 32 - j.val + (i.val + 128)) % 2 ^ 32 := by
    simp only [IntOp.subi, IntOp.addi, BitVec.toNat_sub, BitVec.toNat_add, BitVec.toNat_ofNat]
    omega
  have e1 : IntOp.cmpi CmpIPredicate.sge (IntOp.subi (IntOp.addi (BitVec.ofNat 32 i.val) 128#32) (BitVec.ofNat 32 j.val)) 0#32
      = BitVec.ofBool (decide (j.val ≤ i.val + 128)) := by
    rw [WordCmp.cmpi_sge_zero, e]
    congr 2
    apply propext
    omega
  have e2 : IntOp.cmpi CmpIPredicate.slt (IntOp.subi (IntOp.addi (BitVec.ofNat 32 i.val) 128#32) (BitVec.ofNat 32 j.val)) 128#32
      = BitVec.ofBool (decide (i.val < j.val)) := by
    rw [WordCmp.cmpi_slt_eq, BitVec.toInt_eq_toNat_cond, e]
    congr 2
    apply propext
    have : (128#32).toInt = 128 := rfl
    rw [this]
    split <;> omega
  have e3 : Scalar.cmpi CmpIPredicate.eq (BitVec.ofNat 32 (c 0).val) 0#32 = BitVec.ofBool (decide ((c 0).val = 0)) := by
    show IntOp.cmpi CmpIPredicate.eq (BitVec.ofNat 32 (c 0).val) 0#32 = _
    word_cmp
  rw [e1, e2, e3]
  simp (disch := word_cmp_side) only [hlo_ix]
  unfold ok
  by_cases a1 : j.val ≤ i.val + 128 <;> by_cases a2 : i.val < j.val <;> by_cases a3 : 128 ≤ j.val <;>
    by_cases a4 : (c 0).val = 0 <;> simp [a1, a2, a3, a4] <;> first | rfl | omega
end Cert.KernelIdeal.Attn
-- ==== Proof.Attn.Row.lean ====
module
public import Idealize.ShloMosaic.PureOps.Ideal
public import Idealize.ShloMosaic.Lib.Pointwise
@[expose] public section
noncomputable section
open Idealize.ShloMosaic
namespace Cert.Row

/-! One row of softmax attention with a sink over the reals: what the row's weights are, and that both ways of computing
them (shifted by any number and divided by the sum; or the exponential of the logit less the log-sum) give those. -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real {y : ℝ} (h : y ≠ 0) (x : ℝ) : Ideal.div (x : EReal) (y : EReal) = ((x / y : ℝ) : EReal) := by
  rw [Ideal.div_coe h, ← EReal.coe_mul, mul_one_div]

theorem coe_ite (p : Prop) [Decidable p] (a b : ℝ) : (if p then (a : EReal) else (b : EReal)) = ((if p then a else b : ℝ) : EReal) := by
  split <;> rfl

variable (ok : Fin 256 → Prop) [DecidablePred ok] (s : Fin 256 → ℝ) (z : ℝ) (dp : Fin 256 → ℝ)

/-- The masked logit. -/
def logit (j : Fin 256) : EReal := if ok j then (s j : EReal) else ⊥
/-- The sum of the exponentials, the sink's among them. -/
def den : ℝ := (∑ j, if ok j then Real.exp (s j) else 0) + Real.exp z
/-- The weight of key `j`. -/
def prob (j : Fin 256) : ℝ := if ok j then Real.exp (s j) / den ok s z else 0
/-- The weight of the sink. -/
def probSink : ℝ := Real.exp z / den ok s z
/-- The weights' sum of the cotangent of the weights. -/
def delta : ℝ := ∑ j, prob ok s z j * dp j
/-- The cotangent of logit `j`. -/
def dlogit (j : Fin 256) : ℝ := prob ok s z j * (dp j - delta ok s z dp)

theorem den_pos : 0 < den ok s z :=
  add_pos_of_nonneg_of_pos (Finset.sum_nonneg fun j _ => by split <;> positivity) (Real.exp_pos z)

theorem prob_of_not {j : Fin 256} (h : ¬ok j) : prob ok s z j = 0 := if_neg h
theorem dlogit_of_not {j : Fin 256} (h : ¬ok j) : dlogit ok s z dp j = 0 := by rw [dlogit, prob_of_not ok s z h, zero_mul]

theorem exp_logit_sub (M : ℝ) (j : Fin 256) :
    Ideal.exp (logit ok s j - (M : EReal)) = ((if ok j then Real.exp (s j - M) else 0 : ℝ) : EReal) := by
  unfold logit
  split
  · rw [← EReal.coe_sub, Ideal.exp_coe]
  · rw [EReal.bot_sub, Ideal.exp_bot, EReal.coe_zero]

theorem exp_sub_log (j : Fin 256) : Ideal.exp (logit ok s j - (Real.log (den ok s z) : EReal)) = (prob ok s z j : EReal) := by
  rw [exp_logit_sub, prob, Real.exp_sub, Real.exp_log (den_pos ok s z)]

theorem exp_sink_sub_log : Ideal.exp ((z : EReal) - (Real.log (den ok s z) : EReal)) = (probSink ok s z : EReal) := by
  rw [← EReal.coe_sub, Ideal.exp_coe, probSink, Real.exp_sub, Real.exp_log (den_pos ok s z)]

theorem shifted_den (M : ℝ) :
    (∑ j, if ok j then Real.exp (s j - M) else 0) + Real.exp (z - M) = den ok s z * Real.exp (-M) := by
  rw [den, add_mul, Finset.sum_mul, ← Real.exp_add, ← sub_eq_add_neg]
  refine congrArg (· + _) (Finset.sum_congr rfl fun j _ => ?_)
  split
  · rw [← Real.exp_add, ← sub_eq_add_neg]
  · rw [zero_mul]

theorem log_sum (M : ℝ) :
    (M : EReal) + Ideal.log (((∑ j, if ok j then Real.exp (s j - M) else 0) + Real.exp (z - M) : ℝ) : EReal)
      = (Real.log (den ok s z) : EReal) := by
  have hd := den_pos ok s z
  have he := Real.exp_pos (-M)
  rw [shifted_den, Ideal.log_coe, if_neg (not_le.2 (mul_pos hd he)), ← EReal.coe_add, Real.log_mul hd.ne' he.ne',
    Real.log_exp]
  congr 1; ring

theorem prob_eq (M : ℝ) (j : Fin 256) :
    (if ok j then Real.exp (s j - M) else 0) / (den ok s z * Real.exp (-M)) = prob ok s z j := by
  have hd := (den_pos ok s z).ne'
  have he := (Real.exp_pos (-M)).ne'
  unfold prob
  split
  · rw [sub_eq_add_neg, Real.exp_add]; field_simp
  · rw [zero_div]

theorem probSink_eq (M : ℝ) : Real.exp (z - M) / (den ok s z * Real.exp (-M)) = probSink ok s z := by
  have hd := (den_pos ok s z).ne'
  have he := (Real.exp_pos (-M)).ne'
  rw [probSink, sub_eq_add_neg, Real.exp_add]; field_simp

theorem share_eq (M : ℝ) (dp' : Fin 256 → ℝ) (h : ∀ j, ok j → dp' j = dp j) :
    -(∑ j, dp' j * (1 / (den ok s z * Real.exp (-M) * (den ok s z * Real.exp (-M)))) * (if ok j then Real.exp (s j - M) else 0))
      = -(delta ok s z dp / (den ok s z * Real.exp (-M))) := by
  have hd : den ok s z * Real.exp (-M) ≠ 0 := mul_ne_zero (den_pos ok s z).ne' (Real.exp_pos _).ne'
  rw [delta, Finset.sum_div]
  refine congrArg _ (Finset.sum_congr rfl fun j _ => ?_)
  rw [← prob_eq ok s z M j]
  by_cases hj : ok j
  · rw [if_pos hj, h j hj]; field_simp
  · rw [if_neg hj]; simp

theorem dlogit_eq (M : ℝ) (dp' : Fin 256 → ℝ) (h : ∀ j, ok j → dp' j = dp j) (j : Fin 256) :
    (dp' j / (den ok s z * Real.exp (-M)) + -(delta ok s z dp / (den ok s z * Real.exp (-M)))) * (if ok j then Real.exp (s j - M) else 0)
      = dlogit ok s z dp j := by
  have hd : den ok s z * Real.exp (-M) ≠ 0 := mul_ne_zero (den_pos ok s z).ne' (Real.exp_pos _).ne'
  rw [dlogit, ← prob_eq ok s z M j]
  by_cases hj : ok j
  · rw [if_pos hj, h j hj]; field_simp; ring
  · rw [if_neg hj]; simp

theorem sinkShare_eq (M : ℝ) :
    -(delta ok s z dp / (den ok s z * Real.exp (-M))) * Real.exp (z - M) = -(probSink ok s z * delta ok s z dp) := by
  have hd : den ok s z * Real.exp (-M) ≠ 0 := mul_ne_zero (den_pos ok s z).ne' (Real.exp_pos _).ne'
  rw [← probSink_eq ok s z M]; field_simp

theorem sum_prob : ∑ j, prob ok s z j = 1 - probSink ok s z := by
  have hd := (den_pos ok s z).ne'
  have : ∀ j, prob ok s z j = (if ok j then Real.exp (s j) else 0) / den ok s z := fun j => by
    unfold prob; split <;> simp
  rw [Finset.sum_congr rfl fun j _ => this j, ← Finset.sum_div, probSink, eq_sub_iff_add_eq, ← add_div]
  exact div_self hd

theorem sum_dlogit : ∑ j, dlogit ok s z dp j = probSink ok s z * delta ok s z dp := by
  have : ∀ j, dlogit ok s z dp j = prob ok s z j * dp j - prob ok s z j * delta ok s z dp := fun j => by unfold dlogit; ring
  rw [Finset.sum_congr rfl fun j _ => this j, Finset.sum_sub_distrib, ← Finset.sum_mul, sum_prob]
  unfold delta; ring

/-- The shift a row takes is a real number. -/
theorem max_real : ∃ M : ℝ, max ((Finset.univ : Finset (Fin 256)).fold max ⊥ (logit ok s)) (z : EReal) = (M : EReal) := by
  have h1 : (Finset.univ : Finset (Fin 256)).fold max ⊥ (logit ok s) < ⊤ := by
    rw [Finset.fold_max_lt]
    refine ⟨bot_lt_top, fun j _ => ?_⟩
    unfold logit
    split
    · exact EReal.coe_lt_top _
    · exact bot_lt_top
  have h2 : max ((Finset.univ : Finset (Fin 256)).fold max ⊥ (logit ok s)) (z : EReal) ≠ ⊤ :=
    (max_lt h1 (EReal.coe_lt_top z)).ne
  have h3 : max ((Finset.univ : Finset (Fin 256)).fold max ⊥ (logit ok s)) (z : EReal) ≠ ⊥ :=
    (lt_of_lt_of_le (EReal.bot_lt_coe z) (le_max_right _ _)).ne'
  exact ⟨_, (EReal.coe_toReal h2 h3).symm⟩

/-- Some key attains the row's maximum. -/
theorem max_attained (l : Fin 256 → EReal) : ∃ j, l j = (Finset.univ : Finset (Fin 256)).fold max ⊥ l := by
  by_contra h
  push Not at h
  have hle : ∀ j, l j ≤ (Finset.univ : Finset (Fin 256)).fold max ⊥ l := fun j =>
    (Finset.le_fold_max _).2 (.inr ⟨j, Finset.mem_univ j, le_rfl⟩)
  have hlt : (Finset.univ : Finset (Fin 256)).fold max ⊥ l < (Finset.univ : Finset (Fin 256)).fold max ⊥ l := by
    conv_lhs => rw [show (Finset.univ : Finset (Fin 256)).fold max ⊥ l = (Finset.univ : Finset (Fin 256)).fold max ⊥ l from rfl]
    refine (Finset.fold_max_lt _).2 ⟨lt_of_le_of_lt bot_le (lt_of_le_of_ne (hle 0) (h 0)), fun j _ => lt_of_le_of_ne (hle j) (h j)⟩
  exact lt_irrefl _ hlt

end Cert.Row
-- ==== Proof.Attn.Chunk.lean ====
module
public import proofs.«01_k».proof.Proof.Attn.Core
public import proofs.«01_k».proof.Proof.Attn.Row
@[expose] public section
set_option maxRecDepth 16384
noncomputable section
open Idealize.ShloMosaic Idealize.ShloMosaic.TcCoe Idealize.SL.Sem
namespace Cert.KernelIdeal.Attn
open Cert.KernelIdeal Cert.KernelIdeal.Gen Cert.Row

/-! One key/value head of one block over the reals: what its scores, weights and gradients are when its operands are
real numbers. -/

theorem eighth : Ideal.ofBits .f32 0x3E000000#32 = ((1 / 8 : ℝ) : EReal) := by
  simp [Ideal.ofBits, Ideal.ieee, -EReal.coe_mul]; norm_num

/-- A stacked row against a doubled one is the 64-lane product of the head with its key/value head. -/
theorem stack_dot (X : Fin 128 → Fin 2048 → ℝ) (Y : Fin 256 → Fin 256 → ℝ) (kv : Nat) (hkv : kv < 4) (g : Fin 8) (i : Fin 128) (j : Fin 256) :
    (∑ d : Fin 128, (if d.val / 64 = g.val % 2 then (X i ⟨kv * 512 + g.val / 2 * 128 + d.val, by omega⟩ : EReal) else 0)
        * (Y j ⟨kv * 64 + d.val % 64, by omega⟩ : EReal))
      = ((∑ d : Fin 64, X i ⟨(kv * 8 + g.val) * 64 + d.val, by omega⟩ * Y j ⟨kv * 64 + d.val, by omega⟩ : ℝ) : EReal) := by
  have hr : ∀ d : Fin 128, (if d.val / 64 = g.val % 2 then (X i ⟨kv * 512 + g.val / 2 * 128 + d.val, by omega⟩ : EReal) else 0)
        * (Y j ⟨kv * 64 + d.val % 64, by omega⟩ : EReal)
      = (((if d.val / 64 = g.val % 2 then X i ⟨kv * 512 + g.val / 2 * 128 + d.val, by omega⟩ else 0)
        * Y j ⟨kv * 64 + d.val % 64, by omega⟩ : ℝ) : EReal) := fun d => by
    rw [EReal.coe_mul, ← coe_ite, EReal.coe_zero]
  rw [Finset.sum_congr rfl fun d _ => hr d, coe_sum]
  congr 1
  rw [Fin.sum_univ_tiles 2 64 rfl, Fin.sum_univ_two]
  have hg : g.val % 2 = 0 ∨ g.val % 2 = 1 := by omega
  rcases hg with hg | hg
  · rw [Finset.sum_eq_zero (s := Finset.univ) (f := fun d : Fin 64 => _ * Y j ⟨kv * 64 + ((1 : Fin 2).val * 64 + d.val) % 64, _⟩), add_zero]
    · refine Finset.sum_congr rfl fun d _ => ?_
      rw [if_pos (by simp; omega)]
      congr 3 <;> simp <;> omega
    · intro d _
      rw [if_neg (by simp; omega), zero_mul]
  · rw [Finset.sum_eq_zero (s := Finset.univ) (f := fun d : Fin 64 => _ * Y j ⟨kv * 64 + ((0 : Fin 2).val * 64 + d.val) % 64, _⟩), zero_add]
    · refine Finset.sum_congr rfl fun d _ => ?_
      rw [if_pos (by simp; omega)]
      congr 3 <;> simp <;> omega
    · intro d _
      rw [if_neg (by simp; omega), zero_mul]

theorem row_lt (g : Fin 8) (i : Fin 128) : g.val * 128 + i.val < 1024 := by omega

section
variable (okk : Fin 128 → Fin 256 → Prop) [∀ i, DecidablePred (okk i)] (T : Fin 8 → Fin 128 → Fin 256 → ℝ)
  (b : Fin 8 → Fin 128 → Fin 256 → ℝ) (z : Fin 8 → ℝ) (D : Fin 8 → Fin 128 → Fin 256 → ℝ)
  (mask : IVec S128x256 1) (hm : ∀ i j, mask (ix2 i j) = BitVec.ofBool (decide (okk i j)))
  (sc : FVec Ideal S1024x256 .f32) (hsc : ∀ (g : Fin 8) (i : Fin 128) (j : Fin 256), sc (ix2 ⟨g.val * 128 + i.val, row_lt g i⟩ j) = (T g i j : EReal))
  (bias : Vec Ideal S8x128x256 .f32) (hb : ∀ g i j, bias (ix3 g i j) = (b g i j : EReal))
  (lse : FVec Ideal S8x128x1 .f32)
  (hl : ∀ g i, lse (ix3 g i 0) = (Real.log (den (okk i) (fun j => T g i j * (1 / 8) + b g i j) (z g)) : EReal))
  (v2 : FVec Ideal S256x128 .bf16) (dog : FVec Ideal S1024x128 .bf16)
  (hd : ∀ g i j, k0_pay42 v2 dog (ix3 g i j) = (D g i j : EReal))

include hm hsc hb hl in
theorem weights_apply (g : Fin 8) (i : Fin 128) (j : Fin 256) :
    k0_pay41 mask lse bias sc (Ideal.ofBits .f32 0x3E000000#32) (ix3 g i j)
      = (prob (okk i) (fun j => T g i j * (1 / 8) + b g i j) (z g) j : EReal) := by
  rw [← exp_sub_log]
  pointwise [k0_pay41, hm, hsc, hb, hl]
  refine congrArg Ideal.exp (congrArg (· - _) ?_)
  unfold logit
  refine if_congr Iff.rfl ?_ (IdealRules.named_const.ideal_named_scalar _ _ _ _ rfl)
  rw [eighth, ← EReal.coe_mul, ← EReal.coe_add]

include hm hsc hb hl hd in
theorem delta_apply (g : Fin 8) (i : Fin 128) :
    k0_pay43 mask v2 dog lse bias sc (Ideal.ofBits .f32 0x3E000000#32) (ix3 g i 0)
      = (delta (okk i) (fun j => T g i j * (1 / 8) + b g i j) (z g) (D g i) : EReal) := by
  pointwise [k0_pay43, weights_apply okk T b z mask hm sc hsc bias hb lse hl, hd]
  rw [delta, ← coe_sum]
  exact Finset.sum_congr rfl fun j _ => (EReal.coe_mul _ _).symm

include hm hsc hb hl hd in
theorem dlogit_apply (g : Fin 8) (i : Fin 128) (j : Fin 256) :
    k0_pay44 mask v2 dog lse bias sc (Ideal.ofBits .f32 0x3E000000#32) (ix3 g i j)
      = (dlogit (okk i) (fun j => T g i j * (1 / 8) + b g i j) (z g) (D g i) j : EReal) := by
  pointwise [k0_pay44, weights_apply okk T b z mask hm sc hsc bias hb lse hl, hd,
    delta_apply okk T b z D mask hm sc hsc bias hb lse hl v2 dog hd]
  rw [dlogit, EReal.coe_mul, EReal.coe_sub]

include hm hsc hb hl hd in
theorem dsink_apply (sinks : FVec Ideal S8x128x1 .f32) (hs : ∀ g i, sinks (ix3 g i 0) = (z g : EReal)) (g : Fin 8) :
    k0_pay46 mask v2 dog lse bias sinks sc (Ideal.ofBits .f32 0x3E000000#32) (ix3 g 0 0)
      = ((-∑ i, probSink (okk i) (fun j => T g i j * (1 / 8) + b g i j) (z g)
          * delta (okk i) (fun j => T g i j * (1 / 8) + b g i j) (z g) (D g i) : ℝ) : EReal) := by
  pointwise [k0_pay46, hs, hl, exp_sink_sub_log, delta_apply okk T b z D mask hm sc hsc bias hb lse hl v2 dog hd]
  rw [EReal.coe_neg, ← coe_sum, zero_sub]
  exact congrArg Neg.neg (Finset.sum_congr rfl fun j _ => (EReal.coe_mul _ _).symm)
end

section
variable (A : Fin 8 → Fin 128 → Fin 256 → ℝ) (ds : FVec Ideal S8x128x256 .f32) (hA : ∀ g i j, ds (ix3 g i j) = (A g i j : EReal))
include hA

theorem dq_apply (k2 : FVec Ideal S256x128 .bf16) (Y : Fin 256 → Fin 128 → ℝ) (hk : ∀ j d, k2 (ix2 j d) = (Y j d : EReal))
    (i : Fin 128) (c : Fin 512) :
    k0_pay53 k2 ds (ix2 i c) = ((∑ j, A ⟨c.val / 64, by omega⟩ i j * Y j ⟨c.val % 128, by omega⟩) * (1 / 8) : ℝ) := by
  pointwise [k0_pay53, k0_pay52, hA, hk, eighth]
  word_cmp
  have key : ∀ (g : Fin 8) (i' d : Fin 128), g.val = c.val / 64 → i'.val = i.val → d.val = c.val % 128 →
      (∑ x, (A g i' x : EReal) * (Y x d : EReal)) * ((1 / 8 : ℝ) : EReal)
        = (((∑ j, A ⟨c.val / 64, by omega⟩ i j * Y j ⟨c.val % 128, by omega⟩) * (1 / 8) : ℝ) : EReal) := by
    intro g i' d h1 h2 h3
    rw [show (⟨c.val / 64, _⟩ : Fin 8) = g from Fin.ext h1.symm, show (⟨c.val % 128, _⟩ : Fin 128) = d from Fin.ext h3.symm,
      ← show i' = i from Fin.ext h2, EReal.coe_mul, ← coe_sum]
    exact congrArg (· * _) (Finset.sum_congr rfl fun x _ => (EReal.coe_mul _ _).symm)
  split_ifs <;> exact key _ _ _ (by simp only []; omega) (by simp only []; try omega) (by simp only []; omega)

theorem fold_apply (qg : FVec Ideal S1024x128 .bf16) (X : Fin 128 → Fin 512 → ℝ)
    (hq : ∀ (g : Fin 8) (i : Fin 128) (d : Fin 128), qg (ix2 ⟨g.val * 128 + i.val, by omega⟩ d)
      = if d.val / 64 = g.val % 2 then (X i ⟨g.val / 2 * 128 + d.val, by omega⟩ : EReal) else 0) (j : Fin 256) (d : Fin 128) :
    k0_pay55 k0_pay15 qg ds (ix2 j d) = ((∑ g : Fin 8, ∑ i, A g i j * X i ⟨g.val * 64 + d.val % 64, by omega⟩ : ℝ) : EReal) := by
  pointwise [k0_pay55, k0_pay15]
  have key : ∀ e : Fin 128, (∑ x : Fin 1024, ds (ix3 ⟨x.val / 128, by omega⟩ ⟨x.val % 128, by omega⟩ j) * qg (ix2 x e))
      = ((∑ g : Fin 8, ∑ i, A g i j * (if e.val / 64 = g.val % 2 then X i ⟨g.val / 2 * 128 + e.val, by omega⟩ else 0) : ℝ) : EReal) := by
    intro e
    rw [Fin.sum_univ_tiles 8 128 rfl, ← coe_sum]
    refine Finset.sum_congr rfl fun g _ => ?_
    rw [← coe_sum]
    refine Finset.sum_congr rfl fun i _ => ?_
    rw [EReal.coe_mul, ← coe_ite, EReal.coe_zero, ← hq, ← hA]
    refine congrArg (· * _) (congrArg ds ?_)
    have h1 : (⟨(g.val * 128 + i.val) / 128, by omega⟩ : Fin 8) = g := Fin.ext (by simp only []; omega)
    have h2 : (⟨(g.val * 128 + i.val) % 128, by omega⟩ : Fin 128) = i := Fin.ext (by simp only []; omega)
    exact (congrArg (fun a : Fin 8 => ix3 a _ j) h1).trans (congrArg (fun a : Fin 128 => ix3 g a j) h2)
  refine (congrArg₂ (· + ·) (key _) (key _)).trans ?_
  rw [← EReal.coe_add, ← Finset.sum_add_distrib]
  refine congrArg _ (Finset.sum_congr rfl fun g _ => ?_)
  rw [← Finset.sum_add_distrib]
  refine Finset.sum_congr rfl fun i _ => ?_
  rw [← mul_add]
  refine congrArg (A g i j * ·) ?_
  by_cases h : d.val / 64 = g.val % 2
  · rw [if_pos h, if_neg (by simp only []; omega), add_zero]
    exact congrArg (X i) (Fin.ext (by simp only []; omega))
  · rw [if_neg h, if_pos (by simp only []; omega), zero_add]
    exact congrArg (X i) (Fin.ext (by simp only []; omega))
theorem fold_scaled (qg : FVec Ideal S1024x128 .bf16) (j : Fin 256) (d : Fin 128) :
    k0_pay54 k0_pay14 qg ds (ix2 j d) = k0_pay55 k0_pay15 qg ds (ix2 j d) * ((1 / 8 : ℝ) : EReal) := by
  pointwise [k0_pay55, k0_pay15, k0_pay54, k0_pay14, k0_pay52]
  rw [eighth]
end
end Cert.KernelIdeal.Attn
-- ==== Proof.Attn.Blocks.lean ====
module
public import proofs.«01_k».proof.Proof.Attn.Chunk
@[expose] public section
set_option maxRecDepth 16384
noncomputable section
open Idealize.ShloMosaic Idealize.ShloMosaic.TcCoe Idealize.SL.Sem
namespace Cert.KernelIdeal.Attn
open Cert.KernelIdeal Cert.KernelIdeal.Gen

/-! What one grid point works on, and what it computes of it for each of the four key/value heads. -/

theorem eightHeads (o : Nat) (h : o + 8 ≤ 32) : ∀ a, (![o, 0, 0] : Fin 3 → Nat) a + S8x128x256.size a ≤ S32x128x256.size a :=
  fun a => by fin_cases a <;> [exact h; exact Nat.le_refl 128; exact Nat.le_refl 256]
theorem oneSink (o : Nat) (h : o < 32) : ∀ a, (![o] : Fin 1 → Nat) a + S1.size a ≤ S32.size a :=
  fun a => by fin_cases a; exact h

/-- The blocks of a grid point's inputs. -/
structure Blocks where
  n : grid0.Coords
  q : Vec Ideal S128x2048 .bf16
  kp : Vec Ideal S128x256 .bf16
  kc : Vec Ideal S128x256 .bf16
  vp : Vec Ideal S128x256 .bf16
  vc : Vec Ideal S128x256 .bf16
  bias : Vec Ideal S32x128x256 .f32
  sinks : Vec Ideal S32 .f32
  datt : Vec Ideal S128x2048 .bf16
  lse : Vec Ideal S128x128 .f32

namespace Blocks
variable (b : Blocks)

/-- The key/value head's keys, its eight stacked queries, and so on. -/
def keys (kv : Nat) (h : kv < 4) : FVec Ideal S256x128 .bf16 := dup (k0_pay8 b.kp b.kc) (64 * kv) (by omega)
def vals (kv : Nat) (h : kv < 4) : FVec Ideal S256x128 .bf16 := dup (k0_pay9 b.vp b.vc) (64 * kv) (by omega)
def queries (kv : Nat) (h : kv < 4) : FVec Ideal S1024x128 .bf16 := stack b.q (512 * kv) (by omega)
def cots (kv : Nat) (h : kv < 4) : FVec Ideal S1024x128 .bf16 := stack b.datt (512 * kv) (by omega)
def rowLogs (kv : Nat) (h : kv < 4) : FVec Ideal S8x128x1 .f32 := planes (k0_pay7 b.lse) (8 * kv) (by omega)
def biasOf (kv : Nat) (h : kv < 4) : Vec Ideal S8x128x256 .f32 :=
  View.ld (Val := Elt Ideal) (e' := .f32) b.bias (Rect.unit (s := S32x128x256) ![8 * kv, 0, 0] S8x128x256.size (eightHeads (8 * kv) (by omega)))
def sink (o : Nat) (h : o < 32) : Elt Ideal .f32 :=
  View.ld (Val := Elt Ideal) (e' := .f32) b.sinks (Rect.unit (s := S32) ![o] S1.size (oneSink o h)) (Shape.Idx.first (s := S1) (by decide))
def sinksOf (kv : Nat) (h : kv < 4) : FVec Ideal S8x128x1 .f32 :=
  k0_pay39 (b.sink (8 * kv) (by omega)) (b.sink (8 * kv + 1) (by omega)) (b.sink (8 * kv + 2) (by omega))
    (b.sink (8 * kv + 3) (by omega)) (b.sink (8 * kv + 4) (by omega)) (b.sink (8 * kv + 5) (by omega))
    (b.sink (8 * kv + 6) (by omega)) (b.sink (8 * kv + 7) (by omega))
def scores (kv : Nat) (h : kv < 4) : FVec Ideal S1024x256 .f32 := k0_pay40 (b.keys kv h) (b.queries kv h)
def weights (kv : Nat) (h : kv < 4) : FVec Ideal S8x128x256 .f32 :=
  k0_pay41 (k0_pay6 b.n) (b.rowLogs kv h) (b.biasOf kv h) (b.scores kv h) (Scalar.ofBits .f32 0x3E000000#32)
def dlogits (kv : Nat) (h : kv < 4) : FVec Ideal S8x128x256 .f32 :=
  k0_pay44 (k0_pay6 b.n) (b.vals kv h) (b.cots kv h) (b.rowLogs kv h) (b.biasOf kv h) (b.scores kv h)
    (Scalar.ofBits .f32 0x3E000000#32)
def dsink (kv : Nat) (h : kv < 4) : FVec Ideal S8x1x1 .f32 :=
  k0_pay46 (k0_pay6 b.n) (b.vals kv h) (b.cots kv h) (b.rowLogs kv h) (b.biasOf kv h) (b.sinksOf kv h) (b.scores kv h)
    (Scalar.ofBits .f32 0x3E000000#32)
def dqs (kv : Nat) (h : kv < 4) : FVec Ideal S128x512 .f32 := k0_pay53 (b.keys kv h) (b.dlogits kv h)
def dks (kv : Nat) (h : kv < 4) : FVec Ideal S256x128 .f32 := k0_pay54 k0_pay14 (b.queries kv h) (b.dlogits kv h)
def dvs (kv : Nat) (h : kv < 4) : FVec Ideal S256x128 .f32 := k0_pay55 k0_pay15 (b.cots kv h) (b.weights kv h)

theorem oneHead (g : Nat) (h : g + 1 ≤ 8) : S8x1x1.Slices ![g, 0, 0] S1x1x1 :=
  ⟨rfl, fun a => by fin_cases a <;> [exact h; exact Nat.le_refl 1; exact Nat.le_refl 1]⟩
/-- Head `g` of a key/value head's eight added to the row of sink gradients, in lane `o`. -/
def addSink (row : FVec Ideal S1x128 .f32) (o : BitVec 32) (d : FVec Ideal S8x1x1 .f32) (g : Nat) (h : g + 1 ≤ 8) :
    FVec Ideal S1x128 .f32 :=
  addf row (select (cmpi .eq (iota .tc S1x128 32 [1] iota_S1x128_d1_w32) (broadcast S1x128 o))
    (broadcastTo S1x128 (shapeCast S1x1 (shapeCast S1x1 (extractStridedSlice S1x1x1 ![g, 0, 0] d (oneHead g h))
      shapeCasts_S1x1x1_S1x1) shapeCasts_S1x1_S1x1) broadcasts_S1x1_S1x128)
    (broadcast S1x128 (Scalar.ofBits .f32 0x00000000#32)))
/-- All eight of them. -/
def addSinks (row : FVec Ideal S1x128 .f32) (d : FVec Ideal S8x1x1 .f32) (o : Nat) : FVec Ideal S1x128 .f32 :=
  addSink (addSink (addSink (addSink (addSink (addSink (addSink (addSink row
    (BitVec.ofNat 32 o) d 0 (by omega)) (BitVec.ofNat 32 (o + 1)) d 1 (by omega)) (BitVec.ofNat 32 (o + 2)) d 2 (by omega))
    (BitVec.ofNat 32 (o + 3)) d 3 (by omega)) (BitVec.ofNat 32 (o + 4)) d 4 (by omega))
    (BitVec.ofNat 32 (o + 5)) d 5 (by omega)) (BitVec.ofNat 32 (o + 6)) d 6 (by omega))
    (BitVec.ofNat 32 (o + 7)) d 7 (by omega)
/-- The block's sink gradients, one lane for every head. -/
def sinkRow : FVec Ideal S1x128 .f32 :=
  addSinks (addSinks (addSinks (addSinks (broadcast S1x128 (Scalar.ofBits .f32 0x00000000#32)) (b.dsink 0 (by omega)) 0)
    (b.dsink 1 (by omega)) 8) (b.dsink 2 (by omega)) 16) (b.dsink 3 (by omega)) 24
/-- The block's own rows of the query gradient. -/
def dqBlock : FVec Ideal S128x2048 .bf16 :=
  truncf .bf16 (concatenate S128x2048 1 [⟨S128x512, b.dqs 0 (by omega)⟩, ⟨S128x512, b.dqs 1 (by omega)⟩,
    ⟨S128x512, b.dqs 2 (by omega)⟩, ⟨S128x512, b.dqs 3 (by omega)⟩] concatenates_S128x512_S128x512_S128x512_S128x512_S128x2048_d1) bitsLt_bf16_f32
/-- What the block adds to the 256 rows of key gradients it touches, over what they held. -/
def dkRows (prev : Vec Ideal S256x256 .f32) : FVec Ideal S256x256 .f32 :=
  k0_pay187 k0_pay10 (b.dks 0 (by omega)) (b.dks 1 (by omega)) (b.dks 2 (by omega)) (b.dks 3 (by omega)) prev
/-- The same for the value gradients. -/
def dvRows (prev : Vec Ideal S256x256 .f32) : FVec Ideal S256x256 .f32 :=
  k0_pay188 k0_pay10 (b.dvs 0 (by omega)) (b.dvs 1 (by omega)) (b.dvs 2 (by omega)) (b.dvs 3 (by omega)) prev
/-- A key/value head's bias gradients over what was there. -/
def dbiasRows (kv : Nat) (h : kv < 4) (prev : Vec Ideal S8x128x256 .f32) : FVec Ideal S8x128x256 .f32 :=
  addf (shapeCast S8x128x256 prev shapeCasts_S8x128x256_S8x128x256) (b.dlogits kv h)
/-- The row of sink gradients over what was there. -/
def dsinkRow (prev : Vec Ideal S1x128 .f32) : FVec Ideal S1x128 .f32 :=
  addf (shapeCast S1x128 prev shapeCasts_S1x128_S1x128) b.sinkRow
end Blocks
end Cert.KernelIdeal.Attn
-- ==== Proof.Attn.Step.lean ====
module
public import proofs.«01_k».proof.Proof.Attn.Blocks
@[expose] public section
set_option maxRecDepth 16384
noncomputable section
open Idealize.ShloMosaic Idealize.ShloMosaic.TcCoe Idealize.SL.Sem
open Cert.Row
namespace Cert.Attention

/-! Block-local attention with sinks and its gradient over the reals: 32 blocks of 128 queries, each looking at its own
keys and those of the block before; 32 query heads of 64 lanes on four key/value heads. -/

/-- The real arrays: queries, keys, values, output cotangents, position biases, sink logits. -/
structure Model where
  Q : Nat → Nat → ℝ
  K : Nat → Nat → ℝ
  V : Nat → Nat → ℝ
  C : Nat → Nat → ℝ
  B : Nat → Fin 128 → Fin 256 → ℝ
  Z : Nat → ℝ

/-- Row of key `j` of block `n`'s band (the first block's first 128, which nothing looks at, are its own). -/
def keyRow (n j : Nat) : Nat := if j < 128 then (n - 1) * 128 + j else n * 128 + (j - 128)
/-- Key `j` of block `n`'s band is one query `i` may look at: within the last 128 positions, and there at all. -/
def ok (n : Nat) (i : Fin 128) (j : Fin 256) : Prop := (j.val ≤ i.val + 128 ∧ i.val < j.val) ∧ (128 ≤ j.val ∨ n ≠ 0)
instance (n : Nat) (i : Fin 128) : DecidablePred (ok n i) := fun j => by unfold ok; infer_instance

namespace Model
variable (M : Model) (n h : Nat)
def dot (i : Fin 128) (j : Fin 256) : ℝ := ∑ d : Fin 64, M.Q (n * 128 + i.val) (h * 64 + d.val) * M.K (keyRow n j.val) (h / 8 * 64 + d.val)
def score (i : Fin 128) (j : Fin 256) : ℝ := M.dot n h i j * (1 / 8) + M.B h i j
def dweight (i : Fin 128) (j : Fin 256) : ℝ := ∑ d : Fin 64, M.C (n * 128 + i.val) (h * 64 + d.val) * M.V (keyRow n j.val) (h / 8 * 64 + d.val)
def rowDen (i : Fin 128) : ℝ := den (ok n i) (M.score n h i) (M.Z h)
def weight (i : Fin 128) (j : Fin 256) : ℝ := prob (ok n i) (M.score n h i) (M.Z h) j
def dscore (i : Fin 128) (j : Fin 256) : ℝ := dlogit (ok n i) (M.score n h i) (M.Z h) (M.dweight n h i) j
def dsink : ℝ := -∑ i : Fin 128, probSink (ok n i) (M.score n h i) (M.Z h) * delta (ok n i) (M.score n h i) (M.Z h) (M.dweight n h i)
def dq (i : Fin 128) (c : Nat) : ℝ := (∑ j, M.dscore n (c / 64) i j * M.K (keyRow n j.val) (c / 512 * 64 + c % 64)) * (1 / 8)
def dk (j : Fin 256) (c : Nat) : ℝ :=
  (∑ g : Fin 8, ∑ i : Fin 128, M.dscore n (c / 64 * 8 + g.val) i j * M.Q (n * 128 + i.val) ((c / 64 * 8 + g.val) * 64 + c % 64)) * (1 / 8)
def dv (j : Fin 256) (c : Nat) : ℝ :=
  ∑ g : Fin 8, ∑ i : Fin 128, M.weight n (c / 64 * 8 + g.val) i j * M.C (n * 128 + i.val) ((c / 64 * 8 + g.val) * 64 + c % 64)
end Model
end Cert.Attention
namespace Cert.KernelIdeal.Attn
open Cert.KernelIdeal Cert.KernelIdeal.Gen Cert.Attention

/-- The blocks are those of grid point `n` of the model. -/
structure Blocks.Is (b : Blocks) (M : Model) (n : Nat) : Prop where
  pos : (b.n 0).val = n
  q : ∀ i c, b.q (ix2 i c) = (M.Q (n * 128 + i.val) c.val : EReal)
  k : ∀ j c, k0_pay8 b.kp b.kc (ix2 j c) = (M.K (keyRow n j.val) c.val : EReal)
  v : ∀ j c, k0_pay9 b.vp b.vc (ix2 j c) = (M.V (keyRow n j.val) c.val : EReal)
  c : ∀ i c, b.datt (ix2 i c) = (M.C (n * 128 + i.val) c.val : EReal)
  bias : ∀ h i j, b.bias (ix3 h i j) = (M.B h.val i j : EReal)
  sinks : ∀ h, b.sinks (ix1 h) = (M.Z h.val : EReal)
  lse : ∀ i (h : Fin 128), h.val < 32 → b.lse (ix2 i h) = (Real.log (M.rowDen n h.val i) : EReal)

namespace Blocks
variable {b : Blocks} {M : Model} {n : Nat} (H : b.Is M n) (kv : Nat) (hkv : kv < 4)
include H

theorem keys_apply (j : Fin 256) (d : Fin 128) : b.keys kv hkv (ix2 j d) = (M.K (keyRow n j.val) (kv * 64 + d.val % 64) : EReal) := by
  rw [keys, dup_apply, H.k, show kv * 64 = 64 * kv from Nat.mul_comm ..]
theorem vals_apply (j : Fin 256) (d : Fin 128) : b.vals kv hkv (ix2 j d) = (M.V (keyRow n j.val) (kv * 64 + d.val % 64) : EReal) := by
  rw [vals, dup_apply, H.v, show kv * 64 = 64 * kv from Nat.mul_comm ..]
theorem queries_apply (g : Fin 8) (i d : Fin 128) : b.queries kv hkv (ix2 ⟨g.val * 128 + i.val, by omega⟩ d)
    = if d.val / 64 = g.val % 2 then (M.Q (n * 128 + i.val) (kv * 512 + g.val / 2 * 128 + d.val) : EReal) else 0 := by
  rw [queries, stack_apply, H.q, show kv * 512 = 512 * kv from Nat.mul_comm ..]
theorem cots_apply (g : Fin 8) (i d : Fin 128) : b.cots kv hkv (ix2 ⟨g.val * 128 + i.val, by omega⟩ d)
    = if d.val / 64 = g.val % 2 then (M.C (n * 128 + i.val) (kv * 512 + g.val / 2 * 128 + d.val) : EReal) else 0 := by
  rw [cots, stack_apply, H.c, show kv * 512 = 512 * kv from Nat.mul_comm ..]
theorem biasOf_apply (g : Fin 8) (i : Fin 128) (j : Fin 256) : b.biasOf kv hkv (ix3 g i j) = (M.B (kv * 8 + g.val) i j : EReal) := by
  rw [← H.bias ⟨kv * 8 + g.val, by omega⟩ i j]
  refine View.ld_unit_apply_of (Val := Elt Ideal) (e := .f32) b.bias _ _ _ _ _ fun a => ?_
  fin_cases a
  · show kv * 8 + g.val = 8 * kv + g.val
    omega
  · show i.val = 0 + i.val
    omega
  · show j.val = 0 + j.val
    omega
theorem sink_apply (o : Nat) (ho : o < 32) : b.sink o ho = (M.Z o : EReal) := by
  rw [← H.sinks ⟨o, ho⟩]
  refine View.ld_unit_apply_of (Val := Elt Ideal) (e := .f32) b.sinks _ _ _ _ _ fun a => ?_
  fin_cases a
  rfl
theorem sinksOf_apply (g : Fin 8) (i : Fin 128) : b.sinksOf kv hkv (ix3 g i 0) = (M.Z (kv * 8 + g.val) : EReal) := by
  unfold sinksOf
  simp only [sink_apply H]
  obtain ⟨g, hg⟩ := g
  interval_cases g
  all_goals pointwise [k0_pay39]
  all_goals rw [Nat.mul_comm]
theorem rowLogs_apply (g : Fin 8) (i : Fin 128) :
    b.rowLogs kv hkv (ix3 g i 0) = (Real.log (M.rowDen n (kv * 8 + g.val) i) : EReal) := by
  rw [rowLogs, planes_apply, show kv * 8 = 8 * kv from Nat.mul_comm ..]
  pointwise [k0_pay7]
  exact H.lse i ⟨8 * kv + g.val, by omega⟩ (by simp only []; omega)
theorem mask_at (i : Fin 128) (j : Fin 256) : k0_pay6 b.n (ix2 i j) = BitVec.ofBool (decide (ok n i j)) := by
  rw [mask_apply]
  congr 1
  exact decide_eq_decide.mpr (H.pos ▸ Iff.rfl)
theorem scores_apply (g : Fin 8) (i : Fin 128) (j : Fin 256) :
    b.scores kv hkv (ix2 ⟨g.val * 128 + i.val, by omega⟩ j) = (M.dot n (kv * 8 + g.val) i j : EReal) := by
  pointwise [scores, k0_pay40, keys_apply H, queries_apply H]
  refine (stack_dot (fun i c => M.Q (n * 128 + i.val) c.val) (fun j c => M.K (keyRow n j.val) c.val) kv hkv g i j).trans ?_
  rw [Model.dot, show (kv * 8 + g.val) / 8 = kv by omega]
theorem dweights_apply (g : Fin 8) (i : Fin 128) (j : Fin 256) :
    k0_pay42 (b.vals kv hkv) (b.cots kv hkv) (ix3 g i j) = (M.dweight n (kv * 8 + g.val) i j : EReal) := by
  pointwise [k0_pay42, vals_apply H, cots_apply H]
  refine (stack_dot (fun i c => M.C (n * 128 + i.val) c.val) (fun j c => M.V (keyRow n j.val) c.val) kv hkv g i j).trans ?_
  rw [Model.dweight, show (kv * 8 + g.val) / 8 = kv by omega]
theorem weights_at (g : Fin 8) (i : Fin 128) (j : Fin 256) :
    b.weights kv hkv (ix3 g i j) = (M.weight n (kv * 8 + g.val) i j : EReal) :=
  weights_apply (ok n) (fun g => M.dot n (kv * 8 + g.val)) (fun g => M.B (kv * 8 + g.val)) (fun g => M.Z (kv * 8 + g.val)) _ (mask_at H)
    _ (scores_apply H kv hkv) _ (biasOf_apply H kv hkv) _ (rowLogs_apply H kv hkv) g i j
theorem dlogits_at (g : Fin 8) (i : Fin 128) (j : Fin 256) :
    b.dlogits kv hkv (ix3 g i j) = (M.dscore n (kv * 8 + g.val) i j : EReal) :=
  dlogit_apply (ok n) (fun g => M.dot n (kv * 8 + g.val)) (fun g => M.B (kv * 8 + g.val)) (fun g => M.Z (kv * 8 + g.val))
    (fun g => M.dweight n (kv * 8 + g.val)) _ (mask_at H) _ (scores_apply H kv hkv) _ (biasOf_apply H kv hkv) _
    (rowLogs_apply H kv hkv) _ _ (dweights_apply H kv hkv) g i j
theorem dsink_at (g : Fin 8) : b.dsink kv hkv (ix3 g 0 0) = (M.dsink n (kv * 8 + g.val) : EReal) :=
  dsink_apply (ok n) (fun g => M.dot n (kv * 8 + g.val)) (fun g => M.B (kv * 8 + g.val)) (fun g => M.Z (kv * 8 + g.val))
    (fun g => M.dweight n (kv * 8 + g.val)) _ (mask_at H) _ (scores_apply H kv hkv) _ (biasOf_apply H kv hkv) _
    (rowLogs_apply H kv hkv) _ _ (dweights_apply H kv hkv) _ (sinksOf_apply H kv hkv) g
theorem dqs_at (i : Fin 128) (c : Fin 512) : b.dqs kv hkv (ix2 i c) = (M.dq n i (kv * 512 + c.val) : EReal) := by
  refine (dq_apply (fun g => M.dscore n (kv * 8 + g.val)) _ (dlogits_at H kv hkv) _
    (fun j d => M.K (keyRow n j.val) (kv * 64 + d.val % 64)) (keys_apply H kv hkv) i c).trans ?_
  rw [Model.dq, show (kv * 512 + c.val) / 64 = kv * 8 + c.val / 64 by omega, show (kv * 512 + c.val) / 512 = kv by omega,
    show (kv * 512 + c.val) % 64 = c.val % 128 % 64 by omega]
theorem dvs_at (j : Fin 256) (d : Fin 128) : b.dvs kv hkv (ix2 j d) = (M.dv n j (kv * 64 + d.val % 64) : EReal) := by
  refine (fold_apply (fun g => M.weight n (kv * 8 + g.val)) _ (weights_at H kv hkv) _
    (fun i c => M.C (n * 128 + i.val) (kv * 512 + c.val)) (fun g i d => by rw [cots_apply H kv hkv]; simp only [Nat.add_assoc]) j d).trans ?_
  rw [Model.dv, show (kv * 64 + d.val % 64) / 64 = kv by omega, show (kv * 64 + d.val % 64) % 64 = d.val % 64 by omega]
  simp only [Nat.add_mul, Nat.mul_assoc, Nat.reduceMul, Nat.add_assoc]
theorem dks_at (j : Fin 256) (d : Fin 128) : b.dks kv hkv (ix2 j d) = (M.dk n j (kv * 64 + d.val % 64) : EReal) := by
  rw [dks, fold_scaled (fun g => M.dscore n (kv * 8 + g.val)) _ (dlogits_at H kv hkv)]
  rw [fold_apply (fun g => M.dscore n (kv * 8 + g.val)) _ (dlogits_at H kv hkv) _
    (fun i c => M.Q (n * 128 + i.val) (kv * 512 + c.val)) (fun g i d => by rw [queries_apply H kv hkv]; simp only [Nat.add_assoc]) j d]
  rw [Model.dk, EReal.coe_mul, show (kv * 64 + d.val % 64) / 64 = kv by omega, show (kv * 64 + d.val % 64) % 64 = d.val % 64 by omega]
  simp only [Nat.add_mul, Nat.mul_assoc, Nat.reduceMul, Nat.add_assoc]
end Blocks
end Cert.KernelIdeal.Attn
-- ==== Proof.Attn.Ref.lean ====
module
public import proofs.«01_k».proof.Proof.Attn.Step
public import proofs.«01_k».proof.Proof.Gen.ReferenceIdeal.Read
public import Idealize.ShloMosaic.Lib.WordCmp
@[expose] public section
set_option maxRecDepth 16384
noncomputable section
open Idealize.ShloMosaic Idealize.ShloMosaic.TcCoe Idealize.SL.Sem
open Cert.Row Cert.Attention
namespace Cert.ReferenceIdeal.Attn
open Cert.ReferenceIdeal Cert.ReferenceIdeal.Read

/-! The plain attention and its gradient, read at real arguments. -/

/-- The arguments hold the model's real numbers. -/
structure Args (x0 : (⟨S4096x10752, .bf16⟩ : BufTy).Contents (Elt Ideal)) (x1 : (⟨S4096x2048, .bf16⟩ : BufTy).Contents (Elt Ideal))
    (x2 : (⟨S32x128x256, .f32⟩ : BufTy).Contents (Elt Ideal)) (x3 : (⟨S1x32, .f32⟩ : BufTy).Contents (Elt Ideal)) (M : Model) : Prop where
  q : ∀ (r : Fin 4096) (c : Fin 2048), x0 (ix2 r ⟨4096 + c.val, by omega⟩) = (M.Q r.val c.val : EReal)
  k : ∀ (r : Fin 4096) (c : Fin 256), x0 (ix2 r ⟨6144 + c.val, by omega⟩) = (M.K r.val c.val : EReal)
  v : ∀ (r : Fin 4096) (c : Fin 256), x0 (ix2 r ⟨6400 + c.val, by omega⟩) = (M.V r.val c.val : EReal)
  c : ∀ (r : Fin 4096) (c : Fin 2048), x1 (ix2 r c) = (M.C r.val c.val : EReal)
  b : ∀ (h : Fin 32) (i : Fin 128) (j : Fin 256), x2 (ix3 h i j) = (M.B h.val i j : EReal)
  z : ∀ (a : Fin 1) (h : Fin 32), x3 (ix2 a h) = (M.Z h.val : EReal)

variable {x0 : (⟨S4096x10752, .bf16⟩ : BufTy).Contents (Elt Ideal)} {x1 : (⟨S4096x2048, .bf16⟩ : BufTy).Contents (Elt Ideal)}
    {x2 : (⟨S32x128x256, .f32⟩ : BufTy).Contents (Elt Ideal)} {x3 : (⟨S1x32, .f32⟩ : BufTy).Contents (Elt Ideal)} {M : Model}

/-- A band of 256 rows: a block's own 128 and those of the block before, zeros before the first. -/
def band (K : Nat → Nat → ℝ) (n j c : Nat) : ℝ := if n * 128 + j < 128 then 0 else K (keyRow n j) c
theorem band_eq {K : Nat → Nat → ℝ} {c : Nat} (x : Fin 4096 → EReal) (n : Fin 32) (j : Fin 256) (h : ∀ r (hr : r < 4096), x ⟨r, hr⟩ = (K r c : EReal)) :
    (if hj : j.val < 128 then if h0 : n.val * 128 + j.val < 128 then 0 else x ⟨n.val * 128 + j.val - 128, by omega⟩
      else if h0 : (1 + n.val) * 128 + (j.val - 128) < 128 then 0 else x ⟨(1 + n.val) * 128 + (j.val - 128) - 128, by omega⟩)
      = (band K n.val j.val c : EReal) := by
  unfold band keyRow
  split_ifs
  · rfl
  · rw [h, show n.val * 128 + j.val - 128 = (n.val - 1) * 128 + j.val by omega]
  · omega
  · omega
  · omega
  · rw [h, show (1 + n.val) * 128 + (j.val - 128) - 128 = n.val * 128 + (j.val - 128) by omega]
theorem band_of_ok {K : Nat → Nat → ℝ} {n : Nat} {i : Fin 128} {j : Fin 256} (h : ok n i j) (c : Nat) : band K n j.val c = K (keyRow n j.val) c :=
  if_neg (by have := h.2; omega)

theorem dweight_of_ok {n : Nat} {kv : Fin 4} {g : Fin 8} {i : Fin 128} {j : Fin 256} {M : Model} (h : ok n i j) :
    ∑ d : Fin 64, M.C (n * 128 + i.val) ((kv.val * 8 + g.val) * 64 + d.val) * band M.V n j.val (kv.val * 64 + d.val) = M.dweight n (kv.val * 8 + g.val) i j := by
  rw [Model.dweight]
  refine Finset.sum_congr rfl fun d _ => ?_
  rw [band_of_ok h, show (kv.val * 8 + g.val) / 8 = kv.val by omega]
theorem minus_inf : Ideal.ofBits .f32 0xFF800000#32 = ⊥ := by simp [Ideal.ofBits, Ideal.ieee]

theorem mask_apply (n : Fin 32) (kv : Fin 4) (g : Fin 8) (i : Fin 128) (j : Fin 256) :
    val_main_v58_1 (F := Ideal) (ix5 n kv g i j) = BitVec.ofBool (decide (ok n.val i j)) := by
  pointwise [val_main_v58_1, val_main_v53, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_v8, val_main_c, val_main_c_0, val_main_c_1,
    val_main_c_2, val_main_c_3, val_main_c_4]
  have e0 : (IntOp.addi (IntOp.subi (IntOp.muli (BitVec.ofNat 32 n.val) 128#32) 128#32) (BitVec.ofNat 32 j.val)).toNat
      = (2 ^ 32 - 128 + n.val * 128 + j.val) % 2 ^ 32 := by
    simp only [IntOp.subi, IntOp.addi, IntOp.muli, BitVec.toNat_sub, BitVec.toNat_add, BitVec.toNat_mul, BitVec.toNat_ofNat]
    omega
  have e : (IntOp.subi (IntOp.addi (BitVec.ofNat 32 i.val) 128#32) (BitVec.ofNat 32 j.val)).toNat
      = (2 ^ 32 - j.val + (i.val + 128)) % 2 ^ 32 := by
    simp only [IntOp.subi, IntOp.addi, BitVec.toNat_sub, BitVec.toNat_add, BitVec.toNat_ofNat]
    omega
  have h1 : IntOp.cmpi CmpIPredicate.sge (IntOp.addi (IntOp.subi (IntOp.muli (BitVec.ofNat 32 n.val) 128#32) 128#32) (BitVec.ofNat 32 j.val)) 0#32
      = BitVec.ofBool (decide (128 ≤ j.val ∨ n.val ≠ 0)) := by
    rw [WordCmp.cmpi_sge_zero, e0]
    congr 2
    apply propext
    omega
  have h2 : IntOp.cmpi CmpIPredicate.sge (IntOp.subi (IntOp.addi (BitVec.ofNat 32 i.val) 128#32) (BitVec.ofNat 32 j.val)) 0#32
      = BitVec.ofBool (decide (j.val ≤ i.val + 128)) := by
    rw [WordCmp.cmpi_sge_zero, e]
    congr 2
    apply propext
    omega
  have h3 : IntOp.cmpi CmpIPredicate.slt (IntOp.subi (IntOp.addi (BitVec.ofNat 32 i.val) 128#32) (BitVec.ofNat 32 j.val)) 128#32
      = BitVec.ofBool (decide (i.val < j.val)) := by
    rw [WordCmp.cmpi_slt_eq, BitVec.toInt_eq_toNat_cond, e]
    congr 2
    apply propext
    have : (128#32).toInt = 128 := rfl
    rw [this]
    split <;> omega
  rw [h1, h2, h3]
  unfold IntOp.andi ok
  have key : ∀ p q r : Bool, BitVec.ofBool p &&& BitVec.ofBool q &&& BitVec.ofBool r = BitVec.ofBool (q && r && p) := by decide
  rw [key, ← Bool.decide_and, ← Bool.decide_and]

variable (H : Args x0 x1 x2 x3 M)
include H
/-- A band's keys: the block's own and those of the block before, zeros before the first. -/
theorem keys_apply (n : Fin 32) (j : Fin 256) (kv : Fin 4) (d : Fin 64) : val_main_v48 (F := Ideal) x0 (ix4 n j kv d)
    = (band M.K n.val j.val (kv.val * 64 + d.val) : EReal) := by
  pointwise [val_main_v48, val_main_v47, val_main_v46, val_main_v45, val_main_v43, val_main_v42, val_main_cst, val_main_v41, val_main_v4, val_main_v0]
  exact band_eq (K := M.K) (c := kv.val * 64 + d.val) (fun r => x0 (ix2 r ⟨6144 + (kv.val * 64 + d.val), by omega⟩)) n j (fun r h => H.k ⟨r, h⟩ ⟨kv.val * 64 + d.val, by omega⟩)
theorem vals_apply (n : Fin 32) (j : Fin 256) (kv : Fin 4) (d : Fin 64) : val_main_v109 (F := Ideal) x0 (ix4 n j kv d)
    = (band M.V n.val j.val (kv.val * 64 + d.val) : EReal) := by
  pointwise [val_main_v109, val_main_v108, val_main_v107, val_main_v106, val_main_v104, val_main_v103, val_main_cst_18, val_main_v102, val_main_v5, val_main_v0]
  exact band_eq (K := M.V) (c := kv.val * 64 + d.val) (fun r => x0 (ix2 r ⟨6400 + (kv.val * 64 + d.val), by omega⟩)) n j (fun r h => H.v ⟨r, h⟩ ⟨kv.val * 64 + d.val, by omega⟩)
theorem queries_apply (n : Fin 32) (i : Fin 128) (kv : Fin 4) (g : Fin 8) (d : Fin 64) : val_main_v40 (F := Ideal) x0 (ix5 n i kv g d)
    = (M.Q (n.val * 128 + i.val) ((kv.val * 8 + g.val) * 64 + d.val) : EReal) := by
  pointwise [val_main_v40, val_main_v3, val_main_v0]
  refine (H.q ⟨n.val * 128 + i.val, by omega⟩ ⟨kv.val * 512 + g.val * 64 + d.val, by omega⟩).trans ?_
  simp only [show (kv.val * 8 + g.val) * 64 + d.val = kv.val * 512 + g.val * 64 + d.val by omega]
theorem scores_apply (n : Fin 32) (kv : Fin 4) (g : Fin 8) (i : Fin 128) (j : Fin 256) (hj : ok n.val i j) :
    val_main_v57 (F := Ideal) x0 x2 (ix5 n kv g i j) = (M.score n.val (kv.val * 8 + g.val) i j : EReal) := by
  pointwise [val_main_v57, val_main_v56, val_main_v55, val_main_v54, val_main_v52, val_main_v51, val_main_cst_6, val_main_v50, val_main_v49, keys_apply H, queries_apply H, Cert.KernelIdeal.Attn.eighth]
  refine congrArg₂ (· + ·) (congrArg (· * _) ?_) (H.b ⟨kv.val * 8 + g.val, by omega⟩ i j) |>.trans (?_ : ((M.dot n.val (kv.val * 8 + g.val) i j : ℝ) : EReal) * _ + _ = _)
  · rw [Model.dot, ← coe_sum]
    refine Finset.sum_congr rfl fun d _ => ?_
    rw [band_of_ok hj, mul_comm, show (kv.val * 8 + g.val) / 8 = kv.val by omega, EReal.coe_mul]
  · rw [Model.score, EReal.coe_add, EReal.coe_mul]
theorem logits_apply (n : Fin 32) (kv : Fin 4) (g : Fin 8) (i : Fin 128) (j : Fin 256) :
    val_main_v58_0 (F := Ideal) x0 x2 (ix5 n kv g i j) = logit (ok n.val i) (M.score n.val (kv.val * 8 + g.val) i) j := by
  pointwise [val_main_v58_0, mask_apply, val_main_call0_v2, val_main_call0_v0, val_main_cst_7]
  unfold logit
  by_cases hj : ok n.val i j
  · rw [if_pos hj, if_pos hj, scores_apply H n kv g i j hj]
  · rw [if_neg hj, if_neg hj]
    show Ideal.ofBits .f32 0xFF800000#32 = ⊥
    exact minus_inf
theorem top_apply (n : Fin 32) (kv : Fin 4) (g : Fin 8) (i : Fin 128) :
    val_main_v61 (F := Ideal) x0 x2 (ix4 n kv g i) = (Finset.univ : Finset (Fin 256)).fold max ⊥ (logit (ok n.val i) (M.score n.val (kv.val * 8 + g.val) i)) := by
  pointwise [val_main_v61, logits_apply H, val_main_cst_8]
  rw [minus_inf]
theorem sink_apply (a : Fin 1) (kv : Fin 4) (g : Fin 8) (b c : Fin 1) : val_main_v60 (F := Ideal) x3 (ix5 a kv g b c) = (M.Z (kv.val * 8 + g.val) : EReal) := by
  pointwise [val_main_v60, val_main_v59]
  exact H.z 0 ⟨kv.val * 8 + g.val, by omega⟩
theorem shift_apply (n : Fin 32) (kv : Fin 4) (g : Fin 8) (i : Fin 128) (a : Fin 1) : val_main_v69 (F := Ideal) x0 x2 x3 (ix5 n kv g i a)
    = max ((Finset.univ : Finset (Fin 256)).fold max ⊥ (logit (ok n.val i) (M.score n.val (kv.val * 8 + g.val) i))) (M.Z (kv.val * 8 + g.val) : EReal) := by
  have h1 : val_main_v67 (F := Ideal) x0 x2 (ix5 n kv g i a) = (Finset.univ : Finset (Fin 256)).fold max ⊥ (logit (ok n.val i) (M.score n.val (kv.val * 8 + g.val) i)) := by
    rw [← top_apply H]
    pointwise [val_main_v67]
  have h2 : val_main_v68 (F := Ideal) x3 (ix5 n kv g i a) = (M.Z (kv.val * 8 + g.val) : EReal) := by
    rw [← sink_apply H 0 kv g 0 0]
    pointwise [val_main_v68]
  rw [val_main_v69_apply, h1, h2]
  generalize (Finset.univ : Finset (Fin 256)).fold max ⊥ (logit (ok n.val i) (M.score n.val (kv.val * 8 + g.val) i)) = y
  rfl
/-- The row's largest logit, the sink's among them, is a real number. -/
theorem shift_exists : ∃ X : Fin 32 → Fin 4 → Fin 8 → Fin 128 → ℝ, ∀ n kv g i (a : Fin 1), val_main_v69 (F := Ideal) x0 x2 x3 (ix5 n kv g i a) = (X n kv g i : EReal) := by
  choose X hX using fun (n : Fin 32) (kv : Fin 4) (g : Fin 8) (i : Fin 128) =>
    max_real (ok n.val i) (M.score n.val (kv.val * 8 + g.val) i) (M.Z (kv.val * 8 + g.val))
  exact ⟨X, fun n kv g i a => (shift_apply H n kv g i a).trans (hX n kv g i)⟩
theorem count_ne (n : Fin 32) (kv : Fin 4) (g : Fin 8) (i : Fin 128) : val_main_v66 (F := Ideal) x0 x2 (ix4 n kv g i) ≠ 0 := by
  pointwise [val_main_v66, val_main_cst_9, val_main_v65, val_main_v64, val_main_v63, val_main_v62, top_apply H, logits_apply H]
  obtain ⟨j, hj⟩ := max_attained (logit (ok n.val i) (M.score n.val (kv.val * 8 + g.val) i))
  refine ne_of_gt (lt_of_lt_of_le ?_ (Finset.single_le_sum (fun x _ => ?_) (Finset.mem_univ j)))
  · rw [hj, decide_eq_true rfl]
    show (0 : EReal) < (((1 : Nat) : ℝ) : EReal)
    simp
  · show (0 : EReal) ≤ (((BitVec.ofBool _).toNat : ℝ) : EReal)
    exact EReal.coe_nonneg.2 (Nat.cast_nonneg _)

variable (X : Fin 32 → Fin 4 → Fin 8 → Fin 128 → ℝ) (hX : ∀ n kv g i (a : Fin 1), val_main_v69 (F := Ideal) x0 x2 x3 (ix5 n kv g i a) = (X n kv g i : EReal))
  (n : Fin 32) (kv : Fin 4) (g : Fin 8) (i : Fin 128)
include hX
theorem exps_apply (j : Fin 256) : val_main_v90 (F := Ideal) x0 x2 x3 (ix5 n kv g i j)
    = ((if ok n.val i j then Real.exp (M.score n.val (kv.val * 8 + g.val) i j - X n kv g i) else 0 : ℝ) : EReal) := by
  pointwise [val_main_v90, val_main_v89, val_main_v88, hX, logits_apply H]
  exact exp_logit_sub ..
theorem sinkExp_apply (a : Fin 1) : val_main_v95 (F := Ideal) x0 x2 x3 (ix5 n kv g i a)
    = (Real.exp (M.Z (kv.val * 8 + g.val) - X n kv g i) : EReal) := by
  pointwise [val_main_v95, val_main_v94, val_main_v93, hX, sink_apply H]
  rw [← EReal.coe_sub, Ideal.exp_coe]
theorem den_apply (a : Fin 1) : val_main_v96 (F := Ideal) x0 x2 x3 (ix5 n kv g i a)
    = ((M.rowDen n.val (kv.val * 8 + g.val) i * Real.exp (-X n kv g i) : ℝ) : EReal) := by
  pointwise [val_main_v96, val_main_v92, val_main_v91, val_main_cst_16, exps_apply H X hX, sinkExp_apply H X hX]
  rw [Model.rowDen, ← shifted_den, coe_sum, ← EReal.coe_add]
theorem weights_apply (j : Fin 256) : val_main_v98 (F := Ideal) x0 x2 x3 (ix5 n kv g i j) = (M.weight n.val (kv.val * 8 + g.val) i j : EReal) := by
  pointwise [val_main_v98, val_main_v97, den_apply H X hX, exps_apply H X hX]
  exact (div_real (mul_ne_zero (den_pos ..).ne' (Real.exp_pos _).ne') _).trans (congrArg _ (prob_eq ..))
omit hX in
theorem dweights_apply (j : Fin 256) : val_main_v116 (F := Ideal) x0 x1 (ix5 n kv g i j)
    = ((∑ d : Fin 64, M.C (n.val * 128 + i.val) ((kv.val * 8 + g.val) * 64 + d.val) * band M.V n.val j.val (kv.val * 64 + d.val) : ℝ) : EReal) := by
  pointwise [val_main_v116, val_main_v115, val_main_v114, val_main_v113, vals_apply H]
  rw [← coe_sum]
  refine Finset.sum_congr rfl fun d _ => ?_
  rw [EReal.coe_mul]
  refine congrArg (· * _) ((H.c ⟨n.val * 128 + i.val, by omega⟩ ⟨kv.val * 512 + g.val * 64 + d.val, by omega⟩).trans ?_)
  simp only [show (kv.val * 8 + g.val) * 64 + d.val = kv.val * 512 + g.val * 64 + d.val by omega]
/-- The row's share of the weights' cotangents, with the sign and scale the derivative carries it. -/
theorem share_apply (a : Fin 1) : val_main_v133 (F := Ideal) x0 x1 x2 x3 (ix5 n kv g i a)
    = ((-(delta (ok n.val i) (M.score n.val (kv.val * 8 + g.val) i) (M.Z (kv.val * 8 + g.val)) (M.dweight n.val (kv.val * 8 + g.val) i)
        / (M.rowDen n.val (kv.val * 8 + g.val) i * Real.exp (-X n kv g i))) : ℝ) : EReal) := by
  pointwise [val_main_v133, val_main_v132, val_main_v131, val_main_cst_22, val_main_v130, val_main_v129, val_main_v128, val_main_v101, val_main_v100,
    val_main_cst_17, val_main_v99, den_apply H X hX, exps_apply H X hX, dweights_apply H]
  have hD : M.rowDen n.val (kv.val * 8 + g.val) i * Real.exp (-X n kv g i) ≠ 0 := mul_ne_zero (den_pos ..).ne' (Real.exp_pos _).ne'
  rw [← EReal.coe_mul, show (1 : EReal) = ((1 : ℝ) : EReal) from rfl, div_real (mul_ne_zero hD hD)]
  simp only [← EReal.coe_mul]
  rw [coe_sum, ← EReal.coe_neg]
  exact congrArg _ (share_eq _ _ _ _ _ _ fun j hj => dweight_of_ok hj)
theorem dlogits_apply (j : Fin 256) : val_main_v143 (F := Ideal) x0 x1 x2 x3 (ix5 n kv g i j) = (M.dscore n.val (kv.val * 8 + g.val) i j : EReal) := by
  pointwise [val_main_v143, val_main_v142, val_main_v141, val_main_v140, val_main_cst_24, share_apply H X hX, val_main_v135, val_main_v134,
    den_apply H X hX, exps_apply H X hX, dweights_apply H]
  have hD : M.rowDen n.val (kv.val * 8 + g.val) i * Real.exp (-X n kv g i) ≠ 0 := mul_ne_zero (den_pos ..).ne' (Real.exp_pos _).ne'
  rw [div_real hD, Fin.sum_univ_one, ← EReal.coe_add, ← EReal.coe_mul]
  exact congrArg _ (dlogit_eq _ _ _ _ _ (fun j => ∑ d : Fin 64, M.C (n.val * 128 + i.val) ((kv.val * 8 + g.val) * 64 + d.val) * band M.V n.val j.val (kv.val * 64 + d.val))
    (fun j hj => dweight_of_ok hj) j)
theorem dsinks_apply (a : Fin 1) : val_main_v136 (F := Ideal) x0 x1 x2 x3 (ix5 n kv g i a)
    = ((-(probSink (ok n.val i) (M.score n.val (kv.val * 8 + g.val) i) (M.Z (kv.val * 8 + g.val))
        * delta (ok n.val i) (M.score n.val (kv.val * 8 + g.val) i) (M.Z (kv.val * 8 + g.val)) (M.dweight n.val (kv.val * 8 + g.val) i)) : ℝ) : EReal) := by
  pointwise [val_main_v136, share_apply H X hX, sinkExp_apply H X hX]
  rw [← EReal.coe_mul]
  exact congrArg _ (sinkShare_eq ..)
/-- The shift's own cotangent vanishes. -/
theorem dshift_apply (a : Fin 1) : val_main_v147 (F := Ideal) x0 x1 x2 x3 (ix5 n kv g i a) = 0 := by
  pointwise [val_main_v147, val_main_v139, dsinks_apply H X hX, val_main_v146, val_main_v145, val_main_cst_25, val_main_v144, dlogits_apply H X hX]
  simp only [← EReal.coe_neg]
  rw [coe_sum, ← EReal.coe_add, Finset.sum_neg_distrib]
  simp only [Model.dscore, sum_dlogit]
  simp
/-- So what the ties for the largest logit would get vanishes too. -/
theorem dties_apply (j : Fin 256) : val_main_v156 (F := Ideal) x0 x1 x2 x3 (ix5 n kv g i j) = 0 := by
  have h : val_main_v154 (F := Ideal) x0 x1 x2 x3 (ix4 n kv g i) = 0 := by
    have h0 : val_main_v153 (F := Ideal) x0 x1 x2 x3 (ix4 n kv g i) = 0 := by
      have h1 : ∀ a : Fin 1, val_main_v152 (F := Ideal) x0 x1 x2 x3 (ix5 n kv g i a) = 0 := fun a => by
        rw [val_main_v152_apply, dshift_apply H X hX]
        generalize val_main_v78 (F := Ideal) x0 x2 x3 (ix5 n kv g i a) = y
        exact zero_mul y
      pointwise [val_main_v153, val_main_cst_27, h1]
      exact Finset.sum_const_zero
    rw [val_main_v154_apply, h0]
    have hc := count_ne H n kv g i
    generalize val_main_v66 (F := Ideal) x0 x2 (ix4 n kv g i) = y at hc
    show Ideal.div 0 y = 0
    unfold Ideal.div
    rw [if_neg hc, zero_mul]
  have h2 : val_main_v155 (F := Ideal) x0 x1 x2 x3 (ix5 n kv g i j) = 0 := by
    pointwise [val_main_v155, h]
  rw [val_main_v156_apply, h2]
  generalize val_main_v65 (F := Ideal) x0 x2 (ix5 n kv g i j) = y
  exact zero_mul y
theorem dscores_apply (j : Fin 256) : val_main_v160 (F := Ideal) x0 x1 x2 x3 (ix5 n kv g i j) = (M.dscore n.val (kv.val * 8 + g.val) i j : EReal) := by
  pointwise [val_main_v160, mask_apply, val_main_call1_v0, val_main_call1_cst, val_main_v157, dlogits_apply H X hX, dties_apply H X hX]
  by_cases hj : ok n.val i j
  · rw [if_pos hj]
  · rw [if_neg hj, Model.dscore, dlogit_of_not _ _ _ _ hj, EReal.coe_zero]
end Cert.ReferenceIdeal.Attn
-- ==== Proof.Attn.Open.lean ====
module
public import proofs.«01_k».proof.Proof.Attn.Blocks
public import proofs.«01_k».proof.Proof.Gen.KernelIdeal.Value
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen
variable (m : (ℓ : Loc nD τ sig) → Buf (Elt Ideal) ℓ)

/-- The input blocks of grid point `t`. -/
def blocks (c : Dev nD) (t : Fin cfg0.N) : Blocks :=
  { n := grid0.coords t, q := X0_0 m c t, kp := iblk m c 1 t, kc := iblk m c 2 t, vp := iblk m c 3 t, vc := iblk m c 4 t,
    bias := iblk m c 5 t, sinks := iblk m c 6 t, datt := iblk m c 7 t, lse := iblk m c 8 t }

/-- What the blocks of the four accumulated outputs hold. -/
abbrev Carried : Type :=
  (S4224x256.Idx → Elt Ideal .f32) × (S4224x256.Idx → Elt Ideal .f32) × (S32x128x256.Idx → Elt Ideal .f32) × (S8x128.Idx → Elt Ideal .f32)
/-- The 256 rows of key and value gradients a block's band touches. -/
abbrev band (n : grid0.Coords) : Rect S4224x256 := Rect.unit (k0_off1 n) S256x256.size (k0_off1_inb n)
/-- The row of the sink gradients. -/
abbrev firstRow : Rect S8x128 := Rect.unit ![0, 0] S1x128.size inb_S8x128_S1x128_0_0

/-- What a grid point leaves in its outputs, given what the accumulated ones held; `L`: stores it made before. -/
def Blocks.step (b : Blocks) (Y : Carried) (L : List (View.Piece (Elt Ideal) S32x128x256 .f32)) :
    (S128x2048.Idx → Elt Ideal .bf16) × Carried :=
  (b.dqBlock, (band b.n).overlay Y.1 (b.dkRows (View.ld Y.1 (band b.n))), (band b.n).overlay Y.2.1 (b.dvRows (View.ld Y.2.1 (band b.n))),
    View.canon (
        (⟨Rect.unit (s := S32x128x256) ![24, 0, 0] S8x128x256.size inb_S32x128x256_S8x128x256_24_0_0,
          b.dbiasRows 3 (by omega) (View.ld Y.2.2.1 (Rect.unit (s := S32x128x256) ![24, 0, 0] S8x128x256.size inb_S32x128x256_S8x128x256_24_0_0))⟩ : View.Piece (Elt Ideal) S32x128x256 .f32) ::
        (⟨Rect.unit (s := S32x128x256) ![16, 0, 0] S8x128x256.size inb_S32x128x256_S8x128x256_16_0_0,
          b.dbiasRows 2 (by omega) (View.ld Y.2.2.1 (Rect.unit (s := S32x128x256) ![16, 0, 0] S8x128x256.size inb_S32x128x256_S8x128x256_16_0_0))⟩ : View.Piece (Elt Ideal) S32x128x256 .f32) ::
        (⟨Rect.unit (s := S32x128x256) ![8, 0, 0] S8x128x256.size inb_S32x128x256_S8x128x256_8_0_0,
          b.dbiasRows 1 (by omega) (View.ld Y.2.2.1 (Rect.unit (s := S32x128x256) ![8, 0, 0] S8x128x256.size inb_S32x128x256_S8x128x256_8_0_0))⟩ : View.Piece (Elt Ideal) S32x128x256 .f32) ::
        (⟨Rect.unit (s := S32x128x256) ![0, 0, 0] S8x128x256.size inb_S32x128x256_S8x128x256_0_0_0,
          b.dbiasRows 0 (by omega) (View.ld Y.2.2.1 (Rect.unit (s := S32x128x256) ![0, 0, 0] S8x128x256.size inb_S32x128x256_S8x128x256_0_0_0))⟩ : View.Piece (Elt Ideal) S32x128x256 .f32) :: L),
    firstRow.overlay Y.2.2.2 (b.dsinkRow (View.ld Y.2.2.2 firstRow)))

/-- Zeros everywhere: what the first point of the grid starts from. -/
def zeros : Carried :=
  (k0_pay2 (F := Ideal), k0_pay3 (F := Ideal),
    k0_pay4 (F := Ideal), k0_pay5 (F := Ideal))

theorem canon_over {S : Shape} {e : EltTy} (r : Rect S) (w : r.shape.Idx → Elt Ideal e) {off : Fin S.rank → Nat}
    (inb : ∀ a, off a + S.size a ≤ S.size a) (Y : S.Idx → Elt Ideal e) (h : ∀ a, off a = 0) :
    View.canon [(⟨r, w⟩ : View.Piece (Elt Ideal) S e), ⟨Rect.unit off (no_index S.size) inb, Y⟩] = r.overlay Y w := by
  rw [View.canon_cons, View.canon_cons_unit_lit' inb Y [] h]
theorem read_over {sig : RefSig} {κ : Kind} {sp : Space} {S : Shape} {e : EltTy} (mem : Memref sig κ sp S e) (hm : mem.IsWhole)
    (Y : S.Idx → Elt Ideal e) (r : Rect S) (w : r.shape.Idx → Elt Ideal e) :
    View.read (Elt Ideal) mem.view (mem.view.writes (Elt Ideal) (hm.unread Y) [⟨r, w⟩]) = r.overlay Y w := by
  funext y
  by_cases h : y ∈ r.set
  · obtain ⟨x, rfl⟩ : ∃ x, r.emb x = y := by
      rw [← Rect.map_emb_univ] at h
      simpa using h
    rw [View.read_writes_cons_emb, Rect.overlay_emb]
  · rw [View.read_writes_cons_miss _ _ _ _ _ h, Rect.overlay_of_not_mem _ _ _ h, View.writes_nil, hm.read_unread]

set_option maxHeartbeats 4000000 in
/-- The first point: the outputs are zeroed before. -/
theorem outs_first (c : Dev nD) (t : Fin cfg0.N) (h : t.val % 32 = 0) :
    outsAt0 m c t.val t.isLt = (blocks m c t).step zeros
      [⟨Rect.unit ![0, 0, 0] S32x128x256.size inb_S32x128x256_S32x128x256_0_0_0, k0_pay4 (F := Ideal)⟩] := by
  rw [outsAt0_A m c t h]
  frame_open
  simp (disch := decide) only [↓View.readCov_skip, ↓View.readCov_fill]
  frame_out
  repeat rw [Memref.IsWhole.read_unread]
  rw [View.ld_unit_lit' (S := S128x2048) (X := X0_0 m c t),
    View.ld_unit_lit' (S := S128x256) (X := iblk m c 1 t),
    View.ld_unit_lit' (S := S128x256) (X := iblk m c 2 t),
    View.ld_unit_lit' (S := S128x256) (X := iblk m c 3 t),
    View.ld_unit_lit' (S := S128x256) (X := iblk m c 4 t),
    View.ld_unit_lit' (S := S128x2048) (X := iblk m c 7 t),
    View.ld_unit_lit' (S := S128x128) (X := iblk m c 8 t)]
  · simp (disch := decide) only [canon_over, Blocks.step, zeros, band, firstRow, k0_pay2, k0_pay3, k0_pay4, k0_pay5,
      Blocks.dqBlock, Blocks.dkRows, Blocks.dvRows, Blocks.dbiasRows, Blocks.dsinkRow, Blocks.sinkRow,
      Blocks.addSinks, Blocks.addSink, Blocks.dqs, Blocks.dks, Blocks.dvs, Blocks.dsink, Blocks.sinksOf, Blocks.sink,
      Blocks.dlogits, Blocks.weights, Blocks.scores, Blocks.biasOf, Blocks.rowLogs, Blocks.cots, Blocks.queries,
      Blocks.vals, Blocks.keys, blocks, dup, stack, evenHead, oddHead, planes, plane, k0_pay1, k0_pay6, k0_pay7,
      k0_pay8, k0_pay9, k0_pay10, k0_pay11, k0_pay12, k0_pay13, k0_pay14, k0_pay15, k0_pay16, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay80, k0_pay81, k0_pay82, k0_pay83, k0_pay84, k0_pay85,
      k0_pay86, k0_pay87, k0_pay88, k0_pay89, k0_pay90, k0_pay91, k0_pay92, k0_pay93, k0_pay94, k0_pay95, k0_pay96,
      k0_pay97, k0_pay98, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184,
      k0_pay185, k0_pay186, Nat.mul_zero, Nat.mul_one, Nat.zero_add, Nat.reduceMul, Nat.reduceAdd]
  all_goals decide
set_option maxHeartbeats 4000000 in
/-- The others: they go on from what the point before left. -/
theorem outs_next (c : Dev nD) (t : Fin cfg0.N) (h : ¬t.val % 32 = 0) :
    outsAt0 m c t.val t.isLt = (blocks m c t).step
      (outsAt0 m c (t.val - 1) (Nat.lt_of_le_of_lt (Nat.sub_le _ _) t.isLt)).2 [] := by
  rw [outsAt0_B m c t h]
  frame_out
  repeat rw [Memref.IsWhole.read_unread]
  rw [View.ld_unit_lit' (S := S128x2048) (X := X0_0 m c t),
    View.ld_unit_lit' (S := S128x256) (X := iblk m c 1 t),
    View.ld_unit_lit' (S := S128x256) (X := iblk m c 2 t),
    View.ld_unit_lit' (S := S128x256) (X := iblk m c 3 t),
    View.ld_unit_lit' (S := S128x256) (X := iblk m c 4 t),
    View.ld_unit_lit' (S := S128x2048) (X := iblk m c 7 t),
    View.ld_unit_lit' (S := S128x128) (X := iblk m c 8 t)]
  · simp only [read_over, Blocks.step, band, firstRow,
      Blocks.dqBlock, Blocks.dkRows, Blocks.dvRows, Blocks.dbiasRows, Blocks.dsinkRow, Blocks.sinkRow,
      Blocks.addSinks, Blocks.addSink, Blocks.dqs, Blocks.dks, Blocks.dvs, Blocks.dsink, Blocks.sinksOf, Blocks.sink,
      Blocks.dlogits, Blocks.weights, Blocks.scores, Blocks.biasOf, Blocks.rowLogs, Blocks.cots, Blocks.queries,
      Blocks.vals, Blocks.keys, blocks, dup, stack, evenHead, oddHead, planes, plane, k0_pay1, k0_pay6, k0_pay7,
      k0_pay8, k0_pay9, k0_pay10, k0_pay11, k0_pay12, k0_pay13, k0_pay14, k0_pay15, k0_pay16, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay80, k0_pay81, k0_pay82, k0_pay83, k0_pay84, k0_pay85,
      k0_pay86, k0_pay87, k0_pay88, k0_pay89, k0_pay90, k0_pay91, k0_pay92, k0_pay93, k0_pay94, k0_pay95, k0_pay96,
      k0_pay97, k0_pay98, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184,
      k0_pay185, k0_pay186, Nat.mul_zero, Nat.mul_one, Nat.zero_add, Nat.reduceMul, Nat.reduceAdd]
  all_goals decide
end Cert.KernelIdeal.Attn
-- ==== Proof.Attn.Sums.lean ====
module
public import proofs.«01_k».proof.Proof.Attn.Step
public import Idealize.ShloMosaic.Lib.WordCmp
@[expose] public section
set_option maxRecDepth 16384
noncomputable section
open Idealize.ShloMosaic Idealize.ShloMosaic.TcCoe Idealize.SL.Sem
open Cert.Row
namespace Cert.KernelIdeal.Attn
open Cert.KernelIdeal Cert.KernelIdeal.Gen Cert.Attention
namespace Blocks
variable {b : Blocks} {M : Model} {n : Nat} (H : b.Is M n)

/-! What one grid point writes, over the reals. -/

/-- Lanes below 64 of a row of 128. -/
theorem low_apply (j : Fin 128) (a b : EReal) :
    Scalar.select (k0_pay10 (ix2 0 j)) a b = if j.val < 64 then a else b := by
  refine if_congr ?_ rfl rfl
  pointwise [k0_pay10]
  word_cmp

theorem zero_lit : Ideal.ofBits .f32 0x00000000#32 = 0 := by simp [Ideal.ofBits, Ideal.ieee]

theorem four_parts (x0 x1 x2 x3 : FVec Ideal S128x512 .f32) (i : Fin 128) (c : Fin 2048) (f : Nat → Nat → EReal)
    (h0 : ∀ d : Fin 512, x0 (ix2 i d) = f 0 d.val) (h1 : ∀ d : Fin 512, x1 (ix2 i d) = f 1 d.val)
    (h2 : ∀ d : Fin 512, x2 (ix2 i d) = f 2 d.val) (h3 : ∀ d : Fin 512, x3 (ix2 i d) = f 3 d.val) :
    (truncf .bf16 (concatenate S128x2048 1 [⟨S128x512, x0⟩, ⟨S128x512, x1⟩, ⟨S128x512, x2⟩, ⟨S128x512, x3⟩]
      concatenates_S128x512_S128x512_S128x512_S128x512_S128x2048_d1) bitsLt_bf16_f32 : FVec Ideal S128x2048 .bf16) (ix2 i c)
      = f (c.val / 512) (c.val % 512) := by
  pointwise [h0, h1, h2, h3]
  split_ifs with a1 a2 a3
  · rw [show c.val / 512 = 0 by omega, show c.val % 512 = c.val by omega]
  · rw [show c.val / 512 = 1 by omega, show c.val % 512 = c.val - 512 by omega]
  · rw [show c.val / 512 = 2 by omega, show c.val % 512 = c.val - 512 - 512 by omega]
  · rw [show c.val / 512 = 3 by omega, show c.val % 512 = c.val - 512 - 512 - 512 by omega]

include H in
theorem dqBlock_apply (i : Fin 128) (c : Fin 2048) : b.dqBlock (ix2 i c) = (M.dq n i c.val : EReal) := by
  refine (four_parts _ _ _ _ i c (fun kv d => (M.dq n i (kv * 512 + d) : EReal)) (fun d => dqs_at H 0 _ i d) (fun d => dqs_at H 1 _ i d)
    (fun d => dqs_at H 2 _ i d) (fun d => dqs_at H 3 _ i d)).trans ?_
  rw [show c.val / 512 * 512 + c.val % 512 = c.val by omega]

/-- The four heads' doubled halves put side by side. -/
theorem halves (x0 x1 x2 x3 : FVec Ideal S256x128 .f32) (prev : Vec Ideal S256x256 .f32) (j c : Fin 256) (f : Nat → EReal)
    (h0 : ∀ d : Fin 128, x0 (ix2 j d) = f (0 * 64 + d.val % 64)) (h1 : ∀ d : Fin 128, x1 (ix2 j d) = f (1 * 64 + d.val % 64))
    (h2 : ∀ d : Fin 128, x2 (ix2 j d) = f (2 * 64 + d.val % 64)) (h3 : ∀ d : Fin 128, x3 (ix2 j d) = f (3 * 64 + d.val % 64)) :
    k0_pay187 k0_pay10 x0 x1 x2 x3 prev (ix2 j c) = prev (ix2 j c) + f c.val := by
  pointwise [k0_pay187, h0, h1, h2, h3]
  refine congrArg (prev (ix2 j c) + ·) ?_
  simp only [low_apply]
  split_ifs
  all_goals refine congrArg f ?_; omega

include H in
theorem dkRows_apply (prev : Vec Ideal S256x256 .f32) (j c : Fin 256) :
    b.dkRows prev (ix2 j c) = prev (ix2 j c) + (M.dk n j c.val : EReal) :=
  halves _ _ _ _ prev j c (fun c => (M.dk n j c : EReal)) (dks_at H 0 _ j) (dks_at H 1 _ j) (dks_at H 2 _ j) (dks_at H 3 _ j)
include H in
theorem dvRows_apply (prev : Vec Ideal S256x256 .f32) (j c : Fin 256) :
    b.dvRows prev (ix2 j c) = prev (ix2 j c) + (M.dv n j c.val : EReal) :=
  halves _ _ _ _ prev j c (fun c => (M.dv n j c : EReal)) (dvs_at H 0 _ j) (dvs_at H 1 _ j) (dvs_at H 2 _ j) (dvs_at H 3 _ j)
include H in
theorem dbiasRows_apply (kv : Nat) (hkv : kv < 4) (prev : Vec Ideal S8x128x256 .f32) (g : Fin 8) (i : Fin 128) (j : Fin 256) :
    b.dbiasRows kv hkv prev (ix3 g i j) = prev (ix3 g i j) + (M.dscore n (kv * 8 + g.val) i j : EReal) := by
  pointwise [dbiasRows, dlogits_at H]

theorem addSink_apply (row : FVec Ideal S1x128 .f32) (o : Nat) (ho : o < 128) (d : FVec Ideal S8x1x1 .f32) (g : Nat) (h : g + 1 ≤ 8) (l : Fin 128) :
    addSink row (BitVec.ofNat 32 o) d g h (ix2 0 l) = row (ix2 0 l) + if l.val = o then d (ix3 ⟨g, by omega⟩ 0 0) else 0 := by
  have hg : g < 8 := h
  interval_cases g
  all_goals
    pointwise [addSink]
    refine congrArg (row (ix2 0 l) + ·) ?_
    refine if_congr ?_ rfl rfl
    word_cmp

theorem addSinks_apply (row : FVec Ideal S1x128 .f32) (d : FVec Ideal S8x1x1 .f32) (o : Nat) (ho : o + 8 ≤ 128) (f : Nat → ℝ)
    (hd : ∀ g : Fin 8, d (ix3 g 0 0) = (f (o + g.val) : EReal)) (l : Fin 128) :
    addSinks row d o (ix2 0 l) = row (ix2 0 l) + ((if o ≤ l.val ∧ l.val < o + 8 then f l.val else 0 : ℝ) : EReal) := by
  unfold addSinks
  rw [addSink_apply _ _ (by omega), addSink_apply _ _ (by omega), addSink_apply _ _ (by omega), addSink_apply _ _ (by omega),
    addSink_apply _ _ (by omega), addSink_apply _ _ (by omega), addSink_apply _ _ (by omega), addSink_apply _ _ (by omega)]
  simp only [hd]
  by_cases hl : o ≤ l.val ∧ l.val < o + 8
  · rw [if_pos hl]
    obtain ⟨k, hk⟩ : ∃ k, l.val = o + k := ⟨l.val - o, by omega⟩
    have hk8 : k < 8 := by omega
    rw [hk]
    interval_cases k <;> simp
  · rw [if_neg hl]
    simp only [show ∀ k, k < 8 → ¬ l.val = o + k from fun k hk => by omega, show ¬ l.val = o by omega, Nat.reduceLT, if_neg,
      not_false_eq_true, add_zero, EReal.coe_zero, if_false]

include H in
theorem sinkRow_apply (l : Fin 128) : b.sinkRow (ix2 0 l) = ((if l.val < 32 then M.dsink n l.val else 0 : ℝ) : EReal) := by
  unfold sinkRow
  have e : ∀ kv hkv (g : Fin 8), b.dsink kv hkv (ix3 g 0 0) = (M.dsink n (kv * 8 + g.val) : EReal) := dsink_at H
  rw [addSinks_apply _ _ 24 (by omega) (M.dsink n) (e 3 _), addSinks_apply _ _ 16 (by omega) (M.dsink n) (e 2 _),
    addSinks_apply _ _ 8 (by omega) (M.dsink n) (e 1 _), addSinks_apply _ _ 0 (by omega) (M.dsink n) (e 0 _)]
  pointwise []
  rw [← EReal.coe_add, ← EReal.coe_add, ← EReal.coe_add]
  refine congrArg _ ?_
  split_ifs <;> first | omega | simp
include H in
theorem dsinkRow_apply (prev : Vec Ideal S1x128 .f32) (l : Fin 128) :
    b.dsinkRow prev (ix2 0 l) = prev (ix2 0 l) + ((if l.val < 32 then M.dsink n l.val else 0 : ℝ) : EReal) := by
  pointwise [dsinkRow, sinkRow_apply H]
end Blocks
end Cert.KernelIdeal.Attn
-- ==== Proof.Attn.Acc.lean ====
module
public import proofs.«01_k».proof.Proof.Attn.Open
public import proofs.«01_k».proof.Proof.Attn.Sums
@[expose] public section
set_option maxRecDepth 16384
noncomputable section
open Idealize.ShloMosaic Idealize.ShloMosaic.TcCoe Idealize.SL.Sem
open Cert.Row
namespace Cert.Attention.Model
variable (M : Model)
/-- The sums over the first `T` blocks. -/
def dkSum (T r c : Nat) : ℝ := ∑ n ∈ Finset.range T, if n * 128 ≤ r ∧ r < n * 128 + 256 then M.dk n (Fin.ofNat 256 (r - n * 128)) c else 0
def dvSum (T r c : Nat) : ℝ := ∑ n ∈ Finset.range T, if n * 128 ≤ r ∧ r < n * 128 + 256 then M.dv n (Fin.ofNat 256 (r - n * 128)) c else 0
def dbSum (T h : Nat) (i : Fin 128) (j : Fin 256) : ℝ := ∑ n ∈ Finset.range T, M.dscore n h i j
def dsSum (T r l : Nat) : ℝ := if r = 0 ∧ l < 32 then ∑ n ∈ Finset.range T, M.dsink n l else 0
end Cert.Attention.Model
namespace Cert.KernelIdeal.Attn
open Cert.KernelIdeal Cert.KernelIdeal.Gen Cert.Attention

/-- The accumulated outputs hold the sums over the first `T` blocks. -/
structure Holds (M : Model) (T : Nat) (Y : Carried) : Prop where
  dk : ∀ r c, Y.1 (ix2 r c) = (M.dkSum T r.val c.val : EReal)
  dv : ∀ r c, Y.2.1 (ix2 r c) = (M.dvSum T r.val c.val : EReal)
  db : ∀ h i j, Y.2.2.1 (ix3 h i j) = (M.dbSum T h.val i j : EReal)
  ds : ∀ r l, Y.2.2.2 (ix2 r l) = (M.dsSum T r.val l.val : EReal)

theorem holds_zeros (M : Model) : Holds M 0 zeros := by
  constructor
  · intro r c
    show k0_pay2 (F := Ideal) (ix2 r c) = _
    pointwise [k0_pay2]
    simp [Model.dkSum]
  · intro r c
    show k0_pay3 (F := Ideal) (ix2 r c) = _
    pointwise [k0_pay3]
    simp [Model.dvSum]
  · intro h i j
    show k0_pay4 (F := Ideal) (ix3 h i j) = _
    pointwise [k0_pay4]
    simp [Model.dbSum]
  · intro r l
    show k0_pay5 (F := Ideal) (ix2 r l) = _
    pointwise [k0_pay5]
    simp [Model.dsSum]

/-- An update of a band of rows adds its term there and leaves the other rows. -/
theorem band_over (k : grid0.Coords) (Y : S4224x256.Idx → Elt Ideal .f32) (W : Vec Ideal S256x256 .f32 → FVec Ideal S256x256 .f32)
    (a : Nat → Nat → ℝ) (f : Fin 256 → Nat → ℝ) (hY : ∀ r c, Y (ix2 r c) = (a r.val c.val : EReal))
    (hW : ∀ prev j c, W prev (ix2 j c) = prev (ix2 j c) + (f j c.val : EReal)) (r : Fin 4224) (c : Fin 256) :
    (band k).overlay Y (W (View.ld Y (band k))) (ix2 r c)
      = ((a r.val c.val + if (k 0).val * 128 ≤ r.val ∧ r.val < (k 0).val * 128 + 256 then f (Fin.ofNat 256 (r.val - (k 0).val * 128)) c.val else 0 : ℝ) : EReal) := by
  have hk : (k 0).val < 32 := (k 0).isLt
  have ho : k0_off1 k = ![128 * (k 0).val, 0] := k0_off1_eq k
  by_cases h : (k 0).val * 128 ≤ r.val ∧ r.val < (k 0).val * 128 + 256
  · rw [if_pos h]
    have e : (band k).emb (ix2 (Fin.ofNat 256 (r.val - (k 0).val * 128)) c) = ix2 r c := by
      funext x
      apply Fin.ext
      fin_cases x
      · show k0_off1 k 0 + 1 * ((r.val - (k 0).val * 128) % 256) = r.val
        rw [ho]
        show 128 * (k 0).val + _ = _
        omega
      · show k0_off1 k 1 + 1 * c.val = c.val
        rw [ho]
        show 0 + _ = _
        omega
    have e2 : View.ld Y (band k) (ix2 (Fin.ofNat 256 (r.val - (k 0).val * 128)) c) = Y (ix2 r c) := congrArg Y e
    rw [← e, Rect.overlay_emb, hW, e2, hY, EReal.coe_add]
  · rw [if_neg h, add_zero, Rect.overlay_of_not_mem, hY]
    intro hm
    have := Rect.mem_set_unit.1 hm 0
    rw [ho] at this
    apply h
    have h1 : 128 * (k 0).val ≤ r.val := this.1
    have h2 : r.val < 128 * (k 0).val + 256 := this.2
    omega

/-- Eight planes written over their sums: those planes get their terms, the others are as the earlier stores left them. -/
theorem planes_over {b : Blocks} {M : Model} {n : Nat} (H : b.Is M n) (kv : Nat) (hkv : kv < 4) (o : Nat) (ho : o = kv * 8)
    (inb : ∀ a, ![o, 0, 0] a + S8x128x256.size a ≤ S32x128x256.size a) (Y : S32x128x256.Idx → Elt Ideal .f32)
    (L : List (View.Piece (Elt Ideal) S32x128x256 .f32)) (h : Fin 32) (i : Fin 128) (j : Fin 256) :
    View.canon ((⟨Rect.unit (s := S32x128x256) ![o, 0, 0] S8x128x256.size inb,
        b.dbiasRows kv hkv (View.ld Y (Rect.unit (s := S32x128x256) ![o, 0, 0] S8x128x256.size inb))⟩ : View.Piece (Elt Ideal) S32x128x256 .f32) :: L) (ix3 h i j)
      = if h.val / 8 = kv then Y (ix3 h i j) + (M.dscore n h.val i j : EReal) else View.canon L (ix3 h i j) := by
  subst ho
  rw [View.canon_cons]
  by_cases hh : h.val / 8 = kv
  · rw [if_pos hh]
    have e : (Rect.unit (s := S32x128x256) ![kv * 8, 0, 0] S8x128x256.size inb).emb (ix3 (⟨h.val % 8, by omega⟩ : Fin 8) i j) = ix3 h i j := by
      funext x
      apply Fin.ext
      fin_cases x
      · show kv * 8 + 1 * (h.val % 8) = h.val
        omega
      · show 0 + 1 * i.val = i.val
        omega
      · show 0 + 1 * j.val = j.val
        omega
    have e2 : View.ld Y (Rect.unit (s := S32x128x256) ![kv * 8, 0, 0] S8x128x256.size inb) (ix3 (⟨h.val % 8, by omega⟩ : Fin 8) i j) = Y (ix3 h i j) :=
      congrArg Y e
    rw [← e, Rect.overlay_emb]
    refine (b.dbiasRows_apply H kv hkv _ _ i j).trans ?_
    rw [e2, e, show kv * 8 + h.val % 8 = h.val by omega]
  · rw [if_neg hh, Rect.overlay_of_not_mem]
    intro hm
    have h2 : kv * 8 ≤ h.val ∧ h.val < kv * 8 + 8 := (Rect.mem_set_unit (inb := inb)).1 hm 0
    omega

theorem holds_step {b : Blocks} {M : Model} {T : Nat} (H : b.Is M T) {Y : Carried} (hY : Holds M T Y)
    (L : List (View.Piece (Elt Ideal) S32x128x256 .f32)) : Holds M (T + 1) (b.step Y L).2 := by
  constructor
  · intro r c
    refine (band_over b.n Y.1 b.dkRows _ _ hY.dk (b.dkRows_apply H) r c).trans ?_
    rw [H.pos, Model.dkSum, Model.dkSum, Finset.sum_range_succ]
  · intro r c
    refine (band_over b.n Y.2.1 b.dvRows _ _ hY.dv (b.dvRows_apply H) r c).trans ?_
    rw [H.pos, Model.dvSum, Model.dvSum, Finset.sum_range_succ]
  · intro h i j
    have hX : ∀ X Z : EReal, (if h.val / 8 = 3 then X else if h.val / 8 = 2 then X else if h.val / 8 = 1 then X
        else if h.val / 8 = 0 then X else Z) = X := fun X Z => by split_ifs <;> first | omega | rfl
    unfold Blocks.step
    dsimp only
    rw [planes_over H 3 _ 24 rfl _ _ _ h i j, planes_over H 2 _ 16 rfl _ _ _ h i j, planes_over H 1 _ 8 rfl _ _ _ h i j, planes_over H 0 _ 0 rfl _ _ _ h i j, hX, hY.db,
      ← EReal.coe_add, Model.dbSum, Model.dbSum, Finset.sum_range_succ]
  · intro r l
    show firstRow.overlay Y.2.2.2 (b.dsinkRow (View.ld Y.2.2.2 firstRow)) (ix2 r l) = _
    by_cases h : r.val = 0
    · have e : firstRow.emb (ix2 (0 : Fin 1) l) = ix2 r l := by
        funext x
        apply Fin.ext
        fin_cases x
        · exact h.symm
        · show 0 + 1 * l.val = l.val
          omega
      have e2 : View.ld Y.2.2.2 firstRow (ix2 (0 : Fin 1) l) = Y.2.2.2 (ix2 r l) := congrArg Y.2.2.2 e
      rw [← e, Rect.overlay_emb, b.dsinkRow_apply H, e2, hY.ds, ← EReal.coe_add, Model.dsSum, Model.dsSum, Finset.sum_range_succ]
      refine congrArg _ ?_
      split_ifs <;> first | omega | simp
    · rw [Rect.overlay_of_not_mem, hY.ds, Model.dsSum, Model.dsSum, if_neg (by omega), if_neg (by omega)]
      intro hm
      have h2 : r.val < 0 + 1 := (Rect.mem_set_unit.1 hm 0).2
      omega

variable (m : (ℓ : Loc nD τ sig) → Buf (Elt Ideal) ℓ)
theorem holds_outs (M : Model) (c : Dev nD) (H : ∀ t, (blocks m c t).Is M t.val) :
    ∀ (T : Nat) (h : T < cfg0.N), Holds M (T + 1) (outsAt0 m c T h).2
  | 0, h => by
      rw [show outsAt0 m c 0 h = _ from outs_first m c ⟨0, h⟩ rfl]
      exact holds_step (H ⟨0, h⟩) (holds_zeros M) _
  | T + 1, h => by
      rw [show outsAt0 m c (T + 1) h = _ from outs_next m c ⟨T + 1, h⟩ (by have : T + 1 < 32 := h; show ¬(T + 1) % 32 = 0; omega)]
      exact holds_step (H ⟨T + 1, h⟩) (holds_outs M c H T _) _
theorem dq_outs (M : Model) (c : Dev nD) (t : Fin cfg0.N) (H : (blocks m c t).Is M t.val) (i : Fin 128) (j : Fin 2048) :
    (outsAt0 m c t.val t.isLt).1 (ix2 i j) = ((M.dq t.val i j.val : ℝ) : EReal) := by
  by_cases h : t.val % 32 = 0
  · rw [outs_first m c t h]
    exact Blocks.dqBlock_apply H i j
  · rw [outs_next m c t h]
    exact Blocks.dqBlock_apply H i j
end Cert.KernelIdeal.Attn
-- ==== Proof.Attn.RefOut.lean ====
module
public import proofs.«01_k».proof.Proof.Attn.Ref
public import proofs.«01_k».proof.Proof.Attn.Acc
@[expose] public section
set_option maxRecDepth 16384
noncomputable section
open Idealize.ShloMosaic Idealize.ShloMosaic.TcCoe Idealize.SL.Sem
open Cert.Row Cert.Attention
namespace Cert.ReferenceIdeal.Attn
open Cert.ReferenceIdeal Cert.ReferenceIdeal.Read

/-! The plain gradient's five results at real arguments. -/

/-- A sum over a band's rows has at most two terms at a row: the block's own, and the one after it. -/
theorem band_total (f : Nat → Fin 256 → ℝ) (h0 : ∀ j : Fin 256, j.val < 128 → f 0 j = 0) (r : Nat) (hr : r < 4224) :
    (if 128 ≤ r then (if 1 ≤ r / 128 then f (r / 128 - 1) (Fin.ofNat 256 (128 + r % 128)) else 0) + (if r / 128 < 32 then f (r / 128) (Fin.ofNat 256 (r % 128)) else 0) else 0)
      = ∑ n ∈ Finset.range 32, if n * 128 ≤ r ∧ r < n * 128 + 256 then f n (Fin.ofNat 256 (r - n * 128)) else 0 := by
  have e : ∀ n ∈ Finset.range 32, (if n * 128 ≤ r ∧ r < n * 128 + 256 then f n (Fin.ofNat 256 (r - n * 128)) else 0)
      = (if n = r / 128 - 1 then (if 1 ≤ r / 128 then f (r / 128 - 1) (Fin.ofNat 256 (128 + r % 128)) else 0) else 0)
        + if n = r / 128 then f (r / 128) (Fin.ofNat 256 (r % 128)) else 0 := fun n hn => by
    by_cases h1 : n = r / 128
    · subst h1
      rw [if_pos (by omega), if_pos rfl, show r - r / 128 * 128 = r % 128 by omega]
      by_cases hq : 1 ≤ r / 128
      · rw [if_neg (by omega), zero_add]
      · rw [if_neg hq, ite_self, zero_add]
    · rw [if_neg h1, add_zero]
      by_cases h2 : n + 1 = r / 128
      · rw [← h2, if_pos (by omega), if_pos (by omega), if_pos (by omega), Nat.add_sub_cancel, show r - n * 128 = 128 + r % 128 by omega]
      · rw [if_neg (by omega)]
        by_cases h3 : n = r / 128 - 1
        · rw [if_pos h3, if_neg (by omega)]
        · rw [if_neg h3]
  rw [Finset.sum_congr rfl e, Finset.sum_add_distrib, Finset.sum_ite_eq', Finset.sum_ite_eq']
  simp only [Finset.mem_range]
  rw [if_pos (by omega : r / 128 - 1 < 32)]
  by_cases h : 128 ≤ r
  · rw [if_pos h]
  · rw [if_neg h, if_neg (by omega), if_pos (by omega), show r / 128 = 0 by omega, h0 _ (by show r % 128 % 256 < 128; omega), add_zero]
/-- The five-dimensional sums over blocks and queries, and over single positions. -/
theorem sum_blocks (h : S32x4x8x128x1.ReducesTo [0, 3] S4x8x1) (v : S32x4x8x128x1.Idx → EReal) (kv : Fin 4) (g : Fin 8) (a : Fin 1) :
    ∑ x ∈ Finset.univ.filter (fun x => h.drop x = ix3 kv g a), v x = ∑ n : Fin 32, ∑ i : Fin 128, v (ix5 n kv g i a) := by
  refine (Finset.sum_filter_eq_sum_of_fiber _ (fun k : Fin 32 × Fin 128 => ix5 k.1 kv g k.2 a)
    (fun _ _ e => Prod.ext (congrFun e 0) (congrFun e 3)) (fun x => ⟨fun e => ⟨(x 0, x 3), ?_⟩, ?_⟩) v).trans ?_
  · funext b
    apply Fin.ext
    match b with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl
  · simp only [Fintype.sum_prod_type]
theorem sum_single (h : S1x4x8x1x1.ReducesTo [0, 3, 4] S4x8) (v : S1x4x8x1x1.Idx → EReal) (kv : Fin 4) (g : Fin 8) :
    ∑ x ∈ Finset.univ.filter (fun x => h.drop x = ix2 kv g), v x = v (ix5 0 kv g 0 0) := by
  refine (Finset.sum_filter_eq_sum_of_fiber _ (fun k : Unit => ix5 0 kv g 0 0)
    (fun _ _ e => rfl) (fun x => ⟨fun e => ⟨(), ?_⟩, ?_⟩) v).trans ?_
  · funext b
    apply Fin.ext
    match b with
    | ⟨0, _⟩ => exact (Nat.lt_one_iff.1 (x 0).isLt).symm
    | ⟨1, _⟩ => exact (congrArg Fin.val (congrFun e 0)).symm
    | ⟨2, _⟩ => exact (congrArg Fin.val (congrFun e 1)).symm
    | ⟨3, _⟩ => exact (Nat.lt_one_iff.1 (x 3).isLt).symm
    | ⟨4, _⟩ => exact (Nat.lt_one_iff.1 (x 4).isLt).symm
  · rintro ⟨k, rfl⟩
    funext b
    apply Fin.ext
    match b with
    | ⟨0, _⟩ => rfl
    | ⟨1, _⟩ => rfl
  · simp
theorem sitofp_zero : FloatOps.sitofp (F := Ideal) FTy.f32 0#32 = 0 := by
  show (((0#32 : BitVec 32).toInt : ℝ) : EReal) = 0
  simp

variable {x0 : (⟨S4096x10752, .bf16⟩ : BufTy).Contents (Elt Ideal)} {x1 : (⟨S4096x2048, .bf16⟩ : BufTy).Contents (Elt Ideal)}
    {x2 : (⟨S32x128x256, .f32⟩ : BufTy).Contents (Elt Ideal)} {x3 : (⟨S1x32, .f32⟩ : BufTy).Contents (Elt Ideal)}
    {x4 : (⟨S4096x10752, .bf16⟩ : BufTy).Contents (Elt Ideal)} {M : Model}
variable (H : Args x0 x1 x2 x3 M)
include H
theorem dq_apply (n : Fin 32) (i : Fin 128) (kv : Fin 4) (g : Fin 8) (d : Fin 64) (X : Fin 32 → Fin 4 → Fin 8 → Fin 128 → ℝ)
    (hX : ∀ n kv g i (a : Fin 1), val_main_v69 (F := Ideal) x0 x2 x3 (ix5 n kv g i a) = (X n kv g i : EReal)) :
    val_main_v169 (F := Ideal) x0 x1 x2 x3 (ix5 n i kv g d) = (M.dq n.val i ((kv.val * 8 + g.val) * 64 + d.val) : EReal) := by
  pointwise [val_main_v169, val_main_v168, val_main_v167, val_main_v166, val_main_v165, val_main_cst_31, Cert.KernelIdeal.Attn.eighth, dscores_apply H X hX, keys_apply H]
  rw [Model.dq, Finset.sum_mul, ← coe_sum]
  refine Finset.sum_congr rfl fun j _ => ?_
  rw [← EReal.coe_mul, ← EReal.coe_mul, show ((kv.val * 8 + g.val) * 64 + d.val) / 64 = kv.val * 8 + g.val by omega,
    show ((kv.val * 8 + g.val) * 64 + d.val) / 512 = kv.val by omega, show ((kv.val * 8 + g.val) * 64 + d.val) % 64 = d.val by omega]
  by_cases hj : ok n.val i j
  · rw [band_of_ok hj]
    congr 1
    ring
  · rw [Model.dscore, dlogit_of_not _ _ _ _ hj]
    simp
theorem dband_apply (n : Fin 32) (j : Fin 256) (kv : Fin 4) (d : Fin 64) (X : Fin 32 → Fin 4 → Fin 8 → Fin 128 → ℝ)
    (hX : ∀ n kv g i (a : Fin 1), val_main_v69 (F := Ideal) x0 x2 x3 (ix5 n kv g i a) = (X n kv g i : EReal)) :
    val_main_v171 (F := Ideal) x0 x1 x2 x3 (ix4 n j kv d) = (M.dk n.val j (kv.val * 64 + d.val) : EReal) := by
  pointwise [val_main_v171, val_main_v170, val_main_v167, val_main_v166, val_main_v165, val_main_cst_31, Cert.KernelIdeal.Attn.eighth, dscores_apply H X hX, queries_apply H]
  rw [Model.dk, show (kv.val * 64 + d.val) / 64 = kv.val by omega, show (kv.val * 64 + d.val) % 64 = d.val by omega, Finset.sum_comm, Finset.sum_mul, ← coe_sum]
  refine Finset.sum_congr rfl fun g _ => ?_
  rw [Finset.sum_mul, ← coe_sum]
  refine Finset.sum_congr rfl fun i _ => ?_
  rw [← EReal.coe_mul, ← EReal.coe_mul]
  congr 1
  ring
theorem dbandv_apply (n : Fin 32) (j : Fin 256) (kv : Fin 4) (d : Fin 64) (X : Fin 32 → Fin 4 → Fin 8 → Fin 128 → ℝ)
    (hX : ∀ n kv g i (a : Fin 1), val_main_v69 (F := Ideal) x0 x2 x3 (ix5 n kv g i a) = (X n kv g i : EReal)) :
    val_main_v118 (F := Ideal) x0 x1 x2 x3 (ix4 n j kv d) = (M.dv n.val j (kv.val * 64 + d.val) : EReal) := by
  pointwise [val_main_v118, val_main_v117, val_main_v115, val_main_v114, val_main_v113, weights_apply H X hX]
  rw [Model.dv, show (kv.val * 64 + d.val) / 64 = kv.val by omega, show (kv.val * 64 + d.val) % 64 = d.val by omega, ← coe_sum]
  refine Finset.sum_congr rfl fun g _ => ?_
  rw [← coe_sum]
  refine Finset.sum_congr rfl fun i _ => ?_
  have e := H.c ⟨n.val * 128 + i.val, by omega⟩ ⟨kv.val * 512 + g.val * 64 + d.val, by omega⟩
  simp only [show kv.val * 512 + g.val * 64 + d.val = (kv.val * 8 + g.val) * 64 + d.val by omega] at e ⊢
  rw [e, ← EReal.coe_mul, mul_comm]
theorem dbias_apply (h : Fin 32) (i : Fin 128) (j : Fin 256) : val_main_v164 (F := Ideal) x0 x1 x2 x3 (ix3 h i j) = (M.dbSum 32 h.val i j : EReal) := by
  obtain ⟨X, hX⟩ := shift_exists H
  have hb := fun n kv g i j => dscores_apply H X hX n kv g i j
  pointwise [val_main_v164, val_main_v163, val_main_v162, val_main_v161, hb, val_main_cst_29, val_main_cst_30]
  rw [Fin.sum_univ_one, Model.dbSum, ← coe_sum, Finset.sum_range]
  simp only [Nat.div_add_mod']
theorem dsinkTotal_apply (kv : Fin 4) (g : Fin 8) (a : Fin 1) (X : Fin 32 → Fin 4 → Fin 8 → Fin 128 → ℝ)
    (hX : ∀ n kv g i (a : Fin 1), val_main_v69 (F := Ideal) x0 x2 x3 (ix5 n kv g i a) = (X n kv g i : EReal)) :
    val_main_v137 (F := Ideal) x0 x1 x2 x3 (ix3 kv g a) = ((∑ n ∈ Finset.range 32, M.dsink n (kv.val * 8 + g.val) : ℝ) : EReal) := by
  pointwise [val_main_v137, val_main_cst_23, dsinks_apply H X hX]
  unfold Ideal.hostReduceAdd
  rw [zero_add, sum_blocks, Finset.sum_range, ← coe_sum]
  refine Finset.sum_congr rfl fun n _ => ?_
  rw [Model.dsink, ← Finset.sum_neg_distrib, ← coe_sum]
  exact Finset.sum_congr rfl fun i _ => dsinks_apply H X hX n kv g i a
theorem dsinks_pad_apply (r : Fin 8) (l : Fin 128) : val_main_v188 (F := Ideal) x0 x1 x2 x3 (ix2 r l) = (M.dsSum 32 r.val l.val : EReal) := by
  obtain ⟨X, hX⟩ := shift_exists H
  have h149 : ∀ kv g a, val_main_v149 (F := Ideal) x0 x1 x2 x3 (ix3 kv g a) = 0 := fun kv g a => by
    have h148 : ∀ n i, val_main_v148 (F := Ideal) x0 x1 x2 x3 (ix5 n kv g i a) = 0 := fun n i => by
      rw [val_main_v148_apply, dshift_apply H X hX]
      generalize val_main_v87 (F := Ideal) x0 x2 x3 (ix5 n kv g i a) = y
      exact zero_mul y
    pointwise [val_main_v149, val_main_cst_26]
    unfold Ideal.hostReduceAdd
    rw [zero_add, sum_blocks]
    simp only [h148, Finset.sum_const_zero]
  have h151 : ∀ kv g, val_main_v151 (F := Ideal) x0 x1 x2 x3 (ix5 0 kv g 0 0) = ((∑ n ∈ Finset.range 32, M.dsink n (kv.val * 8 + g.val) : ℝ) : EReal) := fun kv g => by
    pointwise [val_main_v151, val_main_v150, val_main_v138, dsinkTotal_apply H _ _ _ X hX, h149]
  have h158 : ∀ kv g, val_main_v158 (F := Ideal) x0 x1 x2 x3 (ix2 kv g) = ((∑ n ∈ Finset.range 32, M.dsink n (kv.val * 8 + g.val) : ℝ) : EReal) := fun kv g => by
    pointwise [val_main_v158, val_main_cst_28]
    unfold Ideal.hostReduceAdd
    rw [zero_add, sum_single]
    exact h151 kv g
  pointwise [val_main_v188, val_main_call4_v0, val_main_c_36, val_main_v159, h158]
  rw [sitofp_zero, Model.dsSum]
  by_cases h : r.val = 0 ∧ l.val < 32
  · rw [dif_pos ⟨by omega, h.2⟩, if_pos h]
    simp only [Nat.div_add_mod']
  · rw [dif_neg (by omega), if_neg h, EReal.coe_zero]
end Cert.ReferenceIdeal.Attn
-- ==== Proof.Attn.RefBand.lean ====
module
public import proofs.«01_k».proof.Proof.Attn.RefOut
@[expose] public section
set_option maxRecDepth 16384
noncomputable section
open Idealize.ShloMosaic Idealize.ShloMosaic.TcCoe Idealize.SL.Sem
open Cert.Row Cert.Attention
namespace Cert.ReferenceIdeal.Attn
open Cert.ReferenceIdeal Cert.ReferenceIdeal.Read

/-! The key, value and query gradients as they are returned. -/

variable {x0 : (⟨S4096x10752, .bf16⟩ : BufTy).Contents (Elt Ideal)} {x1 : (⟨S4096x2048, .bf16⟩ : BufTy).Contents (Elt Ideal)}
    {x2 : (⟨S32x128x256, .f32⟩ : BufTy).Contents (Elt Ideal)} {x3 : (⟨S1x32, .f32⟩ : BufTy).Contents (Elt Ideal)}
    {x4 : (⟨S4096x10752, .bf16⟩ : BufTy).Contents (Elt Ideal)} {M : Model}
variable (H : Args x0 x1 x2 x3 M)
include H
omit H in
theorem fill_apply (i : S_.Idx) : val_main_call2_v0 (F := Ideal) i = 0 := sitofp_zero
omit H in
theorem fill_apply' (i : S_.Idx) : val_main_call3_v0 (F := Ideal) i = 0 := sitofp_zero
omit H in
/-- Nothing looks at the first 128 keys of block 0's band. -/
theorem dk_zero {j : Fin 256} (hj : j.val < 128) (c : Nat) : M.dk 0 j c = 0 := by
  have : ∀ h i, M.dscore 0 h i j = 0 := fun h i => dlogit_of_not _ _ _ _ fun e => absurd e.2 (by omega)
  simp [Model.dk, this]
omit H in
theorem dv_zero {j : Fin 256} (hj : j.val < 128) (c : Nat) : M.dv 0 j c = 0 := by
  have : ∀ h i, M.weight 0 h i j = 0 := fun h i => prob_of_not _ _ _ fun e => absurd e.2 (by omega)
  simp [Model.dv, this]
omit H in
theorem band_dif (f : Nat → Fin 256 → ℝ) (r : Fin 4224) (c : Fin 256) :
    (if h : 128 ≤ r.val ∧ r.val - 128 < 4096 then
      (if h_1 : (1 ≤ (128 + (r.val - 128)) / 128 ∧ (128 + (r.val - 128)) / 128 - 1 < 32) ∧ (128 + (r.val - 128)) % 128 < 128 ∧ c.val / 64 < 4 ∧ c.val % 64 < 64 then
          (f ((128 + (r.val - 128)) / 128 - 1) ⟨128 + (128 + (r.val - 128)) % 128, by omega⟩ : EReal) else 0)
        + if h_1 : (128 + (r.val - 128)) / 128 < 32 ∧ (128 + (r.val - 128)) % 128 < 128 ∧ c.val / 64 < 4 ∧ c.val % 64 < 64 then
          (f ((128 + (r.val - 128)) / 128) ⟨(128 + (r.val - 128)) % 128, by omega⟩ : EReal) else 0
    else 0)
      = ((if 128 ≤ r.val then (if 1 ≤ r.val / 128 then f (r.val / 128 - 1) (Fin.ofNat 256 (128 + r.val % 128)) else 0) + (if r.val / 128 < 32 then f (r.val / 128) (Fin.ofNat 256 (r.val % 128)) else 0) else 0 : ℝ) : EReal) := by
  by_cases h : 128 ≤ r.val
  · rw [dif_pos ⟨h, by omega⟩, if_pos h, EReal.coe_add]
    simp only [show 128 + (r.val - 128) = r.val by omega]
    congr 1
    · by_cases h1 : 1 ≤ r.val / 128
      · rw [dif_pos (by omega), if_pos h1]
        exact congrArg (fun j => ((f _ j : ℝ) : EReal)) (Fin.ext (Nat.mod_eq_of_lt (by omega)).symm)
      · rw [dif_neg (by omega), if_neg h1, EReal.coe_zero]
    · by_cases h1 : r.val / 128 < 32
      · rw [dif_pos (by omega), if_pos h1]
        exact congrArg (fun j => ((f _ j : ℝ) : EReal)) (Fin.ext (Nat.mod_eq_of_lt (by omega)).symm)
      · rw [dif_neg (by omega), if_neg h1, EReal.coe_zero]
  · rw [dif_neg (by omega), if_neg h, EReal.coe_zero]
theorem dk_apply (r : Fin 4224) (c : Fin 256) : val_main_v186 (F := Ideal) x0 x1 x2 x3 (ix2 r c) = (M.dkSum 32 r.val c.val : EReal) := by
  obtain ⟨X, hX⟩ := shift_exists H
  have hb := fun n j kv d => dband_apply H n j kv d X hX
  pointwise [val_main_v186, fill_apply, val_main_v180, val_main_v179, val_main_v177, val_main_v176, val_main_v175, val_main_v174,
    val_main_v173, val_main_v172, hb, val_main_cst_32, val_main_cst_33]
  simp only [Nat.div_add_mod']
  exact (band_dif (fun n j => M.dk n j c.val) r c).trans (congrArg _ (band_total (fun n j => M.dk n j c.val) (fun j hj => dk_zero hj _) r.val r.isLt))
theorem dv_apply (r : Fin 4224) (c : Fin 256) : val_main_v187 (F := Ideal) x0 x1 x2 x3 (ix2 r c) = (M.dvSum 32 r.val c.val : EReal) := by
  obtain ⟨X, hX⟩ := shift_exists H
  have hb := fun n j kv d => dbandv_apply H n j kv d X hX
  pointwise [val_main_v187, fill_apply', val_main_v127, val_main_v126, val_main_v124, val_main_v123, val_main_v122, val_main_v121,
    val_main_v120, val_main_v119, hb, val_main_cst_20, val_main_cst_21]
  simp only [Nat.div_add_mod']
  exact (band_dif (fun n j => M.dv n j c.val) r c).trans (congrArg _ (band_total (fun n j => M.dv n j c.val) (fun j hj => dv_zero hj _) r.val r.isLt))
theorem dproj_apply (r : Fin 4096) (c : Fin 10752) : val_main_v185 (F := Ideal) x0 x1 x2 x3 x4 (ix2 r c)
    = if 4096 ≤ c.val ∧ c.val < 6144 then (M.dq (r.val / 128) (Fin.ofNat 128 r.val) (c.val - 4096) : EReal) else x4 (ix2 r c) := by
  obtain ⟨X, hX⟩ := shift_exists H
  have hb := fun n i kv g d => dq_apply H n i kv g d X hX
  pointwise [val_main_v185, val_main_v184, val_main_v183, val_main_v182, val_main_v181, hb]
  by_cases h1 : c.val < 4096
  · rw [dif_pos h1, if_neg (by omega)]
  · rw [dif_neg h1]
    by_cases h2 : c.val - 4096 < 2048
    · rw [dif_pos h2, if_pos (by omega), show ((c.val - 4096) / 512 * 8 + (c.val - 4096) / 64 % 8) * 64 + (c.val - 4096) % 64 = c.val - 4096 by omega]
      rfl
    · rw [dif_neg h2, if_neg (show ¬(4096 ≤ c.val ∧ c.val < 6144) by omega)]
      exact congrArg (fun k : Fin 10752 => x4 (ix2 r k)) (Fin.ext (show 6144 + (c.val - 4096 - 2048) = c.val by omega))
end Cert.ReferenceIdeal.Attn
-- ==== Proof.Attn.Host.lean ====
module
public import proofs.«01_k».proof.Proof.Attn.RefBand
@[expose] public section
set_option maxRecDepth 16384
noncomputable section
open Idealize.ShloMosaic Idealize.ShloMosaic.TcCoe Idealize.SL.Sem
open Idealize.ShloMosaic.Pipeline (Dat)
open Cert.Row Cert.Attention
namespace Cert.KernelIdeal.Attn
open Cert.KernelIdeal Cert.KernelIdeal.Gen
variable (m : (ℓ : Loc nD τ sig) → Buf (Elt Ideal) ℓ) (c : Dev nD)

/-! What the input blocks of a grid point hold, read off the arguments. -/

theorem idx : ∀ t : Fin cfg0.N, (grid0.coords t 0).val = t.val ∧ win0_0.index t = ![t.val, 2] ∧ win0_1.index t = ![t.val - 1, 24] ∧ win0_2.index t = ![t.val, 24]
    ∧ win0_3.index t = ![t.val - 1, 25] ∧ win0_4.index t = ![t.val, 25] ∧ win0_5.index t = ![0, 0, 0] ∧ win0_6.index t = ![0]
    ∧ win0_7.index t = ![t.val, 0] ∧ win0_8.index t = ![t.val, 0] ∧ win0_9.index t = ![t.val, 2] :=
  (by decide +kernel : ∀ t : Fin grid0.N, _)

/-- The rows' log-sums as the host computes them, in the rows' order and padded. -/
theorem logs : V m c main_v78 = (pad S4096x128 ![0, 0] ![0, 96] ![0, 0]
    (shapeCast S4096x32 (transpose S32x128x32 [0, 2, 1] (shapeCast S32x32x128 (addf
      (Cert.ReferenceIdeal.Read.val_main_v69 (F := Ideal) (m ((c : Thread nD τ).loc main_arg0)) (m ((c : Thread nD τ).loc main_arg2)) (m ((c : Thread nD τ).loc main_arg3)))
      (Host.log (F := Ideal) (Cert.ReferenceIdeal.Read.val_main_v96 (F := Ideal) (m ((c : Thread nD τ).loc main_arg0)) (m ((c : Thread nD τ).loc main_arg2)) (m ((c : Thread nD τ).loc main_arg3)))))
      shapeCasts_S32x4x8x128x1_S32x32x128) transposes_S32x32x128_S32x128x32_0_2_1) shapeCasts_S32x128x32_S4096x32)
    (sitofp (F := Ideal) .f32 (constantI S_ 32 0#32)) pads_S4096x32_S4096x128_000_0960 h_S_ : FVec Ideal S4096x128 .f32) := by
  unfold V
  simp only [hostOps0, hostOps0_1, hostOps0_2, hostOps0_3, hostOps0_4, List.flatten_cons, List.flatten_nil, List.append_nil, List.cons_append, List.nil_append]
  run_tidy
  simp only [Cert.ReferenceIdeal.Read.val_main_v69, Cert.ReferenceIdeal.Read.val_main_v96, Cert.ReferenceIdeal.Read.val_main_v67, Cert.ReferenceIdeal.Read.val_main_v68, Cert.ReferenceIdeal.Read.val_main_v92, Cert.ReferenceIdeal.Read.val_main_v95, Cert.ReferenceIdeal.Read.val_main_v61, Cert.ReferenceIdeal.Read.val_main_v60, Cert.ReferenceIdeal.Read.val_main_v91, Cert.ReferenceIdeal.Read.val_main_v94, Cert.ReferenceIdeal.Read.val_main_cst_8, Cert.ReferenceIdeal.Read.val_main_v58_0, Cert.ReferenceIdeal.Read.val_main_v59, Cert.ReferenceIdeal.Read.val_main_cst_16, Cert.ReferenceIdeal.Read.val_main_v90, Cert.ReferenceIdeal.Read.val_main_v93, Cert.ReferenceIdeal.Read.val_main_call0_v2, Cert.ReferenceIdeal.Read.val_main_v57, Cert.ReferenceIdeal.Read.val_main_v58_1, Cert.ReferenceIdeal.Read.val_main_v89, Cert.ReferenceIdeal.Read.val_main_call0_v0, Cert.ReferenceIdeal.Read.val_main_v52, Cert.ReferenceIdeal.Read.val_main_v56, Cert.ReferenceIdeal.Read.val_main_v53, Cert.ReferenceIdeal.Read.val_main_v88, Cert.ReferenceIdeal.Read.val_main_cst_7, Cert.ReferenceIdeal.Read.val_main_v50, Cert.ReferenceIdeal.Read.val_main_v51, Cert.ReferenceIdeal.Read.val_main_v55, Cert.ReferenceIdeal.Read.val_main_v39, Cert.ReferenceIdeal.Read.val_main_v49, Cert.ReferenceIdeal.Read.val_main_cst_6, Cert.ReferenceIdeal.Read.val_main_v54, Cert.ReferenceIdeal.Read.val_main_v34, Cert.ReferenceIdeal.Read.val_main_v38, Cert.ReferenceIdeal.Read.val_main_v40, Cert.ReferenceIdeal.Read.val_main_v48, Cert.ReferenceIdeal.Read.val_main_v32, Cert.ReferenceIdeal.Read.val_main_v33, Cert.ReferenceIdeal.Read.val_main_v37, Cert.ReferenceIdeal.Read.val_main_v3, Cert.ReferenceIdeal.Read.val_main_v46, Cert.ReferenceIdeal.Read.val_main_v47, Cert.ReferenceIdeal.Read.val_main_v28, Cert.ReferenceIdeal.Read.val_main_v31, Cert.ReferenceIdeal.Read.val_main_v35, Cert.ReferenceIdeal.Read.val_main_v36, Cert.ReferenceIdeal.Read.val_main_v0, Cert.ReferenceIdeal.Read.val_main_v45, Cert.ReferenceIdeal.Read.val_main_v26, Cert.ReferenceIdeal.Read.val_main_v27, Cert.ReferenceIdeal.Read.val_main_v29, Cert.ReferenceIdeal.Read.val_main_v30, Cert.ReferenceIdeal.Read.val_main_v16, Cert.ReferenceIdeal.Read.val_main_c_4, Cert.ReferenceIdeal.Read.val_main_v43, Cert.ReferenceIdeal.Read.val_main_v24, Cert.ReferenceIdeal.Read.val_main_v25, Cert.ReferenceIdeal.Read.val_main_c_2, Cert.ReferenceIdeal.Read.val_main_c_3, Cert.ReferenceIdeal.Read.val_main_v14, Cert.ReferenceIdeal.Read.val_main_v15, Cert.ReferenceIdeal.Read.val_main_v41, Cert.ReferenceIdeal.Read.val_main_v42, Cert.ReferenceIdeal.Read.val_main_v22, Cert.ReferenceIdeal.Read.val_main_v23, Cert.ReferenceIdeal.Read.val_main_v13, Cert.ReferenceIdeal.Read.val_main_v11, Cert.ReferenceIdeal.Read.val_main_v4, Cert.ReferenceIdeal.Read.val_main_cst, Cert.ReferenceIdeal.Read.val_main_v20, Cert.ReferenceIdeal.Read.val_main_v21, Cert.ReferenceIdeal.Read.val_main_v12, Cert.ReferenceIdeal.Read.val_main_v9, Cert.ReferenceIdeal.Read.val_main_v10, Cert.ReferenceIdeal.Read.val_main_v18, Cert.ReferenceIdeal.Read.val_main_v19, Cert.ReferenceIdeal.Read.val_main_c_1, Cert.ReferenceIdeal.Read.val_main_c, Cert.ReferenceIdeal.Read.val_main_v8, Cert.ReferenceIdeal.Read.val_main_v17, Cert.ReferenceIdeal.Read.val_main_c_0]

  refine congrArg₂ (fun (a : FVec Ideal S4096x32 .f32) (b : FVec Ideal S_ .f32) => pad S4096x128 ![0, 0] ![0, 96] ![0, 0] a b pads_S4096x32_S4096x128_000_0960 h_S_) ?_ ?_
  · rfl
  · rfl
theorem row_of_lt (t : Fin cfg0.N) (i : Fin 128) : t.val * 128 + i.val < 4096 := by
  have : t.val < 32 := t.isLt
  omega
theorem row_before_lt (t : Fin cfg0.N) (i : Fin 128) : (t.val - 1) * 128 + i.val < 4096 := by
  have : t.val < 32 := t.isLt
  omega
theorem q_apply (t : Fin cfg0.N) (i : Fin 128) (l : Fin 2048) : X0_0 m c t (ix2 i l) = m ((c : Thread nD τ).loc main_arg0) (ix2 ⟨t.val * 128 + i.val, row_of_lt t i⟩ ⟨4096 + l.val, by omega⟩) := by
  unfold X0_0 Pipeline.Window.fill
  rw [dif_pos (moved0_0 t _)]
  blk_point [iblk, V, idx t]
theorem kp_apply (t : Fin cfg0.N) (i : Fin 128) (l : Fin 256) : iblk m c 1 t (ix2 i l) = m ((c : Thread nD τ).loc main_arg0) (ix2 ⟨(t.val - 1) * 128 + i.val, row_before_lt t i⟩ ⟨6144 + l.val, by omega⟩) := by
  blk_point [iblk, V, idx t]
theorem kc_apply (t : Fin cfg0.N) (i : Fin 128) (l : Fin 256) : iblk m c 2 t (ix2 i l) = m ((c : Thread nD τ).loc main_arg0) (ix2 ⟨t.val * 128 + i.val, row_of_lt t i⟩ ⟨6144 + l.val, by omega⟩) := by
  blk_point [iblk, V, idx t]
theorem vp_apply (t : Fin cfg0.N) (i : Fin 128) (l : Fin 256) : iblk m c 3 t (ix2 i l) = m ((c : Thread nD τ).loc main_arg0) (ix2 ⟨(t.val - 1) * 128 + i.val, row_before_lt t i⟩ ⟨6400 + l.val, by omega⟩) := by
  blk_point [iblk, V, idx t]
theorem vc_apply (t : Fin cfg0.N) (i : Fin 128) (l : Fin 256) : iblk m c 4 t (ix2 i l) = m ((c : Thread nD τ).loc main_arg0) (ix2 ⟨t.val * 128 + i.val, row_of_lt t i⟩ ⟨6400 + l.val, by omega⟩) := by
  blk_point [iblk, V, idx t]
theorem bias_apply (t : Fin cfg0.N) (h : Fin 32) (i : Fin 128) (j : Fin 256) : iblk m c 5 t (ix3 h i j) = m ((c : Thread nD τ).loc main_arg2) (ix3 h i j) := by
  blk_point [iblk, V, idx t]
theorem datt_apply (t : Fin cfg0.N) (i : Fin 128) (l : Fin 2048) : iblk m c 7 t (ix2 i l) = m ((c : Thread nD τ).loc main_arg1) (ix2 ⟨t.val * 128 + i.val, row_of_lt t i⟩ l) := by
  blk_point [iblk, V, idx t]
theorem sinks_entry : V m c main_v79 = (shapeCast S32 (m ((c : Thread nD τ).loc main_arg3)) shapeCasts_S1x32_S32 : FVec Ideal S32 .f32) := by
  unfold V
  simp only [hostOps0, hostOps0_1, hostOps0_2, hostOps0_3, hostOps0_4, List.flatten_cons, List.flatten_nil, List.append_nil, List.cons_append, List.nil_append]
  run_tidy
  rfl
theorem sinks_apply (t : Fin cfg0.N) (h : Fin 32) : iblk m c 6 t (ix1 h) = m ((c : Thread nD τ).loc main_arg3) (ix2 0 h) := by
  have e : iblk m c 6 t (ix1 h) = V m c main_v79 (ix1 h) := by
    blk_simp [iblk]
    refine congrArg (V m c main_v79) ?_
    blk_ext
    rw [(idx t).2.2.2.2.2.2.2.1]
    simp
  rw [e, sinks_entry]
  pointwise
theorem lse_block (t : Fin cfg0.N) (i l : Fin 128) : iblk m c 8 t (ix2 i l) = V m c main_v78 (ix2 ⟨t.val * 128 + i.val, row_of_lt t i⟩ l) := by
  blk_point [iblk, idx t]
/-- A head's column of the padded log-sums. -/
theorem logs_apply (S D : FVec Ideal S32x4x8x128x1 .f32) (X W : Fin 32 → Fin 4 → Fin 8 → Fin 128 → ℝ)
    (hX : ∀ n kv g i (a : Fin 1), S (ix5 n kv g i a) = (X n kv g i : EReal)) (hD : ∀ n kv g i (a : Fin 1), D (ix5 n kv g i a) = (W n kv g i : EReal))
    (n : Fin 32) (i : Fin 128) (l : Fin 128) (hl : l.val < 32) :
    (pad S4096x128 ![0, 0] ![0, 96] ![0, 0] (shapeCast S4096x32 (transpose S32x128x32 [0, 2, 1] (shapeCast S32x32x128 (addf S (Host.log D))
      shapeCasts_S32x4x8x128x1_S32x32x128) transposes_S32x32x128_S32x128x32_0_2_1) shapeCasts_S32x128x32_S4096x32)
      (sitofp (F := Ideal) .f32 (constantI S_ 32 0#32)) pads_S4096x32_S4096x128_000_0960 h_S_ : FVec Ideal S4096x128 .f32) (ix2 ⟨n.val * 128 + i.val, by omega⟩ l)
      = (X n ⟨l.val / 8, by omega⟩ ⟨l.val % 8, by omega⟩ i : EReal) + Ideal.log (W n ⟨l.val / 8, by omega⟩ ⟨l.val % 8, by omega⟩ i : EReal) := by
  pointwise [hX, hD]
  rw [dif_pos (⟨by omega, hl⟩ : n.val * 128 + i.val < 4096 ∧ l.val < 32)]
theorem log_apply {M : Model} {n h : Nat} {i : Fin 128} (x : ℝ) :
    (x : EReal) + Ideal.log ((M.rowDen n h i * Real.exp (-x) : ℝ) : EReal) = (Real.log (M.rowDen n h i) : EReal) := by
  rw [Model.rowDen, ← shifted_den]
  exact log_sum _ _ _ x
theorem lse_apply (t : Fin cfg0.N) (i l : Fin 128) (hl : l.val < 32) (M : Model) (H : Cert.ReferenceIdeal.Attn.Args (m ((c : Thread nD τ).loc main_arg0)) (m ((c : Thread nD τ).loc main_arg1)) (m ((c : Thread nD τ).loc main_arg2)) (m ((c : Thread nD τ).loc main_arg3)) M) :
    iblk m c 8 t (ix2 i l) = (Real.log (M.rowDen t.val l.val i) : EReal) := by
  obtain ⟨X, hX⟩ := Cert.ReferenceIdeal.Attn.shift_exists H
  have hD := Cert.ReferenceIdeal.Attn.den_apply H X hX
  rw [lse_block, logs]
  refine (logs_apply _ _ X (fun n kv g i => M.rowDen n.val (kv.val * 8 + g.val) i * Real.exp (-X n kv g i)) hX hD (⟨t.val, t.isLt⟩ : Fin 32) i l hl).trans ?_
  refine (log_apply _).trans ?_
  rw [Nat.div_add_mod']
theorem keys_band (kp kc : Vec Ideal S128x256 .bf16) (K : Nat → Nat → ℝ) (n : Nat) (hp : ∀ (i : Fin 128) (l : Fin 256), kp (ix2 i l) = (K ((n - 1) * 128 + i.val) l.val : EReal))
    (hc : ∀ (i : Fin 128) (l : Fin 256), kc (ix2 i l) = (K (n * 128 + i.val) l.val : EReal)) (j l : Fin 256) : k0_pay8 kp kc (ix2 j l) = (K (keyRow n j.val) l.val : EReal) := by
  pointwise [k0_pay8, hp, hc]
  rw [keyRow]
  split_ifs <;> rfl
theorem vals_band (kp kc : Vec Ideal S128x256 .bf16) (K : Nat → Nat → ℝ) (n : Nat) (hp : ∀ (i : Fin 128) (l : Fin 256), kp (ix2 i l) = (K ((n - 1) * 128 + i.val) l.val : EReal))
    (hc : ∀ (i : Fin 128) (l : Fin 256), kc (ix2 i l) = (K (n * 128 + i.val) l.val : EReal)) (j l : Fin 256) : k0_pay9 kp kc (ix2 j l) = (K (keyRow n j.val) l.val : EReal) := by
  pointwise [k0_pay9, hp, hc]
  rw [keyRow]
  split_ifs <;> rfl
variable (M : Model) (H : Cert.ReferenceIdeal.Attn.Args (m ((c : Thread nD τ).loc main_arg0)) (m ((c : Thread nD τ).loc main_arg1)) (m ((c : Thread nD τ).loc main_arg2)) (m ((c : Thread nD τ).loc main_arg3)) M) (t : Fin cfg0.N)
include H
theorem q_real (i : Fin 128) (l : Fin 2048) : X0_0 m c t (ix2 i l) = (M.Q (t.val * 128 + i.val) l.val : EReal) := by
  rw [q_apply]
  exact H.q _ l
theorem kp_real (i : Fin 128) (l : Fin 256) : iblk m c 1 t (ix2 i l) = (M.K ((t.val - 1) * 128 + i.val) l.val : EReal) := by
  rw [kp_apply]
  exact H.k _ l
theorem kc_real (i : Fin 128) (l : Fin 256) : iblk m c 2 t (ix2 i l) = (M.K (t.val * 128 + i.val) l.val : EReal) := by
  rw [kc_apply]
  exact H.k _ l
theorem vp_real (i : Fin 128) (l : Fin 256) : iblk m c 3 t (ix2 i l) = (M.V ((t.val - 1) * 128 + i.val) l.val : EReal) := by
  rw [vp_apply]
  exact H.v _ l
theorem vc_real (i : Fin 128) (l : Fin 256) : iblk m c 4 t (ix2 i l) = (M.V (t.val * 128 + i.val) l.val : EReal) := by
  rw [vc_apply]
  exact H.v _ l
theorem datt_real (i : Fin 128) (l : Fin 2048) : iblk m c 7 t (ix2 i l) = (M.C (t.val * 128 + i.val) l.val : EReal) := by
  rw [datt_apply]
  exact H.c _ l
theorem bias_real (h : Fin 32) (i : Fin 128) (j : Fin 256) : iblk m c 5 t (ix3 h i j) = (M.B h.val i j : EReal) := by
  rw [bias_apply]
  exact H.b h i j
theorem sinks_real (h : Fin 32) : iblk m c 6 t (ix1 h) = (M.Z h.val : EReal) := by
  rw [sinks_apply]
  exact H.z 0 h
set_option maxHeartbeats 2000000 in
/-- At real arguments every grid point's blocks are the model's. -/
theorem blocks_is : (blocks m c t).Is M t.val := by
  constructor
  · exact (idx t).1
  · exact q_real m c M H t
  · exact keys_band _ _ M.K t.val (kp_real m c M H t) (kc_real m c M H t)
  · exact vals_band _ _ M.V t.val (vp_real m c M H t) (vc_real m c M H t)
  · exact datt_real m c M H t
  · exact bias_real m c M H t
  · exact sinks_real m c M H t
  · exact fun i h hh => lse_apply m c t i h hh M H
end Cert.KernelIdeal.Attn
-- ==== Proof.Attn.Final.lean ====
module
public import proofs.«01_k».proof.Proof.Attn.Host
@[expose] public section
set_option maxRecDepth 16384
noncomputable section
open Idealize.ShloMosaic Idealize.ShloMosaic.TcCoe Idealize.SL.Sem
open Idealize.ShloMosaic.Pipeline (Dat)
open Cert.Row Cert.Attention
namespace Cert.KernelIdeal.Attn
open Cert.KernelIdeal Cert.KernelIdeal.Gen
variable (m : (ℓ : Loc nD τ sig) → Buf (Elt Ideal) ℓ) (c : Dev nD) (M : Model)
  (H : Cert.ReferenceIdeal.Attn.Args (m ((c : Thread nD τ).loc main_arg0)) (m ((c : Thread nD τ).loc main_arg1)) (m ((c : Thread nD τ).loc main_arg2)) (m ((c : Thread nD τ).loc main_arg3)) M)

/-! The kernel's results after the last grid point, in the reference's words. -/

include H
/-- The carried sums after the last point are those over all blocks. -/
theorem holds_last (t : Fin cfg0.N) (ht : t.val + 1 = 32) : Holds M 32 (outsAt0 m c t.val t.isLt).2 :=
  ht ▸ holds_outs m M c (fun t => blocks_is m c M H t) t.val t.isLt

theorem last10 (t : Fin cfg0.N) (ht : t.val + 1 = 32) (j : S4224x256.Idx) : (outsAt0 m c t.val t.isLt).2.1 j = Cert.ReferenceIdeal.Read.val_main_v186 (F := Ideal) (m ((c : Thread nD τ).loc main_arg0)) (m ((c : Thread nD τ).loc main_arg1)) (m ((c : Thread nD τ).loc main_arg2)) (m ((c : Thread nD τ).loc main_arg3)) j := by
  rw [eq_ix2 j]
  exact ((holds_last m c M H t ht).dk (j 0) (j 1)).trans (Cert.ReferenceIdeal.Attn.dk_apply H (j 0) (j 1)).symm
omit H in
theorem array10 (t : Fin cfg0.N) (w : (cfg0.win 10).WholeAt t) (G : (⟨S4224x256, .f32⟩ : BufTy).Contents (Elt Ideal))
    (h : ∀ j : S4224x256.Idx, (outsAt0 m c t.val t.isLt).2.1 j = G j) : (dats m 0 c).arrAt 10 cfg0.N = G := by
  refine (dats m 0 c).arrAt_eq_of_after_last 10 t w _ fun j => ?_
  rw [after0_10]
  exact h j
theorem final10 : (dats m 0 c).arrAt 10 cfg0.N = Cert.ReferenceIdeal.Read.val_main_v186 (F := Ideal) (m ((c : Thread nD τ).loc main_arg0)) (m ((c : Thread nD τ).loc main_arg1)) (m ((c : Thread nD τ).loc main_arg2)) (m ((c : Thread nD τ).loc main_arg3)) :=
  array10 m c ⟨31, by decide +kernel⟩ (by decide +kernel) _ (last10 m c M H _ rfl)

theorem last11 (t : Fin cfg0.N) (ht : t.val + 1 = 32) (j : S4224x256.Idx) : (outsAt0 m c t.val t.isLt).2.2.1 j = Cert.ReferenceIdeal.Read.val_main_v187 (F := Ideal) (m ((c : Thread nD τ).loc main_arg0)) (m ((c : Thread nD τ).loc main_arg1)) (m ((c : Thread nD τ).loc main_arg2)) (m ((c : Thread nD τ).loc main_arg3)) j := by
  rw [eq_ix2 j]
  exact ((holds_last m c M H t ht).dv (j 0) (j 1)).trans (Cert.ReferenceIdeal.Attn.dv_apply H (j 0) (j 1)).symm
omit H in
theorem array11 (t : Fin cfg0.N) (w : (cfg0.win 11).WholeAt t) (G : (⟨S4224x256, .f32⟩ : BufTy).Contents (Elt Ideal))
    (h : ∀ j : S4224x256.Idx, (outsAt0 m c t.val t.isLt).2.2.1 j = G j) : (dats m 0 c).arrAt 11 cfg0.N = G := by
  refine (dats m 0 c).arrAt_eq_of_after_last 11 t w _ fun j => ?_
  rw [after0_11]
  exact h j
theorem final11 : (dats m 0 c).arrAt 11 cfg0.N = Cert.ReferenceIdeal.Read.val_main_v187 (F := Ideal) (m ((c : Thread nD τ).loc main_arg0)) (m ((c : Thread nD τ).loc main_arg1)) (m ((c : Thread nD τ).loc main_arg2)) (m ((c : Thread nD τ).loc main_arg3)) :=
  array11 m c ⟨31, by decide +kernel⟩ (by decide +kernel) _ (last11 m c M H _ rfl)

theorem last12 (t : Fin cfg0.N) (ht : t.val + 1 = 32) (j : S32x128x256.Idx) : (outsAt0 m c t.val t.isLt).2.2.2.1 j = Cert.ReferenceIdeal.Read.val_main_v164 (F := Ideal) (m ((c : Thread nD τ).loc main_arg0)) (m ((c : Thread nD τ).loc main_arg1)) (m ((c : Thread nD τ).loc main_arg2)) (m ((c : Thread nD τ).loc main_arg3)) j := by
  rw [eq_ix3 j]
  exact ((holds_last m c M H t ht).db (j 0) (j 1) (j 2)).trans (Cert.ReferenceIdeal.Attn.dbias_apply H (j 0) (j 1) (j 2)).symm
omit H in
theorem array12 (t : Fin cfg0.N) (w : (cfg0.win 12).WholeAt t) (G : (⟨S32x128x256, .f32⟩ : BufTy).Contents (Elt Ideal))
    (h : ∀ j : S32x128x256.Idx, (outsAt0 m c t.val t.isLt).2.2.2.1 j = G j) : (dats m 0 c).arrAt 12 cfg0.N = G := by
  refine (dats m 0 c).arrAt_eq_of_after_last 12 t w _ fun j => ?_
  rw [after0_12]
  exact h j
theorem final12 : (dats m 0 c).arrAt 12 cfg0.N = Cert.ReferenceIdeal.Read.val_main_v164 (F := Ideal) (m ((c : Thread nD τ).loc main_arg0)) (m ((c : Thread nD τ).loc main_arg1)) (m ((c : Thread nD τ).loc main_arg2)) (m ((c : Thread nD τ).loc main_arg3)) :=
  array12 m c ⟨31, by decide +kernel⟩ (by decide +kernel) _ (last12 m c M H _ rfl)

theorem last13 (t : Fin cfg0.N) (ht : t.val + 1 = 32) (j : S8x128.Idx) : (outsAt0 m c t.val t.isLt).2.2.2.2 j = Cert.ReferenceIdeal.Read.val_main_v188 (F := Ideal) (m ((c : Thread nD τ).loc main_arg0)) (m ((c : Thread nD τ).loc main_arg1)) (m ((c : Thread nD τ).loc main_arg2)) (m ((c : Thread nD τ).loc main_arg3)) j := by
  rw [eq_ix2 j]
  exact ((holds_last m c M H t ht).ds (j 0) (j 1)).trans (Cert.ReferenceIdeal.Attn.dsinks_pad_apply H (j 0) (j 1)).symm
omit H in
theorem array13 (t : Fin cfg0.N) (w : (cfg0.win 13).WholeAt t) (G : (⟨S8x128, .f32⟩ : BufTy).Contents (Elt Ideal))
    (h : ∀ j : S8x128.Idx, (outsAt0 m c t.val t.isLt).2.2.2.2 j = G j) : (dats m 0 c).arrAt 13 cfg0.N = G := by
  refine (dats m 0 c).arrAt_eq_of_after_last 13 t w _ fun j => ?_
  rw [after0_13]
  exact h j
theorem final13 : (dats m 0 c).arrAt 13 cfg0.N = Cert.ReferenceIdeal.Read.val_main_v188 (F := Ideal) (m ((c : Thread nD τ).loc main_arg0)) (m ((c : Thread nD τ).loc main_arg1)) (m ((c : Thread nD τ).loc main_arg2)) (m ((c : Thread nD τ).loc main_arg3)) :=
  array13 m c ⟨31, by decide +kernel⟩ (by decide +kernel) _ (last13 m c M H _ rfl)

omit H in
theorem entry_into : V m c main_v80_0 = m ((c : Thread nD τ).loc main_arg4) := by
  unfold V
  simp only [hostOps0, hostOps0_1, hostOps0_2, hostOps0_3, hostOps0_4, List.flatten_cons, List.flatten_nil, List.append_nil, List.cons_append, List.nil_append]
  run_tidy

/-- A block's row and column in the projection's gradient. -/
theorem point9 (t : Fin cfg0.N) (y : S128x2048.Idx) (r : Fin 4096) (l : Fin 10752) (hr : r.val = t.val * 128 + (y 0).val) (hl : l.val = 2 * 2048 + (y 1).val) :
    (outsAt0 m c t.val t.isLt).1 y = Cert.ReferenceIdeal.Read.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  have ht : t.val < 32 := t.isLt
  obtain ⟨i, j, rfl⟩ : ∃ (i : Fin 128) (j : Fin 2048), y = ix2 i j := ⟨y 0, y 1, eq_ix2 y⟩
  have hr : r.val = t.val * 128 + i.val := hr
  have hl : l.val = 2 * 2048 + j.val := hl
  refine (dq_outs m M c t (blocks_is m c M H t) i j).trans (.trans ?_ (Cert.ReferenceIdeal.Attn.dproj_apply H _ _).symm)
  have e1 : r.val / 128 = t.val := by omega
  have e2 : Fin.ofNat 128 r.val = i := Fin.ext (by show r.val % 128 = i.val; omega)
  have e3 : l.val - 4096 = j.val := by omega
  rw [if_pos (show 4096 ≤ l.val ∧ l.val < 6144 by omega), e1, e2, e3]

omit H in
theorem array9 (G : (⟨S4096x10752, .bf16⟩ : BufTy).Contents (Elt Ideal))
    (h : ∀ (t : Fin cfg0.N) (y : S128x2048.Idx) (r : Fin 4096) (l : Fin 10752), r.val = t.val * 128 + (y 0).val → l.val = 2 * 2048 + (y 1).val → (outsAt0 m c t.val t.isLt).1 y = G (ix2 r l)) :
    (dats m 0 c).arrAt 9 cfg0.N = fun i => if 4096 ≤ (i 1).val ∧ (i 1).val < 6144 then G i else V m c main_v80_0 i := by
  refine (dats m 0 c).arrAt_eq_of_coversWhere 9 _ (fun β => β 1 = 2) (by decide +kernel) (fun t hf y => ?_) (fun j => by blk_simp [Pipeline.Window.cell_apply]; omega)
  rw [after0_9]
  refine (h t _ _ _ ?_ ?_).trans (congrArg G (eq_ix2 _).symm)
  · blk_simp [idx t]
  · have e : win0_9.index t 1 = 2 := by rw [(idx t).2.2.2.2.2.2.2.2.2.2]; rfl
    exact (Pipeline.Window.rect_emb_val win0_9 t y 1).trans (congrArg (fun n : Nat => n * 2048 + (y 1).val) e)

/-- The gradient of the projection: block column 2 is written, the rest is the array passed in. -/
theorem final9 : (dats m 0 c).arrAt 9 cfg0.N = Cert.ReferenceIdeal.Read.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [array9 m c _ (point9 m c M H)]
  funext i
  split_ifs with h
  · rfl
  · rw [entry_into]
    obtain ⟨r, l, rfl⟩ : ∃ (r : Fin 4096) (l : Fin 10752), i = ix2 r l := ⟨i 0, i 1, eq_ix2 i⟩
    exact ((Cert.ReferenceIdeal.Attn.dproj_apply H r l).trans (if_neg h)).symm
end Cert.KernelIdeal.Attn
-- ==== Proof.Attn.Finite.lean ====
module
public import proofs.«01_k».proof.Proof.Attn.RefBand
public import proofs.«01_k».proof.Pre_pre
public import Idealize.ShloMosaic.Lib.ReduceAll
public import Idealize.ShloMosaic.Lib.WordCmp
@[expose] public section
set_option maxRecDepth 16384
noncomputable section
open Idealize.ShloMosaic Idealize.ShloMosaic.TcCoe Idealize.SL.Sem
open Cert.Row Cert.Attention
namespace Cert.Pre_pre

/-! The precondition read back: every element of the four arrays is a real number, so the arguments are a model's. -/

theorem facts : Facts where
  bitsLt_bf16_f32 := by decide
  bcast_S_S4096x10752 := by decide +kernel
  reducesTo_S4096x10752_S_d0_1 := by decide +kernel
  h_S_ := by decide
  bcast_S_S4096x2048 := by decide +kernel
  reducesTo_S4096x2048_S_d0_1 := by decide +kernel
  bcast_S_S32x128x256 := by decide +kernel
  reducesTo_S32x128x256_S_d0_1_2 := by decide +kernel
  bcast_S_S1x32 := by decide +kernel
  reducesTo_S1x32_S_d0_1 := by decide +kernel

instance : Subsingleton S_.Idx := ⟨fun a b => funext fun k => k.elim0⟩

/-- An extended real whose magnitude is below infinity is a real number. -/
theorem real_of_abs_lt {x : Ideal .f32} (h : FloatOps.cmpf (F := Ideal) .olt (FloatOps.absf x) (FloatOps.ofBits .f32 0x7F800000#32) = 1#1) :
    x = ((EReal.toReal x : ℝ) : EReal) := by
  have top : Ideal.ofBits .f32 0x7F800000#32 = (⊤ : EReal) := by
    simp [Ideal.ofBits, Ideal.ieee]
  have lt : max x (-x) < (⊤ : EReal) := by
    rw [← top]
    by_contra no
    have e : Ideal.cmp .olt (max x (-x)) (Ideal.ofBits .f32 0x7F800000#32) = 1#1 := h
    simp [Ideal.cmp, no] at e
  refine (EReal.coe_toReal ?_ ?_).symm
  · exact fun e => absurd (lt_of_le_of_lt (le_max_left _ _) lt) (by simp [e])
  · exact fun e => absurd (lt_of_le_of_lt (le_max_right _ _) lt) (by simp [e])

variable [Facts] {x0 : FVec Ideal S4096x10752 .bf16} {x1 : FVec Ideal S4096x2048 .bf16} {x2 : FVec Ideal S32x128x256 .f32} {x3 : FVec Ideal S1x32 .f32}
  {x4 : FVec Ideal S4096x10752 .bf16}

theorem reals (h : fn (F := Ideal) x0 x1 x2 x3 x4 = (fun _ => 1#1)) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  have e := congrFun h (Shape.Idx.first Facts.h_S_)
  unfold fn fn_part1 at e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_⟩
  · exact real_of_abs_lt (Host.reduce_andi_all _ _ _ _ _ e0 i)
  · exact real_of_abs_lt (Host.reduce_andi_all _ _ _ _ _ e1 i)
  · exact real_of_abs_lt (Host.reduce_andi_all _ _ _ _ _ e2 i)
  · exact real_of_abs_lt (Host.reduce_andi_all _ _ _ _ _ e3 i)

/-- The model the arguments are. -/
def model (x0 : FVec Ideal S4096x10752 .bf16) (x1 : FVec Ideal S4096x2048 .bf16) (x2 : FVec Ideal S32x128x256 .f32) (x3 : FVec Ideal S1x32 .f32) : Model where
  Q r c := EReal.toReal (x0 (ix2 (Fin.ofNat 4096 r) (Fin.ofNat 10752 (4096 + c))))
  K r c := EReal.toReal (x0 (ix2 (Fin.ofNat 4096 r) (Fin.ofNat 10752 (6144 + c))))
  V r c := EReal.toReal (x0 (ix2 (Fin.ofNat 4096 r) (Fin.ofNat 10752 (6400 + c))))
  C r c := EReal.toReal (x1 (ix2 (Fin.ofNat 4096 r) (Fin.ofNat 2048 c)))
  B h i j := EReal.toReal (x2 (ix3 (Fin.ofNat 32 h) i j))
  Z h := EReal.toReal (x3 (ix2 0 (Fin.ofNat 32 h)))

theorem ofNat_eq {n : Nat} [NeZero n] (k : Nat) (h : k < n) : Fin.ofNat n k = ⟨k, h⟩ := Fin.ext (Nat.mod_eq_of_lt h)

theorem args (h : fn (F := Ideal) x0 x1 x2 x3 x4 = (fun _ => 1#1)) : Cert.ReferenceIdeal.Attn.Args x0 x1 x2 x3 (model x0 x1 x2 x3) := by
  obtain ⟨h0, h1, h2, h3⟩ := reals h
  constructor
  · intro r c
    refine (h0 _).trans ?_
    simp only [model, ofNat_eq (n := 4096) r.val r.isLt, ofNat_eq (n := 10752) (4096 + c.val) (by omega)]
  · intro r c
    refine (h0 _).trans ?_
    simp only [model, ofNat_eq (n := 4096) r.val r.isLt, ofNat_eq (n := 10752) (6144 + c.val) (by omega)]
  · intro r c
    refine (h0 _).trans ?_
    simp only [model, ofNat_eq (n := 4096) r.val r.isLt, ofNat_eq (n := 10752) (6400 + c.val) (by omega)]
  · intro r c
    refine (h1 _).trans ?_
    simp only [model, ofNat_eq (n := 4096) r.val r.isLt, ofNat_eq (n := 2048) c.val c.isLt]
  · intro a i j
    refine (h2 _).trans ?_
    simp only [model, ofNat_eq (n := 32) a.val a.isLt]
  · intro a b
    obtain rfl : a = 0 := Subsingleton.elim _ _
    refine (h3 _).trans ?_
    simp only [model, ofNat_eq (n := 32) b.val b.isLt]

end Cert.Pre_pre
-- ==== Proof.Ff2dx.lean ====
/- The gradient at the pre-activation of the second feed-forward product, `(do · w₂ᵀ) · 2·max(f, 0)`:
   what the tiled kernel stores is the derivative of `max(f, 0)² · w₂`, element by element. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference2Ideal.Ff2dx
open Cert.Reference2Ideal Cert.Reference2Ideal.Gen

/-- The reference's result over its arguments. -/
def REF (x0 : FVec Ideal S4096x8192 .bf16) (x1 : FVec Ideal S8192x2048 .f32) (x2 : FVec Ideal S4096x2048 .bf16) : FVec Ideal S4096x8192 .bf16 :=
  truncf .bf16 (select (cmpf .ogt (extf .f32 x0 bitsLt_bf16_f32) (broadcastInDim S4096x8192 ![] bcast_S_S4096x8192 (constant S_ .f32 0x00000000#32))) (mulf (Host.dotGeneral dot_S4096x2048_S8192x2048_S4096x8192_1_1_0_0_n_n none (extf .f32 x2 bitsLt_bf16_f32) x1) (mulf (broadcastInDim S4096x8192 ![] bcast_S_S4096x8192 (constant S_ .f32 0x40000000#32)) (maximumf (extf .f32 x0 bitsLt_bf16_f32) (broadcastInDim S4096x8192 ![] bcast_S_S4096x8192 (constant S_ .f32 0x00000000#32))))) (broadcastInDim S4096x8192 ![] bcast_S_S4096x8192 (constant S_ .f32 0x00000000#32))) bitsLt_bf16_f32

/-- Where `f ≤ 0` the factor `2·max(f, 0)` is already zero, so the reference's selection changes nothing. -/
theorem gate (f a two : EReal) : (if (0 : EReal) < f then a * (two * max f 0) else 0) = a * (two * max f 0) := by
  split_ifs with h
  · rfl
  · rw [max_eq_right (not_lt.1 h), mul_zero, mul_zero]

theorem REF_apply (x0 : FVec Ideal S4096x8192 .bf16) (x1 : FVec Ideal S8192x2048 .f32) (x2 : FVec Ideal S4096x2048 .bf16) (r : Fin 4096) (l : Fin 8192) :
    REF x0 x1 x2 (ix2 r l : S4096x8192.Idx) = (∑ k : Fin 2048, x2 (ix2 r k) * x1 (ix2 l k)) * (Ideal.ofBits .f32 0x40000000#32 * max (x0 (ix2 r l)) 0) := by
  pointwise [REF]
  exact gate _ _ _
end Cert.Reference2Ideal.Ff2dx

namespace Cert.Kernel2Ideal.Ff2dx
open Cert.Kernel2Ideal Cert.Kernel2Ideal.Gen
variable (m : (ℓ : Loc nD τ sig) → Buf (Elt Ideal) ℓ)

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

/-- The stored tile, read at a row and a column. -/
theorem pay_apply (d : FVec Ideal S1024x2048 .bf16) (w : FVec Ideal S1024x2048 .bf16) (f : FVec Ideal S1024x1024 .bf16) (r l : Fin 1024) :
    k0_pay1 d w f (ix2 r l : S1024x1024.Idx) = (∑ k : Fin 2048, d (ix2 r k) * w (ix2 l k)) * (Ideal.ofBits .f32 0x40000000#32 * max (f (ix2 r l)) 0) := by
  pointwise [k0_pay1]

theorem point (c : Dev nD) (t : Fin cfg0.N) (y : S1024x1024.Idx) :
    k0_pay1 (iblk m c 0 t) (iblk m c 1 t) (iblk m c 2 t) y
    = Cert.Reference2Ideal.Ff2dx.REF (m ((c : Thread nD τ).loc main_arg0)) (m ((c : Thread nD τ).loc main_arg1)) (m ((c : Thread nD τ).loc main_arg2)) (((cfg0.win 3).blk t).view.emb y) := by
  rw [eq_ix2 y, eq_ix2 (((cfg0.win 3).blk t).view.emb _)]
  refine (pay_apply _ _ _ _ _).trans (.trans ?_ (Cert.Reference2Ideal.Ff2dx.REF_apply _ _ _ _ _).symm)
  blk_point [iblk, V, idx t]

/-- The result array after the run. -/
theorem final (c : Dev nD) : (dats m 0 c).arrAt 3 (cfgs 0).N
    = Cert.Reference2Ideal.Ff2dx.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel2Ideal.Ff2dx
-- ==== Proof.AttnFwd.Heads.lean ====
module
public import proofs.«01_k».proof.Proof.Attn.Step
public import proofs.«01_k».proof.Proof.Gen.Kernel3Ideal.Skeleton
@[expose] public section
set_option maxRecDepth 16384
noncomputable section
open Idealize.ShloMosaic Idealize.ShloMosaic.TcCoe Idealize.SL.Sem
open Cert.Row Cert.Attention
namespace Cert.Kernel3Ideal.Attn
open Cert.Kernel3Ideal Cert.Kernel3Ideal.Gen

/-! The forward attention: what one grid point works on, and what it computes of it for each of the 32 heads. -/

theorem queryLanes (o : Nat) (h : o + 64 ≤ 2048) : S128x2048.Slices ![0, o] S128x64 :=
  ⟨rfl, fun a => by fin_cases a <;> [exact Nat.le_refl 128; exact h]⟩
theorem keyLanes (o : Nat) (h : o + 64 ≤ 256) : S256x256.Slices ![0, o] S256x64 :=
  ⟨rfl, fun a => by fin_cases a <;> [exact Nat.le_refl 256; exact h]⟩
theorem oneHead (o : Nat) (h : o < 32) : ∀ a, (![o, 0, 0] : Fin 3 → Nat) a + S1x128x256.size a ≤ S32x128x256.size a :=
  fun a => by fin_cases a <;> [exact h; exact Nat.le_refl 128; exact Nat.le_refl 256]
theorem oneSink (o : Nat) (h : o < 32) : ∀ a, (![o] : Fin 1 → Nat) a + S1.size a ≤ S32.size a :=
  fun a => by fin_cases a; exact h

/-- The blocks of a grid point's inputs. -/
structure Blocks where
  n : grid0.Coords
  q : Vec Ideal S128x2048 .bf16
  kp : Vec Ideal S128x256 .bf16
  kc : Vec Ideal S128x256 .bf16
  vp : Vec Ideal S128x256 .bf16
  vc : Vec Ideal S128x256 .bf16
  bias : Vec Ideal S32x128x256 .f32
  sinks : Vec Ideal S32 .f32

namespace Blocks
variable (b : Blocks)

/-- A head's logits before the mask: its queries with its key head's keys, scaled, and its position bias. -/
def scoresOf (q : FVec Ideal S128x2048 .bf16) (k : FVec Ideal S256x256 .bf16) (w : Vec Ideal S1x128x256 .f32) (o : Nat) (h : o < 32) : FVec Ideal S128x256 .f32 :=
  addf (mulf (matmul dot_S128x64_S256x64_S128x256_1_1_0_0_n_n none
      (extractStridedSlice S128x64 ![0, 64 * o] q (queryLanes (64 * o) (by omega)) : FVec Ideal S128x64 .bf16)
      (extractStridedSlice S256x64 ![0, 64 * (o / 8)] k (keyLanes (64 * (o / 8)) (by omega)))
      (constant S128x256 .f32 0x00000000#32)) (broadcast S128x256 (Scalar.ofBits .f32 0x3E000000#32)))
    (shapeCast S128x256 w shapeCasts_S1x128x256_S128x256)
def biasOf (o : Nat) (h : o < 32) : Vec Ideal S1x128x256 .f32 :=
  View.ld (Val := Elt Ideal) (e' := .f32) b.bias (Rect.unit (s := S32x128x256) ![o, 0, 0] S1x128x256.size (oneHead o h))
def scores (o : Nat) (h : o < 32) : FVec Ideal S128x256 .f32 := scoresOf b.q (k0_pay2 b.kp b.kc) (b.biasOf o h) o h
def sink (o : Nat) (h : o < 32) : Elt Ideal .f32 :=
  View.ld (Val := Elt Ideal) (e' := .f32) b.sinks (Rect.unit (s := S32) ![o] S1.size (oneSink o h)) (Shape.Idx.first (s := S1) (by decide))
/-- A head's output. -/
def head (o : Nat) (h : o < 32) : FVec Ideal S128x64 .f32 :=
  k0_pay13 (k0_pay1 b.n) (extractStridedSlice S256x64 ![0, 64 * (o / 8)] (k0_pay3 b.vp b.vc) (keyLanes (64 * (o / 8)) (by omega)))
    (b.scores o h) k0_pay7 (b.sink o h)
/-- The row log-sums so far with a head's in its lane. -/
def addLog (prev : FVec Ideal S128x128 .f32) (o : Nat) (h : o < 32) : FVec Ideal S128x128 .f32 :=
  select (broadcastTo S128x128 (shapeCast S1x128 (cmpi .eq (iota .tc S1x128 32 [1] iota_S1x128_d1_w32) (broadcast S1x128 (BitVec.ofNat 32 o)))
      shapeCasts_S1x128_S1x128) broadcasts_S1x128_S128x128)
    (broadcastTo S128x128 (shapeCast S128x1 (addf (k0_pay9 (k0_pay1 b.n) (b.scores o h) k0_pay7 (b.sink o h))
      (log (k0_pay11 (k0_pay1 b.n) (b.scores o h) k0_pay7 (b.sink o h)))) shapeCasts_S128x1_S128x1) broadcasts_S128x1_S128x128) prev
/-- The row log-sums of the first `o` heads. -/
def logs : (o : Nat) → o ≤ 32 → FVec Ideal S128x128 .f32
  | 0, _ => k0_pay4
  | o + 1, h => b.addLog (logs o (by omega)) o h
theorem heads_fit : Shape.Concatenates ((List.ofFn fun o : Fin 32 => (⟨S128x64, b.head o.val o.isLt⟩ : (s : Shape) × (s.Idx → Elt Ideal .f32))).map (·.1)) S128x2048 1 :=
  concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1
/-- The block's rows of the output. -/
def att : FVec Ideal S128x2048 .bf16 :=
  k0_pay245 (concatenate S128x2048 1 (List.ofFn fun o : Fin 32 => (⟨S128x64, b.head o.val o.isLt⟩ : (s : Shape) × (s.Idx → Elt Ideal .f32))) b.heads_fit)

/-- The blocks are those of grid point `n` of the model. -/
structure Is (b : Blocks) (M : Model) (n : Nat) : Prop where
  pos : (b.n 0).val = n
  q : ∀ i c, b.q (ix2 i c) = (M.Q (n * 128 + i.val) c.val : EReal)
  k : ∀ j c, k0_pay2 b.kp b.kc (ix2 j c) = (M.K (keyRow n j.val) c.val : EReal)
  v : ∀ j c, k0_pay3 b.vp b.vc (ix2 j c) = (M.V (keyRow n j.val) c.val : EReal)
  bias : ∀ h i j, b.bias (ix3 h i j) = (M.B h.val i j : EReal)
  sinks : ∀ h, b.sinks (ix1 h) = (M.Z h.val : EReal)

theorem mask_value : (Named.named κ "mask" 0xF149F2CA#32 : Ideal .f32) = ⊥ := IdealRules.named_const.ideal_named_scalar _ _ _ _ rfl
theorem scoresOf_apply (q : FVec Ideal S128x2048 .bf16) (k : FVec Ideal S256x256 .bf16) (w : Vec Ideal S1x128x256 .f32) (o : Nat) (h : o < 32) (M : Model) (n : Nat)
    (hq : ∀ i c, q (ix2 i c) = (M.Q (n * 128 + i.val) c.val : EReal)) (hk : ∀ j c, k (ix2 j c) = (M.K (keyRow n j.val) c.val : EReal))
    (hw : ∀ i j, w (ix3 0 i j) = (M.B o i j : EReal)) (i : Fin 128) (j : Fin 256) :
    scoresOf q k w o h (ix2 i j) = (M.score n o i j : EReal) := by
  pointwise [scoresOf, hw, hq, hk, Cert.KernelIdeal.Attn.eighth]
  rw [Model.score, Model.dot, EReal.coe_add, EReal.coe_mul, ← coe_sum]
  refine congrArg (· + _) (congrArg (· * _) (Finset.sum_congr rfl fun d _ => ?_))
  rw [EReal.coe_mul, Nat.mul_comm 64 o, Nat.mul_comm 64 (o / 8)]
variable {b} {M : Model} {n : Nat} (H : b.Is M n) (o : Nat) (h : o < 32)
include H
theorem mask_apply (i : Fin 128) (j : Fin 256) : k0_pay1 b.n (ix2 i j) = BitVec.ofBool (decide (ok n i j)) := by
  rw [← H.pos]
  exact Cert.KernelIdeal.Attn.mask_apply b.n i j
theorem scores_apply (i : Fin 128) (j : Fin 256) : b.scores o h (ix2 i j) = (M.score n o i j : EReal) := by
  refine scoresOf_apply _ _ _ o h M n H.q H.k (fun i j => ?_) i j
  refine Eq.trans ?_ (H.bias ⟨o, h⟩ i j)
  refine View.ld_unit_apply_of _ _ _ _ _ _ fun a => ?_
  fin_cases a <;> simp
theorem sink_apply : b.sink o h = (M.Z o : EReal) := by
  refine Eq.trans ?_ (H.sinks ⟨o, h⟩)
  unfold sink
  refine View.ld_unit_apply_of _ _ _ _ _ _ fun a => ?_
  fin_cases a; simp

/-! One head's row, of any mask, logits and sink. -/
omit H
section Rows
variable {mask : IVec S128x256 1} {s : FVec Ideal S128x256 .f32} {z : Ideal .f32} {n : Nat} {S : Fin 128 → Fin 256 → ℝ} {Z : ℝ}
  (hm : ∀ i j, mask (ix2 i j) = BitVec.ofBool (decide (ok n i j))) (hs : ∀ i j, s (ix2 i j) = (S i j : EReal)) (hz : z = (Z : EReal))
include hm hs
theorem logits_row (i : Fin 128) (j : Fin 256) : k0_pay8 mask s k0_pay7 (ix2 i j) = logit (ok n i) (S i) j := by
  pointwise [k0_pay8, k0_pay7, hm, hs, mask_value]
  rfl
include hz
theorem top_row (i : Fin 128) (a : Fin 1) : k0_pay9 mask s k0_pay7 z (ix2 i a)
    = max ((Finset.univ : Finset (Fin 256)).fold max ⊥ (logit (ok n i) (S i))) (Z : EReal) := by
  subst hz
  have e : Ideal.ofBits .f32 0xFF800000#32 = ⊥ := by simp [Ideal.ofBits, Ideal.ieee]
  pointwise [k0_pay9, logits_row hm hs, e]
theorem top_exists : ∃ X : Fin 128 → ℝ, ∀ i (a : Fin 1), k0_pay9 mask s k0_pay7 z (ix2 i a) = (X i : EReal) := by
  choose X hX using fun i : Fin 128 => max_real (ok n i) (S i) Z
  exact ⟨X, fun i a => (top_row hm hs hz i a).trans (hX i)⟩
variable {X : Fin 128 → ℝ} (hX : ∀ i (a : Fin 1), k0_pay9 mask s k0_pay7 z (ix2 i a) = (X i : EReal))
include hX
theorem exps_row (i : Fin 128) (j : Fin 256) : k0_pay10 mask s k0_pay7 z (ix2 i j) = ((if ok n i j then Real.exp (S i j - X i) else 0 : ℝ) : EReal) := by
  pointwise [k0_pay10, logits_row hm hs, hX]
  exact exp_logit_sub ..
theorem den_row (i : Fin 128) (a : Fin 1) : k0_pay11 mask s k0_pay7 z (ix2 i a) = ((den (ok n i) (S i) Z * Real.exp (-X i) : ℝ) : EReal) := by
  have e := hz
  pointwise [k0_pay11, exps_row hm hs hz hX, hX]
  rw [← shifted_den, coe_sum, e, ← EReal.coe_sub, Ideal.exp_coe, ← EReal.coe_add]
theorem log_row (i : Fin 128) (a : Fin 1) : addf (k0_pay9 mask s k0_pay7 z) (log (k0_pay11 mask s k0_pay7 z)) (ix2 i a)
    = (Real.log (den (ok n i) (S i) Z) : EReal) := by
  pointwise [den_row hm hs hz hX, hX]
  rw [← shifted_den]
  exact log_sum ..
theorem head_row {v : FVec Ideal S256x64 .bf16} {W : Fin 256 → Fin 64 → ℝ} (hv : ∀ j d, v (ix2 j d) = (W j d : EReal)) (i : Fin 128) (d : Fin 64) :
    k0_pay13 mask v s k0_pay7 z (ix2 i d) = ((∑ j, prob (ok n i) (S i) Z j * W j d : ℝ) : EReal) := by
  pointwise [k0_pay13, exps_row hm hs hz hX, den_row hm hs hz hX, hv]
  rw [← coe_sum]
  refine Finset.sum_congr rfl fun j _ => ?_
  rw [show (1 : EReal) = ((1 : ℝ) : EReal) from rfl, div_real (mul_ne_zero (den_pos ..).ne' (Real.exp_pos _).ne'), ← EReal.coe_mul, ← EReal.coe_mul, ← prob_eq (ok n i) (S i) Z (X i), mul_one_div]
end Rows

theorem vals_apply (H : b.Is M n) (o : Nat) (h : o < 32) (j : Fin 256) (d : Fin 64) :
    (extractStridedSlice S256x64 ![0, 64 * (o / 8)] (k0_pay3 b.vp b.vc) (keyLanes (64 * (o / 8)) (by omega)) : FVec Ideal S256x64 .bf16) (ix2 j d)
      = (M.V (keyRow n j.val) (o / 8 * 64 + d.val) : EReal) := by
  pointwise [H.v]
  rw [Nat.mul_comm]
theorem head_apply (H : b.Is M n) (o : Nat) (h : o < 32) (i : Fin 128) (d : Fin 64) :
    b.head o h (ix2 i d) = ((∑ j, M.weight n o i j * M.V (keyRow n j.val) (o / 8 * 64 + d.val) : ℝ) : EReal) := by
  obtain ⟨X, hX⟩ := top_exists (mask_apply H) (scores_apply H o h) (sink_apply H o h)
  exact head_row (mask_apply H) (scores_apply H o h) (sink_apply H o h) hX (vals_apply n H o h) i d
theorem addLog_apply (H : b.Is M n) (prev : FVec Ideal S128x128 .f32) (o : Nat) (h : o < 32) (i l : Fin 128) :
    b.addLog prev o h (ix2 i l) = if l.val = o then (Real.log (M.rowDen n o i) : EReal) else prev (ix2 i l) := by
  obtain ⟨X, hX⟩ := top_exists (mask_apply H) (scores_apply H o h) (sink_apply H o h)
  have e := fun i a => log_row (mask_apply H) (scores_apply H o h) (sink_apply H o h) hX i a
  unfold addLog
  generalize addf (k0_pay9 (k0_pay1 b.n) (b.scores o h) k0_pay7 (b.sink o h)) (log (k0_pay11 (k0_pay1 b.n) (b.scores o h) k0_pay7 (b.sink o h))) = y at e
  pointwise [e]
  word_cmp
  rfl
theorem logs_apply (H : b.Is M n) (i l : Fin 128) : ∀ (o : Nat) (h : o ≤ 32),
    b.logs o h (ix2 i l) = ((if l.val < o then Real.log (M.rowDen n l.val i) else 0 : ℝ) : EReal)
  | 0, _ => by
    pointwise [logs, k0_pay4]
    simp [Ideal.ofBits, Ideal.ieee]
  | o + 1, h => by
    rw [logs, addLog_apply H, logs_apply H i l o (by omega)]
    by_cases e : l.val = o
    · rw [if_pos e, if_pos (by omega), e]
    · rw [if_neg e]
      exact congrArg _ (if_congr (by omega) rfl rfl)
theorem att_apply (H : b.Is M n) (i : Fin 128) (c : Fin 2048) :
    b.att (ix2 i c) = ((∑ j, M.weight n (c.val / 64) i j * M.V (keyRow n j.val) (c.val / 512 * 64 + c.val % 64) : ℝ) : EReal) := by
  unfold att k0_pay245
  have hc : c.val / 64 < 32 := by omega
  have e : c.val / 512 = c.val / 64 / 8 := by omega
  rw [e, ← head_apply H (c.val / 64) hc i ⟨c.val % 64, by omega⟩]
  refine concatenate_ofFn_apply (t := S128x2048) (s₁ := S128x64) 1 (fun o : Fin 32 => b.head o.val o.isLt) b.heads_fit rfl 64 rfl (ix2 i c) ⟨c.val / 64, hc⟩ rfl _ rfl fun a ha => ?_
  fin_cases a
  · rfl
  · exact absurd rfl ha
end Blocks
end Cert.Kernel3Ideal.Attn
-- ==== Proof.AttnFwd.Open.lean ====
module
public import proofs.«01_k».proof.Proof.AttnFwd.Heads
public import proofs.«01_k».proof.Proof.Gen.Kernel3Ideal.Value
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel3Ideal.Attn
open Cert.Kernel3Ideal Cert.Kernel3Ideal.Gen
variable (m : (ℓ : Loc nD τ sig) → Buf (Elt Ideal) ℓ)

/-- The input blocks of grid point `t`. -/
def blocks (c : Dev nD) (t : Fin cfg0.N) : Blocks :=
  { n := grid0.coords t, q := X0_0 m c t, kp := iblk m c 1 t, kc := iblk m c 2 t, vp := iblk m c 3 t, vc := iblk m c 4 t,
    bias := iblk m c 5 t, sinks := iblk m c 6 t }

set_option maxHeartbeats 8000000 in
/-- The first output is the heads' outputs side by side. -/
theorem outs_att (c : Dev nD) (t : Fin cfg0.N) : (outsAt0 m c t).1 = (blocks m c t).att := by
  unfold outsAt0
  dsimp only
  frame_out
  repeat rw [Memref.IsWhole.read_unread]
  rw [View.ld_unit_lit' (S := S128x2048) (X := X0_0 m c t),
    View.ld_unit_lit' (S := S128x256) (X := iblk m c 1 t),
    View.ld_unit_lit' (S := S128x256) (X := iblk m c 2 t),
    View.ld_unit_lit' (S := S128x256) (X := iblk m c 3 t),
    View.ld_unit_lit' (S := S128x256) (X := iblk m c 4 t)]
  · exact congrArg k0_pay245 (by congr 1)
  all_goals decide
set_option maxHeartbeats 8000000 in
/-- The second is the row log-sums of all heads. -/
theorem outs_logs (c : Dev nD) (t : Fin cfg0.N) : (outsAt0 m c t).2 = (blocks m c t).logs 32 (Nat.le_refl 32) := by
  unfold outsAt0
  dsimp only
  frame_out
  rfl
end Cert.Kernel3Ideal.Attn
-- ==== Proof.AttnFwd.Host.lean ====
module
public import proofs.«01_k».proof.Proof.AttnFwd.Open
public import proofs.«01_k».proof.Proof.Attn.Ref
@[expose] public section
set_option maxRecDepth 16384
noncomputable section
open Idealize.ShloMosaic Idealize.ShloMosaic.TcCoe Idealize.SL.Sem
open Idealize.ShloMosaic.Pipeline (Dat)
open Cert.Row Cert.Attention
namespace Cert.Kernel3Ideal.Attn
open Cert.Kernel3Ideal Cert.Kernel3Ideal.Gen
variable (m : (ℓ : Loc nD τ sig) → Buf (Elt Ideal) ℓ) (c : Dev nD)

/-! What the input blocks of a grid point hold, read off the arguments. -/

theorem idx : ∀ t : Fin cfg0.N, (grid0.coords t 0).val = t.val ∧ win0_0.index t = ![t.val, 2] ∧ win0_1.index t = ![t.val - 1, 24] ∧ win0_2.index t = ![t.val, 24]
    ∧ win0_3.index t = ![t.val - 1, 25] ∧ win0_4.index t = ![t.val, 25] ∧ win0_5.index t = ![0, 0, 0] ∧ win0_6.index t = ![0]
    ∧ win0_7.index t = ![t.val, 0] ∧ win0_8.index t = ![t.val, 0] :=
  (by decide +kernel : ∀ t : Fin grid0.N, _)

theorem row_of_lt (t : Fin cfg0.N) (i : Fin 128) : t.val * 128 + i.val < 4096 := by
  have : t.val < 32 := t.isLt
  omega
theorem row_before_lt (t : Fin cfg0.N) (i : Fin 128) : (t.val - 1) * 128 + i.val < 4096 := by
  have : t.val < 32 := t.isLt
  omega
theorem sinks_entry : V m c main_v0 = (shapeCast S32 (m ((c : Thread nD τ).loc main_arg2)) shapeCasts_S1x32_S32 : FVec Ideal S32 .f32) := by
  unfold V
  simp only [hostOps0]
  run_tidy
  rfl
theorem keys_band (kp kc : Vec Ideal S128x256 .bf16) (K : Nat → Nat → ℝ) (n : Nat) (hp : ∀ (i : Fin 128) (l : Fin 256), kp (ix2 i l) = (K ((n - 1) * 128 + i.val) l.val : EReal))
    (hc : ∀ (i : Fin 128) (l : Fin 256), kc (ix2 i l) = (K (n * 128 + i.val) l.val : EReal)) (j l : Fin 256) : k0_pay2 kp kc (ix2 j l) = (K (keyRow n j.val) l.val : EReal) := by
  pointwise [k0_pay2, hp, hc]
  rw [keyRow]
  split_ifs <;> rfl
variable (M : Model) (H : Cert.ReferenceIdeal.Attn.Args (m ((c : Thread nD τ).loc main_arg0)) (fun _ => (0 : EReal)) (m ((c : Thread nD τ).loc main_arg1)) (m ((c : Thread nD τ).loc main_arg2)) M) (t : Fin cfg0.N)
include H
theorem q_real (i : Fin 128) (l : Fin 2048) : X0_0 m c t (ix2 i l) = (M.Q (t.val * 128 + i.val) l.val : EReal) := by
  refine Eq.trans ?_ (H.q ⟨t.val * 128 + i.val, row_of_lt t i⟩ l)
  unfold X0_0 Pipeline.Window.fill
  rw [dif_pos (moved0_0 t _)]
  blk_point [iblk, V, idx t]
theorem kp_real (i : Fin 128) (l : Fin 256) : iblk m c 1 t (ix2 i l) = (M.K ((t.val - 1) * 128 + i.val) l.val : EReal) := by
  refine Eq.trans ?_ (H.k ⟨(t.val - 1) * 128 + i.val, row_before_lt t i⟩ l)
  blk_point [iblk, V, idx t]
theorem kc_real (i : Fin 128) (l : Fin 256) : iblk m c 2 t (ix2 i l) = (M.K (t.val * 128 + i.val) l.val : EReal) := by
  refine Eq.trans ?_ (H.k ⟨t.val * 128 + i.val, row_of_lt t i⟩ l)
  blk_point [iblk, V, idx t]
theorem vp_real (i : Fin 128) (l : Fin 256) : iblk m c 3 t (ix2 i l) = (M.V ((t.val - 1) * 128 + i.val) l.val : EReal) := by
  refine Eq.trans ?_ (H.v ⟨(t.val - 1) * 128 + i.val, row_before_lt t i⟩ l)
  blk_point [iblk, V, idx t]
theorem vc_real (i : Fin 128) (l : Fin 256) : iblk m c 4 t (ix2 i l) = (M.V (t.val * 128 + i.val) l.val : EReal) := by
  refine Eq.trans ?_ (H.v ⟨t.val * 128 + i.val, row_of_lt t i⟩ l)
  blk_point [iblk, V, idx t]
theorem bias_real (h : Fin 32) (i : Fin 128) (j : Fin 256) : iblk m c 5 t (ix3 h i j) = (M.B h.val i j : EReal) := by
  refine Eq.trans ?_ (H.b h i j)
  blk_point [iblk, V, idx t]
theorem sinks_real (h : Fin 32) : iblk m c 6 t (ix1 h) = (M.Z h.val : EReal) := by
  refine Eq.trans ?_ (H.z 0 h)
  have e : iblk m c 6 t (ix1 h) = V m c main_v0 (ix1 h) := by
    blk_simp [iblk]
    refine congrArg (V m c main_v0) ?_
    blk_ext
    rw [(idx t).2.2.2.2.2.2.2.1]
    simp
  rw [e, sinks_entry]
  pointwise
/-- At real arguments every grid point's blocks are the model's. -/
theorem blocks_is : (blocks m c t).Is M t.val where
  pos := (idx t).1
  q := q_real m c M H t
  k := keys_band _ _ M.K t.val (kp_real m c M H t) (kc_real m c M H t)
  v := keys_band _ _ M.V t.val (vp_real m c M H t) (vc_real m c M H t)
  bias := bias_real m c M H t
  sinks := sinks_real m c M H t
end Cert.Kernel3Ideal.Attn
-- ==== Proof.AttnFwd.Same.lean ====
module
public import proofs.«01_k».proof.Proof.Attn.Ref
public import proofs.«01_k».proof.Proof.Attn.RefBand
public import proofs.«01_k».proof.Proof.Attn.Host
public import proofs.«01_k».proof.Proof.Gen.Reference3Ideal.Read
@[expose] public section
set_option maxRecDepth 16384
noncomputable section
open Idealize.ShloMosaic Idealize.ShloMosaic.TcCoe Idealize.SL.Sem
open Cert.Row Cert.Attention
namespace Cert.Reference3Ideal.Attn
open Cert.Reference3Ideal Cert.Reference3Ideal.Read

/-! The plain forward attention: the values it shares with the gradient's reference, and its two results. -/

variable (x0 : (⟨S4096x10752, .bf16⟩ : BufTy).Contents (Elt Ideal)) (x1 : (⟨S32x128x256, .f32⟩ : BufTy).Contents (Elt Ideal))
  (x2 : (⟨S1x32, .f32⟩ : BufTy).Contents (Elt Ideal))

theorem logits_same : val_main_v57 (F := Ideal) x0 x1 = Cert.ReferenceIdeal.Read.val_main_v58_0 (F := Ideal) x0 x1 := rfl
theorem shift_same : val_main_v63 (F := Ideal) x0 x1 x2 = Cert.ReferenceIdeal.Read.val_main_v69 (F := Ideal) x0 x1 x2 := rfl
theorem den_same : val_main_v72 (F := Ideal) x0 x1 x2 = Cert.ReferenceIdeal.Read.val_main_v96 (F := Ideal) x0 x1 x2 := rfl
theorem weights_same : val_main_v144 (F := Ideal) x0 x1 x2 = Cert.ReferenceIdeal.Read.val_main_v98 (F := Ideal) x0 x1 x2 := rfl
theorem vals_same : val_main_v151 (F := Ideal) x0 = Cert.ReferenceIdeal.Read.val_main_v109 (F := Ideal) x0 := rfl

end Cert.Reference3Ideal.Attn
-- ==== Proof.AttnFwd.Ref.lean ====
module
public import proofs.«01_k».proof.Proof.AttnFwd.Same
@[expose] public section
set_option maxRecDepth 16384
noncomputable section
open Idealize.ShloMosaic Idealize.ShloMosaic.TcCoe Idealize.SL.Sem
open Cert.Row Cert.Attention
namespace Cert.Reference3Ideal.Attn
open Cert.Reference3Ideal Cert.Reference3Ideal.Gen Cert.Reference3Ideal.Read

/-! The plain forward attention's two results. -/

/-- Weights times values, in the order of heads and lanes the output has. -/
theorem gather_apply (v : FVec Ideal S32x256x4x64 .f32) (w : FVec Ideal S32x4x8x128x256 .f32) (V : Fin 32 → Fin 256 → Fin 4 → Fin 64 → ℝ)
    (W : Fin 32 → Fin 4 → Fin 8 → Fin 128 → Fin 256 → ℝ) (hv : ∀ n j kv d, v (ix4 n j kv d) = (V n j kv d : EReal))
    (hw : ∀ n kv g i j, w (ix5 n kv g i j) = (W n kv g i j : EReal)) (n : Fin 32) (i : Fin 128) (kv : Fin 4) (g : Fin 8) (d : Fin 64) :
    (truncf .bf16 (shapeCast S4096x2048 (transpose S32x128x4x8x64 [0, 4, 1, 3, 2] (Host.dotGeneral (F := Ideal) (φ₁ := .f32) (φ₂ := .f32)
      dot_S32x256x4x64_S32x4x8x128x256_S32x4x64x8x128_1_4_3_23_02_01 none v w) transposes_S32x4x64x8x128_S32x128x4x8x64_0_4_1_3_2)
      shapeCasts_S32x128x4x8x64_S4096x2048 : FVec Ideal S4096x2048 .f32) bitsLt_bf16_f32 : FVec Ideal S4096x2048 .bf16)
      (ix2 ⟨n.val * 128 + i.val, by omega⟩ ⟨(kv.val * 8 + g.val) * 64 + d.val, by omega⟩)
      = ((∑ j, W n kv g i j * V n j kv d : ℝ) : EReal) := by
  pointwise [hv, hw]
  rw [← coe_sum]
  exact Finset.sum_congr rfl fun j _ => by rw [EReal.coe_mul, mul_comm]
/-- The lanes past the heads' are the padding. -/
theorem padding_apply (x : FVec Ideal S4096x32 .f32) (r : Fin 4096) (l : Fin 128) (hl : ¬l.val < 32) :
    (pad S4096x128 ![0, 0] ![0, 96] ![0, 0] x (val_main_call2_v0 (F := Ideal)) pads_S4096x32_S4096x128_000_0960 h_S_ : FVec Ideal S4096x128 .f32) (ix2 r l) = (0 : EReal) := by
  have e : ∀ i : S_.Idx, val_main_call2_v0 (F := Ideal) i = 0 := fun i => Cert.ReferenceIdeal.Attn.sitofp_zero
  pointwise [e]
  rw [dif_neg hl]

variable {x0 : (⟨S4096x10752, .bf16⟩ : BufTy).Contents (Elt Ideal)} {x1 : (⟨S32x128x256, .f32⟩ : BufTy).Contents (Elt Ideal)}
  {x2 : (⟨S1x32, .f32⟩ : BufTy).Contents (Elt Ideal)} {M : Model} (H : Cert.ReferenceIdeal.Attn.Args x0 (fun _ => (0 : EReal)) x1 x2 M)
include H
theorem att_apply (n : Fin 32) (i : Fin 128) (kv : Fin 4) (g : Fin 8) (d : Fin 64) : val_main_v155 (F := Ideal) x0 x1 x2
    (ix2 ⟨n.val * 128 + i.val, by omega⟩ ⟨(kv.val * 8 + g.val) * 64 + d.val, by omega⟩)
    = ((∑ j, M.weight n.val (kv.val * 8 + g.val) i j * M.V (keyRow n.val j.val) (kv.val * 64 + d.val) : ℝ) : EReal) := by
  obtain ⟨X, hX⟩ := Cert.ReferenceIdeal.Attn.shift_exists H
  have hw := Cert.ReferenceIdeal.Attn.weights_apply H X hX
  unfold val_main_v155 val_main_v154 val_main_v153 val_main_v152
  rw [vals_same, weights_same]
  refine (gather_apply _ _ (fun n j kv d => Cert.ReferenceIdeal.Attn.band M.V n.val j.val (kv.val * 64 + d.val)) (fun n kv g i j => M.weight n.val (kv.val * 8 + g.val) i j)
    (Cert.ReferenceIdeal.Attn.vals_apply H) hw n i kv g d).trans (congrArg _ (Finset.sum_congr rfl fun j _ => ?_))
  by_cases hj : ok n.val i j
  · rw [Cert.ReferenceIdeal.Attn.band_of_ok hj]
  · rw [show M.weight n.val (kv.val * 8 + g.val) i j = 0 from prob_of_not _ _ _ hj, zero_mul, zero_mul]
theorem logs_apply (n : Fin 32) (i : Fin 128) (l : Fin 128) : val_main_v156 (F := Ideal) x0 x1 x2 (ix2 ⟨n.val * 128 + i.val, by omega⟩ l)
    = ((if l.val < 32 then Real.log (M.rowDen n.val l.val i) else 0 : ℝ) : EReal) := by
  obtain ⟨X, hX⟩ := Cert.ReferenceIdeal.Attn.shift_exists H
  have hD := Cert.ReferenceIdeal.Attn.den_apply H X hX
  unfold val_main_v156
  by_cases hl : l.val < 32
  · rw [if_pos hl]
    unfold val_main_v77 val_main_v76 val_main_v75 val_main_v74 val_main_v73
    rw [den_same, shift_same]
    refine (Cert.KernelIdeal.Attn.logs_apply _ _ X (fun n kv g i => M.rowDen n.val (kv.val * 8 + g.val) i * Real.exp (-X n kv g i)) hX hD n i l hl).trans ?_
    refine (Cert.KernelIdeal.Attn.log_apply _).trans ?_
    rw [Nat.div_add_mod']
  · rw [if_neg hl, padding_apply _ _ _ hl]
    rfl
end Cert.Reference3Ideal.Attn
-- ==== Proof.AttnFwd.Final.lean ====
module
public import proofs.«01_k».proof.Proof.AttnFwd.Host
public import proofs.«01_k».proof.Proof.AttnFwd.Ref
@[expose] public section
set_option maxRecDepth 16384
noncomputable section
open Idealize.ShloMosaic Idealize.ShloMosaic.TcCoe Idealize.SL.Sem
open Idealize.ShloMosaic.Pipeline (Dat)
open Cert.Row Cert.Attention
namespace Cert.Kernel3Ideal.Attn
open Cert.Kernel3Ideal Cert.Kernel3Ideal.Gen
variable (m : (ℓ : Loc nD τ sig) → Buf (Elt Ideal) ℓ) (c : Dev nD)

/-! The forward attention's results after the last grid point, in the reference's words. -/

theorem array7 (G : (⟨S4096x2048, .bf16⟩ : BufTy).Contents (Elt Ideal))
    (h : ∀ (t : Fin cfg0.N) (i : Fin 128) (j : Fin 2048), (outsAt0 m c t).1 (ix2 i j) = G (ix2 ⟨t.val * 128 + i.val, row_of_lt t i⟩ j)) :
    (dats m 0 c).arrAt 7 cfg0.N = G := by
  refine (dats m 0 c).arrAt_eq_of_covers 7 _ (by decide +kernel) fun t _ y => ?_
  rw [after0_7]
  obtain ⟨i, j, rfl⟩ : ∃ (i : Fin 128) (j : Fin 2048), y = ix2 i j := ⟨y 0, y 1, eq_ix2 y⟩
  refine (h t i j).trans (congrArg G ?_)
  blk_simp
  blk_ext
  all_goals simp [idx t]
theorem array8 (G : (⟨S4096x128, .f32⟩ : BufTy).Contents (Elt Ideal))
    (h : ∀ (t : Fin cfg0.N) (i : Fin 128) (j : Fin 128), (outsAt0 m c t).2 (ix2 i j) = G (ix2 ⟨t.val * 128 + i.val, row_of_lt t i⟩ j)) :
    (dats m 0 c).arrAt 8 cfg0.N = G := by
  refine (dats m 0 c).arrAt_eq_of_covers 8 _ (by decide +kernel) fun t _ y => ?_
  rw [after0_8]
  obtain ⟨i, j, rfl⟩ : ∃ (i : Fin 128) (j : Fin 128), y = ix2 i j := ⟨y 0, y 1, eq_ix2 y⟩
  refine (h t i j).trans (congrArg G ?_)
  blk_simp
  blk_ext
  all_goals simp [idx t]

variable (M : Model) (H : Cert.ReferenceIdeal.Attn.Args (m ((c : Thread nD τ).loc main_arg0)) (fun _ => (0 : EReal)) (m ((c : Thread nD τ).loc main_arg1)) (m ((c : Thread nD τ).loc main_arg2)) M)
include H
theorem final7 : (dats m 0 c).arrAt 7 cfg0.N = Cert.Reference3Ideal.Read.val_main_v155 (F := Ideal) (m ((c : Thread nD τ).loc main_arg0)) (m ((c : Thread nD τ).loc main_arg1)) (m ((c : Thread nD τ).loc main_arg2)) := by
  refine array7 m c _ fun t i j => ?_
  rw [outs_att, Blocks.att_apply (blocks_is m c M H t)]
  have e := Cert.Reference3Ideal.Attn.att_apply H ⟨t.val, t.isLt⟩ i ⟨j.val / 512, by omega⟩ ⟨j.val / 64 % 8, by omega⟩ ⟨j.val % 64, by omega⟩
  have e1 : j.val / 512 * 8 + j.val / 64 % 8 = j.val / 64 := by omega
  have e2 : j.val / 64 * 64 + j.val % 64 = j.val := by omega
  simp only [e1, e2] at e
  exact e.symm
theorem final8 : (dats m 0 c).arrAt 8 cfg0.N = Cert.Reference3Ideal.Read.val_main_v156 (F := Ideal) (m ((c : Thread nD τ).loc main_arg0)) (m ((c : Thread nD τ).loc main_arg1)) (m ((c : Thread nD τ).loc main_arg2)) := by
  refine array8 m c _ fun t i j => ?_
  rw [outs_logs, Blocks.logs_apply (blocks_is m c M H t)]
  exact (Cert.Reference3Ideal.Attn.logs_apply H ⟨t.val, t.isLt⟩ i j).symm
end Cert.Kernel3Ideal.Attn
-- ==== Proof.AttnFwd.Finite.lean ====
module
public import proofs.«01_k».proof.Proof.Attn.Finite
public import proofs.«01_k».proof.Pre_pre_attn_fwd
@[expose] public section
set_option maxRecDepth 16384
noncomputable section
open Idealize.ShloMosaic Idealize.ShloMosaic.TcCoe Idealize.SL.Sem
open Cert.Row Cert.Attention
namespace Cert.Pre_pre_attn_fwd

/-! The forward attention's precondition read back: its three arguments are a model's (with no cotangents). -/

theorem facts : Facts where
  bitsLt_bf16_f32 := by decide
  bcast_S_S4096x10752 := by decide +kernel
  reducesTo_S4096x10752_S_d0_1 := by decide +kernel
  h_S_ := by decide
  bcast_S_S32x128x256 := by decide +kernel
  reducesTo_S32x128x256_S_d0_1_2 := by decide +kernel
  bcast_S_S1x32 := by decide +kernel
  reducesTo_S1x32_S_d0_1 := by decide +kernel

instance : Subsingleton S_.Idx := ⟨fun a b => funext fun k => k.elim0⟩

variable [Facts] {x0 : FVec Ideal S4096x10752 .bf16} {x1 : FVec Ideal S32x128x256 .f32} {x2 : FVec Ideal S1x32 .f32}

theorem args (h : fn (F := Ideal) x0 x1 x2 = (fun _ => 1#1)) :
    Cert.ReferenceIdeal.Attn.Args x0 (fun _ => (0 : EReal)) x1 x2 (Cert.Pre_pre.model x0 (fun _ => (0 : EReal)) x1 x2) := by
  haveI : Cert.Pre_pre.Facts := Cert.Pre_pre.facts
  have e := congrFun h (Shape.Idx.first Facts.h_S_)
  unfold fn at e
  obtain ⟨e, e2⟩ := IntOp.andi_eq_one.1 e
  obtain ⟨e0, e1⟩ := IntOp.andi_eq_one.1 e
  have h0 : ∀ i, x0 i = ((EReal.toReal (x0 i) : ℝ) : EReal) := fun i => Cert.Pre_pre.real_of_abs_lt (Host.reduce_andi_all _ _ _ _ _ e0 i)
  have h1 : ∀ i, x1 i = ((EReal.toReal (x1 i) : ℝ) : EReal) := fun i => Cert.Pre_pre.real_of_abs_lt (Host.reduce_andi_all _ _ _ _ _ e1 i)
  have h2 : ∀ i, x2 i = ((EReal.toReal (x2 i) : ℝ) : EReal) := fun i => Cert.Pre_pre.real_of_abs_lt (Host.reduce_andi_all _ _ _ _ _ e2 i)
  constructor
  · intro r c
    refine (h0 _).trans ?_
    simp only [Cert.Pre_pre.model, Cert.Pre_pre.ofNat_eq (n := 4096) r.val r.isLt, Cert.Pre_pre.ofNat_eq (n := 10752) (4096 + c.val) (by omega)]
  · intro r c
    refine (h0 _).trans ?_
    simp only [Cert.Pre_pre.model, Cert.Pre_pre.ofNat_eq (n := 4096) r.val r.isLt, Cert.Pre_pre.ofNat_eq (n := 10752) (6144 + c.val) (by omega)]
  · intro r c
    refine (h0 _).trans ?_
    simp only [Cert.Pre_pre.model, Cert.Pre_pre.ofNat_eq (n := 4096) r.val r.isLt, Cert.Pre_pre.ofNat_eq (n := 10752) (6400 + c.val) (by omega)]
  · intro r c
    simp [Cert.Pre_pre.model]
  · intro a i j
    refine (h1 _).trans ?_
    simp only [Cert.Pre_pre.model, Cert.Pre_pre.ofNat_eq (n := 32) a.val a.isLt]
  · intro a b
    obtain rfl : a = 0 := Subsingleton.elim _ _
    refine (h2 _).trans ?_
    simp only [Cert.Pre_pre.model, Cert.Pre_pre.ofNat_eq (n := 32) b.val b.isLt]
end Cert.Pre_pre_attn_fwd
-- ==== Proof.Ada.lean ====
/- The gradient of the conditioning product: each row of `silu(c)ᵀ · dmod`, which the kernel adds up over the
   eight sequences one after the other, with the sigmoid written through a hyperbolic tangent. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Sigmoid

theorem half : Ideal.ofBits .f32 0x3F000000#32 = ((1 / 2 : ℝ) : EReal) := by
  simp [Ideal.ofBits, Ideal.ieee, -EReal.coe_mul]; norm_num

theorem real (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have p := Real.exp_pos (1 / 2 * r)
  have q := Real.exp_pos (-(1 / 2 * r))
  have pq : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have h1 : a + b ≠ 0 := by positivity
  have h2 : 1 + b * b ≠ 0 := by positivity
  field_simp
  nlinarith [pq]

/-- The sigmoid through the tangent is the sigmoid, at the infinities too. -/
theorem eq (x : EReal) : Ideal.ofBits .f32 0x3F000000#32 * Ideal.tanh (Ideal.ofBits .f32 0x3F000000#32 * x) + Ideal.ofBits .f32 0x3F000000#32 = Ideal.logistic x := by
  rw [half]
  induction x with
  | bot =>
    rw [EReal.coe_mul_bot_of_pos (by norm_num), Ideal.tanh_bot, Ideal.logistic_bot, show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real]

end Cert.Sigmoid

namespace Cert.Reference4Ideal.Ada
open Cert.Reference4Ideal Cert.Reference4Ideal.Gen Cert.Reference4Ideal.Read

theorem apply (x0 : FVec Ideal S8x2048 .f32) (x1 : FVec Ideal S8x1536 .f32) (r : Fin 2048) (l : Fin 1536) :
    val_main_v4 (F := Ideal) x0 x1 (ix2 r l) = ∑ k : Fin 8, x1 (ix2 k l) * (x0 (ix2 k r) * Ideal.logistic (x0 (ix2 k r))) := by
  pointwise [val_main_v4, val_main_v3, val_main_v1, val_main_call0_v5, val_main_call0_v4, val_main_call0_v3, val_main_call0_v2, val_main_call0_v1, val_main_call0_v0, val_main_call0_cst, val_main_call0_cst_0, Ideal.logistic]
end Cert.Reference4Ideal.Ada

namespace Cert.Kernel4Ideal.Ada
open Cert.Kernel4Ideal Cert.Kernel4Ideal.Gen
variable (m : (ℓ : Loc nD τ sig) → Buf (Elt Ideal) ℓ)

theorem act_apply (a : FVec Ideal S256x8 .f32) (r : Fin 256) (l : Fin 8) : k0_pay2 a (ix2 r l) = a (ix2 r l) * Ideal.logistic (a (ix2 r l)) := by
  rw [← Cert.Sigmoid.eq]
  pointwise [k0_pay2]

theorem pay_apply (a : FVec Ideal S256x8 .f32) (d : FVec Ideal S8x1536 .f32) (r : Fin 256) (l : Fin 1536) :
    k0_pay1 (k0_pay2 a) (k0_pay3 d) (k0_pay4 a d) (k0_pay5 a) (k0_pay6 d) (ix2 r l) = ∑ k : Fin 8, d (ix2 k l) * (a (ix2 r k) * Ideal.logistic (a (ix2 r k))) := by
  pointwise [k0_pay1, k0_pay3, k0_pay4, k0_pay5, k0_pay6, act_apply]
  simp only [Fin.sum_univ_succ, Fin.sum_univ_zero, mul_comm, ← add_assoc, add_zero]
  rfl

theorem idx : ∀ t : Fin cfg0.N, win0_0.index t = ![t.val, 0] ∧ win0_1.index t = ![0, 0] ∧ win0_2.index t = ![t.val, 0] :=
  (by decide +kernel : ∀ t : Fin grid0.N, _)

theorem turned (c : Dev nD) : V m c main_v0 = (transpose S2048x8 [1, 0] (m ((c : Thread nD τ).loc main_arg0)) transposes_S8x2048_S2048x8_1_0 : FVec Ideal S2048x8 .f32) := by
  unfold V
  simp only [hostOps0]
  run_tidy

theorem c_apply (c : Dev nD) (t : Fin cfg0.N) (r : Fin 256) (k : Fin 8) :
    iblk m c 0 t (ix2 r k) = m ((c : Thread nD τ).loc main_arg0) (ix2 k ⟨t.val * 256 + r.val, by have : t.val < 8 := t.isLt; omega⟩) := by
  have e : iblk m c 0 t (ix2 r k) = V m c main_v0 (ix2 ⟨t.val * 256 + r.val, by have : t.val < 8 := t.isLt; omega⟩ k) := by
    blk_point [iblk, idx t]
  rw [e, turned]
  pointwise

theorem d_apply (c : Dev nD) (t : Fin cfg0.N) (k : Fin 8) (l : Fin 1536) : iblk m c 1 t (ix2 k l) = m ((c : Thread nD τ).loc main_arg1) (ix2 k l) := by
  blk_point [iblk, V, idx t]

/-- The result array after the run. -/
theorem final (c : Dev nD) : (dats m 0 c).arrAt 2 (cfgs 0).N
    = Cert.Reference4Ideal.Read.val_main_v4 (F := Ideal) (m ((c : Thread nD τ).loc main_arg0)) (m ((c : Thread nD τ).loc main_arg1)) := by
  refine (dats m 0 c).arrAt_eq_of_covers 2 _ (by decide +kernel) fun t _ y => ?_
  rw [after0_2]; frame_out
  obtain ⟨i, j, rfl⟩ : ∃ (i : Fin 256) (j : Fin 1536), y = ix2 i j := ⟨y 0, y 1, eq_ix2 y⟩
  refine (pay_apply _ _ _ _).trans ?_
  refine .trans ?_ (congrArg (Cert.Reference4Ideal.Read.val_main_v4 (F := Ideal) (m ((c : Thread nD τ).loc main_arg0)) (m ((c : Thread nD τ).loc main_arg1))) (?_ : ix2 ⟨t.val * 256 + i.val, by have : t.val < 8 := t.isLt; omega⟩ j = _))
  · rw [Cert.Reference4Ideal.Ada.apply]
    simp only [c_apply, d_apply]
  · blk_simp
    blk_ext
    all_goals simp [idx t]

end Cert.Kernel4Ideal.Ada
-- ==== Proof.Rms.lean ====
module
public import proofs.«01_k».proof.Proof.Attn.Row
@[expose] public section
noncomputable section
open Idealize.ShloMosaic Cert.Row
namespace Cert.Rms

/-! One row of the root-mean-square norm over the reals, and the derivative with respect to the row. -/

/-- The number added to the mean of the squares, at its single-precision rounding. -/
def eps : ℝ := 8796093 / 8796093022208
theorem eps_lit : Ideal.ofBits .f32 0x358637BD#32 = ((eps : ℝ) : EReal) := by
  unfold eps
  simp [Ideal.ofBits, Ideal.ieee, -EReal.coe_mul]
  norm_num
theorem n_lit : Ideal.ofBits .f32 0x45000000#32 = ((2048 : ℝ) : EReal) := by
  simp [Ideal.ofBits, Ideal.ieee, -EReal.coe_mul]
  norm_num
theorem ninv_lit : Ideal.ofBits .f32 0x3A000000#32 = ((1 / 2048 : ℝ) : EReal) := by
  simp [Ideal.ofBits, Ideal.ieee, -EReal.coe_mul]
  norm_num
theorem mhalf_lit : Ideal.ofBits .f32 0xBF000000#32 = ((-(1 / 2) : ℝ) : EReal) := by
  simp [Ideal.ofBits, Ideal.ieee, -EReal.coe_mul]
  norm_num
theorem half_lit : Ideal.ofBits .f32 0x3F000000#32 = ((1 / 2 : ℝ) : EReal) := by
  simp [Ideal.ofBits, Ideal.ieee, -EReal.coe_mul]
  norm_num
theorem two_lit : Ideal.ofBits .f32 0x40000000#32 = ((2 : ℝ) : EReal) := by
  simp [Ideal.ofBits, Ideal.ieee, -EReal.coe_mul]
  norm_num
theorem rows_lit : Ideal.ofBits .f32 0x39800000#32 = ((1 / 4096 : ℝ) : EReal) := by
  simp [Ideal.ofBits, Ideal.ieee, -EReal.coe_mul]
  norm_num

variable (x dn : Fin 2048 → ℝ)
/-- The mean of the squares, with the small number added. -/
def ms : ℝ := (∑ j, x j * x j) / 2048 + eps
/-- The factor the row is scaled by. -/
def inv : ℝ := (Real.sqrt (ms x))⁻¹
/-- The derivative with respect to the row, of the normed row against `dn`. -/
def back (j : Fin 2048) : ℝ := inv x * (dn j - x j * inv x * ((∑ l, dn l * (x l * inv x)) / 2048))

theorem ms_pos : 0 < ms x := by
  unfold ms eps
  have : 0 ≤ ∑ j, x j * x j := Finset.sum_nonneg fun j _ => mul_self_nonneg _
  positivity
theorem rsqrt_ms : Ideal.rsqrt ((ms x : ℝ) : EReal) = ((inv x : ℝ) : EReal) := by
  rw [Ideal.rsqrt_coe, if_neg (not_lt.2 (ms_pos x).le), if_neg (ms_pos x).ne', inv]
theorem inv_sq : inv x * inv x = 1 / ms x := by
  rw [inv, ← mul_inv, Real.mul_self_sqrt (ms_pos x).le, one_div]
/-- The derivative as differentiation writes it: through the factor, and through the mean of the squares. -/
theorem back_eq (j : Fin 2048) :
    dn j * inv x + x j * ((∑ l, x l * dn l) * (-(1 / 2) * (inv x / ms x)) / 2048)
      + (∑ l, x l * dn l) * (-(1 / 2) * (inv x / ms x)) / 2048 * x j = back x dn j := by
  have h : (∑ l, dn l * (x l * inv x)) = (∑ l, x l * dn l) * inv x := by
    rw [Finset.sum_mul]
    exact Finset.sum_congr rfl fun l _ => by ring
  rw [back, h, div_eq_mul_one_div (inv x) (ms x), ← inv_sq]
  ring
theorem sum_coe {n : ℕ} (a b : Fin n → ℝ) : (∑ j, ((a j : ℝ) : EReal) * ((b j : ℝ) : EReal)) = ((∑ j, a j * b j : ℝ) : EReal) := by
  rw [← coe_sum]
  exact Finset.sum_congr rfl fun j _ => (EReal.coe_mul _ _).symm
/-- A sum over rows grown by `n` rows. -/
theorem acc_coe (f h : ℕ → ℝ) (b n : ℕ) :
    ((∑ r ∈ Finset.range b, f r * h r : ℝ) : EReal) + ∑ i : Fin n, ((f (b + i.val) : ℝ) : EReal) * ((h (b + i.val) : ℝ) : EReal)
      = ((∑ r ∈ Finset.range (b + n), f r * h r : ℝ) : EReal) := by
  rw [Finset.sum_range_add, EReal.coe_add, Finset.sum_range (n := n), sum_coe (fun i : Fin n => f (b + i.val)) (fun i : Fin n => h (b + i.val))]
theorem ms_coe : Ideal.div (∑ j, ((x j : ℝ) : EReal) * ((x j : ℝ) : EReal)) (Ideal.ofBits .f32 0x45000000#32) + Ideal.ofBits .f32 0x358637BD#32
    = ((ms x : ℝ) : EReal) := by
  rw [sum_coe, n_lit, eps_lit, div_real (by norm_num), ← EReal.coe_add, ms]
end Cert.Rms
-- ==== Proof.Loss.Ref.lean ====
module
public import proofs.«01_k».proof.Proof.Rms
public import proofs.«01_k».proof.Proof.Gen.Reference5Ideal.Read
@[expose] public section
set_option maxRecDepth 16384
noncomputable section
open Idealize.ShloMosaic Idealize.ShloMosaic.TcCoe Idealize.SL.Sem
open Cert.Row
namespace Cert.Loss

/-! The loss over the reals: the last gated residual, the root-mean-square norm, the mean squared distance to the target. -/

/-- The arguments as real numbers, by row and column. -/
structure Model where
  (x1 o tg : ℕ → Fin 2048 → ℝ)
  (gate g : Fin 2048 → ℝ)
namespace Model
variable (M : Model)
/-- The gated residual. -/
def x (r : ℕ) (j : Fin 2048) : ℝ := M.x1 r j + M.gate j * M.o r j
/-- Its normed rows. -/
def nv (r : ℕ) (j : Fin 2048) : ℝ := M.x r j * Rms.inv (M.x r)
/-- The distance to the target. -/
def err (r : ℕ) (j : Fin 2048) : ℝ := M.nv r j * M.g j - M.tg r j
/-- The gradient at the norm's output. -/
def dy (r : ℕ) (j : Fin 2048) : ℝ := M.err r j * (1 / 2048)
/-- The gradient at the residual. -/
def dx (r : ℕ) (j : Fin 2048) : ℝ := Rms.back (M.x r) (fun j => M.dy r j * M.g j) j
/-- The gradient of the norm's weight, of the first `n` rows. -/
def dg (n : ℕ) (j : Fin 2048) : ℝ := ∑ r ∈ Finset.range n, M.dy r j * M.nv r j
/-- The gradient of the gate, of the first `n` rows. -/
def dgate (n : ℕ) (j : Fin 2048) : ℝ := ∑ r ∈ Finset.range n, M.dx r j * M.o r j
/-- The squared distances of the first `n` rows, by column. -/
def sq (n : ℕ) (j : Fin 2048) : ℝ := ∑ r ∈ Finset.range n, M.err r j * M.err r j
/-- The loss. -/
def loss : ℝ := (∑ j, M.sq 4096 j) * (1 / 4096)
end Model
end Cert.Loss

namespace Cert.Reference5Ideal.Loss
open Cert.Reference5Ideal Cert.Reference5Ideal.Read
open Cert.Loss

/-- The arguments are the model's. -/
structure Args (x0 : (⟨S4096x2048, .f32⟩ : BufTy).Contents (Elt Ideal)) (x1 : (⟨S4096x2048, .bf16⟩ : BufTy).Contents (Elt Ideal))
    (x2 : (⟨S1x12288, .f32⟩ : BufTy).Contents (Elt Ideal)) (x3 : (⟨S2048, .f32⟩ : BufTy).Contents (Elt Ideal))
    (x4 : (⟨S4096x2048, .f32⟩ : BufTy).Contents (Elt Ideal)) (M : Model) : Prop where
  x : ∀ (r : Fin 4096) (j : Fin 2048), x0 (ix2 r j) = (M.x1 r j : EReal)
  o : ∀ (r : Fin 4096) (j : Fin 2048), x1 (ix2 r j) = (M.o r j : EReal)
  gate : ∀ j : Fin 2048, x2 (ix2 0 ⟨10240 + j.val, by omega⟩) = (M.gate j : EReal)
  g : ∀ j : Fin 2048, x3 (ix1 j) = (M.g j : EReal)
  tg : ∀ (r : Fin 4096) (j : Fin 2048), x4 (ix2 r j) = (M.tg r j : EReal)

variable {x0 : (⟨S4096x2048, .f32⟩ : BufTy).Contents (Elt Ideal)} {x1 : (⟨S4096x2048, .bf16⟩ : BufTy).Contents (Elt Ideal)}
    {x2 : (⟨S1x12288, .f32⟩ : BufTy).Contents (Elt Ideal)} {x3 : (⟨S2048, .f32⟩ : BufTy).Contents (Elt Ideal)}
    {x4 : (⟨S4096x2048, .f32⟩ : BufTy).Contents (Elt Ideal)} {M : Model} (H : Args x0 x1 x2 x3 x4 M)
include H

theorem gate_apply (a : Fin 1) (j : Fin 2048) : val_main_v5 (F := Ideal) x2 (ix2 a j) = (M.gate j : EReal) := by
  obtain rfl := Subsingleton.elim a 0
  pointwise [val_main_v5]
  exact H.gate j
theorem x_apply (r : Fin 4096) (j : Fin 2048) : val_main_v9 (F := Ideal) x0 x1 x2 (ix2 r j) = (M.x r j : EReal) := by
  pointwise [val_main_v9, val_main_v8, val_main_v7, val_main_v6, gate_apply H, H.x, H.o]
  rw [Model.x, EReal.coe_add, EReal.coe_mul]
theorem ms_apply (r : Fin 4096) (a : Fin 1) : val_main_v16 (F := Ideal) x0 x1 x2 (ix2 r a) = (Rms.ms (M.x r) : EReal) := by
  pointwise [val_main_v16, val_main_v15, val_main_v14, val_main_v13, val_main_v12, val_main_v11, val_main_v10, val_main_cst, val_main_cst_0, val_main_cst_1, x_apply H]
  exact Rms.ms_coe _
theorem inv_apply (r : Fin 4096) (a : Fin 1) : val_main_v17 (F := Ideal) x0 x1 x2 (ix2 r a) = (Rms.inv (M.x r) : EReal) := by
  pointwise [val_main_v17, ms_apply H]
  exact Rms.rsqrt_ms _
theorem nv_apply (r : Fin 4096) (j : Fin 2048) : val_main_v22 (F := Ideal) x0 x1 x2 (ix2 r j) = (M.nv r j : EReal) := by
  pointwise [val_main_v22, val_main_v21, inv_apply H, x_apply H]
  rw [Model.nv, EReal.coe_mul]
theorem slope_apply (r : Fin 4096) (a : Fin 1) :
    val_main_v20 (F := Ideal) x0 x1 x2 (ix2 r a) = ((-(1 / 2) * (Rms.inv (M.x r) / Rms.ms (M.x r)) : ℝ) : EReal) := by
  pointwise [val_main_v20, val_main_v19, val_main_v18, val_main_cst_2, inv_apply H, ms_apply H]
  rw [EReal.coe_mul, ← Rms.mhalf_lit, ← div_real (Rms.ms_pos _).ne']
theorem err_apply (r : Fin 4096) (j : Fin 2048) : val_main_v26 (F := Ideal) x0 x1 x2 x3 x4 (ix2 r j) = (M.err r j : EReal) := by
  pointwise [val_main_v26, val_main_v25, val_main_v24, val_main_v23, nv_apply H, H.g, H.tg]
  rw [Model.err, EReal.coe_sub, EReal.coe_mul]
theorem dy_apply (r : Fin 4096) (j : Fin 2048) : val_main_v40 (F := Ideal) x0 x1 x2 x3 x4 (ix2 r j) = (M.dy r j : EReal) := by
  pointwise [val_main_v40, val_main_v39, val_main_v38, val_main_v37, val_main_v36, val_main_v35, val_main_v29, val_main_v28, val_main_cst_3, val_main_cst_8, val_main_cst_9, val_main_cst_10, err_apply H]
  rw [Rms.half_lit, Rms.n_lit, Rms.two_lit, div_real (by norm_num), ← EReal.coe_mul, ← EReal.coe_mul, Model.dy]
  congr 1
  ring
theorem dn_apply (r : Fin 4096) (j : Fin 2048) : val_main_v45 (F := Ideal) x0 x1 x2 x3 x4 (ix2 r j) = ((M.dy r j * M.g j : ℝ) : EReal) := by
  pointwise [val_main_v45, val_main_v44, val_main_v23, dy_apply H, H.g]
  rw [EReal.coe_mul]
theorem dot_apply (r : Fin 4096) (a : Fin 1) :
    val_main_v49 (F := Ideal) x0 x1 x2 x3 x4 (ix2 r a) = ((∑ l, M.x r l * (M.dy r l * M.g l) : ℝ) : EReal) := by
  pointwise [val_main_v49, val_main_v48, val_main_v47, val_main_cst_13, dn_apply H, x_apply H]
  exact Rms.sum_coe _ _
theorem through_apply (r : Fin 4096) :
    val_main_v55 (F := Ideal) x0 x1 x2 x3 x4 (ix1 r) = (((∑ l, M.x r l * (M.dy r l * M.g l)) * (-(1 / 2) * (Rms.inv (M.x r) / Rms.ms (M.x r))) / 2048 : ℝ) : EReal) := by
  pointwise [val_main_v55, val_main_v54, val_main_v53, val_main_v52, val_main_cst_14, val_main_cst_15, dot_apply H, slope_apply H]
  rw [Fin.sum_univ_one, Rms.n_lit, ← EReal.coe_mul, div_real (by norm_num)]
theorem dx_apply (r : Fin 4096) (j : Fin 2048) : val_main_v60 (F := Ideal) x0 x1 x2 x3 x4 (ix2 r j) = (M.dx r j : EReal) := by
  pointwise [val_main_v60, val_main_v59, val_main_v58, val_main_v57, val_main_v56, val_main_v51, val_main_v50, through_apply H, dn_apply H, inv_apply H, x_apply H]
  rw [Model.dx, ← Rms.back_eq]
  simp only [EReal.coe_add, EReal.coe_mul]
theorem do_apply (r : Fin 4096) (j : Fin 2048) : val_main_v70 (F := Ideal) x0 x1 x2 x3 x4 (ix2 r j) = ((M.gate j * M.dx r j : ℝ) : EReal) := by
  pointwise [val_main_v70, val_main_v62, val_main_v61, gate_apply H, dx_apply H]
  rw [EReal.coe_mul]
theorem dg_apply (j : Fin 2048) : val_main_v46 (F := Ideal) x0 x1 x2 x3 x4 (ix1 j) = (M.dg 4096 j : EReal) := by
  pointwise [val_main_v46, val_main_v43, val_main_v42, val_main_v41, val_main_cst_11, val_main_cst_12, nv_apply H, dy_apply H]
  rw [Fin.sum_univ_one, Rms.sum_coe (fun r : Fin 4096 => M.nv r.val j) (fun r : Fin 4096 => M.dy r.val j), Model.dg, Finset.sum_range]
  congr 1
  exact Finset.sum_congr rfl fun r _ => mul_comm _ _
theorem dgate_apply (a : Fin 1) (j : Fin 2048) : val_main_v65 (F := Ideal) x0 x1 x2 x3 x4 (ix2 a j) = (M.dgate 4096 j : EReal) := by
  pointwise [val_main_v65, val_main_v64, val_main_v63, val_main_v6, val_main_cst_16, dx_apply H, H.o]
  rw [Rms.sum_coe (fun r : Fin 4096 => M.dx r.val j) (fun r : Fin 4096 => M.o r.val j), Model.dgate, Finset.sum_range]
theorem st_apply (k : Fin 8) (j : Fin 2048) : val_main_v68 (F := Ideal) x0 x1 x2 x3 x4 (ix2 k j)
    = ((if k.val = 0 then M.dg 4096 j else if k.val = 1 then M.dgate 4096 j else 0 : ℝ) : EReal) := by
  fin_cases k
  all_goals pointwise [val_main_v68, val_main_v66, val_main_v67, val_main_cst_17, dg_apply H, dgate_apply H]
  all_goals rfl
theorem loss_apply (k : Fin 8) (j : Fin 128) : val_main_v69 (F := Ideal) x0 x1 x2 x3 x4 (ix2 k j) = (M.loss : EReal) := by
  pointwise [val_main_v69, val_main_v34, val_main_v33, val_main_v32, val_main_v31, val_main_v30, val_main_v27, val_main_cst_4, val_main_cst_5, val_main_cst_6, val_main_cst_7, err_apply H]
  have e : ∀ r : Fin 4096, Ideal.div (∑ l, ((M.err r.val l : ℝ) : EReal) * ((M.err r.val l : ℝ) : EReal)) (Ideal.ofBits .f32 0x45000000#32)
      = (((∑ l, M.err r.val l * M.err r.val l) / 2048 : ℝ) : EReal) := fun r => by
    rw [Rms.sum_coe, Rms.n_lit, div_real (by norm_num)]
  rw [Finset.sum_congr rfl fun r _ => e r, coe_sum, Rms.half_lit, ← EReal.coe_mul, Model.loss]
  congr 1
  unfold Model.sq
  rw [Finset.sum_comm, Finset.sum_range, ← Finset.sum_div]
  ring
end Cert.Reference5Ideal.Loss
-- ==== Proof.Loss.Tile.lean ====
module
public import proofs.«01_k».proof.Proof.Loss.Ref
public import proofs.«01_k».proof.Proof.Gen.Kernel5Ideal.Value
@[expose] public section
set_option maxRecDepth 16384
noncomputable section
open Idealize.ShloMosaic Idealize.ShloMosaic.TcCoe Idealize.SL.Sem
open Cert.Row Cert.Loss
namespace Cert.Kernel5Ideal.Loss
open Cert.Kernel5Ideal Cert.Kernel5Ideal.Gen

/-! What one tile of 256 rows, from row `b` on, computes of blocks that hold a model's numbers. -/

variable (M : Model) (b : ℕ)
variable {x o' tg : FVec Ideal S256x2048 .f32} {o : FVec Ideal S256x2048 .bf16} {g : FVec Ideal S1x2048 .f32}
variable (hx : ∀ (i : Fin 256) (j : Fin 2048), x (ix2 i j) = (M.x (b + i.val) j : EReal))
variable (ht : ∀ (i : Fin 256) (j : Fin 2048), tg (ix2 i j) = (M.tg (b + i.val) j : EReal))
variable (ho : ∀ (i : Fin 256) (j : Fin 2048), o (ix2 i j) = (M.o (b + i.val) j : EReal))
variable (hg : ∀ j : Fin 2048, g (ix2 0 j) = (M.g j : EReal))

include hx in
theorem inv_apply (i : Fin 256) : k0_pay9 (F := Ideal) x (ix2 i 0) = (Rms.inv (M.x (b + i.val)) : EReal) := by
  rw [← Rms.rsqrt_ms, ← Rms.ms_coe]
  pointwise [k0_pay9, k0_pay7, hx]
include hx in
theorem nv_apply (i : Fin 256) (j : Fin 2048) : k0_pay10 (F := Ideal) x (ix2 i j) = (M.nv (b + i.val) j : EReal) := by
  pointwise [k0_pay10, k0_pay7, inv_apply M b hx, hx]
  rw [Model.nv, EReal.coe_mul]
include hx ht hg in
theorem err_apply (i : Fin 256) (j : Fin 2048) : k0_pay11 (F := Ideal) x g tg (ix2 i j) = (M.err (b + i.val) j : EReal) := by
  pointwise [k0_pay11, k0_pay8, nv_apply M b hx, hg, ht]
  rw [Model.err, EReal.coe_sub, EReal.coe_mul]
include hx ht hg in
theorem dy_apply (i : Fin 256) (j : Fin 2048) : k0_pay13 (F := Ideal) x g tg (ix2 i j) = (M.dy (b + i.val) j : EReal) := by
  pointwise [k0_pay13, err_apply M b hx ht hg]
  rw [Model.dy, EReal.coe_mul, Rms.ninv_lit]
include hx ht hg in
theorem dx_apply (i : Fin 256) (j : Fin 2048) :
    k0_pay1 (F := Ideal) (k0_pay8 g) (k0_pay9 x) (k0_pay10 x) (k0_pay13 x g tg) (ix2 i j) = (M.dx (b + i.val) j : EReal) := by
  have h8 : ∀ j : Fin 2048, k0_pay8 (F := Ideal) g (ix2 0 j) = (M.g j : EReal) := fun j => by pointwise [k0_pay8, hg]
  pointwise [k0_pay1, h8, inv_apply M b hx, nv_apply M b hx, dy_apply M b hx ht hg]
  rw [Model.dx, Rms.back, EReal.coe_mul, EReal.coe_sub, EReal.coe_mul, EReal.coe_mul, ← div_real (by norm_num), ← Rms.n_lit, ← Rms.sum_coe]
  simp only [EReal.coe_mul]
  rfl
include hx ht hg in
theorem do_apply {w : Vec Ideal S1x2048 .f32} (hw : ∀ j : Fin 2048, w (ix2 0 j) = (M.gate j : EReal)) (i : Fin 256) (j : Fin 2048) :
    k0_pay3 (F := Ideal) (k0_pay8 g) (k0_pay9 x) (k0_pay10 x) (k0_pay13 x g tg) w (ix2 i j) = ((M.gate j * M.dx (b + i.val) j : ℝ) : EReal) := by
  pointwise [k0_pay3, dx_apply M b hx ht hg, hw]
  rw [mul_comm, EReal.coe_mul]
include hx ht hg in
theorem sq_apply {w : Vec Ideal S1x2048 .f32} (hw : ∀ j : Fin 2048, w (ix2 0 j) = (M.sq b j : EReal)) (j : Fin 2048) :
    k0_pay12 (F := Ideal) x g tg w (ix2 0 j) = (M.sq (b + 256) j : EReal) := by
  pointwise [k0_pay12, err_apply M b hx ht hg, hw]
  exact Rms.acc_coe (fun r => M.err r j) (fun r => M.err r j) b 256
include hx ht hg in
theorem dg_apply {w : Vec Ideal S1x2048 .f32} (hw : ∀ j : Fin 2048, w (ix2 0 j) = (M.dg b j : EReal)) (j : Fin 2048) :
    k0_pay14 (F := Ideal) x g tg w (ix2 0 j) = (M.dg (b + 256) j : EReal) := by
  pointwise [k0_pay14, dy_apply M b hx ht hg, nv_apply M b hx, hw]
  exact Rms.acc_coe (fun r => M.dy r j) (fun r => M.nv r j) b 256
include hx ht hg ho in
theorem dgate_apply {w : Vec Ideal S1x2048 .f32} (hw : ∀ j : Fin 2048, w (ix2 0 j) = (M.dgate b j : EReal)) (j : Fin 2048) :
    k0_pay2 (F := Ideal) (k0_pay8 g) (k0_pay9 x) (k0_pay10 x) (k0_pay13 x g tg) w o (ix2 0 j) = (M.dgate (b + 256) j : EReal) := by
  pointwise [k0_pay2, dx_apply M b hx ht hg, ho, hw]
  exact Rms.acc_coe (fun r => M.dx r j) (fun r => M.o r j) b 256
theorem loss_apply {w : Vec Ideal S1x2048 .f32} (hw : ∀ j : Fin 2048, w (ix2 0 j) = (M.sq 4096 j : EReal)) (k : Fin 8) (j : Fin 128) :
    k0_pay4 (F := Ideal) w (ix2 k j) = (M.loss : EReal) := by
  pointwise [k0_pay4, hw]
  rw [coe_sum, Rms.rows_lit, ← EReal.coe_mul, Model.loss]
end Cert.Kernel5Ideal.Loss
-- ==== Proof.Loss.Host.lean ====
module
public import proofs.«01_k».proof.Proof.Loss.Tile
public import Idealize.ShloMosaic.Lib.Pipeline.ReadBack
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.Row Cert.Loss
namespace Cert.Kernel5Ideal.Loss
open Cert.Kernel5Ideal Cert.Kernel5Ideal.Gen
variable (m : (ℓ : Loc nD τ sig) → Buf (Elt Ideal) ℓ) (c : Dev nD)

/-! What the input blocks of a grid point hold, read off the arguments. -/

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_6.index t = ![t.val, 0] ∧ win0_7.index t = ![t.val, 0] :=
  (by decide +kernel : ∀ t : Fin grid0.N, _)
theorem row_lt (t : Fin cfg0.N) (i : Fin 256) : t.val * 256 + i.val < 4096 := by
  have : t.val < 16 := t.isLt
  omega
/-- The six rows of the modulation. -/
def rows (a : FVec Ideal S1x12288 .f32) : FVec Ideal S6x2048 .f32 := shapeCast S6x2048 a shapeCasts_S1x12288_S6x2048
/-- The rows, filled up to eight with zeros. -/
def block (a : FVec Ideal S1x12288 .f32) : FVec Ideal S8x2048 .f32 :=
  concatenate S8x2048 0 [⟨S6x2048, rows a⟩, ⟨S2x2048, broadcastInDim S2x2048 ![] bcast_S_S2x2048 (constant S_ .f32 0x00000000#32)⟩] concatenates_S6x2048_S2x2048_S8x2048_d0
/-- The gated residual. -/
def resid (x : FVec Ideal S4096x2048 .f32) (o : FVec Ideal S4096x2048 .bf16) (a : FVec Ideal S1x12288 .f32) : FVec Ideal S4096x2048 .f32 :=
  addf x (mulf (broadcastInDim S4096x2048 ![0, 1] bcast_S1x2048_S4096x2048_0_1 (extractStridedSlice S1x2048 ![5, 0] (rows a) slices_S6x2048_S1x2048_5_0)) (extf .f32 o bitsLt_bf16_f32))
theorem rows_apply (a : FVec Ideal S1x12288 .f32) (j : Fin 2048) : rows a (ix2 5 j) = a (ix2 0 ⟨10240 + j.val, by omega⟩) := by
  pointwise [rows]
theorem block_apply (a : FVec Ideal S1x12288 .f32) (j : Fin 2048) : block a (ix2 5 j) = a (ix2 0 ⟨10240 + j.val, by omega⟩) := by
  pointwise [block, rows_apply]
theorem resid_apply (x : FVec Ideal S4096x2048 .f32) (o : FVec Ideal S4096x2048 .bf16) (a : FVec Ideal S1x12288 .f32) (r : Fin 4096) (j : Fin 2048) :
    resid x o a (ix2 r j) = x (ix2 r j) + a (ix2 0 ⟨10240 + j.val, by omega⟩) * o (ix2 r j) := by
  pointwise [resid, rows_apply]
theorem block_entry : V m c main_v2 = block (m ((c : Thread nD τ).loc main_arg2)) := by
  unfold V
  simp only [hostOps0]
  run_tidy
  rfl
theorem x_entry : V m c main_v7 = resid (m ((c : Thread nD τ).loc main_arg0)) (m ((c : Thread nD τ).loc main_arg1)) (m ((c : Thread nD τ).loc main_arg2)) := by
  unfold V
  simp only [hostOps0]
  run_tidy
  rfl
theorem g_entry : V m c main_v8 = (shapeCast S1x2048 (m ((c : Thread nD τ).loc main_arg3)) shapeCasts_S2048_S1x2048 : FVec Ideal S1x2048 .f32) := by
  unfold V
  simp only [hostOps0]
  run_tidy
  rfl
theorem o_entry : V m c main_arg1 = m ((c : Thread nD τ).loc main_arg1) := by
  unfold V
  simp only [hostOps0]
  run_tidy
theorem tg_entry : V m c main_arg4 = m ((c : Thread nD τ).loc main_arg4) := by
  unfold V
  simp only [hostOps0]
  run_tidy

variable (M : Model) (H : Cert.Reference5Ideal.Loss.Args (m ((c : Thread nD τ).loc main_arg0)) (m ((c : Thread nD τ).loc main_arg1)) (m ((c : Thread nD τ).loc main_arg2))
  (m ((c : Thread nD τ).loc main_arg3)) (m ((c : Thread nD τ).loc main_arg4)) M) (t : Fin cfg0.N)
omit M H in
theorem x_block (i : Fin 256) (j : Fin 2048) : iblk m c 0 t (ix2 i j) = V m c main_v7 (ix2 ⟨t.val * 256 + i.val, row_lt t i⟩ j) := by
  blk_simp [iblk]
  refine congrArg (V m c main_v7) ?_
  blk_ext
  all_goals simp [idx t]
omit M H in
theorem o_block (i : Fin 256) (j : Fin 2048) : iblk m c 1 t (ix2 i j) = V m c main_arg1 (ix2 ⟨t.val * 256 + i.val, row_lt t i⟩ j) := by
  blk_simp [iblk]
  refine congrArg (V m c main_arg1) ?_
  blk_ext
  all_goals simp [idx t]
omit M H in
theorem g_block (j : Fin 2048) : iblk m c 2 t (ix2 0 j) = V m c main_v8 (ix2 0 j) := by
  blk_simp [iblk]
  refine congrArg (V m c main_v8) ?_
  blk_ext
  all_goals simp [idx t]
omit M H in
theorem tg_block (i : Fin 256) (j : Fin 2048) : iblk m c 3 t (ix2 i j) = V m c main_arg4 (ix2 ⟨t.val * 256 + i.val, row_lt t i⟩ j) := by
  blk_simp [iblk]
  refine congrArg (V m c main_arg4) ?_
  blk_ext
  all_goals simp [idx t]
omit M H in
theorem mod_block (k : Fin 8) (j : Fin 2048) : iblk m c 4 t (ix2 k j) = V m c main_v2 (ix2 k j) := by
  blk_simp [iblk]
  refine congrArg (V m c main_v2) ?_
  blk_ext
  all_goals simp [idx t]
include H
theorem x_real (i : Fin 256) (j : Fin 2048) : iblk m c 0 t (ix2 i j) = (M.x (t.val * 256 + i.val) j : EReal) := by
  rw [x_block, x_entry, resid_apply, H.x, H.gate, H.o, Model.x, EReal.coe_add, EReal.coe_mul]
theorem o_real (i : Fin 256) (j : Fin 2048) : iblk m c 1 t (ix2 i j) = (M.o (t.val * 256 + i.val) j : EReal) := by
  rw [o_block, o_entry, H.o]
theorem g_real (j : Fin 2048) : iblk m c 2 t (ix2 0 j) = (M.g j : EReal) := by
  rw [g_block, g_entry, ← H.g]
  pointwise
theorem tg_real (i : Fin 256) (j : Fin 2048) : iblk m c 3 t (ix2 i j) = (M.tg (t.val * 256 + i.val) j : EReal) := by
  rw [tg_block, tg_entry, H.tg]
theorem gate_real (j : Fin 2048) :
    View.ld (iblk m c 4 t) (Rect.unit ![5, 0] ![1, 2048] inb_S8x2048_S1x2048_5_0) (ix2 (0 : Fin 1) j) = (M.gate j : EReal) := by
  have e : (Rect.unit (s := S8x2048) ![5, 0] ![1, 2048] inb_S8x2048_S1x2048_5_0).emb (ix2 (0 : Fin 1) j) = ix2 (5 : Fin 8) j := by
    funext x
    apply Fin.ext
    fin_cases x
    · rfl
    · show 0 + 1 * j.val = j.val
      omega
  refine (congrArg (iblk m c 4 t) e).trans ?_
  rw [mod_block, block_entry, block_apply, H.gate]
end Cert.Kernel5Ideal.Loss
-- ==== Proof.Loss.Acc.lean ====
module
public import proofs.«01_k».proof.Proof.Loss.Host
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
open Cert.Row Cert.Loss
namespace Cert.Kernel5Ideal.Loss
open Cert.Kernel5Ideal Cert.Kernel5Ideal.Gen

/-! What the grid points leave in the outputs and in the running sum of squares, by induction over the points. -/

abbrev row0 : Rect S8x2048 := Rect.unit ![0, 0] ![1, 2048] inb_S8x2048_S1x2048_0_0
abbrev row1 : Rect S8x2048 := Rect.unit ![1, 0] ![1, 2048] inb_S8x2048_S1x2048_1_0
theorem row0_emb (j : Fin 2048) : row0.emb (ix2 (0 : Fin 1) j) = ix2 (0 : Fin 8) j := by
  funext x
  apply Fin.ext
  fin_cases x
  · rfl
  · show 0 + 1 * j.val = j.val
    omega
theorem row1_emb (j : Fin 2048) : row1.emb (ix2 (0 : Fin 1) j) = ix2 (1 : Fin 8) j := by
  funext x
  apply Fin.ext
  fin_cases x
  · rfl
  · show 0 + 1 * j.val = j.val
    omega
/-- The first row and the second written over a block. -/
theorem rows_over (Y : S8x2048.Idx → Elt Ideal .f32) (w0 w1 : S1x2048.Idx → Elt Ideal .f32) (k : Fin 8) (j : Fin 2048) :
    row1.overlay (row0.overlay Y w0) w1 (ix2 k j)
      = if k.val = 0 then w0 (ix2 0 j) else if k.val = 1 then w1 (ix2 0 j) else Y (ix2 k j) := by
  by_cases h0 : k.val = 0
  · obtain rfl : k = 0 := Fin.ext h0
    rw [if_pos h0, Rect.overlay_of_not_mem, ← row0_emb, Rect.overlay_emb]
    intro hm
    have h2 : 1 ≤ 0 ∧ 0 < 1 + 1 := Rect.mem_set_unit.1 hm 0
    omega
  · rw [if_neg h0]
    by_cases h1 : k.val = 1
    · obtain rfl : k = 1 := Fin.ext h1
      rw [if_pos h1, ← row1_emb, Rect.overlay_emb]
    · rw [if_neg h1, Rect.overlay_of_not_mem, Rect.overlay_of_not_mem]
      · intro hm
        have h2 : 0 ≤ k.val ∧ k.val < 0 + 1 := Rect.mem_set_unit.1 hm 0
        omega
      · intro hm
        have h2 : 1 ≤ k.val ∧ k.val < 1 + 1 := Rect.mem_set_unit.1 hm 0
        omega
theorem read_cons {sig : RefSig} {κ : Kind} {sp : Space} {S : Shape} {e : EltTy} (mem : Memref sig κ sp S e) (hm : mem.IsWhole)
    (Y : S.Idx → Elt Ideal e) (r : Rect S) (w : r.shape.Idx → Elt Ideal e) (L : List (View.Piece (Elt Ideal) S e)) :
    View.read (Elt Ideal) mem.view (mem.view.writes (Elt Ideal) (hm.unread Y) (⟨r, w⟩ :: L))
      = r.overlay (View.read (Elt Ideal) mem.view (mem.view.writes (Elt Ideal) (hm.unread Y) L)) w := by
  funext y
  by_cases h : y ∈ r.set
  · obtain ⟨x, rfl⟩ : ∃ x, r.emb x = y := by
      rw [← Rect.map_emb_univ] at h
      simpa using h
    rw [View.read_writes_cons_emb, Rect.overlay_emb]
  · rw [View.read_writes_cons_miss _ _ _ _ _ h, Rect.overlay_of_not_mem _ _ _ h]

theorem canon_over2 {S : Shape} {e : EltTy} (r1 r0 : Rect S) (w1 : r1.shape.Idx → Elt Ideal e) (w0 : r0.shape.Idx → Elt Ideal e) {off : Fin S.rank → Nat}
    (inb : ∀ a, off a + S.size a ≤ S.size a) (Y : S.Idx → Elt Ideal e) (h : ∀ a, off a = 0) :
    View.canon [(⟨r1, w1⟩ : View.Piece (Elt Ideal) S e), ⟨r0, w0⟩, ⟨Rect.unit off (no_index S.size) inb, Y⟩] = r1.overlay (r0.overlay Y w0) w1 := by
  rw [View.canon_cons, View.canon_cons, View.canon_cons_unit_lit' inb Y [] h]
theorem scratch_read (hm : scM0_0.IsWhole) (q : S1x2048.Idx → Elt Ideal .f32) :
    View.read (Elt Ideal) (View.whole cc0_scratch0) (hm.unread q) = q := hm.read_unread q

variable (m : (ℓ : Loc nD τ sig) → Buf (Elt Ideal) ℓ) (c : Dev nD)

abbrev dxTile (t : Fin cfg0.N) : FVec Ideal S256x2048 .f32 :=
  k0_pay1 (F := Ideal) (k0_pay8 (iblk m c 2 t)) (k0_pay9 (iblk m c 0 t)) (k0_pay10 (iblk m c 0 t)) (k0_pay13 (iblk m c 0 t) (iblk m c 2 t) (iblk m c 3 t))
abbrev doTile (t : Fin cfg0.N) : FVec Ideal S256x2048 .bf16 :=
  k0_pay3 (F := Ideal) (k0_pay8 (iblk m c 2 t)) (k0_pay9 (iblk m c 0 t)) (k0_pay10 (iblk m c 0 t)) (k0_pay13 (iblk m c 0 t) (iblk m c 2 t) (iblk m c 3 t))
    (View.ld (iblk m c 4 t) (Rect.unit ![5, 0] ![1, 2048] inb_S8x2048_S1x2048_5_0))
/-- The two rows of sums after a point, over a block `Y`. -/
abbrev sums (t : Fin cfg0.N) (Y : S8x2048.Idx → Elt Ideal .f32) : S8x2048.Idx → Elt Ideal .f32 :=
  row1.overlay (row0.overlay Y (k0_pay14 (F := Ideal) (iblk m c 0 t) (iblk m c 2 t) (iblk m c 3 t) (View.ld Y row0)))
    (k0_pay2 (F := Ideal) (k0_pay8 (iblk m c 2 t)) (k0_pay9 (iblk m c 0 t)) (k0_pay10 (iblk m c 0 t)) (k0_pay13 (iblk m c 0 t) (iblk m c 2 t) (iblk m c 3 t))
      (View.ld Y row1) (iblk m c 1 t))
/-- What a point leaves but for the loss, over the sums `Y` and the squares `q` it finds. -/
abbrev step (t : Fin cfg0.N) (Y : S8x2048.Idx → Elt Ideal .f32) (q : S1x2048.Idx → Elt Ideal .f32) :
    (S256x2048.Idx → Elt Ideal .f32) × (S256x2048.Idx → Elt Ideal .bf16) × (S8x2048.Idx → Elt Ideal .f32) × (S1x2048.Idx → Elt Ideal .f32) :=
  (dxTile m c t, doTile m c t, sums m c t Y, k0_pay12 (F := Ideal) (iblk m c 0 t) (iblk m c 2 t) (iblk m c 3 t) q)

theorem outs_first (t : Fin cfg0.N) (h0 : t.val % 16 = 0) : (outsAt0 m c t.val t.isLt).2 = step m c t (k0_pay5 (F := Ideal)) (k0_pay6 (F := Ideal)) := by
  rw [outsAt0_A m c t h0 (by omega)]
  frame_open
  simp (disch := decide) only [↓View.readCov_skip, ↓View.readCov_fill]
  frame_out
  repeat rw [Memref.IsWhole.read_unread]
  rw [canon_over2 _ _ _ _ _ _ (by decide)]
  rfl
theorem outs_next (t : Fin cfg0.N) (h0 : ¬t.val % 16 = 0) : (outsAt0 m c t.val t.isLt).2
    = step m c t (outsAt0 m c (t.val - 1) (by omega)).2.2.2.1 (outsAt0 m c (t.val - 1) (by omega)).2.2.2.2 := by
  by_cases h1 : t.val % 16 = 15
  · rw [outsAt0_C m c t h0 h1]
    frame_out
    repeat rw [Memref.IsWhole.read_unread]
    repeat rw [read_cons]
    rw [View.writes_nil, Memref.IsWhole.read_unread, scratch_read]
    rfl
  · rw [outsAt0_B m c t h0 h1]
    frame_out
    repeat rw [Memref.IsWhole.read_unread]
    repeat rw [read_cons]
    rw [View.writes_nil, Memref.IsWhole.read_unread, scratch_read]
    rfl
theorem loss_last (t : Fin cfg0.N) (h1 : t.val % 16 = 15) : (outsAt0 m c t.val t.isLt).1 = k0_pay4 (F := Ideal) (outsAt0 m c t.val t.isLt).2.2.2.2 := by
  rw [outsAt0_C m c t (by omega) h1]
  frame_out

/-- The sums of the first `n` rows. -/
structure Holds (M : Model) (n : ℕ) (Y : S8x2048.Idx → Elt Ideal .f32) (q : S1x2048.Idx → Elt Ideal .f32) : Prop where
  st : ∀ (k : Fin 8) (j : Fin 2048), Y (ix2 k j) = ((if k.val = 0 then M.dg n j else if k.val = 1 then M.dgate n j else 0 : ℝ) : EReal)
  sq : ∀ j : Fin 2048, q (ix2 0 j) = (M.sq n j : EReal)
theorem holds_zero (M : Model) : Holds M 0 (k0_pay5 (F := Ideal)) (k0_pay6 (F := Ideal)) := by
  constructor
  · intro k j
    pointwise [k0_pay5]
    simp [Model.dg, Model.dgate]
  · intro j
    pointwise [k0_pay6]
    simp [Model.sq]

variable (M : Model) (H : Cert.Reference5Ideal.Loss.Args (m ((c : Thread nD τ).loc main_arg0)) (m ((c : Thread nD τ).loc main_arg1)) (m ((c : Thread nD τ).loc main_arg2))
  (m ((c : Thread nD τ).loc main_arg3)) (m ((c : Thread nD τ).loc main_arg4)) M)
include H
theorem holds_step (t : Fin cfg0.N) (Y : S8x2048.Idx → Elt Ideal .f32) (q : S1x2048.Idx → Elt Ideal .f32) (h : Holds M (t.val * 256) Y q) :
    Holds M (t.val * 256 + 256) (step m c t Y q).2.2.1 (step m c t Y q).2.2.2 := by
  have hx := x_real m c M H t
  have ht := tg_real m c M H t
  have hg := g_real m c M H t
  have ho := o_real m c M H t
  constructor
  · intro k j
    refine (rows_over Y _ _ k j).trans ?_
    split_ifs with h0 h1
    · refine dg_apply M _ hx ht hg (fun j => ?_) j
      refine (congrArg Y (row0_emb j)).trans ((h.st 0 j).trans ?_)
      rfl
    · refine dgate_apply M _ hx ht ho hg (fun j => ?_) j
      refine (congrArg Y (row1_emb j)).trans ((h.st 1 j).trans ?_)
      rfl
    · rw [h.st, if_neg h0, if_neg h1]
  · exact sq_apply M _ hx ht hg h.sq
theorem holds_outs : ∀ (T : ℕ) (h : T < cfg0.N), Holds M (T * 256 + 256) (outsAt0 m c T h).2.2.2.1 (outsAt0 m c T h).2.2.2.2
  | 0, h => by
      rw [show (outsAt0 m c 0 h).2 = _ from outs_first m c ⟨0, h⟩ rfl]
      exact holds_step m c M H ⟨0, h⟩ _ _ (holds_zero M)
  | T + 1, h => by
      rw [show (outsAt0 m c (T + 1) h).2 = _ from outs_next m c ⟨T + 1, h⟩ (by have : T + 1 < 16 := h; show ¬(T + 1) % 16 = 0; omega)]
      refine holds_step m c M H ⟨T + 1, h⟩ _ _ ?_
      have e := holds_outs T (by omega)
      rw [show (⟨T + 1, h⟩ : Fin cfg0.N).val * 256 = T * 256 + 256 by show (T + 1) * 256 = _; omega]
      exact e
theorem dx_outs (t : Fin cfg0.N) (i : Fin 256) (j : Fin 2048) : (outsAt0 m c t.val t.isLt).2.1 (ix2 i j) = (M.dx (t.val * 256 + i.val) j : EReal) := by
  have e : (outsAt0 m c t.val t.isLt).2.1 = dxTile m c t := by
    by_cases h : t.val % 16 = 0
    · rw [outs_first m c t h]
    · rw [outs_next m c t h]
  rw [e]
  exact dx_apply M _ (x_real m c M H t) (tg_real m c M H t) (g_real m c M H t) i j
theorem do_outs (t : Fin cfg0.N) (i : Fin 256) (j : Fin 2048) :
    (outsAt0 m c t.val t.isLt).2.2.1 (ix2 i j) = ((M.gate j * M.dx (t.val * 256 + i.val) j : ℝ) : EReal) := by
  have e : (outsAt0 m c t.val t.isLt).2.2.1 = doTile m c t := by
    by_cases h : t.val % 16 = 0
    · rw [outs_first m c t h]
    · rw [outs_next m c t h]
  rw [e]
  exact do_apply M _ (x_real m c M H t) (tg_real m c M H t) (g_real m c M H t) (gate_real m c M H t) i j
theorem loss_outs (t : Fin cfg0.N) (h : t.val + 1 = 16) (k : Fin 8) (j : Fin 128) : (outsAt0 m c t.val t.isLt).1 (ix2 k j) = (M.loss : EReal) := by
  rw [loss_last m c t (by omega)]
  refine loss_apply M (fun j => ?_) k j
  have e := (holds_outs m c M H t.val t.isLt).sq j
  rwa [show t.val * 256 + 256 = 4096 by omega] at e
theorem st_outs (t : Fin cfg0.N) (h : t.val + 1 = 16) (k : Fin 8) (j : Fin 2048) : (outsAt0 m c t.val t.isLt).2.2.2.1 (ix2 k j)
    = ((if k.val = 0 then M.dg 4096 j else if k.val = 1 then M.dgate 4096 j else 0 : ℝ) : EReal) := by
  have e := (holds_outs m c M H t.val t.isLt).st k j
  rwa [show t.val * 256 + 256 = 4096 by omega] at e
end Cert.Kernel5Ideal.Loss
-- ==== Proof.Loss.Final.lean ====
module
public import proofs.«01_k».proof.Proof.Loss.Acc
@[expose] public section
set_option maxRecDepth 16384
noncomputable section
open Idealize.ShloMosaic Idealize.ShloMosaic.TcCoe Idealize.SL.Sem
open Idealize.ShloMosaic.Pipeline (Dat)
open Cert.Row Cert.Loss
namespace Cert.Kernel5Ideal.Loss
open Cert.Kernel5Ideal Cert.Kernel5Ideal.Gen
variable (m : (ℓ : Loc nD τ sig) → Buf (Elt Ideal) ℓ) (c : Dev nD)

/-! The results after the last grid point, in the reference's words. -/

theorem array5 (t : Fin cfg0.N) (w : (cfg0.win 5).WholeAt t) (G : (⟨S8x128, .f32⟩ : BufTy).Contents (Elt Ideal))
    (h : ∀ j : S8x128.Idx, (outsAt0 m c t.val t.isLt).1 j = G j) : (dats m 0 c).arrAt 5 cfg0.N = G := by
  refine (dats m 0 c).arrAt_eq_of_after_last 5 t w _ fun j => ?_
  rw [after0_5]
  exact h j
theorem array8 (t : Fin cfg0.N) (w : (cfg0.win 8).WholeAt t) (G : (⟨S8x2048, .f32⟩ : BufTy).Contents (Elt Ideal))
    (h : ∀ j : S8x2048.Idx, (outsAt0 m c t.val t.isLt).2.2.2.1 j = G j) : (dats m 0 c).arrAt 8 cfg0.N = G := by
  refine (dats m 0 c).arrAt_eq_of_after_last 8 t w _ fun j => ?_
  rw [after0_8]
  exact h j
theorem array6 (G : (⟨S4096x2048, .f32⟩ : BufTy).Contents (Elt Ideal))
    (h : ∀ (t : Fin cfg0.N) (i : Fin 256) (j : Fin 2048), (outsAt0 m c t.val t.isLt).2.1 (ix2 i j) = G (ix2 ⟨t.val * 256 + i.val, row_lt t i⟩ j)) :
    (dats m 0 c).arrAt 6 cfg0.N = G := by
  refine (dats m 0 c).arrAt_eq_of_covers 6 _ (by decide +kernel) fun t _ y => ?_
  rw [after0_6]
  obtain ⟨i, j, rfl⟩ : ∃ (i : Fin 256) (j : Fin 2048), y = ix2 i j := ⟨y 0, y 1, eq_ix2 y⟩
  refine (h t i j).trans (congrArg G ?_)
  blk_simp
  blk_ext
  all_goals simp [idx t]
theorem array7 (G : (⟨S4096x2048, .bf16⟩ : BufTy).Contents (Elt Ideal))
    (h : ∀ (t : Fin cfg0.N) (i : Fin 256) (j : Fin 2048), (outsAt0 m c t.val t.isLt).2.2.1 (ix2 i j) = G (ix2 ⟨t.val * 256 + i.val, row_lt t i⟩ j)) :
    (dats m 0 c).arrAt 7 cfg0.N = G := by
  refine (dats m 0 c).arrAt_eq_of_covers 7 _ (by decide +kernel) fun t _ y => ?_
  rw [after0_7]
  obtain ⟨i, j, rfl⟩ : ∃ (i : Fin 256) (j : Fin 2048), y = ix2 i j := ⟨y 0, y 1, eq_ix2 y⟩
  refine (h t i j).trans (congrArg G ?_)
  blk_simp
  blk_ext
  all_goals simp [idx t]

variable (M : Model) (H : Cert.Reference5Ideal.Loss.Args (m ((c : Thread nD τ).loc main_arg0)) (m ((c : Thread nD τ).loc main_arg1)) (m ((c : Thread nD τ).loc main_arg2))
  (m ((c : Thread nD τ).loc main_arg3)) (m ((c : Thread nD τ).loc main_arg4)) M)
include H
theorem final5 : (dats m 0 c).arrAt 5 cfg0.N = Cert.Reference5Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine array5 m c ⟨15, by decide +kernel⟩ (by decide +kernel) _ fun j => ?_
  rw [eq_ix2 j]
  exact (loss_outs m c M H _ rfl (j 0) (j 1)).trans (Cert.Reference5Ideal.Loss.loss_apply H (j 0) (j 1)).symm
theorem final6 : (dats m 0 c).arrAt 6 cfg0.N = Cert.Reference5Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  array6 m c _ fun t i j => (dx_outs m c M H t i j).trans (Cert.Reference5Ideal.Loss.dx_apply H ⟨t.val * 256 + i.val, row_lt t i⟩ j).symm
theorem final7 : (dats m 0 c).arrAt 7 cfg0.N = Cert.Reference5Ideal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  array7 m c _ fun t i j => (do_outs m c M H t i j).trans (Cert.Reference5Ideal.Loss.do_apply H ⟨t.val * 256 + i.val, row_lt t i⟩ j).symm
theorem final8 : (dats m 0 c).arrAt 8 cfg0.N = Cert.Reference5Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine array8 m c ⟨15, by decide +kernel⟩ (by decide +kernel) _ fun j => ?_
  rw [eq_ix2 j]
  exact (st_outs m c M H _ rfl (j 0) (j 1)).trans (Cert.Reference5Ideal.Loss.st_apply H (j 0) (j 1)).symm
end Cert.Kernel5Ideal.Loss
-- ==== Proof.Loss.Finite.lean ====
module
public import proofs.«01_k».proof.Proof.Attn.Finite
public import proofs.«01_k».proof.Proof.Loss.Ref
public import proofs.«01_k».proof.Pre_pre_final_loss
@[expose] public section
set_option maxRecDepth 16384
noncomputable section
open Idealize.ShloMosaic Idealize.ShloMosaic.TcCoe Idealize.SL.Sem
open Cert.Row
namespace Cert.Pre_pre_final_loss

/-! The loss's precondition read back: its arguments are a model's. -/

theorem facts : Facts where
  bcast_S_S4096x2048 := by decide +kernel
  reducesTo_S4096x2048_S_d0_1 := by decide +kernel
  h_S_ := by decide
  bitsLt_bf16_f32 := by decide
  bcast_S_S1x12288 := by decide +kernel
  reducesTo_S1x12288_S_d0_1 := by decide +kernel
  bcast_S_S2048 := by decide +kernel
  reducesTo_S2048_S_d0 := by decide +kernel

instance : Subsingleton S_.Idx := ⟨fun a b => funext fun k => k.elim0⟩

/-- The arguments as real numbers. -/
def model (x0 : FVec Ideal S4096x2048 .f32) (x1 : FVec Ideal S4096x2048 .bf16) (x2 : FVec Ideal S1x12288 .f32) (x3 : FVec Ideal S2048 .f32)
    (x4 : FVec Ideal S4096x2048 .f32) : Cert.Loss.Model where
  x1 r j := EReal.toReal (x0 (ix2 (Fin.ofNat 4096 r) j))
  o r j := EReal.toReal (x1 (ix2 (Fin.ofNat 4096 r) j))
  tg r j := EReal.toReal (x4 (ix2 (Fin.ofNat 4096 r) j))
  gate j := EReal.toReal (x2 (ix2 0 ⟨10240 + j.val, by omega⟩))
  g j := EReal.toReal (x3 (ix1 j))

variable [Facts] {x0 : FVec Ideal S4096x2048 .f32} {x1 : FVec Ideal S4096x2048 .bf16} {x2 : FVec Ideal S1x12288 .f32} {x3 : FVec Ideal S2048 .f32}
    {x4 : FVec Ideal S4096x2048 .f32}

theorem args (h : fn (F := Ideal) x0 x1 x2 x3 x4 = (fun _ => 1#1)) : Cert.Reference5Ideal.Loss.Args x0 x1 x2 x3 x4 (model x0 x1 x2 x3 x4) := by
  haveI : Cert.Pre_pre.Facts := Cert.Pre_pre.facts
  have e := congrFun h (Shape.Idx.first Facts.h_S_)
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have h0 : ∀ i, x0 i = ((EReal.toReal (x0 i) : ℝ) : EReal) := fun i => Cert.Pre_pre.real_of_abs_lt (Host.reduce_andi_all _ _ _ _ _ e0 i)
  have h1 : ∀ i, x1 i = ((EReal.toReal (x1 i) : ℝ) : EReal) := fun i => Cert.Pre_pre.real_of_abs_lt (Host.reduce_andi_all _ _ _ _ _ e1 i)
  have h2 : ∀ i, x2 i = ((EReal.toReal (x2 i) : ℝ) : EReal) := fun i => Cert.Pre_pre.real_of_abs_lt (Host.reduce_andi_all _ _ _ _ _ e2 i)
  have h3 : ∀ i, x3 i = ((EReal.toReal (x3 i) : ℝ) : EReal) := fun i => Cert.Pre_pre.real_of_abs_lt (Host.reduce_andi_all _ _ _ _ _ e3 i)
  have h4 : ∀ i, x4 i = ((EReal.toReal (x4 i) : ℝ) : EReal) := fun i => Cert.Pre_pre.real_of_abs_lt (Host.reduce_andi_all _ _ _ _ _ e4 i)
  constructor
  · intro r j
    refine (h0 _).trans ?_
    simp only [model, Cert.Pre_pre.ofNat_eq (n := 4096) r.val r.isLt]
  · intro r j
    refine (h1 _).trans ?_
    simp only [model, Cert.Pre_pre.ofNat_eq (n := 4096) r.val r.isLt]
  · intro j
    exact h2 _
  · intro j
    exact h3 _
  · intro r j
    refine (h4 _).trans ?_
    simp only [model, Cert.Pre_pre.ofNat_eq (n := 4096) r.val r.isLt]
end Cert.Pre_pre_final_loss
-- ==== Proof.Gates.lean ====
/- The gradient at the two branch gates and at the branches, `d = do · wᵀ` times the gate, and `d` times the branch
   times the gate's slope: what the tiled kernel stores is the derivative of `(σ(ga)·ya + σ(gb)·yb) · w`, element by
   element. The gate's gradient lies in columns 6656 to 8703 of a wide array, from which it is sliced after the call. -/
module

public import proofs.«01_k».proof.Defs
public import proofs.«01_k».proof.Proof.Ada
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference6Ideal.Gates
open Cert.Reference6Ideal Cert.Reference6Ideal.Gen Cert.Reference6Ideal.Read

variable (x0 : FVec Ideal S4096x10752 .bf16) (x1 x2 : FVec Ideal S4096x2048 .bf16) (x3 : FVec Ideal S2048x2048 .f32) (x4 : FVec Ideal S4096x2048 .bf16)

/-- The cotangent pulled back through the product. -/
def back (r : Fin 4096) (l : Fin 2048) : EReal := ∑ k : Fin 2048, x4 (ix2 r k) * x3 (ix2 l k)
/-- A gate: the sigmoid of the projection, in the columns from `o` on. -/
def gate (o : ℕ) (ho : o + 2048 ≤ 10752) (r : Fin 4096) (l : Fin 2048) : EReal := Ideal.logistic (x0 (ix2 r ⟨o + l.val, by omega⟩))

theorem v40_apply (r : Fin 4096) (l : Fin 2048) :
    val_main_v40 (F := Ideal) x0 x3 x4 (ix2 r l) = back x3 x4 r l * gate x0 6656 (by decide) r l := by
  rw [mul_comm]
  pointwise [val_main_v40, val_main_v37, val_main_v33, val_main_v32, val_main_v15, val_main_v14, val_main_v13, val_main_v12, val_main_v11, val_main_v10, val_main_v6, val_main_v0, val_main_cst, val_main_cst_0, Ideal.logistic, back, gate]

theorem v41_apply (r : Fin 4096) (l : Fin 2048) :
    val_main_v41 (F := Ideal) x0 x3 x4 (ix2 r l) = back x3 x4 r l * gate x0 8704 (by decide) r l := by
  rw [mul_comm]
  pointwise [val_main_v41, val_main_v34, val_main_v33, val_main_v32, val_main_v25, val_main_v24, val_main_v23, val_main_v22, val_main_v21, val_main_v20, val_main_v7, val_main_v0, val_main_cst_2, val_main_cst_3, Ideal.logistic, back, gate]

theorem v42_apply (r : Fin 4096) (l : Fin 2048) :
    val_main_v42 (F := Ideal) x0 x1 x3 x4 (ix2 r l)
      = back x3 x4 r l * x1 (ix2 r l) * gate x0 6656 (by decide) r l * (1 - gate x0 6656 (by decide) r l) := by
  rw [mul_assoc (back x3 x4 r l * x1 (ix2 r l))]
  pointwise [val_main_v42, val_main_v39, val_main_v38, val_main_v33, val_main_v32, val_main_v8, val_main_v18, val_main_v17, val_main_v16, val_main_v15, val_main_v14, val_main_v13, val_main_v12, val_main_v11, val_main_v10, val_main_v6, val_main_v0, val_main_cst, val_main_cst_0, val_main_cst_1, Ideal.logistic, back, gate]

theorem v43_apply (r : Fin 4096) (l : Fin 2048) :
    val_main_v43 (F := Ideal) x0 x2 x3 x4 (ix2 r l)
      = back x3 x4 r l * x2 (ix2 r l) * gate x0 8704 (by decide) r l * (1 - gate x0 8704 (by decide) r l) := by
  rw [mul_assoc (back x3 x4 r l * x2 (ix2 r l))]
  pointwise [val_main_v43, val_main_v36, val_main_v35, val_main_v33, val_main_v32, val_main_v9, val_main_v28, val_main_v27, val_main_v26, val_main_v25, val_main_v24, val_main_v23, val_main_v22, val_main_v21, val_main_v20, val_main_v7, val_main_v0, val_main_cst_2, val_main_cst_3, val_main_cst_4, Ideal.logistic, back, gate]
end Cert.Reference6Ideal.Gates

namespace Cert.Kernel6Ideal.Gates
open Cert.Kernel6Ideal Cert.Kernel6Ideal.Gen
variable (m : (ℓ : Loc nD τ sig) → Buf (Elt Ideal) ℓ)

theorem idx : ∀ t : Fin cfg0.N, win0_0.index t = ![(grid0.coords t 0).val, 0] ∧ win0_1.index t = ![(grid0.coords t 1).val, 0]
    ∧ win0_2.index t = ![(grid0.coords t 0).val, (grid0.coords t 1).val + 13] ∧ win0_3.index t = ![(grid0.coords t 0).val, (grid0.coords t 1).val + 17]
    ∧ win0_4.index t = ![(grid0.coords t 0).val, (grid0.coords t 1).val] ∧ win0_5.index t = ![(grid0.coords t 0).val, (grid0.coords t 1).val]
    ∧ win0_6.index t = ![(grid0.coords t 0).val, (grid0.coords t 1).val] ∧ win0_7.index t = ![(grid0.coords t 0).val, (grid0.coords t 1).val]
    ∧ win0_8.index t = ![(grid0.coords t 0).val, (grid0.coords t 1).val + 13] ∧ win0_9.index t = ![(grid0.coords t 0).val, (grid0.coords t 1).val] :=
  (by decide +kernel : ∀ t : Fin grid0.N, _)

section
variable (d : FVec Ideal S1024x2048 .bf16) (w : FVec Ideal S512x2048 .bf16) (g y : FVec Ideal S1024x512 .bf16) (r : Fin 1024) (l : Fin 512)
theorem pay5_apply : k0_pay5 (F := Ideal) d w (ix2 r l) = ∑ k : Fin 2048, d (ix2 r k) * w (ix2 l k) := by
  pointwise [k0_pay5]
theorem pay6_apply : k0_pay6 (F := Ideal) g (ix2 r l) = Ideal.logistic (g (ix2 r l)) := by
  rw [← Cert.Sigmoid.eq]
  pointwise [k0_pay6]
theorem pay7_apply : k0_pay7 (F := Ideal) g (ix2 r l) = Ideal.logistic (g (ix2 r l)) := by
  rw [← Cert.Sigmoid.eq]
  pointwise [k0_pay7]
theorem pay1_apply : k0_pay1 (F := Ideal) (k0_pay8 d w g) (ix2 r l) = (∑ k : Fin 2048, d (ix2 r k) * w (ix2 l k)) * Ideal.logistic (g (ix2 r l)) := by
  pointwise [k0_pay1, k0_pay8, pay5_apply, pay6_apply]
theorem pay2_apply : k0_pay2 (F := Ideal) (k0_pay9 d w g) (ix2 r l) = (∑ k : Fin 2048, d (ix2 r k) * w (ix2 l k)) * Ideal.logistic (g (ix2 r l)) := by
  pointwise [k0_pay2, k0_pay9, pay5_apply, pay7_apply]
theorem pay3_apply : k0_pay3 (F := Ideal) (k0_pay10 d w g y) (ix2 r l)
    = (∑ k : Fin 2048, d (ix2 r k) * w (ix2 l k)) * y (ix2 r l) * Ideal.logistic (g (ix2 r l)) * (1 - Ideal.logistic (g (ix2 r l))) := by
  pointwise [k0_pay3, k0_pay10, pay5_apply, pay6_apply]
theorem pay4_apply : k0_pay4 (F := Ideal) (k0_pay7 g) (k0_pay11 d w g y) k0_pay12 (ix2 r l)
    = (∑ k : Fin 2048, d (ix2 r k) * w (ix2 l k)) * y (ix2 r l) * Ideal.logistic (g (ix2 r l)) * (1 - Ideal.logistic (g (ix2 r l))) := by
  pointwise [k0_pay4, k0_pay11, k0_pay12, pay5_apply, pay7_apply]
end

variable (c : Dev nD)
abbrev proj : FVec Ideal S4096x10752 .bf16 := m ((c : Thread nD τ).loc main_arg0)
abbrev ya : FVec Ideal S4096x2048 .bf16 := m ((c : Thread nD τ).loc main_arg1)
abbrev yb : FVec Ideal S4096x2048 .bf16 := m ((c : Thread nD τ).loc main_arg2)
abbrev wo : FVec Ideal S2048x2048 .f32 := m ((c : Thread nD τ).loc main_arg3)
abbrev ct : FVec Ideal S4096x2048 .bf16 := m ((c : Thread nD τ).loc main_arg4)

theorem point6 (t : Fin cfg0.N) (y : S1024x512.Idx) :
    k0_pay1 (F := Ideal) (k0_pay8 (iblk m c 0 t) (iblk m c 1 t) (iblk m c 2 t)) y
    = Cert.Reference6Ideal.Read.val_main_v40 (F := Ideal) (proj m c) (wo m c) (ct m c) (((cfg0.win 6).blk t).view.emb y) := by
  rw [eq_ix2 y, eq_ix2 (((cfg0.win 6).blk t).view.emb _)]
  refine (pay1_apply _ _ _ _ _).trans (.trans ?_ (Cert.Reference6Ideal.Gates.v40_apply _ _ _ _ _).symm)
  unfold Cert.Reference6Ideal.Gates.back Cert.Reference6Ideal.Gates.gate
  blk_point [iblk, V, idx t]

theorem point7 (t : Fin cfg0.N) (y : S1024x512.Idx) :
    k0_pay2 (F := Ideal) (k0_pay9 (iblk m c 0 t) (iblk m c 1 t) (iblk m c 3 t)) y
    = Cert.Reference6Ideal.Read.val_main_v41 (F := Ideal) (proj m c) (wo m c) (ct m c) (((cfg0.win 7).blk t).view.emb y) := by
  rw [eq_ix2 y, eq_ix2 (((cfg0.win 7).blk t).view.emb _)]
  refine (pay2_apply _ _ _ _ _).trans (.trans ?_ (Cert.Reference6Ideal.Gates.v41_apply _ _ _ _ _).symm)
  unfold Cert.Reference6Ideal.Gates.back Cert.Reference6Ideal.Gates.gate
  blk_point [iblk, V, idx t]

theorem point9 (t : Fin cfg0.N) (y : S1024x512.Idx) :
    k0_pay4 (F := Ideal) (k0_pay7 (iblk m c 3 t)) (k0_pay11 (iblk m c 0 t) (iblk m c 1 t) (iblk m c 3 t) (iblk m c 5 t)) k0_pay12 y
    = Cert.Reference6Ideal.Read.val_main_v43 (F := Ideal) (proj m c) (yb m c) (wo m c) (ct m c) (((cfg0.win 9).blk t).view.emb y) := by
  rw [eq_ix2 y, eq_ix2 (((cfg0.win 9).blk t).view.emb _)]
  refine (pay4_apply _ _ _ _ _ _).trans (.trans ?_ (Cert.Reference6Ideal.Gates.v43_apply _ _ _ _ _ _).symm)
  unfold Cert.Reference6Ideal.Gates.back Cert.Reference6Ideal.Gates.gate
  blk_point [iblk, V, idx t]

theorem final6 : (dats m 0 c).arrAt 6 (cfgs 0).N = Cert.Reference6Ideal.Read.val_main_v40 (F := Ideal) (proj m c) (wo m c) (ct m c) := by
  refine (dats m 0 c).arrAt_eq_of_covers 6 _ (by decide +kernel) fun t _ y => ?_
  blk_simp
  rw [after0_6]; unfold out0_6; frame_out
  exact point6 m c t y

theorem final7 : (dats m 0 c).arrAt 7 (cfgs 0).N = Cert.Reference6Ideal.Read.val_main_v41 (F := Ideal) (proj m c) (wo m c) (ct m c) := by
  refine (dats m 0 c).arrAt_eq_of_covers 7 _ (by decide +kernel) fun t _ y => ?_
  blk_simp
  rw [after0_7]; unfold out0_7; frame_out
  exact point7 m c t y

theorem final9 : (dats m 0 c).arrAt 9 (cfgs 0).N = Cert.Reference6Ideal.Read.val_main_v43 (F := Ideal) (proj m c) (yb m c) (wo m c) (ct m c) := by
  refine (dats m 0 c).arrAt_eq_of_covers 9 _ (by decide +kernel) fun t _ y => ?_
  blk_simp
  rw [after0_9]; unfold out0_9; frame_out
  exact point9 m c t y

/-- The gate's gradient where the wide array takes it: column `6656 + l` holds entry `l`. -/
def wide : FVec Ideal S4096x10752 .bf16 := fun i =>
  Cert.Reference6Ideal.Read.val_main_v42 (F := Ideal) (proj m c) (ya m c) (wo m c) (ct m c) (ix2 (i 0) (Fin.ofNat 2048 ((i 1).val - 6656)))

theorem point8 (t : Fin cfg0.N) (y : S1024x512.Idx) :
    k0_pay3 (F := Ideal) (k0_pay10 (iblk m c 0 t) (iblk m c 1 t) (iblk m c 2 t) (iblk m c 4 t)) y
    = Cert.Reference6Ideal.Read.val_main_v42 (F := Ideal) (proj m c) (ya m c) (wo m c) (ct m c) (((cfg0.win 6).blk t).view.emb y) := by
  rw [eq_ix2 y, eq_ix2 (((cfg0.win 6).blk t).view.emb _)]
  refine (pay3_apply _ _ _ _ _ _).trans (.trans ?_ (Cert.Reference6Ideal.Gates.v42_apply _ _ _ _ _ _).symm)
  unfold Cert.Reference6Ideal.Gates.back Cert.Reference6Ideal.Gates.gate
  blk_point [iblk, V, idx t]

/-- Block columns 13 to 16 of the wide array are written, the rest is as before the call. -/
theorem final8 : (dats m 0 c).arrAt 8 cfg0.N = fun i => if 6656 ≤ (i 1).val ∧ (i 1).val < 8704 then wide m c i else V m c main_v1_2 i := by
  refine (dats m 0 c).arrAt_eq_of_coversWhere 8 _ (fun β => 13 ≤ β 1 ∧ β 1 < 17) (by decide +kernel) (fun t hf y => ?_)
    (fun j => by blk_simp [Pipeline.Window.cell_apply]; omega)
  rw [after0_8]; unfold out0_8; frame_out
  refine (point8 m c t y).trans (congrArg (Cert.Reference6Ideal.Read.val_main_v42 (F := Ideal) (proj m c) (ya m c) (wo m c) (ct m c)) ?_)
  have h0 : (grid0.coords t 0).val < 4 := (grid0.coords t 0).isLt
  have h1 : (grid0.coords t 1).val < 4 := (grid0.coords t 1).isLt
  have hy : (y 1).val < 512 := (y 1).isLt
  have e0 : win0_8.index t 0 = (grid0.coords t 0).val := by rw [(idx t).2.2.2.2.2.2.2.2.1]; rfl
  have e1 : win0_8.index t 1 = (grid0.coords t 1).val + 13 := by rw [(idx t).2.2.2.2.2.2.2.2.1]; rfl
  have f0 : win0_6.index t 0 = (grid0.coords t 0).val := by rw [(idx t).2.2.2.2.2.2.1]; rfl
  have f1 : win0_6.index t 1 = (grid0.coords t 1).val := by rw [(idx t).2.2.2.2.2.2.1]; rfl
  have r0 : (((cfg0.win 6).blk t).view.emb y 0).val = (((cfg0.win 8).blk t).view.emb y 0).val :=
    ((Pipeline.Window.rect_emb_val win0_6 t y 0).trans (congrArg (fun n : Nat => n * 1024 + (y 0).val) (f0.trans e0.symm))).trans
      (Pipeline.Window.rect_emb_val win0_8 t y 0).symm
  have r1 : (((cfg0.win 6).blk t).view.emb y 1).val = (grid0.coords t 1).val * 512 + (y 1).val :=
    (Pipeline.Window.rect_emb_val win0_6 t y 1).trans (congrArg (fun n : Nat => n * 512 + (y 1).val) f1)
  have r2 : (((cfg0.win 8).blk t).view.emb y 1).val = ((grid0.coords t 1).val + 13) * 512 + (y 1).val :=
    (Pipeline.Window.rect_emb_val win0_8 t y 1).trans (congrArg (fun n : Nat => n * 512 + (y 1).val) e1)
  refine (eq_ix2 _).trans (congrArg₂ ix2 (Fin.ext r0) (Fin.ext ?_))
  show _ = ((((cfg0.win 8).blk t).view.emb y 1).val - 6656) % 2048
  rw [r1, r2]
  omega

theorem wide_apply (r : Fin 4096) (l : Fin 2048) (k : Fin 10752) (hk : k.val = 6656 + l.val) :
    wide m c (ix2 r k) = Cert.Reference6Ideal.Read.val_main_v42 (F := Ideal) (proj m c) (ya m c) (wo m c) (ct m c) (ix2 r l) := by
  have e : Fin.ofNat 2048 (k.val - 6656) = l := Fin.ext (by
    show (k.val - 6656) % 2048 = l.val
    omega)
  unfold wide
  exact congrArg (fun n => Cert.Reference6Ideal.Read.val_main_v42 (F := Ideal) (proj m c) (ya m c) (wo m c) (ct m c) (ix2 r n)) e

theorem slice_apply (A : FVec Ideal S4096x10752 .bf16) (r : Fin 4096) (l : Fin 2048) :
    extractStridedSlice S4096x2048 ![0, 6656] A slices_S4096x10752_S4096x2048_0_6656 (ix2 r l) = A (ix2 r ⟨6656 + l.val, by omega⟩) := by
  pointwise []

theorem final8_apply (r : Fin 4096) (l : Fin 2048) (k : Fin 10752) (hk : k.val = 6656 + l.val) :
    ((dats m 0 c).arrAt 8 cfg0.N : FVec Ideal S4096x10752 .bf16) (ix2 r k)
    = Cert.Reference6Ideal.Read.val_main_v42 (F := Ideal) (proj m c) (ya m c) (wo m c) (ct m c) (ix2 r l) := by
  have hl : l.val < 2048 := l.isLt
  exact (congrFun (final8 m c) (ix2 r k)).trans ((if_pos (show 6656 ≤ k.val ∧ k.val < 8704 by omega)).trans (wide_apply m c r l k hk))

/-- The slice taken after the call is the gate's gradient. -/
theorem slice8 : extractStridedSlice S4096x2048 ![0, 6656] ((dats m 0 c).arrAt 8 cfg0.N : FVec Ideal S4096x10752 .bf16) slices_S4096x10752_S4096x2048_0_6656
    = Cert.Reference6Ideal.Read.val_main_v42 (F := Ideal) (proj m c) (ya m c) (wo m c) (ct m c) := by
  funext i
  rw [eq_ix2 i]
  exact (slice_apply _ _ _).trans (final8_apply m c _ _ _ rfl)

theorem tail8 : Pipeline.afterTail₀ cfgs (dats m) 0 (V0 m) [hostOps1] c main_v2
    = Cert.Reference6Ideal.Read.val_main_v42 (F := Ideal) (proj m c) (ya m c) (wo m c) (ct m c) := by
  refine .trans ?_ (slice8 m c)
  have h := (dats m 0 c).withArrays_arrAt sharedIn0 (V0 m c) (A_eq m c) 8
  unfold Pipeline.afterTail₀
  rw [← h]
  simp only [hostOps1, List.flatten_cons, List.flatten_nil, List.append_nil]
  run_tidy

/-- What a run leaves in the four results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1_0) = Cert.Reference6Ideal.Read.val_main_v40 (F := Ideal) (proj m c) (wo m c) (ct m c)
    ∧ r.2.mem ((c.tc : Thread nD τ).loc main_v1_1) = Cert.Reference6Ideal.Read.val_main_v41 (F := Ideal) (proj m c) (wo m c) (ct m c)
    ∧ r.2.mem ((c.tc : Thread nD τ).loc main_v2) = Cert.Reference6Ideal.Read.val_main_v42 (F := Ideal) (proj m c) (ya m c) (wo m c) (ct m c)
    ∧ r.2.mem ((c.tc : Thread nD τ).loc main_v1_3) = Cert.Reference6Ideal.Read.val_main_v43 (F := Ideal) (proj m c) (yb m c) (wo m c) (ct m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run _ _ _).mono (fun r h c => ⟨((h.1 c).1 6).trans (final6 m c), ((h.1 c).1 7).trans (final7 m c),
      ((h.1 c).2 main_v2 (Pipeline.mem_restRefs_of main_v2 (by decide) (by decide))).trans (tail8 m c), ((h.1 c).1 9).trans (final9 m c), h.2 c⟩)
    (θ_run_and (run_main m g) (unchanged m g))

end Cert.Kernel6Ideal.Gates
-- ==== Proof.Merge.lean ====
/- The attention branch's output product and the gated sum of the two branches, `σ(ga)·ya + σ(gb)·(att · w)`:
   what the tiled kernel stores, element by element. -/
module

public import proofs.«01_k».proof.Defs
public import proofs.«01_k».proof.Proof.Ada
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal.Merge
open Cert.Reference7Ideal Cert.Reference7Ideal.Gen Cert.Reference7Ideal.Read

theorem v26_apply (x0 : FVec Ideal S4096x2048 .bf16) (x1 : FVec Ideal S2048x2048 .f32) (r : Fin 4096) (l : Fin 2048) :
    val_main_v26 (F := Ideal) x0 x1 (ix2 r l) = ∑ k : Fin 2048, x0 (ix2 r k) * x1 (ix2 k l) := by
  pointwise [val_main_v26, val_main_v9, val_main_v8]

theorem v27_apply (x0 : FVec Ideal S4096x2048 .bf16) (x1 : FVec Ideal S2048x2048 .f32) (x2 : FVec Ideal S4096x2048 .bf16) (x3 : FVec Ideal S4096x10752 .bf16) (r : Fin 4096) (l : Fin 2048) :
    val_main_v27 (F := Ideal) x0 x1 x2 x3 (ix2 r l) = Ideal.logistic (x3 (ix2 r ⟨6656 + l.val, by omega⟩)) * x2 (ix2 r l)
      + Ideal.logistic (x3 (ix2 r ⟨8704 + l.val, by omega⟩)) * ∑ k : Fin 2048, x0 (ix2 r k) * x1 (ix2 k l) := by
  pointwise [val_main_v27, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_0, val_main_cst_1, val_main_cst_2, Ideal.logistic]

end Cert.Reference7Ideal.Merge

namespace Cert.Kernel7Ideal.Merge
open Cert.Kernel7Ideal Cert.Kernel7Ideal.Gen
variable (m : (ℓ : Loc nD τ sig) → Buf (Elt Ideal) ℓ) (c : Dev nD)

theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val + 13] ∧ win0_4.index t = ![(grid0.coords t 0).val, (grid0.coords t 1).val + 17] ∧ win0_5.index t = ![(grid0.coords t 0).val, (grid0.coords t 1).val] ∧ win0_6.index t = ![(grid0.coords t 0).val, (grid0.coords t 1).val] :=
  (by decide +kernel : ∀ t : Fin grid0.N, _)

section
variable (a : FVec Ideal S1024x2048 .bf16) (w : FVec Ideal S2048x512 .bf16) (y ga gb : FVec Ideal S1024x512 .bf16) (r : Fin 1024) (l : Fin 512)
theorem pay1_apply : k0_pay1 (F := Ideal) a w (ix2 r l) = ∑ k : Fin 2048, a (ix2 r k) * w (ix2 k l) := by
  pointwise [k0_pay1]
theorem pay2_apply : k0_pay2 (F := Ideal) a w (ix2 r l) = ∑ k : Fin 2048, a (ix2 r k) * w (ix2 k l) := by
  pointwise [k0_pay2, pay1_apply]
theorem pay3_apply : k0_pay3 (F := Ideal) a w y ga gb (ix2 r l)
    = Ideal.logistic (ga (ix2 r l)) * y (ix2 r l) + Ideal.logistic (gb (ix2 r l)) * ∑ k : Fin 2048, a (ix2 r k) * w (ix2 k l) := by
  rw [← Cert.Sigmoid.eq, ← Cert.Sigmoid.eq]
  pointwise [k0_pay3, pay1_apply]
end

theorem point5 (t : Fin cfg0.N) (y : S1024x512.Idx) :
    k0_pay2 (F := Ideal) (iblk m c 0 t) (iblk m c 1 t) y
    = Cert.Reference7Ideal.Read.val_main_v26 (F := Ideal) (m ((c : Thread nD τ).loc main_arg0)) (m ((c : Thread nD τ).loc main_arg1)) (((cfg0.win 5).blk t).view.emb y) := by
  rw [eq_ix2 y, eq_ix2 (((cfg0.win 5).blk t).view.emb _)]
  refine (pay2_apply _ _ _ _).trans (.trans ?_ (Cert.Reference7Ideal.Merge.v26_apply _ _ _ _).symm)
  blk_point [iblk, V, idx t]

theorem final5 : (dats m 0 c).arrAt 5 (cfgs 0).N
    = Cert.Reference7Ideal.Read.val_main_v26 (F := Ideal) (m ((c : Thread nD τ).loc main_arg0)) (m ((c : Thread nD τ).loc main_arg1)) := by
  refine (dats m 0 c).arrAt_eq_of_covers 5 _ (by decide +kernel) fun t _ y => ?_
  blk_simp
  rw [after0_5]; unfold out0_5; frame_out
  exact point5 m c t y

theorem point6 (t : Fin cfg0.N) (y : S1024x512.Idx) :
    k0_pay3 (F := Ideal) (iblk m c 0 t) (iblk m c 1 t) (iblk m c 2 t) (iblk m c 3 t) (iblk m c 4 t) y
    = Cert.Reference7Ideal.Read.val_main_v27 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  rw [eq_ix2 y, eq_ix2 (((cfg0.win 6).blk t).view.emb _)]
  refine (pay3_apply _ _ _ _ _ _ _).trans (.trans ?_ (Cert.Reference7Ideal.Merge.v27_apply _ _ _ _ _ _).symm)
  blk_point [iblk, V, idx t]

theorem final6 : (dats m 0 c).arrAt 6 (cfgs 0).N
    = Cert.Reference7Ideal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold out0_6; frame_out
  exact point6 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1_0) = Cert.Reference7Ideal.Read.val_main_v26 (F := Ideal) (m ((c.tc : Thread nD τ).loc main_arg0)) (m ((c.tc : Thread nD τ).loc main_arg1))
    ∧ r.2.mem ((c.tc : Thread nD τ).loc main_v1_1) = Cert.Reference7Ideal.Read.val_main_v27 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 5).trans (final5 m c), ((h.1 c).1 6).trans (final6 m c), h.2 c⟩)
    (θ_run_and (run_main m g) (unchanged m g))

end Cert.Kernel7Ideal.Merge
-- ==== Proof.Norm1.lean ====
/- The root-mean-square norm of the rows with gain, scale and shift, before the first sub-layer:
   what the tiled kernel stores, element by element. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference8Ideal.Norm1
open Cert.Reference8Ideal Cert.Reference8Ideal.Gen Cert.Reference8Ideal.Read

theorem v24_apply (x0 : FVec Ideal S4096x2048 .f32) (x1 : FVec Ideal S1x2048 .f32) (x2 : FVec Ideal S1x12288 .f32) (r : Fin 4096) (l : Fin 2048) :
    val_main_v24 (F := Ideal) x0 x1 x2 (ix2 r l) = x0 (ix2 r l) * Ideal.rsqrt (Ideal.div (∑ k : Fin 2048, x0 (ix2 r k) * x0 (ix2 r k)) (Ideal.ofBits .f32 0x45000000#32) + Ideal.ofBits .f32 0x358637BD#32)
      * x1 (ix2 0 l) * (1 + x2 (ix2 0 ⟨2048 + l.val, by omega⟩)) + x2 (ix2 0 ⟨0 + l.val, by omega⟩) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, val_main_cst_2]

end Cert.Reference8Ideal.Norm1

namespace Cert.Kernel8Ideal.Norm1
open Cert.Kernel8Ideal Cert.Kernel8Ideal.Gen
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The six rows of the modulation. -/
def rows (a : FVec Ideal S1x12288 .f32) : FVec Ideal S6x2048 .f32 := shapeCast S6x2048 a shapeCasts_S1x12288_S6x2048
/-- The rows, filled up to eight with zeros. -/
def filled (a : FVec Ideal S1x12288 .f32) : FVec Ideal S8x2048 .f32 :=
  concatenate S8x2048 0 [⟨S6x2048, rows a⟩, ⟨S2x2048, broadcastInDim S2x2048 ![] bcast_S_S2x2048 (constant S_ .f32 0x00000000#32)⟩] concatenates_S6x2048_S2x2048_S8x2048_d0
theorem rows_entry : V m c main_v2 = filled (m ((c : Thread nD τ).loc main_arg2)) := by
  unfold V
  simp only [hostOps0]
  run_tidy
  rfl
theorem rows_apply0 (a : FVec Ideal S1x12288 .f32) (j : Fin 2048) : rows a (ix2 0 j) = a (ix2 0 ⟨0 + j.val, by omega⟩) := by
  pointwise [rows]
theorem filled_apply0 (a : FVec Ideal S1x12288 .f32) (j : Fin 2048) : filled a (ix2 0 j) = a (ix2 0 ⟨0 + j.val, by omega⟩) := by
  pointwise [filled, rows_apply0]
theorem rows_apply1 (a : FVec Ideal S1x12288 .f32) (j : Fin 2048) : rows a (ix2 1 j) = a (ix2 0 ⟨2048 + j.val, by omega⟩) := by
  pointwise [rows]
theorem filled_apply1 (a : FVec Ideal S1x12288 .f32) (j : Fin 2048) : filled a (ix2 1 j) = a (ix2 0 ⟨2048 + j.val, by omega⟩) := by
  pointwise [filled, rows_apply1]
theorem pay_apply (x : FVec Ideal S512x2048 .f32) (sh sc g : FVec Ideal S1x2048 .f32) (r : Fin 512) (l : Fin 2048) :
    k0_pay1 (F := Ideal) x sh sc g (ix2 r l) = x (ix2 r l) * Ideal.rsqrt (Ideal.div (∑ k : Fin 2048, x (ix2 r k) * x (ix2 r k)) (Ideal.ofBits .f32 0x45000000#32) + Ideal.ofBits .f32 0x358637BD#32)
      * g (ix2 0 l) * (1 + sc (ix2 0 l)) + sh (ix2 0 l) := by
  pointwise [k0_pay1]
theorem mod_block (t : Fin cfg0.N) (k : Fin 8) (j : Fin 2048) : iblk m c 2 t (ix2 k j) = V m c main_v2 (ix2 k j) := by
  blk_simp [iblk]
  refine congrArg (V m c main_v2) ?_
  blk_ext
  all_goals simp [idx t]
theorem row0 (t : Fin cfg0.N) (j : Fin 2048) : View.ld (iblk m c 2 t) r0_1 (ix2 (0 : Fin 1) j) = (m ((c : Thread nD τ).loc main_arg2)) (ix2 0 ⟨0 + j.val, by omega⟩) := by
  have e : (r0_1).emb (ix2 (0 : Fin 1) j) = ix2 (0 : Fin 8) j := by
    funext x
    apply Fin.ext
    fin_cases x
    · rfl
    · show 0 + 1 * j.val = j.val
      omega
  refine (congrArg (iblk m c 2 t) e).trans ?_
  rw [mod_block, rows_entry, filled_apply0]
theorem row1 (t : Fin cfg0.N) (j : Fin 2048) : View.ld (iblk m c 2 t) r0_2 (ix2 (0 : Fin 1) j) = (m ((c : Thread nD τ).loc main_arg2)) (ix2 0 ⟨2048 + j.val, by omega⟩) := by
  have e : (r0_2).emb (ix2 (0 : Fin 1) j) = ix2 (1 : Fin 8) j := by
    funext x
    apply Fin.ext
    fin_cases x
    · rfl
    · show 0 + 1 * j.val = j.val
      omega
  refine (congrArg (iblk m c 2 t) e).trans ?_
  rw [mod_block, rows_entry, filled_apply1]
theorem x_block (t : Fin cfg0.N) (r : Fin 512) (l : Fin 2048) :
    iblk m c 0 t (ix2 r l) = (m ((c : Thread nD τ).loc main_arg0)) (ix2 ⟨t.val * 512 + r.val, by have : t.val < 8 := t.isLt; omega⟩ l) := by
  blk_point [iblk, V, idx t]
theorem g_block (t : Fin cfg0.N) (l : Fin 2048) : iblk m c 1 t (ix2 0 l) = (m ((c : Thread nD τ).loc main_arg1)) (ix2 0 l) := by
  blk_point [iblk, V, idx t]
theorem at_block (t : Fin cfg0.N) (r : Fin 512) (l : Fin 2048) :
    ((cfg0.win 3).blk t).view.emb (ix2 r l) = ix2 (⟨t.val * 512 + r.val, by have : t.val < 8 := t.isLt; omega⟩ : Fin 4096) l := by
  blk_simp
  blk_ext
  all_goals simp [idx t]

theorem point3 (t : Fin cfg0.N) (y : S512x2048.Idx) :
    k0_pay1 (F := Ideal) (iblk m c 0 t) (View.ld (iblk m c 2 t) r0_1) (View.ld (iblk m c 2 t) r0_2) (iblk m c 1 t) y
    = Cert.Reference8Ideal.Read.val_main_v24 (F := Ideal) (m ((c : Thread nD τ).loc main_arg0)) (m ((c : Thread nD τ).loc main_arg1)) (m ((c : Thread nD τ).loc main_arg2)) (((cfg0.win 3).blk t).view.emb y) := by
  obtain ⟨r, l, rfl⟩ : ∃ (r : Fin 512) (l : Fin 2048), y = ix2 r l := ⟨y 0, y 1, eq_ix2 y⟩
  rw [at_block]
  refine (pay_apply _ _ _ _ _ _).trans (.trans ?_ (Cert.Reference8Ideal.Norm1.v24_apply _ _ _ _ _).symm)
  simp only [x_block, g_block, row0, row1]

theorem final3 : (dats m 0 c).arrAt 3 (cfgs 0).N
    = Cert.Reference8Ideal.Read.val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  exact point3 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v3) = Cert.Reference8Ideal.Read.val_main_v24 (F := Ideal) (m ((c.tc : Thread nD τ).loc main_arg0)) (m ((c.tc : Thread nD τ).loc main_arg1)) (m ((c.tc : Thread nD τ).loc main_arg2))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))) :=
  (θ_run _ _ _).mono (fun r h c => ⟨((h.1 c).1 3).trans (final3 m c), h.2 c⟩)
    (θ_run_and (run_main m g) (unchanged m g))

end Cert.Kernel8Ideal.Norm1
-- ==== Proof.Norm2.lean ====
/- The root-mean-square norm of the rows with gain, scale and shift, before the second sub-layer:
   what the tiled kernel stores, element by element. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference9Ideal.Norm2
open Cert.Reference9Ideal Cert.Reference9Ideal.Gen Cert.Reference9Ideal.Read

theorem v24_apply (x0 : FVec Ideal S4096x2048 .f32) (x1 : FVec Ideal S1x2048 .f32) (x2 : FVec Ideal S1x12288 .f32) (r : Fin 4096) (l : Fin 2048) :
    val_main_v24 (F := Ideal) x0 x1 x2 (ix2 r l) = x0 (ix2 r l) * Ideal.rsqrt (Ideal.div (∑ k : Fin 2048, x0 (ix2 r k) * x0 (ix2 r k)) (Ideal.ofBits .f32 0x45000000#32) + Ideal.ofBits .f32 0x358637BD#32)
      * x1 (ix2 0 l) * (1 + x2 (ix2 0 ⟨8192 + l.val, by omega⟩)) + x2 (ix2 0 ⟨6144 + l.val, by omega⟩) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v4, val_main_v3, val_main_cst, val_main_cst_0, val_main_cst_1, val_main_cst_2]

end Cert.Reference9Ideal.Norm2

namespace Cert.Kernel9Ideal.Norm2
open Cert.Kernel9Ideal Cert.Kernel9Ideal.Gen
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The six rows of the modulation. -/
def rows (a : FVec Ideal S1x12288 .f32) : FVec Ideal S6x2048 .f32 := shapeCast S6x2048 a shapeCasts_S1x12288_S6x2048
/-- The rows, filled up to eight with zeros. -/
def filled (a : FVec Ideal S1x12288 .f32) : FVec Ideal S8x2048 .f32 :=
  concatenate S8x2048 0 [⟨S6x2048, rows a⟩, ⟨S2x2048, broadcastInDim S2x2048 ![] bcast_S_S2x2048 (constant S_ .f32 0x00000000#32)⟩] concatenates_S6x2048_S2x2048_S8x2048_d0
theorem rows_entry : V m c main_v2 = filled (m ((c : Thread nD τ).loc main_arg2)) := by
  unfold V
  simp only [hostOps0]
  run_tidy
  rfl
theorem rows_apply3 (a : FVec Ideal S1x12288 .f32) (j : Fin 2048) : rows a (ix2 3 j) = a (ix2 0 ⟨6144 + j.val, by omega⟩) := by
  pointwise [rows]
theorem filled_apply3 (a : FVec Ideal S1x12288 .f32) (j : Fin 2048) : filled a (ix2 3 j) = a (ix2 0 ⟨6144 + j.val, by omega⟩) := by
  pointwise [filled, rows_apply3]
theorem rows_apply4 (a : FVec Ideal S1x12288 .f32) (j : Fin 2048) : rows a (ix2 4 j) = a (ix2 0 ⟨8192 + j.val, by omega⟩) := by
  pointwise [rows]
theorem filled_apply4 (a : FVec Ideal S1x12288 .f32) (j : Fin 2048) : filled a (ix2 4 j) = a (ix2 0 ⟨8192 + j.val, by omega⟩) := by
  pointwise [filled, rows_apply4]
theorem pay_apply (x : FVec Ideal S512x2048 .f32) (sh sc g : FVec Ideal S1x2048 .f32) (r : Fin 512) (l : Fin 2048) :
    k0_pay1 (F := Ideal) x sh sc g (ix2 r l) = x (ix2 r l) * Ideal.rsqrt (Ideal.div (∑ k : Fin 2048, x (ix2 r k) * x (ix2 r k)) (Ideal.ofBits .f32 0x45000000#32) + Ideal.ofBits .f32 0x358637BD#32)
      * g (ix2 0 l) * (1 + sc (ix2 0 l)) + sh (ix2 0 l) := by
  pointwise [k0_pay1]
theorem mod_block (t : Fin cfg0.N) (k : Fin 8) (j : Fin 2048) : iblk m c 2 t (ix2 k j) = V m c main_v2 (ix2 k j) := by
  blk_simp [iblk]
  refine congrArg (V m c main_v2) ?_
  blk_ext
  all_goals simp [idx t]
theorem row3 (t : Fin cfg0.N) (j : Fin 2048) : View.ld (iblk m c 2 t) r0_1 (ix2 (0 : Fin 1) j) = (m ((c : Thread nD τ).loc main_arg2)) (ix2 0 ⟨6144 + j.val, by omega⟩) := by
  have e : (r0_1).emb (ix2 (0 : Fin 1) j) = ix2 (3 : Fin 8) j := by
    funext x
    apply Fin.ext
    fin_cases x
    · rfl
    · show 0 + 1 * j.val = j.val
      omega
  refine (congrArg (iblk m c 2 t) e).trans ?_
  rw [mod_block, rows_entry, filled_apply3]
theorem row4 (t : Fin cfg0.N) (j : Fin 2048) : View.ld (iblk m c 2 t) r0_2 (ix2 (0 : Fin 1) j) = (m ((c : Thread nD τ).loc main_arg2)) (ix2 0 ⟨8192 + j.val, by omega⟩) := by
  have e : (r0_2).emb (ix2 (0 : Fin 1) j) = ix2 (4 : Fin 8) j := by
    funext x
    apply Fin.ext
    fin_cases x
    · rfl
    · show 0 + 1 * j.val = j.val
      omega
  refine (congrArg (iblk m c 2 t) e).trans ?_
  rw [mod_block, rows_entry, filled_apply4]
theorem x_block (t : Fin cfg0.N) (r : Fin 512) (l : Fin 2048) :
    iblk m c 0 t (ix2 r l) = (m ((c : Thread nD τ).loc main_arg0)) (ix2 ⟨t.val * 512 + r.val, by have : t.val < 8 := t.isLt; omega⟩ l) := by
  blk_point [iblk, V, idx t]
theorem g_block (t : Fin cfg0.N) (l : Fin 2048) : iblk m c 1 t (ix2 0 l) = (m ((c : Thread nD τ).loc main_arg1)) (ix2 0 l) := by
  blk_point [iblk, V, idx t]
theorem at_block (t : Fin cfg0.N) (r : Fin 512) (l : Fin 2048) :
    ((cfg0.win 3).blk t).view.emb (ix2 r l) = ix2 (⟨t.val * 512 + r.val, by have : t.val < 8 := t.isLt; omega⟩ : Fin 4096) l := by
  blk_simp
  blk_ext
  all_goals simp [idx t]

theorem point3 (t : Fin cfg0.N) (y : S512x2048.Idx) :
    k0_pay1 (F := Ideal) (iblk m c 0 t) (View.ld (iblk m c 2 t) r0_1) (View.ld (iblk m c 2 t) r0_2) (iblk m c 1 t) y
    = Cert.Reference9Ideal.Read.val_main_v24 (F := Ideal) (m ((c : Thread nD τ).loc main_arg0)) (m ((c : Thread nD τ).loc main_arg1)) (m ((c : Thread nD τ).loc main_arg2)) (((cfg0.win 3).blk t).view.emb y) := by
  obtain ⟨r, l, rfl⟩ : ∃ (r : Fin 512) (l : Fin 2048), y = ix2 r l := ⟨y 0, y 1, eq_ix2 y⟩
  rw [at_block]
  refine (pay_apply _ _ _ _ _ _).trans (.trans ?_ (Cert.Reference9Ideal.Norm2.v24_apply _ _ _ _ _).symm)
  simp only [x_block, g_block, row3, row4]

theorem final3 : (dats m 0 c).arrAt 3 (cfgs 0).N
    = Cert.Reference9Ideal.Read.val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  exact point3 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v3) = Cert.Reference9Ideal.Read.val_main_v24 (F := Ideal) (m ((c.tc : Thread nD τ).loc main_arg0)) (m ((c.tc : Thread nD τ).loc main_arg1)) (m ((c.tc : Thread nD τ).loc main_arg2))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))) :=
  (θ_run _ _ _).mono (fun r h c => ⟨((h.1 c).1 3).trans (final3 m c), h.2 c⟩)
    (θ_run_and (run_main m g) (unchanged m g))

end Cert.Kernel9Ideal.Norm2
-- ==== Proof.OutProj.lean ====
/- The output product of the merged branches and the gated residual, `x + gate·(merged · w)`:
   what the tiled kernel stores, element by element. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference10Ideal.OutProj
open Cert.Reference10Ideal Cert.Reference10Ideal.Gen Cert.Reference10Ideal.Read

theorem v8_apply (x0 : FVec Ideal S4096x2048 .bf16) (x1 : FVec Ideal S2048x2048 .f32) (r : Fin 4096) (l : Fin 2048) :
    val_main_v8 (F := Ideal) x0 x1 (ix2 r l) = ∑ k : Fin 2048, x0 (ix2 r k) * x1 (ix2 k l) := by
  pointwise [val_main_v8, val_main_v7, val_main_v6]

theorem v11_apply (x0 : FVec Ideal S4096x2048 .bf16) (x1 : FVec Ideal S2048x2048 .f32) (x2 : FVec Ideal S4096x2048 .f32) (x3 : FVec Ideal S1x12288 .f32) (r : Fin 4096) (l : Fin 2048) :
    val_main_v11 (F := Ideal) x0 x1 x2 x3 (ix2 r l) = x2 (ix2 r l) + x3 (ix2 0 ⟨4096 + l.val, by omega⟩) * ∑ k : Fin 2048, x0 (ix2 r k) * x1 (ix2 k l) := by
  pointwise [val_main_v11, val_main_v10, val_main_v9, val_main_v7, val_main_v6, val_main_v2]

end Cert.Reference10Ideal.OutProj

namespace Cert.Kernel10Ideal.OutProj
open Cert.Kernel10Ideal Cert.Kernel10Ideal.Gen
variable (m : (ℓ : Loc nD τ sig) → Buf (Elt Ideal) ℓ) (c : Dev nD)

theorem idx : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![0, (grid0.coords t 1).val] ∧ win0_4.index t = ![(grid0.coords t 0).val, (grid0.coords t 1).val] ∧ win0_5.index t = ![(grid0.coords t 0).val, (grid0.coords t 1).val] :=
  (by decide +kernel : ∀ t : Fin grid0.N, _)

/-- The six rows of the modulation. -/
def rows (a : FVec Ideal S1x12288 .f32) : FVec Ideal S6x2048 .f32 := shapeCast S6x2048 a shapeCasts_S1x12288_S6x2048
/-- The rows, filled up to eight with zeros. -/
def filled (a : FVec Ideal S1x12288 .f32) : FVec Ideal S8x2048 .f32 :=
  concatenate S8x2048 0 [⟨S6x2048, rows a⟩, ⟨S2x2048, broadcastInDim S2x2048 ![] bcast_S_S2x2048 (constant S_ .f32 0x00000000#32)⟩] concatenates_S6x2048_S2x2048_S8x2048_d0
theorem rows_entry : V m c main_v2 = filled (m ((c : Thread nD τ).loc main_arg3)) := by
  unfold V
  simp only [hostOps0]
  run_tidy
  rfl
theorem rows_apply2 (a : FVec Ideal S1x12288 .f32) (j : Fin 2048) : rows a (ix2 2 j) = a (ix2 0 ⟨4096 + j.val, by omega⟩) := by
  pointwise [rows]
theorem filled_apply2 (a : FVec Ideal S1x12288 .f32) (j : Fin 2048) : filled a (ix2 2 j) = a (ix2 0 ⟨4096 + j.val, by omega⟩) := by
  pointwise [filled, rows_apply2]
section
variable (a : FVec Ideal S1024x2048 .bf16) (w : FVec Ideal S2048x1024 .bf16) (x : FVec Ideal S1024x1024 .f32) (d : FVec Ideal S8x1024 .f32) (r l : Fin 1024)
theorem pay1_apply : k0_pay1 (F := Ideal) a w (ix2 r l) = ∑ k : Fin 2048, a (ix2 r k) * w (ix2 k l) := by
  pointwise [k0_pay1]
theorem pay3_apply : k0_pay3 (F := Ideal) a w (ix2 r l) = ∑ k : Fin 2048, a (ix2 r k) * w (ix2 k l) := by
  pointwise [k0_pay3, pay1_apply]
theorem pay2_apply : k0_pay2 (F := Ideal) a w x d (ix2 r l) = x (ix2 r l) + d (ix2 2 l) * ∑ k : Fin 2048, a (ix2 r k) * w (ix2 k l) := by
  pointwise [k0_pay2, pay1_apply]
end
theorem lt_col (t : Fin cfg0.N) (l : Fin 1024) : (grid0.coords t 1).val * 1024 + l.val < 2048 := by
  have : (grid0.coords t 1).val < 2 := (grid0.coords t 1).isLt
  omega
theorem lt_row (t : Fin cfg0.N) (r : Fin 1024) : (grid0.coords t 0).val * 1024 + r.val < 4096 := by
  have : (grid0.coords t 0).val < 4 := (grid0.coords t 0).isLt
  omega
theorem a_block (t : Fin cfg0.N) (r : Fin 1024) (k : Fin 2048) : iblk m c 0 t (ix2 r k) = (m ((c : Thread nD τ).loc main_arg0)) (ix2 ⟨(grid0.coords t 0).val * 1024 + r.val, lt_row t r⟩ k) := by
  blk_point [iblk, V, idx t]
theorem w_entry : V m c main_v3 = (truncf .bf16 (m ((c : Thread nD τ).loc main_arg1)) bitsLt_bf16_f32 : FVec Ideal S2048x2048 .bf16) := by
  unfold V
  simp only [hostOps0]
  run_tidy
theorem w_block (t : Fin cfg0.N) (k : Fin 2048) (l : Fin 1024) : iblk m c 1 t (ix2 k l) = (m ((c : Thread nD τ).loc main_arg1)) (ix2 k ⟨(grid0.coords t 1).val * 1024 + l.val, lt_col t l⟩) := by
  have e : iblk m c 1 t (ix2 k l) = V m c main_v3 (ix2 k ⟨(grid0.coords t 1).val * 1024 + l.val, lt_col t l⟩) := by
    blk_point [iblk, idx t]
  rw [e, w_entry]
  pointwise
theorem x_block (t : Fin cfg0.N) (r l : Fin 1024) : iblk m c 2 t (ix2 r l) = (m ((c : Thread nD τ).loc main_arg2)) (ix2 ⟨(grid0.coords t 0).val * 1024 + r.val, lt_row t r⟩ ⟨(grid0.coords t 1).val * 1024 + l.val, lt_col t l⟩) := by
  blk_point [iblk, V, idx t]
theorem d_block (t : Fin cfg0.N) (l : Fin 1024) : iblk m c 3 t (ix2 2 l) = (m ((c : Thread nD τ).loc main_arg3)) (ix2 0 ⟨4096 + ((grid0.coords t 1).val * 1024 + l.val), by have := lt_col t l; omega⟩) := by
  have e : iblk m c 3 t (ix2 2 l) = V m c main_v2 (ix2 2 ⟨(grid0.coords t 1).val * 1024 + l.val, lt_col t l⟩) := by
    blk_point [iblk, idx t]
  rw [e, rows_entry, filled_apply2]
theorem at_block4 (t : Fin cfg0.N) (r l : Fin 1024) :
    ((cfg0.win 4).blk t).view.emb (ix2 r l) = ix2 (⟨(grid0.coords t 0).val * 1024 + r.val, lt_row t r⟩ : Fin 4096) (⟨(grid0.coords t 1).val * 1024 + l.val, lt_col t l⟩ : Fin 2048) := by
  blk_simp
  blk_ext
  all_goals simp [idx t]
theorem at_block5 (t : Fin cfg0.N) (r l : Fin 1024) :
    ((cfg0.win 5).blk t).view.emb (ix2 r l) = ix2 (⟨(grid0.coords t 0).val * 1024 + r.val, lt_row t r⟩ : Fin 4096) (⟨(grid0.coords t 1).val * 1024 + l.val, lt_col t l⟩ : Fin 2048) := by
  blk_simp
  blk_ext
  all_goals simp [idx t]

theorem point4 (t : Fin cfg0.N) (y : S1024x1024.Idx) :
    k0_pay3 (F := Ideal) (iblk m c 0 t) (iblk m c 1 t) y
    = Cert.Reference10Ideal.Read.val_main_v8 (F := Ideal) (m ((c : Thread nD τ).loc main_arg0)) (m ((c : Thread nD τ).loc main_arg1)) (((cfg0.win 4).blk t).view.emb y) := by
  obtain ⟨r, l, rfl⟩ : ∃ (r : Fin 1024) (l : Fin 1024), y = ix2 r l := ⟨y 0, y 1, eq_ix2 y⟩
  rw [at_block4]
  refine (pay3_apply _ _ _ _).trans (.trans ?_ (Cert.Reference10Ideal.OutProj.v8_apply _ _ _ _).symm)
  simp only [a_block, w_block]

theorem final4 : (dats m 0 c).arrAt 4 (cfgs 0).N
    = Cert.Reference10Ideal.Read.val_main_v8 (F := Ideal) (m ((c : Thread nD τ).loc main_arg0)) (m ((c : Thread nD τ).loc main_arg1)) := by
  refine (dats m 0 c).arrAt_eq_of_covers 4 _ (by decide +kernel) fun t _ y => ?_
  blk_simp
  rw [after0_4]; unfold out0_4; frame_out
  exact point4 m c t y

theorem point5 (t : Fin cfg0.N) (y : S1024x1024.Idx) :
    k0_pay2 (F := Ideal) (iblk m c 0 t) (iblk m c 1 t) (iblk m c 2 t) (iblk m c 3 t) y
    = Cert.Reference10Ideal.Read.val_main_v11 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  obtain ⟨r, l, rfl⟩ : ∃ (r : Fin 1024) (l : Fin 1024), y = ix2 r l := ⟨y 0, y 1, eq_ix2 y⟩
  rw [at_block5]
  refine (pay2_apply _ _ _ _ _ _).trans (.trans ?_ (Cert.Reference10Ideal.OutProj.v11_apply _ _ _ _ _ _).symm)
  simp only [a_block, w_block, x_block, d_block]

theorem final5 : (dats m 0 c).arrAt 5 (cfgs 0).N
    = Cert.Reference10Ideal.Read.val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  exact point5 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v4_0) = Cert.Reference10Ideal.Read.val_main_v8 (F := Ideal) (m ((c.tc : Thread nD τ).loc main_arg0)) (m ((c.tc : Thread nD τ).loc main_arg1))
    ∧ r.2.mem ((c.tc : Thread nD τ).loc main_v4_1) = Cert.Reference10Ideal.Read.val_main_v11 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 4).trans (final4 m c), ((h.1 c).1 5).trans (final5 m c), h.2 c⟩)
    (θ_run_and (run_main m g) (unchanged m g))

end Cert.Kernel10Ideal.OutProj
-- ==== Proof.Ff1.lean ====
/- The first feed-forward product and its squared positive part, `f = h · w` and `max(f, 0)²`:
   what the tiled kernel stores, element by element. -/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference11Ideal.Ff1
open Cert.Reference11Ideal Cert.Reference11Ideal.Gen Cert.Reference11Ideal.Read

theorem v2_apply (x0 : FVec Ideal S4096x2048 .bf16) (x1 : FVec Ideal S2048x8192 .f32) (r : Fin 4096) (l : Fin 8192) :
    val_main_v2 (F := Ideal) x0 x1 (ix2 r l) = ∑ k : Fin 2048, x0 (ix2 r k) * x1 (ix2 k l) := by
  pointwise [val_main_v2, val_main_v1, val_main_v0]

theorem v5_apply (x0 : FVec Ideal S4096x2048 .bf16) (x1 : FVec Ideal S2048x8192 .f32) (r : Fin 4096) (l : Fin 8192) :
    val_main_v5 (F := Ideal) x0 x1 (ix2 r l) = max (∑ k : Fin 2048, x0 (ix2 r k) * x1 (ix2 k l)) 0 * max (∑ k : Fin 2048, x0 (ix2 r k) * x1 (ix2 k l)) 0 := by
  pointwise [val_main_v5, val_main_v4, val_main_v3, val_main_v1, val_main_v0, val_main_call0_v0, val_main_call0_cst]

end Cert.Reference11Ideal.Ff1

namespace Cert.Kernel11Ideal.Ff1
open Cert.Kernel11Ideal Cert.Kernel11Ideal.Gen
variable (m : (ℓ : Loc nD τ sig) → Buf (Elt Ideal) ℓ) (c : Dev nD)

theorem idx : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] :=
  (by decide +kernel : ∀ t : Fin grid0.N, _)

section
variable (a w : FVec Ideal S1024x2048 .bf16) (r l : Fin 1024)
theorem pay1_apply : k0_pay1 (F := Ideal) a w (ix2 r l) = ∑ k : Fin 2048, a (ix2 r k) * w (ix2 l k) := by
  pointwise [k0_pay1]
theorem pay2_apply : k0_pay2 (F := Ideal) a w (ix2 r l) = ∑ k : Fin 2048, a (ix2 r k) * w (ix2 l k) := by
  pointwise [k0_pay2, pay1_apply]
theorem pay3_apply : k0_pay3 (F := Ideal) a w (ix2 r l) = max (∑ k : Fin 2048, a (ix2 r k) * w (ix2 l k)) 0 * max (∑ k : Fin 2048, a (ix2 r k) * w (ix2 l k)) 0 := by
  pointwise [k0_pay3, pay1_apply]
end
theorem lt_col (t : Fin cfg0.N) (l : Fin 1024) : (grid0.coords t 1).val * 1024 + l.val < 8192 := by
  have : (grid0.coords t 1).val < 8 := (grid0.coords t 1).isLt
  omega
theorem lt_row (t : Fin cfg0.N) (r : Fin 1024) : (grid0.coords t 0).val * 1024 + r.val < 4096 := by
  have : (grid0.coords t 0).val < 4 := (grid0.coords t 0).isLt
  omega
theorem a_block (t : Fin cfg0.N) (r : Fin 1024) (k : Fin 2048) : iblk m c 0 t (ix2 r k) = (m ((c : Thread nD τ).loc main_arg0)) (ix2 ⟨(grid0.coords t 0).val * 1024 + r.val, lt_row t r⟩ k) := by
  blk_point [iblk, V, idx t]
theorem w_entry : V m c main_v1 = (truncf .bf16 (transpose S8192x2048 [1, 0] (m ((c : Thread nD τ).loc main_arg1)) transposes_S2048x8192_S8192x2048_1_0) bitsLt_bf16_f32 : FVec Ideal S8192x2048 .bf16) := by
  unfold V
  simp only [hostOps0]
  run_tidy
theorem w_block (t : Fin cfg0.N) (l : Fin 1024) (k : Fin 2048) : iblk m c 1 t (ix2 l k) = (m ((c : Thread nD τ).loc main_arg1)) (ix2 k ⟨(grid0.coords t 1).val * 1024 + l.val, lt_col t l⟩) := by
  have e : iblk m c 1 t (ix2 l k) = V m c main_v1 (ix2 ⟨(grid0.coords t 1).val * 1024 + l.val, lt_col t l⟩ k) := by
    blk_point [iblk, idx t]
  rw [e, w_entry]
  pointwise
theorem at_block2 (t : Fin cfg0.N) (r l : Fin 1024) :
    ((cfg0.win 2).blk t).view.emb (ix2 r l) = ix2 (⟨(grid0.coords t 0).val * 1024 + r.val, lt_row t r⟩ : Fin 4096) (⟨(grid0.coords t 1).val * 1024 + l.val, lt_col t l⟩ : Fin 8192) := by
  blk_simp
  blk_ext
  all_goals simp [idx t]
theorem at_block3 (t : Fin cfg0.N) (r l : Fin 1024) :
    ((cfg0.win 3).blk t).view.emb (ix2 r l) = ix2 (⟨(grid0.coords t 0).val * 1024 + r.val, lt_row t r⟩ : Fin 4096) (⟨(grid0.coords t 1).val * 1024 + l.val, lt_col t l⟩ : Fin 8192) := by
  blk_simp
  blk_ext
  all_goals simp [idx t]

theorem point2 (t : Fin cfg0.N) (y : S1024x1024.Idx) :
    k0_pay2 (F := Ideal) (iblk m c 0 t) (iblk m c 1 t) y
    = Cert.Reference11Ideal.Read.val_main_v2 (F := Ideal) (m ((c : Thread nD τ).loc main_arg0)) (m ((c : Thread nD τ).loc main_arg1)) (((cfg0.win 2).blk t).view.emb y) := by
  obtain ⟨r, l, rfl⟩ : ∃ (r : Fin 1024) (l : Fin 1024), y = ix2 r l := ⟨y 0, y 1, eq_ix2 y⟩
  rw [at_block2]
  refine (pay2_apply _ _ _ _).trans (.trans ?_ (Cert.Reference11Ideal.Ff1.v2_apply _ _ _ _).symm)
  simp only [a_block, w_block]

theorem final2 : (dats m 0 c).arrAt 2 (cfgs 0).N
    = Cert.Reference11Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  exact point2 m c t y

theorem point3 (t : Fin cfg0.N) (y : S1024x1024.Idx) :
    k0_pay3 (F := Ideal) (iblk m c 0 t) (iblk m c 1 t) y
    = Cert.Reference11Ideal.Read.val_main_v5 (F := Ideal) (m ((c : Thread nD τ).loc main_arg0)) (m ((c : Thread nD τ).loc main_arg1)) (((cfg0.win 3).blk t).view.emb y) := by
  obtain ⟨r, l, rfl⟩ : ∃ (r : Fin 1024) (l : Fin 1024), y = ix2 r l := ⟨y 0, y 1, eq_ix2 y⟩
  rw [at_block3]
  refine (pay3_apply _ _ _ _).trans (.trans ?_ (Cert.Reference11Ideal.Ff1.v5_apply _ _ _ _).symm)
  simp only [a_block, w_block]

theorem final3 : (dats m 0 c).arrAt 3 (cfgs 0).N
    = Cert.Reference11Ideal.Read.val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]; unfold out0_3; frame_out
  exact point3 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v2_0) = Cert.Reference11Ideal.Read.val_main_v2 (F := Ideal) (m ((c.tc : Thread nD τ).loc main_arg0)) (m ((c.tc : Thread nD τ).loc main_arg1))
    ∧ r.2.mem ((c.tc : Thread nD τ).loc main_v2_1) = Cert.Reference11Ideal.Read.val_main_v5 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), ((h.1 c).1 3).trans (final3 m c), h.2 c⟩)
    (θ_run_and (run_main m g) (unchanged m g))

end Cert.Kernel11Ideal.Ff1
-- ==== Proof.AdaFwd.lean ====
/- The conditioning product with its bias, `silu(c) · w + b`, the sigmoid written through a hyperbolic tangent:
   what the tiled kernel stores, element by element. -/
module

public import proofs.«01_k».proof.Defs
public import proofs.«01_k».proof.Proof.Ada
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference12Ideal.AdaFwd
open Cert.Reference12Ideal Cert.Reference12Ideal.Gen Cert.Reference12Ideal.Read

theorem v3_apply (x0 : FVec Ideal S8x2048 .f32) (x1 : FVec Ideal S2048x1536 .f32) (x2 : FVec Ideal S1x1536 .f32) (r : Fin 8) (l : Fin 1536) :
    val_main_v3 (F := Ideal) x0 x1 x2 (ix2 r l) = (∑ k : Fin 2048, x0 (ix2 r k) * Ideal.logistic (x0 (ix2 r k)) * x1 (ix2 k l)) + x2 (ix2 0 l) := by
  pointwise [val_main_v3, val_main_v2, val_main_v1, val_main_v0, val_main_call0_v5, val_main_call0_v4, val_main_call0_v3, val_main_call0_v2, val_main_call0_v1, val_main_call0_v0, val_main_call0_cst, val_main_call0_cst_0, Ideal.logistic]

end Cert.Reference12Ideal.AdaFwd

namespace Cert.Kernel12Ideal.AdaFwd
open Cert.Kernel12Ideal Cert.Kernel12Ideal.Gen
variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem pay_apply (a : FVec Ideal S8x2048 .f32) (w : FVec Ideal S2048x512 .f32) (b : FVec Ideal S1x512 .f32) (r : Fin 8) (l : Fin 512) :
    k0_pay1 (F := Ideal) a w b (ix2 r l) = (∑ k : Fin 2048, a (ix2 r k) * Ideal.logistic (a (ix2 r k)) * w (ix2 k l)) + b (ix2 0 l) := by
  simp only [← Cert.Sigmoid.eq]
  pointwise [k0_pay1]
theorem lt_col (t : Fin cfg0.N) (l : Fin 512) : t.val * 512 + l.val < 1536 := by
  have : t.val < 3 := t.isLt
  omega
theorem a_block (t : Fin cfg0.N) (r : Fin 8) (k : Fin 2048) : iblk m c 0 t (ix2 r k) = (m ((c : Thread nD τ).loc main_arg0)) (ix2 r k) := by
  blk_point [iblk, V, idx t]
theorem w_block (t : Fin cfg0.N) (k : Fin 2048) (l : Fin 512) : iblk m c 1 t (ix2 k l) = (m ((c : Thread nD τ).loc main_arg1)) (ix2 k ⟨t.val * 512 + l.val, lt_col t l⟩) := by
  blk_point [iblk, V, idx t]
theorem b_block (t : Fin cfg0.N) (l : Fin 512) : iblk m c 2 t (ix2 0 l) = (m ((c : Thread nD τ).loc main_arg2)) (ix2 0 ⟨t.val * 512 + l.val, lt_col t l⟩) := by
  blk_point [iblk, V, idx t]
theorem at_block (t : Fin cfg0.N) (r : Fin 8) (l : Fin 512) :
    ((cfg0.win 3).blk t).view.emb (ix2 r l) = ix2 r (⟨t.val * 512 + l.val, lt_col t l⟩ : Fin 1536) := by
  blk_simp
  blk_ext
  all_goals simp [idx t]

theorem point3 (t : Fin cfg0.N) (y : S8x512.Idx) :
    k0_pay1 (F := Ideal) (iblk m c 0 t) (iblk m c 1 t) (iblk m c 2 t) y
    = Cert.Reference12Ideal.Read.val_main_v3 (F := Ideal) (m ((c : Thread nD τ).loc main_arg0)) (m ((c : Thread nD τ).loc main_arg1)) (m ((c : Thread nD τ).loc main_arg2)) (((cfg0.win 3).blk t).view.emb y) := by
  obtain ⟨r, l, rfl⟩ : ∃ (r : Fin 8) (l : Fin 512), y = ix2 r l := ⟨y 0, y 1, eq_ix2 y⟩
  rw [at_block]
  refine (pay_apply _ _ _ _ _).trans (.trans ?_ (Cert.Reference12Ideal.AdaFwd.v3_apply _ _ _ _ _).symm)
  simp only [a_block, w_block, b_block]

theorem final3 : (dats m 0 c).arrAt 3 (cfgs 0).N
    = Cert.Reference12Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  exact point3 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference12Ideal.Read.val_main_v3 (F := Ideal) (m ((c.tc : Thread nD τ).loc main_arg0)) (m ((c.tc : Thread nD τ).loc main_arg1)) (m ((c.tc : Thread nD τ).loc main_arg2))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))) :=
  (θ_run _ _ _).mono (fun r h c => ⟨((h.1 c).1 3).trans (final3 m c), h.2 c⟩)
    (θ_run_and (run_main m g) (unchanged m g))

end Cert.Kernel12Ideal.AdaFwd
-- ==== Proof.LruOut.lean ====
/- The output product of the recurrence branch, `ya · w`:
   what the tiled kernel stores, element by element. -/
module

public import proofs.«01_k».proof.Defs
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference13Ideal.LruOut
open Cert.Reference13Ideal Cert.Reference13Ideal.Gen Cert.Reference13Ideal.Read

theorem v2_apply (x0 : FVec Ideal S4096x2048 .bf16) (x1 : FVec Ideal S2048x2048 .f32) (r : Fin 4096) (l : Fin 2048) :
    val_main_v2 (F := Ideal) x0 x1 (ix2 r l) = ∑ k : Fin 2048, x0 (ix2 r k) * x1 (ix2 k l) := by
  pointwise [val_main_v2, val_main_v1, val_main_v0]

end Cert.Reference13Ideal.LruOut

namespace Cert.Kernel13Ideal.LruOut
open Cert.Kernel13Ideal Cert.Kernel13Ideal.Gen
variable (m : (ℓ : Loc nD τ sig) → Buf (Elt Ideal) ℓ) (c : Dev nD)

theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

theorem pay_apply (a : FVec Ideal S1024x2048 .bf16) (w : FVec Ideal S2048x1024 .bf16) (r l : Fin 1024) :
    k0_pay1 (F := Ideal) a w (ix2 r l) = ∑ k : Fin 2048, a (ix2 r k) * w (ix2 k l) := by
  pointwise [k0_pay1]
theorem lt_col (t : Fin cfg0.N) (l : Fin 1024) : (grid0.coords t 1).val * 1024 + l.val < 2048 := by
  have : (grid0.coords t 1).val < 2 := (grid0.coords t 1).isLt
  omega
theorem lt_row (t : Fin cfg0.N) (r : Fin 1024) : (grid0.coords t 0).val * 1024 + r.val < 4096 := by
  have : (grid0.coords t 0).val < 4 := (grid0.coords t 0).isLt
  omega
theorem a_block (t : Fin cfg0.N) (r : Fin 1024) (k : Fin 2048) : iblk m c 0 t (ix2 r k) = (m ((c : Thread nD τ).loc main_arg0)) (ix2 ⟨(grid0.coords t 0).val * 1024 + r.val, lt_row t r⟩ k) := by
  blk_point [iblk, V, idx t]
theorem w_entry : V m c main_v0 = (truncf .bf16 (m ((c : Thread nD τ).loc main_arg1)) bitsLt_bf16_f32 : FVec Ideal S2048x2048 .bf16) := by
  unfold V
  simp only [hostOps0]
  run_tidy
theorem w_block (t : Fin cfg0.N) (k : Fin 2048) (l : Fin 1024) : iblk m c 1 t (ix2 k l) = (m ((c : Thread nD τ).loc main_arg1)) (ix2 k ⟨(grid0.coords t 1).val * 1024 + l.val, lt_col t l⟩) := by
  have e : iblk m c 1 t (ix2 k l) = V m c main_v0 (ix2 k ⟨(grid0.coords t 1).val * 1024 + l.val, lt_col t l⟩) := by
    blk_point [iblk, idx t]
  rw [e, w_entry]
  pointwise
theorem at_block (t : Fin cfg0.N) (r l : Fin 1024) :
    ((cfg0.win 2).blk t).view.emb (ix2 r l) = ix2 (⟨(grid0.coords t 0).val * 1024 + r.val, lt_row t r⟩ : Fin 4096) (⟨(grid0.coords t 1).val * 1024 + l.val, lt_col t l⟩ : Fin 2048) := by
  blk_simp
  blk_ext
  all_goals simp [idx t]

theorem point2 (t : Fin cfg0.N) (y : S1024x1024.Idx) :
    k0_pay1 (F := Ideal) (iblk m c 0 t) (iblk m c 1 t) y
    = Cert.Reference13Ideal.Read.val_main_v2 (F := Ideal) (m ((c : Thread nD τ).loc main_arg0)) (m ((c : Thread nD τ).loc main_arg1)) (((cfg0.win 2).blk t).view.emb y) := by
  obtain ⟨r, l, rfl⟩ : ∃ (r : Fin 1024) (l : Fin 1024), y = ix2 r l := ⟨y 0, y 1, eq_ix2 y⟩
  rw [at_block]
  refine (pay_apply _ _ _ _).trans (.trans ?_ (Cert.Reference13Ideal.LruOut.v2_apply _ _ _ _).symm)
  simp only [a_block, w_block]

theorem final2 : (dats m 0 c).arrAt 2 (cfgs 0).N
    = Cert.Reference13Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  exact point2 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1) = Cert.Reference13Ideal.Read.val_main_v2 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel13Ideal.LruOut
-- ==== Proof.AttnOutDx.lean ====
/- The gradient through the attention branch's output product, `dy · wᵀ`:
   what the tiled kernel stores, element by element. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference14Ideal.AttnOutDx
open Cert.Reference14Ideal Cert.Reference14Ideal.Gen Cert.Reference14Ideal.Read

theorem v4_apply (x0 : FVec Ideal S4096x2048 .bf16) (x1 : FVec Ideal S2048x2048 .f32) (r : Fin 4096) (l : Fin 2048) :
    val_main_v4 (F := Ideal) x0 x1 (ix2 r l) = ∑ k : Fin 2048, x0 (ix2 r k) * x1 (ix2 l k) := by
  pointwise [val_main_v4, val_main_v3, val_main_v2]

end Cert.Reference14Ideal.AttnOutDx

namespace Cert.Kernel14Ideal.AttnOutDx
open Cert.Kernel14Ideal Cert.Kernel14Ideal.Gen
variable (m : (ℓ : Loc nD τ sig) → Buf (Elt Ideal) ℓ) (c : Dev nD)

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

theorem pay_apply (a : FVec Ideal S1024x2048 .bf16) (w : FVec Ideal S1024x2048 .bf16) (r l : Fin 1024) :
    k0_pay1 (F := Ideal) a w (ix2 r l) = ∑ k : Fin 2048, a (ix2 r k) * w (ix2 l k) := by
  pointwise [k0_pay1]
theorem lt_col (t : Fin cfg0.N) (l : Fin 1024) : (grid0.coords t 1).val * 1024 + l.val < 2048 := by
  have : (grid0.coords t 1).val < 2 := (grid0.coords t 1).isLt
  omega
theorem lt_row (t : Fin cfg0.N) (r : Fin 1024) : (grid0.coords t 0).val * 1024 + r.val < 4096 := by
  have : (grid0.coords t 0).val < 4 := (grid0.coords t 0).isLt
  omega
theorem a_block (t : Fin cfg0.N) (r : Fin 1024) (k : Fin 2048) : iblk m c 0 t (ix2 r k) = (m ((c : Thread nD τ).loc main_arg0)) (ix2 ⟨(grid0.coords t 0).val * 1024 + r.val, lt_row t r⟩ k) := by
  blk_point [iblk, V, idx t]
theorem w_entry : V m c main_v0 = (truncf .bf16 (m ((c : Thread nD τ).loc main_arg1)) bitsLt_bf16_f32 : FVec Ideal S2048x2048 .bf16) := by
  unfold V
  simp only [hostOps0]
  run_tidy
theorem w_block (t : Fin cfg0.N) (k : Fin 2048) (l : Fin 1024) : iblk m c 1 t (ix2 l k) = (m ((c : Thread nD τ).loc main_arg1)) (ix2 ⟨(grid0.coords t 1).val * 1024 + l.val, lt_col t l⟩ k) := by
  have e : iblk m c 1 t (ix2 l k) = V m c main_v0 (ix2 ⟨(grid0.coords t 1).val * 1024 + l.val, lt_col t l⟩ k) := by
    blk_point [iblk, idx t]
  rw [e, w_entry]
  pointwise
theorem at_block (t : Fin cfg0.N) (r l : Fin 1024) :
    ((cfg0.win 2).blk t).view.emb (ix2 r l) = ix2 (⟨(grid0.coords t 0).val * 1024 + r.val, lt_row t r⟩ : Fin 4096) (⟨(grid0.coords t 1).val * 1024 + l.val, lt_col t l⟩ : Fin 2048) := by
  blk_simp
  blk_ext
  all_goals simp [idx t]

theorem point2 (t : Fin cfg0.N) (y : S1024x1024.Idx) :
    k0_pay1 (F := Ideal) (iblk m c 0 t) (iblk m c 1 t) y
    = Cert.Reference14Ideal.Read.val_main_v4 (F := Ideal) (m ((c : Thread nD τ).loc main_arg0)) (m ((c : Thread nD τ).loc main_arg1)) (((cfg0.win 2).blk t).view.emb y) := by
  obtain ⟨r, l, rfl⟩ : ∃ (r : Fin 1024) (l : Fin 1024), y = ix2 r l := ⟨y 0, y 1, eq_ix2 y⟩
  rw [at_block]
  refine (pay_apply _ _ _ _).trans (.trans ?_ (Cert.Reference14Ideal.AttnOutDx.v4_apply _ _ _ _).symm)
  simp only [a_block, w_block]

theorem final2 : (dats m 0 c).arrAt 2 (cfgs 0).N
    = Cert.Reference14Ideal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  exact point2 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1) = Cert.Reference14Ideal.Read.val_main_v4 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel14Ideal.AttnOutDx
-- ==== Proof.LruOutDx.lean ====
/- The gradient through the recurrence branch's output product, `dy · wᵀ`:
   what the tiled kernel stores, element by element. -/
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference15Ideal.LruOutDx
open Cert.Reference15Ideal Cert.Reference15Ideal.Gen Cert.Reference15Ideal.Read

theorem v4_apply (x0 : FVec Ideal S4096x2048 .bf16) (x1 : FVec Ideal S2048x2048 .f32) (r : Fin 4096) (l : Fin 2048) :
    val_main_v4 (F := Ideal) x0 x1 (ix2 r l) = ∑ k : Fin 2048, x0 (ix2 r k) * x1 (ix2 l k) := by
  pointwise [val_main_v4, val_main_v3, val_main_v2]

end Cert.Reference15Ideal.LruOutDx

namespace Cert.Kernel15Ideal.LruOutDx
open Cert.Kernel15Ideal Cert.Kernel15Ideal.Gen
variable (m : (ℓ : Loc nD τ sig) → Buf (Elt Ideal) ℓ) (c : Dev nD)

theorem idx : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

theorem pay_apply (a : FVec Ideal S1024x2048 .bf16) (w : FVec Ideal S1024x2048 .bf16) (r l : Fin 1024) :
    k0_pay1 (F := Ideal) a w (ix2 r l) = ∑ k : Fin 2048, a (ix2 r k) * w (ix2 l k) := by
  pointwise [k0_pay1]
theorem lt_col (t : Fin cfg0.N) (l : Fin 1024) : (grid0.coords t 1).val * 1024 + l.val < 2048 := by
  have : (grid0.coords t 1).val < 2 := (grid0.coords t 1).isLt
  omega
theorem lt_row (t : Fin cfg0.N) (r : Fin 1024) : (grid0.coords t 0).val * 1024 + r.val < 4096 := by
  have : (grid0.coords t 0).val < 4 := (grid0.coords t 0).isLt
  omega
theorem a_block (t : Fin cfg0.N) (r : Fin 1024) (k : Fin 2048) : iblk m c 0 t (ix2 r k) = (m ((c : Thread nD τ).loc main_arg0)) (ix2 ⟨(grid0.coords t 0).val * 1024 + r.val, lt_row t r⟩ k) := by
  blk_point [iblk, V, idx t]
theorem w_entry : V m c main_v0 = (truncf .bf16 (m ((c : Thread nD τ).loc main_arg1)) bitsLt_bf16_f32 : FVec Ideal S2048x2048 .bf16) := by
  unfold V
  simp only [hostOps0]
  run_tidy
theorem w_block (t : Fin cfg0.N) (k : Fin 2048) (l : Fin 1024) : iblk m c 1 t (ix2 l k) = (m ((c : Thread nD τ).loc main_arg1)) (ix2 ⟨(grid0.coords t 1).val * 1024 + l.val, lt_col t l⟩ k) := by
  have e : iblk m c 1 t (ix2 l k) = V m c main_v0 (ix2 ⟨(grid0.coords t 1).val * 1024 + l.val, lt_col t l⟩ k) := by
    blk_point [iblk, idx t]
  rw [e, w_entry]
  pointwise
theorem at_block (t : Fin cfg0.N) (r l : Fin 1024) :
    ((cfg0.win 2).blk t).view.emb (ix2 r l) = ix2 (⟨(grid0.coords t 0).val * 1024 + r.val, lt_row t r⟩ : Fin 4096) (⟨(grid0.coords t 1).val * 1024 + l.val, lt_col t l⟩ : Fin 2048) := by
  blk_simp
  blk_ext
  all_goals simp [idx t]

theorem point2 (t : Fin cfg0.N) (y : S1024x1024.Idx) :
    k0_pay1 (F := Ideal) (iblk m c 0 t) (iblk m c 1 t) y
    = Cert.Reference15Ideal.Read.val_main_v4 (F := Ideal) (m ((c : Thread nD τ).loc main_arg0)) (m ((c : Thread nD τ).loc main_arg1)) (((cfg0.win 2).blk t).view.emb y) := by
  obtain ⟨r, l, rfl⟩ : ∃ (r : Fin 1024) (l : Fin 1024), y = ix2 r l := ⟨y 0, y 1, eq_ix2 y⟩
  rw [at_block]
  refine (pay_apply _ _ _ _).trans (.trans ?_ (Cert.Reference15Ideal.LruOutDx.v4_apply _ _ _ _).symm)
  simp only [a_block, w_block]

theorem final2 : (dats m 0 c).arrAt 2 (cfgs 0).N
    = Cert.Reference15Ideal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  exact point2 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1) = Cert.Reference15Ideal.Read.val_main_v4 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel15Ideal.LruOutDx
-- ==== Proof.OutProjDw.lean ====
/- The gradient of the output product's weight, `mergedᵀ · do`, summed over the rows in two halves:
   what the tiled kernel stores, element by element. -/
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference16Ideal.OutProjDw
open Cert.Reference16Ideal Cert.Reference16Ideal.Gen Cert.Reference16Ideal.Read

theorem read (x0 : FVec Ideal S4096x2048 .bf16) (x1 : FVec Ideal S4096x2048 .bf16) (r : Fin 2048) (l : Fin 2048) :
    val_main_v6 (F := Ideal) x0 x1 (ix2 r l) = ∑ k : Fin 4096, x1 (ix2 k l) * x0 (ix2 k r) := by
  pointwise [val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x2048 .bf16) (x1 : FVec Ideal S4096x2048 .bf16) (r : Fin 2048) (l : Fin 2048) :
    val_main_v6 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
  exact Finset.sum_congr rfl fun k _ => mul_comm _ _
end Cert.Reference16Ideal.OutProjDw

namespace Cert.Kernel16Ideal.OutProjDw
open Cert.Kernel16Ideal Cert.Kernel16Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x512 .bf16) (b : FVec Ideal S2048x2048 .bf16) (s : FVec Ideal S512x2048 .f32) (r : Fin 512) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S512x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 512) : n / 2 * 512 + r.val < 2048 := by
  have : n < 8 := h
  omega
theorem a_block (t : Fin cfg0.N) (k : Fin 2048) (r : Fin 512) : iblk m c 0 t (ix2 k r) = (m ((c : Thread nD τ).loc main_arg0)) (ix2 ⟨t.val % 2 * 2048 + k.val, by omega⟩ ⟨t.val / 2 * 512 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 512) (l : Fin 2048) :
    ((cfg0.win 2).blk t).view.emb (ix2 r l) = ix2 (⟨t.val / 2 * 512 + r.val, lt_row t.val t.isLt r⟩ : Fin 2048) l := by
  blk_simp
  blk_ext
  all_goals simp [idx t]

/-- The two arguments. -/
abbrev lhs : FVec Ideal S4096x2048 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x512 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 512, q * 512 + r.val < 2048) (r : Fin 512) (l : Fin 2048) :
    ∑ k : Fin 2048, blkL m c t (ix2 k r) * blkR m c t (ix2 k l)
      = ∑ k : Fin 2048, lhs m c (ix2 ⟨p * 2048 + k.val, by omega⟩ ⟨q * 512 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 512) (l : Fin 2048) :
    (outsAt0 m c t.val t.isLt).1 (ix2 r l) = Cert.Reference16Ideal.Read.val_main_v6 (F := Ideal) (m ((c : Thread nD τ).loc main_arg0)) (m ((c : Thread nD τ).loc main_arg1)) (((cfg0.win 2).blk t).view.emb (ix2 r l)) := by
  have hr : ∀ r : Fin 512, t.val / 2 * 512 + r.val < 2048 := lt_row t.val t.isLt
  rw [at_block, out_second m c t h]
  refine (pay4_apply _ _ _).trans ((pay3_apply _ _ _ _ _).trans (.trans ?_ (Cert.Reference16Ideal.OutProjDw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference16Ideal.Read.val_main_v6 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 512) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference16Ideal.Read.val_main_v6 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel16Ideal.OutProjDw
-- ==== Proof.AttnOutDw.lean ====
/- The gradient of the attention branch's output weight, `attᵀ · dy`, summed over the rows in two halves:
   what the tiled kernel stores, element by element. -/
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference17Ideal.AttnOutDw
open Cert.Reference17Ideal Cert.Reference17Ideal.Gen Cert.Reference17Ideal.Read

theorem read (x0 : FVec Ideal S4096x2048 .bf16) (x1 : FVec Ideal S4096x2048 .bf16) (r : Fin 2048) (l : Fin 2048) :
    val_main_v6 (F := Ideal) x0 x1 (ix2 r l) = ∑ k : Fin 4096, x1 (ix2 k l) * x0 (ix2 k r) := by
  pointwise [val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x2048 .bf16) (x1 : FVec Ideal S4096x2048 .bf16) (r : Fin 2048) (l : Fin 2048) :
    val_main_v6 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
  exact Finset.sum_congr rfl fun k _ => mul_comm _ _
end Cert.Reference17Ideal.AttnOutDw

namespace Cert.Kernel17Ideal.AttnOutDw
open Cert.Kernel17Ideal Cert.Kernel17Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x512 .bf16) (b : FVec Ideal S2048x2048 .bf16) (s : FVec Ideal S512x2048 .f32) (r : Fin 512) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S512x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 512) : n / 2 * 512 + r.val < 2048 := by
  have : n < 8 := h
  omega
theorem a_block (t : Fin cfg0.N) (k : Fin 2048) (r : Fin 512) : iblk m c 0 t (ix2 k r) = (m ((c : Thread nD τ).loc main_arg0)) (ix2 ⟨t.val % 2 * 2048 + k.val, by omega⟩ ⟨t.val / 2 * 512 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 512) (l : Fin 2048) :
    ((cfg0.win 2).blk t).view.emb (ix2 r l) = ix2 (⟨t.val / 2 * 512 + r.val, lt_row t.val t.isLt r⟩ : Fin 2048) l := by
  blk_simp
  blk_ext
  all_goals simp [idx t]

/-- The two arguments. -/
abbrev lhs : FVec Ideal S4096x2048 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x512 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 512, q * 512 + r.val < 2048) (r : Fin 512) (l : Fin 2048) :
    ∑ k : Fin 2048, blkL m c t (ix2 k r) * blkR m c t (ix2 k l)
      = ∑ k : Fin 2048, lhs m c (ix2 ⟨p * 2048 + k.val, by omega⟩ ⟨q * 512 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 512) (l : Fin 2048) :
    (outsAt0 m c t.val t.isLt).1 (ix2 r l) = Cert.Reference17Ideal.Read.val_main_v6 (F := Ideal) (m ((c : Thread nD τ).loc main_arg0)) (m ((c : Thread nD τ).loc main_arg1)) (((cfg0.win 2).blk t).view.emb (ix2 r l)) := by
  have hr : ∀ r : Fin 512, t.val / 2 * 512 + r.val < 2048 := lt_row t.val t.isLt
  rw [at_block, out_second m c t h]
  refine (pay4_apply _ _ _).trans ((pay3_apply _ _ _ _ _).trans (.trans ?_ (Cert.Reference17Ideal.AttnOutDw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference17Ideal.Read.val_main_v6 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 512) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference17Ideal.Read.val_main_v6 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel17Ideal.AttnOutDw
-- ==== Proof.LruOutDw.lean ====
/- The gradient of the recurrence branch's output weight, `yaᵀ · dy`, summed over the rows in two halves:
   what the tiled kernel stores, element by element. -/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference18Ideal.LruOutDw
open Cert.Reference18Ideal Cert.Reference18Ideal.Gen Cert.Reference18Ideal.Read

theorem read (x0 : FVec Ideal S4096x2048 .bf16) (x1 : FVec Ideal S4096x2048 .bf16) (r : Fin 2048) (l : Fin 2048) :
    val_main_v6 (F := Ideal) x0 x1 (ix2 r l) = ∑ k : Fin 4096, x1 (ix2 k l) * x0 (ix2 k r) := by
  pointwise [val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x2048 .bf16) (x1 : FVec Ideal S4096x2048 .bf16) (r : Fin 2048) (l : Fin 2048) :
    val_main_v6 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
  exact Finset.sum_congr rfl fun k _ => mul_comm _ _
end Cert.Reference18Ideal.LruOutDw

namespace Cert.Kernel18Ideal.LruOutDw
open Cert.Kernel18Ideal Cert.Kernel18Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x512 .bf16) (b : FVec Ideal S2048x2048 .bf16) (s : FVec Ideal S512x2048 .f32) (r : Fin 512) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S512x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 512) : n / 2 * 512 + r.val < 2048 := by
  have : n < 8 := h
  omega
theorem a_block (t : Fin cfg0.N) (k : Fin 2048) (r : Fin 512) : iblk m c 0 t (ix2 k r) = (m ((c : Thread nD τ).loc main_arg0)) (ix2 ⟨t.val % 2 * 2048 + k.val, by omega⟩ ⟨t.val / 2 * 512 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 512) (l : Fin 2048) :
    ((cfg0.win 2).blk t).view.emb (ix2 r l) = ix2 (⟨t.val / 2 * 512 + r.val, lt_row t.val t.isLt r⟩ : Fin 2048) l := by
  blk_simp
  blk_ext
  all_goals simp [idx t]

/-- The two arguments. -/
abbrev lhs : FVec Ideal S4096x2048 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x512 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 512, q * 512 + r.val < 2048) (r : Fin 512) (l : Fin 2048) :
    ∑ k : Fin 2048, blkL m c t (ix2 k r) * blkR m c t (ix2 k l)
      = ∑ k : Fin 2048, lhs m c (ix2 ⟨p * 2048 + k.val, by omega⟩ ⟨q * 512 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 512) (l : Fin 2048) :
    (outsAt0 m c t.val t.isLt).1 (ix2 r l) = Cert.Reference18Ideal.Read.val_main_v6 (F := Ideal) (m ((c : Thread nD τ).loc main_arg0)) (m ((c : Thread nD τ).loc main_arg1)) (((cfg0.win 2).blk t).view.emb (ix2 r l)) := by
  have hr : ∀ r : Fin 512, t.val / 2 * 512 + r.val < 2048 := lt_row t.val t.isLt
  rw [at_block, out_second m c t h]
  refine (pay4_apply _ _ _).trans ((pay3_apply _ _ _ _ _).trans (.trans ?_ (Cert.Reference18Ideal.LruOutDw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference18Ideal.Read.val_main_v6 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 512) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference18Ideal.Read.val_main_v6 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel18Ideal.LruOutDw
-- ==== Proof.Ff2Dw.lean ====
/- The gradient of the second feed-forward product's weight, `ffᵀ · do`, summed over the rows in two halves:
   what the tiled kernel stores, element by element. -/
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference19Ideal.Ff2Dw
open Cert.Reference19Ideal Cert.Reference19Ideal.Gen Cert.Reference19Ideal.Read

theorem read (x0 : FVec Ideal S4096x8192 .bf16) (x1 : FVec Ideal S4096x2048 .bf16) (r : Fin 8192) (l : Fin 2048) :
    val_main_v6 (F := Ideal) x0 x1 (ix2 r l) = ∑ k : Fin 4096, x1 (ix2 k l) * x0 (ix2 k r) := by
  pointwise [val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x8192 .bf16) (x1 : FVec Ideal S4096x2048 .bf16) (r : Fin 8192) (l : Fin 2048) :
    val_main_v6 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
  exact Finset.sum_congr rfl fun k _ => mul_comm _ _
end Cert.Reference19Ideal.Ff2Dw

namespace Cert.Kernel19Ideal.Ff2Dw
open Cert.Kernel19Ideal Cert.Kernel19Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x512 .bf16) (b : FVec Ideal S2048x2048 .bf16) (s : FVec Ideal S512x2048 .f32) (r : Fin 512) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S512x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 512) : n / 2 * 512 + r.val < 8192 := by
  have : n < 32 := h
  omega
theorem a_block (t : Fin cfg0.N) (k : Fin 2048) (r : Fin 512) : iblk m c 0 t (ix2 k r) = (m ((c : Thread nD τ).loc main_arg0)) (ix2 ⟨t.val % 2 * 2048 + k.val, by omega⟩ ⟨t.val / 2 * 512 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 512) (l : Fin 2048) :
    ((cfg0.win 2).blk t).view.emb (ix2 r l) = ix2 (⟨t.val / 2 * 512 + r.val, lt_row t.val t.isLt r⟩ : Fin 8192) l := by
  blk_simp
  blk_ext
  all_goals simp [idx t]

/-- The two arguments. -/
abbrev lhs : FVec Ideal S4096x8192 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x512 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 512, q * 512 + r.val < 8192) (r : Fin 512) (l : Fin 2048) :
    ∑ k : Fin 2048, blkL m c t (ix2 k r) * blkR m c t (ix2 k l)
      = ∑ k : Fin 2048, lhs m c (ix2 ⟨p * 2048 + k.val, by omega⟩ ⟨q * 512 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 512) (l : Fin 2048) :
    (outsAt0 m c t.val t.isLt).1 (ix2 r l) = Cert.Reference19Ideal.Read.val_main_v6 (F := Ideal) (m ((c : Thread nD τ).loc main_arg0)) (m ((c : Thread nD τ).loc main_arg1)) (((cfg0.win 2).blk t).view.emb (ix2 r l)) := by
  have hr : ∀ r : Fin 512, t.val / 2 * 512 + r.val < 8192 := lt_row t.val t.isLt
  rw [at_block, out_second m c t h]
  refine (pay4_apply _ _ _).trans ((pay3_apply _ _ _ _ _).trans (.trans ?_ (Cert.Reference19Ideal.Ff2Dw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference19Ideal.Read.val_main_v6 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 512) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference19Ideal.Read.val_main_v6 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel19Ideal.Ff2Dw
-- ==== Proof.Ff1Dw.lean ====
/- The gradient of the first feed-forward product's weight, transposed, `dfᵀ · h`, summed over the rows in two halves:
   what the tiled kernel stores, element by element. -/
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference20Ideal.Ff1Dw
open Cert.Reference20Ideal Cert.Reference20Ideal.Gen Cert.Reference20Ideal.Read

theorem read (x0 : FVec Ideal S4096x8192 .bf16) (x1 : FVec Ideal S4096x2048 .bf16) (r : Fin 8192) (l : Fin 2048) :
    val_main_v7 (F := Ideal) x0 x1 (ix2 r l) = ∑ k : Fin 4096, x0 (ix2 k r) * x1 (ix2 k l) := by
  pointwise [val_main_v7, val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x8192 .bf16) (x1 : FVec Ideal S4096x2048 .bf16) (r : Fin 8192) (l : Fin 2048) :
    val_main_v7 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
end Cert.Reference20Ideal.Ff1Dw

namespace Cert.Kernel20Ideal.Ff1Dw
open Cert.Kernel20Ideal Cert.Kernel20Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x512 .bf16) (b : FVec Ideal S2048x2048 .bf16) (s : FVec Ideal S512x2048 .f32) (r : Fin 512) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S512x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 512) : n / 2 * 512 + r.val < 8192 := by
  have : n < 32 := h
  omega
theorem a_block (t : Fin cfg0.N) (k : Fin 2048) (r : Fin 512) : iblk m c 0 t (ix2 k r) = (m ((c : Thread nD τ).loc main_arg0)) (ix2 ⟨t.val % 2 * 2048 + k.val, by omega⟩ ⟨t.val / 2 * 512 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 512) (l : Fin 2048) :
    ((cfg0.win 2).blk t).view.emb (ix2 r l) = ix2 (⟨t.val / 2 * 512 + r.val, lt_row t.val t.isLt r⟩ : Fin 8192) l := by
  blk_simp
  blk_ext
  all_goals simp [idx t]

/-- The two arguments. -/
abbrev lhs : FVec Ideal S4096x8192 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x512 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 512, q * 512 + r.val < 8192) (r : Fin 512) (l : Fin 2048) :
    ∑ k : Fin 2048, blkL m c t (ix2 k r) * blkR m c t (ix2 k l)
      = ∑ k : Fin 2048, lhs m c (ix2 ⟨p * 2048 + k.val, by omega⟩ ⟨q * 512 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 512) (l : Fin 2048) :
    (outsAt0 m c t.val t.isLt).1 (ix2 r l) = Cert.Reference20Ideal.Read.val_main_v7 (F := Ideal) (m ((c : Thread nD τ).loc main_arg0)) (m ((c : Thread nD τ).loc main_arg1)) (((cfg0.win 2).blk t).view.emb (ix2 r l)) := by
  have hr : ∀ r : Fin 512, t.val / 2 * 512 + r.val < 8192 := lt_row t.val t.isLt
  rw [at_block, out_second m c t h]
  refine (pay4_apply _ _ _).trans ((pay3_apply _ _ _ _ _).trans (.trans ?_ (Cert.Reference20Ideal.Ff1Dw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference20Ideal.Read.val_main_v7 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 512) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference20Ideal.Read.val_main_v7 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel20Ideal.Ff1Dw
-- ==== Proof.InProjDw.lean ====
/- The gradient of the input projection's weight, transposed, `dprojᵀ · h`, summed over the rows in two halves:
   what the tiled kernel stores, element by element. -/
module

public import proofs.«01_k».proof.Defs
public import proofs.«01_k».proof.Proof.Gen.Kernel21Ideal.Frame
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference21Ideal.InProjDw
open Cert.Reference21Ideal Cert.Reference21Ideal.Gen Cert.Reference21Ideal.Read

theorem read (x0 : FVec Ideal S4096x10752 .bf16) (x1 : FVec Ideal S4096x2048 .bf16) (r : Fin 10752) (l : Fin 2048) :
    val_main_v7 (F := Ideal) x0 x1 (ix2 r l) = ∑ k : Fin 4096, x0 (ix2 k r) * x1 (ix2 k l) := by
  pointwise [val_main_v7, val_main_v6, val_main_v5, val_main_v4, val_main_v3, val_main_v1]

/-- The sum over all rows is the sum over the first half and the sum over the second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem apply (x0 : FVec Ideal S4096x10752 .bf16) (x1 : FVec Ideal S4096x2048 .bf16) (r : Fin 10752) (l : Fin 2048) :
    val_main_v7 (F := Ideal) x0 x1 (ix2 r l)
      = (∑ k : Fin 2048, x0 (ix2 ⟨k.val, by omega⟩ r) * x1 (ix2 ⟨k.val, by omega⟩ l))
        + ∑ k : Fin 2048, x0 (ix2 ⟨2048 + k.val, by omega⟩ r) * x1 (ix2 ⟨2048 + k.val, by omega⟩ l) := by
  rw [read, ← halves fun k => x0 (ix2 k r) * x1 (ix2 k l)]
end Cert.Reference21Ideal.InProjDw

namespace Cert.Kernel21Ideal.InProjDw
open Cert.Kernel21Ideal Cert.Kernel21Ideal.Gen
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)
theorem written : ∀ t : Fin cfg0.N, (cfg0.win 2).flush t = true → t.val % 2 = 1 :=
  (by decide +kernel : ∀ t : Fin grid0.N, _)

section
variable (a : FVec Ideal S2048x768 .bf16) (b : FVec Ideal S2048x2048 .bf16) (s : FVec Ideal S768x2048 .f32) (r : Fin 768) (l : Fin 2048)
theorem pay1_apply : k0_pay1 (F := Ideal) a b (ix2 r l) = ∑ k : Fin 2048, a (ix2 k r) * b (ix2 k l) := by
  pointwise [k0_pay1]
theorem pay2_apply : k0_pay2 (F := Ideal) a b (ix2 r l) = ∑ k : Fin 2048, a (ix2 k r) * b (ix2 k l) := by
  pointwise [k0_pay2, pay1_apply]
theorem pay3_apply : k0_pay3 (F := Ideal) a b s (ix2 r l) = s (ix2 r l) + ∑ k : Fin 2048, a (ix2 k r) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S768x2048.Idx → Elt Ideal .f32) :
    View.read (Elt Ideal) (View.whole cc0_scratch0) (hm.unread q) = q := hm.read_unread q
/-- The first half of the rows: the accumulator is set. -/
theorem acc_first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- The second half: the accumulator is added to and written out. -/
theorem out_second (t : Fin cfg0.N) (h : t.val % 2 = 1) : (outsAt0 m c t.val t.isLt).1
    = k0_pay4 (F := Ideal) (k0_pay3 (F := Ideal) (iblk m c 0 t) (iblk m c 1 t) (outsAt0 m c (t.val - 1) (by omega)).2) := by
  rw [outsAt0_B m c t (by omega) h h]
  frame_out
  rw [scratch_read]

theorem lt_row (n : ℕ) (h : n < cfg0.N) (r : Fin 768) : n / 2 * 768 + r.val < 10752 := by
  have : n < 28 := h
  omega
theorem a_block (t : Fin cfg0.N) (k : Fin 2048) (r : Fin 768) : iblk m c 0 t (ix2 k r) = (m ((c : Thread nD τ).loc main_arg0)) (ix2 ⟨t.val % 2 * 2048 + k.val, by omega⟩ ⟨t.val / 2 * 768 + r.val, lt_row t.val t.isLt r⟩) := by
  blk_point [iblk, V, idx t]
theorem b_block (t : Fin cfg0.N) (k l : Fin 2048) : iblk m c 1 t (ix2 k l) = (m ((c : Thread nD τ).loc main_arg1)) (ix2 ⟨t.val % 2 * 2048 + k.val, by omega⟩ l) := by
  blk_point [iblk, V, idx t]
theorem at_block (t : Fin cfg0.N) (r : Fin 768) (l : Fin 2048) :
    ((cfg0.win 2).blk t).view.emb (ix2 r l) = ix2 (⟨t.val / 2 * 768 + r.val, lt_row t.val t.isLt r⟩ : Fin 10752) l := by
  blk_simp
  blk_ext
  all_goals simp [idx t]

/-- The two arguments. -/
abbrev lhs : FVec Ideal S4096x10752 .bf16 := (m ((c : Thread nD τ).loc main_arg0))
abbrev rhs : FVec Ideal S4096x2048 .bf16 := (m ((c : Thread nD τ).loc main_arg1))
/-- The blocks of them at a point. -/
abbrev blkL (t : Fin cfg0.N) : FVec Ideal S2048x768 .bf16 := iblk m c 0 t
abbrev blkR (t : Fin cfg0.N) : FVec Ideal S2048x2048 .bf16 := iblk m c 1 t

theorem part (t : Fin cfg0.N) (q p : ℕ) (hq : t.val / 2 = q) (hp : t.val % 2 = p) (hr : ∀ r : Fin 768, q * 768 + r.val < 10752) (r : Fin 768) (l : Fin 2048) :
    ∑ k : Fin 2048, blkL m c t (ix2 k r) * blkR m c t (ix2 k l)
      = ∑ k : Fin 2048, lhs m c (ix2 ⟨p * 2048 + k.val, by omega⟩ ⟨q * 768 + r.val, hr r⟩) * rhs m c (ix2 ⟨p * 2048 + k.val, by omega⟩ l) := by
  subst hq hp
  exact Finset.sum_congr rfl fun k _ => congrArg₂ (· * ·) (a_block m c t k r) (b_block m c t k l)

theorem point (t : Fin cfg0.N) (h : t.val % 2 = 1) (r : Fin 768) (l : Fin 2048) :
    (outsAt0 m c t.val t.isLt).1 (ix2 r l) = Cert.Reference21Ideal.Read.val_main_v7 (F := Ideal) (m ((c : Thread nD τ).loc main_arg0)) (m ((c : Thread nD τ).loc main_arg1)) (((cfg0.win 2).blk t).view.emb (ix2 r l)) := by
  have hr : ∀ r : Fin 768, t.val / 2 * 768 + r.val < 10752 := lt_row t.val t.isLt
  rw [at_block, out_second m c t h]
  refine (pay4_apply _ _ _).trans ((pay3_apply _ _ _ _ _).trans (.trans ?_ (Cert.Reference21Ideal.InProjDw.apply _ _ _ _).symm))
  refine congrArg₂ (· + ·) ?_ ?_
  · have e := acc_first m c ⟨t.val - 1, by omega⟩ (by show (t.val - 1) % 2 = 0; omega)
    refine (congrFun e (ix2 r l)).trans ((pay2_apply _ _ _ _).trans ?_)
    refine (part m c ⟨t.val - 1, by omega⟩ (t.val / 2) 0 (by show (t.val - 1) / 2 = t.val / 2; omega) (by show (t.val - 1) % 2 = 0; omega) hr r l).trans ?_
    simp only [lhs, rhs, Nat.zero_mul, Nat.zero_add]
  · refine (part m c t (t.val / 2) 1 rfl h hr r l).trans ?_
    simp only [lhs, rhs, Nat.one_mul]

theorem final2 : (dats m 0 c).arrAt 2 (cfgs 0).N = Cert.Reference21Ideal.Read.val_main_v7 (F := Ideal) (m ((c : Thread nD τ).loc main_arg0)) (m ((c : Thread nD τ).loc main_arg1)) := by
  refine (dats m 0 c).arrAt_eq_of_covers 2 _ (by decide +kernel) fun t hf y => ?_
  rw [after0_2]
  obtain ⟨r, l, rfl⟩ : ∃ (r : Fin 768) (l : Fin 2048), y = ix2 r l := ⟨y 0, y 1, eq_ix2 y⟩
  exact point m c t (written t hf) r l

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0) = Cert.Reference21Ideal.Read.val_main_v7 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).1 2).trans (final2 m c), h.2 c⟩)
    (θ_run_and (run_main m g) (unchanged m g))

end Cert.Kernel21Ideal.InProjDw
-- ==== Proof.InProjDxTop.lean ====
/- The gradient through the input projection, `dproj · wᵀ`, the upper half of the rows, summed over the columns of `dproj`
   in four quarters: what the tiled kernel stores, element by element. -/
module

public import proofs.«01_k».proof.Defs
public import proofs.«01_k».proof.Proof.Gen.Kernel22Ideal.Frame
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference22Ideal.InProjDxTop
open Cert.Reference22Ideal Cert.Reference22Ideal.Gen Cert.Reference22Ideal.Read

/-- The whole product at a row and a column. -/
def product (x0 : FVec Ideal S4096x10752 .bf16) (x1 : FVec Ideal S2048x10752 .f32) (r : Fin 4096) (l : Fin 2048) : EReal :=
  ∑ k : Fin 10752, x0 (ix2 r k) * x1 (ix2 l k)
/-- One of its four quarters. -/
def quarter (x0 : FVec Ideal S4096x10752 .bf16) (x1 : FVec Ideal S2048x10752 .f32) (p : ℕ) (hp : p < 4) (r : Fin 4096) (l : Fin 2048) : EReal :=
  ∑ k : Fin 2688, x0 (ix2 r ⟨p * 2688 + k.val, by omega⟩) * x1 (ix2 l ⟨p * 2688 + k.val, by omega⟩)

theorem split4 (f : Fin 10752 → EReal) (g : (p : ℕ) → p < 4 → EReal)
    (hg : ∀ p (hp : p < 4), g p hp = ∑ k : Fin 2688, f ⟨p * 2688 + k.val, by omega⟩) :
    ∑ k : Fin 10752, f k = ((g 0 (by omega) + g 1 (by omega)) + g 2 (by omega)) + g 3 (by omega) := by
  have h1 : ∑ k : Fin 10752, f k = (∑ k : Fin 8064, f ⟨k.val, by omega⟩) + ∑ k : Fin 2688, f ⟨8064 + k.val, by omega⟩ :=
    Fin.sum_univ_add (a := 8064) (b := 2688) f
  have h2 : ∑ k : Fin 8064, f ⟨k.val, by omega⟩ = (∑ k : Fin 5376, f ⟨k.val, by omega⟩) + ∑ k : Fin 2688, f ⟨5376 + k.val, by omega⟩ :=
    Fin.sum_univ_add (a := 5376) (b := 2688) fun k => f ⟨k.val, by omega⟩
  have h3 : ∑ k : Fin 5376, f ⟨k.val, by omega⟩ = (∑ k : Fin 2688, f ⟨k.val, by omega⟩) + ∑ k : Fin 2688, f ⟨2688 + k.val, by omega⟩ :=
    Fin.sum_univ_add (a := 2688) (b := 2688) fun k => f ⟨k.val, by omega⟩
  rw [h1, h2, h3, hg, hg, hg, hg]
  simp only [Nat.zero_mul, Nat.zero_add, Nat.one_mul, Nat.reduceMul]

theorem product_split (x0 : FVec Ideal S4096x10752 .bf16) (x1 : FVec Ideal S2048x10752 .f32) (r : Fin 4096) (l : Fin 2048) :
    product x0 x1 r l = ((quarter x0 x1 0 (by omega) r l + quarter x0 x1 1 (by omega) r l) + quarter x0 x1 2 (by omega) r l) + quarter x0 x1 3 (by omega) r l :=
  split4 (fun k => x0 (ix2 r k) * x1 (ix2 l k)) (fun p hp => quarter x0 x1 p hp r l) fun _ _ => rfl

theorem apply (x0 : FVec Ideal S4096x10752 .bf16) (x1 : FVec Ideal S2048x10752 .f32) (r l : Fin 2048) :
    val_main_v5 (F := Ideal) x0 x1 (ix2 r l) = product x0 x1 ⟨r.val, by omega⟩ l := by
  unfold product
  pointwise [val_main_v5, val_main_v4, val_main_v3, val_main_v2]

end Cert.Reference22Ideal.InProjDxTop

namespace Cert.Kernel22Ideal.InProjDxTop
open Cert.Kernel22Ideal Cert.Kernel22Ideal.Gen
open Cert.Reference22Ideal.InProjDxTop (product quarter)
variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, _)
theorem written : ∀ t : Fin cfg0.N, (cfg0.win 2).flush t = true → t.val % 4 = 3 :=
  (by decide +kernel : ∀ t : Fin grid0.N, _)

section
variable (a : FVec Ideal S1024x2688 .bf16) (b : FVec Ideal S2688x1024 .bf16) (s : FVec Ideal S1024x1024 .f32) (r l : Fin 1024)
theorem pay1_apply : k0_pay1 (F := Ideal) a b (ix2 r l) = ∑ k : Fin 2688, a (ix2 r k) * b (ix2 k l) := by
  pointwise [k0_pay1]
theorem pay2_apply : k0_pay2 (F := Ideal) a b (ix2 r l) = ∑ k : Fin 2688, a (ix2 r k) * b (ix2 k l) := by
  pointwise [k0_pay2, pay1_apply]
theorem pay3_apply : k0_pay3 (F := Ideal) a b s (ix2 r l) = s (ix2 r l) + ∑ k : Fin 2688, a (ix2 r k) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S1024x1024.Idx → Elt Ideal .f32) :
    View.read (Elt Ideal) (View.whole cc0_scratch0) (hm.unread q) = q := hm.read_unread q
/-- The first quarter: the accumulator is set. -/
theorem acc_first (t : Fin cfg0.N) (h : t.val % 4 = 0) : (outsAt0 m c t.val t.isLt).2 = k0_pay2 (F := Ideal) (iblk m c 0 t) (iblk m c 1 t) := by
  rw [outsAt0_A m c t h (by omega) (by omega)]
  frame_out
/-- The second and the third: it is added to. -/
theorem acc_next (t : Fin cfg0.N) (h : 1 ≤ t.val % 4) (h3 : ¬t.val % 4 = 3) : (outsAt0 m c t.val t.isLt).2
    = k0_pay3 (F := Ideal) (iblk m c 0 t) (iblk m c 1 t) (outsAt0 m c (t.val - 1) (by omega)).2 := by
  rw [outsAt0_B m c t (by omega) h h3]
  frame_out
  rw [scratch_read]
/-- The last: it is added to and written out. -/
theorem out_last (t : Fin cfg0.N) (h : t.val % 4 = 3) : (outsAt0 m c t.val t.isLt).1
    = k0_pay4 (F := Ideal) (k0_pay3 (F := Ideal) (iblk m c 0 t) (iblk m c 1 t) (outsAt0 m c (t.val - 1) (by omega)).2) := by
  rw [outsAt0_C m c t (by omega) (by omega) h]
  frame_out
  rw [scratch_read]

theorem lt_row (n : ℕ) (h : n < cfg0.N) (r : Fin 1024) : (n / 8) * 1024 + r.val < 4096 := by
  have : n < 16 := h
  omega
/-- The two arguments. -/
abbrev lhs : FVec Ideal S4096x10752 .bf16 := (m ((c : Thread nD τ).loc main_arg0))
abbrev rhs : FVec Ideal S2048x10752 .f32 := (m ((c : Thread nD τ).loc main_arg1))
/-- The blocks at a point: of the first argument, and of the second turned over. -/
abbrev blkL (t : Fin cfg0.N) : FVec Ideal S1024x2688 .bf16 := iblk m c 0 t
abbrev blkR (t : Fin cfg0.N) : FVec Ideal S2688x1024 .bf16 := iblk m c 1 t

theorem w_entry : V m c main_v1 = (truncf .bf16 (transpose S10752x2048 [1, 0] (rhs m c) transposes_S2048x10752_S10752x2048_1_0) bitsLt_bf16_f32 : FVec Ideal S10752x2048 .bf16) := by
  unfold V V0
  simp only [hostOps0, List.flatten_cons, List.flatten_nil, List.append_nil]
  run_tidy
theorem a_entry : V m c main_arg0 = lhs m c := by
  unfold V V0
  simp only [hostOps0, List.flatten_cons, List.flatten_nil, List.append_nil]
  run_tidy
theorem a_block (t : Fin cfg0.N) (r : Fin 1024) (k : Fin 2688) :
    blkL m c t (ix2 r k) = lhs m c (ix2 ⟨(t.val / 8) * 1024 + r.val, lt_row t.val t.isLt r⟩ ⟨t.val % 4 * 2688 + k.val, by omega⟩) := by
  rw [← a_entry]
  blk_point [iblk, idx t]
theorem w_block (t : Fin cfg0.N) (k : Fin 2688) (l : Fin 1024) :
    blkR m c t (ix2 k l) = rhs m c (ix2 ⟨t.val / 4 % 2 * 1024 + l.val, by omega⟩ ⟨t.val % 4 * 2688 + k.val, by omega⟩) := by
  have e : blkR m c t (ix2 k l) = V m c main_v1 (ix2 ⟨t.val % 4 * 2688 + k.val, by omega⟩ ⟨t.val / 4 % 2 * 1024 + l.val, by omega⟩) := by
    blk_point [iblk, idx t]
  rw [e, w_entry]
  pointwise
theorem at_block (t : Fin cfg0.N) (r l : Fin 1024) :
    ((cfg0.win 2).blk t).view.emb (ix2 r l) = ix2 (⟨(t.val / 8) * 1024 + r.val, lt_row t.val t.isLt r⟩ : Fin 4096) (⟨t.val / 4 % 2 * 1024 + l.val, by omega⟩ : Fin 2048) := by
  blk_simp
  blk_ext
  all_goals simp [idx t]

/-- A point's product is a quarter of the sum. -/
theorem part (t : Fin cfg0.N) (R : Fin 4096) (L : Fin 2048) (p : ℕ) (hp : p < 4) (r l : Fin 1024)
    (hR : R.val = (t.val / 8) * 1024 + r.val) (hL : L.val = t.val / 4 % 2 * 1024 + l.val) (h : t.val % 4 = p) :
    ∑ k : Fin 2688, blkL m c t (ix2 r k) * blkR m c t (ix2 k l) = quarter (lhs m c) (rhs m c) p hp R L := by
  subst h
  have eR : R = ⟨(t.val / 8) * 1024 + r.val, lt_row t.val t.isLt r⟩ := Fin.ext hR
  have eL : L = ⟨t.val / 4 % 2 * 1024 + l.val, by omega⟩ := Fin.ext hL
  rw [eR, eL]
  exact Finset.sum_congr rfl fun k _ => congrArg₂ (· * ·) (a_block m c t r k) (w_block m c t k l)

/-- After the fourth quarter the block holds the whole sum. -/
theorem point (t : Fin cfg0.N) (h : t.val % 4 = 3) (R : Fin 4096) (L : Fin 2048) (r l : Fin 1024)
    (hR : R.val = (t.val / 8) * 1024 + r.val) (hL : L.val = t.val / 4 % 2 * 1024 + l.val) :
    (outsAt0 m c t.val t.isLt).1 (ix2 r l) = product (lhs m c) (rhs m c) R L := by
  rw [out_last m c t h, Cert.Reference22Ideal.InProjDxTop.product_split]
  refine (pay4_apply _ _ _).trans ((pay3_apply _ _ _ _ _).trans (congrArg₂ (· + ·) ?_ (part m c t R L 3 (by omega) r l hR hL h)))
  refine (congrFun (acc_next m c ⟨t.val - 1, by omega⟩ (by show 1 ≤ (t.val - 1) % 4; omega) (by show ¬(t.val - 1) % 4 = 3; omega)) (ix2 r l)).trans ?_
  refine (pay3_apply _ _ _ _ _).trans (congrArg₂ (· + ·) ?_ (part m c ⟨t.val - 1, by omega⟩ R L 2 (by omega) r l
    (by show _ = ((t.val - 1) / 8) * 1024 + r.val; omega) (by show _ = (t.val - 1) / 4 % 2 * 1024 + l.val; omega) (by show (t.val - 1) % 4 = 2; omega)))
  refine (congrFun (acc_next m c ⟨t.val - 1 - 1, by omega⟩ (by show 1 ≤ (t.val - 1 - 1) % 4; omega) (by show ¬(t.val - 1 - 1) % 4 = 3; omega)) (ix2 r l)).trans ?_
  refine (pay3_apply _ _ _ _ _).trans (congrArg₂ (· + ·) ?_ (part m c ⟨t.val - 1 - 1, by omega⟩ R L 1 (by omega) r l
    (by show _ = ((t.val - 1 - 1) / 8) * 1024 + r.val; omega) (by show _ = (t.val - 1 - 1) / 4 % 2 * 1024 + l.val; omega) (by show (t.val - 1 - 1) % 4 = 1; omega)))
  refine (congrFun (acc_first m c ⟨t.val - 1 - 1 - 1, by omega⟩ (by show (t.val - 1 - 1 - 1) % 4 = 0; omega)) (ix2 r l)).trans ?_
  exact (pay2_apply _ _ _ _).trans (part m c ⟨t.val - 1 - 1 - 1, by omega⟩ R L 0 (by omega) r l
    (by show _ = ((t.val - 1 - 1 - 1) / 8) * 1024 + r.val; omega) (by show _ = (t.val - 1 - 1 - 1) / 4 % 2 * 1024 + l.val; omega) (by show (t.val - 1 - 1 - 1) % 4 = 0; omega))

/-- The product as an array. -/
def whole : (⟨S4096x2048, .bf16⟩ : BufTy).Contents (Elt Ideal) := fun i => product (lhs m c) (rhs m c) (i 0) (i 1)

/-- The upper rows are written, the rest is as before the call. -/
theorem final2 : (dats m 0 c).arrAt 2 cfg0.N = fun i => if (i 0).val < 2048 then whole m c i else V m c main_v2 i := by
  refine (dats m 0 c).arrAt_eq_of_coversWhere 2 _ (fun β => β 0 < 2) (by decide +kernel) (fun t hf y => ?_)
    (fun j => by blk_simp [Pipeline.Window.cell_apply]; omega)
  rw [after0_2]
  obtain ⟨r, l, rfl⟩ : ∃ (r : Fin 1024) (l : Fin 1024), y = ix2 r l := ⟨y 0, y 1, eq_ix2 y⟩
  rw [at_block]
  exact point m c t (written t hf) _ _ r l rfl rfl

theorem slice_apply (A : FVec Ideal S4096x2048 .bf16) (r l : Fin 2048) :
    extractStridedSlice S2048x2048 ![0, 0] A slices_S4096x2048_S2048x2048_0_0 (ix2 r l) = A (ix2 ⟨r.val, by omega⟩ l) := by
  pointwise []

/-- The upper rows, taken after the call, are the gradient's. -/
theorem slice2 : extractStridedSlice S2048x2048 ![0, 0] ((dats m 0 c).arrAt 2 cfg0.N : FVec Ideal S4096x2048 .bf16) slices_S4096x2048_S2048x2048_0_0
    = Cert.Reference22Ideal.Read.val_main_v5 (F := Ideal) (m ((c : Thread nD τ).loc main_arg0)) (m ((c : Thread nD τ).loc main_arg1)) := by
  funext i
  obtain ⟨r, l, rfl⟩ : ∃ (r : Fin 2048) (l : Fin 2048), i = ix2 r l := ⟨i 0, i 1, eq_ix2 i⟩
  refine (slice_apply _ _ _).trans (.trans ?_ (Cert.Reference22Ideal.InProjDxTop.apply _ _ _ _).symm)
  exact (congrFun (final2 m c) _).trans (if_pos (show r.val < 2048 from r.isLt))

theorem tail2 : Pipeline.afterTail₀ cfgs (dats m) 0 (V0 m) [hostOps1] c main_v3 = Cert.Reference22Ideal.Read.val_main_v5 (F := Ideal) (m ((c : Thread nD τ).loc main_arg0)) (m ((c : Thread nD τ).loc main_arg1)) := by
  refine .trans ?_ (slice2 m c)
  have h := Pipeline.withArrays_arr cfg0.spec (by decide) c (V0 m c) (fun w => (dats m 0 c).arrAt w cfg0.N) 2
  unfold Pipeline.afterTail₀
  rw [← h]
  simp only [hostOps1, List.flatten_cons, List.flatten_nil, List.append_nil]
  run_tidy

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v3) = Cert.Reference22Ideal.Read.val_main_v5 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).2 main_v3 (Pipeline.mem_restRefs_of main_v3 (by decide) (by decide))).trans (tail2 m c), h.2 c⟩)
    (θ_run_and (run_main m g) (unchanged m g))

end Cert.Kernel22Ideal.InProjDxTop
-- ==== Proof.InProjDxBottom.lean ====
/- The gradient through the input projection, `dproj · wᵀ`, the lower half of the rows, summed over the columns of `dproj`
   in four quarters: what the tiled kernel stores, element by element. -/
module

public import proofs.«01_k».proof.Defs
public import proofs.«01_k».proof.Proof.Gen.Kernel23Ideal.Frame
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference23Ideal.InProjDxBottom
open Cert.Reference23Ideal Cert.Reference23Ideal.Gen Cert.Reference23Ideal.Read

/-- The whole product at a row and a column. -/
def product (x0 : FVec Ideal S4096x10752 .bf16) (x1 : FVec Ideal S2048x10752 .f32) (r : Fin 4096) (l : Fin 2048) : EReal :=
  ∑ k : Fin 10752, x0 (ix2 r k) * x1 (ix2 l k)
/-- One of its four quarters. -/
def quarter (x0 : FVec Ideal S4096x10752 .bf16) (x1 : FVec Ideal S2048x10752 .f32) (p : ℕ) (hp : p < 4) (r : Fin 4096) (l : Fin 2048) : EReal :=
  ∑ k : Fin 2688, x0 (ix2 r ⟨p * 2688 + k.val, by omega⟩) * x1 (ix2 l ⟨p * 2688 + k.val, by omega⟩)

theorem split4 (f : Fin 10752 → EReal) (g : (p : ℕ) → p < 4 → EReal)
    (hg : ∀ p (hp : p < 4), g p hp = ∑ k : Fin 2688, f ⟨p * 2688 + k.val, by omega⟩) :
    ∑ k : Fin 10752, f k = ((g 0 (by omega) + g 1 (by omega)) + g 2 (by omega)) + g 3 (by omega) := by
  have h1 : ∑ k : Fin 10752, f k = (∑ k : Fin 8064, f ⟨k.val, by omega⟩) + ∑ k : Fin 2688, f ⟨8064 + k.val, by omega⟩ :=
    Fin.sum_univ_add (a := 8064) (b := 2688) f
  have h2 : ∑ k : Fin 8064, f ⟨k.val, by omega⟩ = (∑ k : Fin 5376, f ⟨k.val, by omega⟩) + ∑ k : Fin 2688, f ⟨5376 + k.val, by omega⟩ :=
    Fin.sum_univ_add (a := 5376) (b := 2688) fun k => f ⟨k.val, by omega⟩
  have h3 : ∑ k : Fin 5376, f ⟨k.val, by omega⟩ = (∑ k : Fin 2688, f ⟨k.val, by omega⟩) + ∑ k : Fin 2688, f ⟨2688 + k.val, by omega⟩ :=
    Fin.sum_univ_add (a := 2688) (b := 2688) fun k => f ⟨k.val, by omega⟩
  rw [h1, h2, h3, hg, hg, hg, hg]
  simp only [Nat.zero_mul, Nat.zero_add, Nat.one_mul, Nat.reduceMul]

theorem product_split (x0 : FVec Ideal S4096x10752 .bf16) (x1 : FVec Ideal S2048x10752 .f32) (r : Fin 4096) (l : Fin 2048) :
    product x0 x1 r l = ((quarter x0 x1 0 (by omega) r l + quarter x0 x1 1 (by omega) r l) + quarter x0 x1 2 (by omega) r l) + quarter x0 x1 3 (by omega) r l :=
  split4 (fun k => x0 (ix2 r k) * x1 (ix2 l k)) (fun p hp => quarter x0 x1 p hp r l) fun _ _ => rfl

theorem apply (x0 : FVec Ideal S4096x10752 .bf16) (x1 : FVec Ideal S2048x10752 .f32) (x2 : FVec Ideal S4096x2048 .bf16) (r : Fin 4096) (l : Fin 2048) :
    val_main_v7 (F := Ideal) x0 x1 x2 (ix2 r l) = if 2048 ≤ r.val then product x0 x1 r l else x2 (ix2 r l) := by
  unfold product
  pointwise [val_main_v7, val_main_v6, val_main_v5, val_main_v4, val_main_v3, val_main_v2]
  by_cases h : 2048 ≤ r.val
  · have e : (⟨2048 + (r.val - 2048), by omega⟩ : Fin 4096) = r := Fin.ext (by show 2048 + (r.val - 2048) = r.val; omega)
    rw [dif_neg (by omega), if_pos h, e]
  · rw [dif_pos (by omega), if_neg h]

end Cert.Reference23Ideal.InProjDxBottom

namespace Cert.Kernel23Ideal.InProjDxBottom
open Cert.Kernel23Ideal Cert.Kernel23Ideal.Gen
open Cert.Reference23Ideal.InProjDxBottom (product quarter)
variable (m : (ℓ : Loc nD τ sig) → Buf (Elt Ideal) ℓ) (c : Dev nD)

theorem idx : ∀ t : Fin cfg0.N, win0_0.index t = ![t.val / 8 + 2, t.val % 4] ∧ win0_1.index t = ![t.val % 4, t.val / 4 % 2] ∧ win0_2.index t = ![t.val / 8 + 2, t.val / 4 % 2] :=
  (by decide +kernel : ∀ t : Fin grid0.N, _)
theorem written : ∀ t : Fin cfg0.N, (cfg0.win 2).flush t = true → t.val % 4 = 3 :=
  (by decide +kernel : ∀ t : Fin grid0.N, _)

section
variable (a : FVec Ideal S1024x2688 .bf16) (b : FVec Ideal S2688x1024 .bf16) (s : FVec Ideal S1024x1024 .f32) (r l : Fin 1024)
theorem pay1_apply : k0_pay1 (F := Ideal) a b (ix2 r l) = ∑ k : Fin 2688, a (ix2 r k) * b (ix2 k l) := by
  pointwise [k0_pay1]
theorem pay2_apply : k0_pay2 (F := Ideal) a b (ix2 r l) = ∑ k : Fin 2688, a (ix2 r k) * b (ix2 k l) := by
  pointwise [k0_pay2, pay1_apply]
theorem pay3_apply : k0_pay3 (F := Ideal) a b s (ix2 r l) = s (ix2 r l) + ∑ k : Fin 2688, a (ix2 r k) * b (ix2 k l) := by
  pointwise [k0_pay3, pay1_apply]
theorem pay4_apply : k0_pay4 (F := Ideal) s (ix2 r l) = s (ix2 r l) := by
  pointwise [k0_pay4]
end

theorem scratch_read (hm : scM0_0.IsWhole) (q : S1024x1024.Idx → Elt Ideal .f32) :
    View.read (Elt Ideal) (View.whole cc0_scratch0) (hm.unread q) = q := hm.read_unread q
/-- The first quarter: the accumulator is set. -/
theorem acc_first (t : Fin cfg0.N) (h : t.val % 4 = 0) : (outsAt0 m c t.val t.isLt).2 = k0_pay2 (F := Ideal) (iblk m c 0 t) (iblk m c 1 t) := by
  rw [outsAt0_A m c t h (by omega) (by omega)]
  frame_out
/-- The second and the third: it is added to. -/
theorem acc_next (t : Fin cfg0.N) (h : 1 ≤ t.val % 4) (h3 : ¬t.val % 4 = 3) : (outsAt0 m c t.val t.isLt).2
    = k0_pay3 (F := Ideal) (iblk m c 0 t) (iblk m c 1 t) (outsAt0 m c (t.val - 1) (by omega)).2 := by
  rw [outsAt0_B m c t (by omega) h h3]
  frame_out
  rw [scratch_read]
/-- The last: it is added to and written out. -/
theorem out_last (t : Fin cfg0.N) (h : t.val % 4 = 3) : (outsAt0 m c t.val t.isLt).1
    = k0_pay4 (F := Ideal) (k0_pay3 (F := Ideal) (iblk m c 0 t) (iblk m c 1 t) (outsAt0 m c (t.val - 1) (by omega)).2) := by
  rw [outsAt0_C m c t (by omega) (by omega) h]
  frame_out
  rw [scratch_read]

theorem lt_row (n : ℕ) (h : n < cfg0.N) (r : Fin 1024) : (n / 8 + 2) * 1024 + r.val < 4096 := by
  have : n < 16 := h
  omega
/-- The two arguments. -/
abbrev lhs : FVec Ideal S4096x10752 .bf16 := (m ((c : Thread nD τ).loc main_arg0))
abbrev rhs : FVec Ideal S2048x10752 .f32 := (m ((c : Thread nD τ).loc main_arg1))
/-- The blocks at a point: of the first argument, and of the second turned over. -/
abbrev blkL (t : Fin cfg0.N) : FVec Ideal S1024x2688 .bf16 := iblk m c 0 t
abbrev blkR (t : Fin cfg0.N) : FVec Ideal S2688x1024 .bf16 := iblk m c 1 t

theorem w_entry : V m c main_v1 = (truncf .bf16 (transpose S10752x2048 [1, 0] (rhs m c) transposes_S2048x10752_S10752x2048_1_0) bitsLt_bf16_f32 : FVec Ideal S10752x2048 .bf16) := by
  unfold V
  simp only [hostOps0]
  run_tidy
theorem a_entry : V m c main_arg0 = lhs m c := by
  unfold V
  simp only [hostOps0]
  run_tidy
theorem a_block (t : Fin cfg0.N) (r : Fin 1024) (k : Fin 2688) :
    blkL m c t (ix2 r k) = lhs m c (ix2 ⟨(t.val / 8 + 2) * 1024 + r.val, lt_row t.val t.isLt r⟩ ⟨t.val % 4 * 2688 + k.val, by omega⟩) := by
  rw [← a_entry]
  blk_point [iblk, idx t]
theorem w_block (t : Fin cfg0.N) (k : Fin 2688) (l : Fin 1024) :
    blkR m c t (ix2 k l) = rhs m c (ix2 ⟨t.val / 4 % 2 * 1024 + l.val, by omega⟩ ⟨t.val % 4 * 2688 + k.val, by omega⟩) := by
  have e : blkR m c t (ix2 k l) = V m c main_v1 (ix2 ⟨t.val % 4 * 2688 + k.val, by omega⟩ ⟨t.val / 4 % 2 * 1024 + l.val, by omega⟩) := by
    blk_point [iblk, idx t]
  rw [e, w_entry]
  pointwise
theorem at_block (t : Fin cfg0.N) (r l : Fin 1024) :
    ((cfg0.win 2).blk t).view.emb (ix2 r l) = ix2 (⟨(t.val / 8 + 2) * 1024 + r.val, lt_row t.val t.isLt r⟩ : Fin 4096) (⟨t.val / 4 % 2 * 1024 + l.val, by omega⟩ : Fin 2048) := by
  blk_simp
  blk_ext
  all_goals simp [idx t]

/-- A point's product is a quarter of the sum. -/
theorem part (t : Fin cfg0.N) (R : Fin 4096) (L : Fin 2048) (p : ℕ) (hp : p < 4) (r l : Fin 1024)
    (hR : R.val = (t.val / 8 + 2) * 1024 + r.val) (hL : L.val = t.val / 4 % 2 * 1024 + l.val) (h : t.val % 4 = p) :
    ∑ k : Fin 2688, blkL m c t (ix2 r k) * blkR m c t (ix2 k l) = quarter (lhs m c) (rhs m c) p hp R L := by
  subst h
  have eR : R = ⟨(t.val / 8 + 2) * 1024 + r.val, lt_row t.val t.isLt r⟩ := Fin.ext hR
  have eL : L = ⟨t.val / 4 % 2 * 1024 + l.val, by omega⟩ := Fin.ext hL
  rw [eR, eL]
  exact Finset.sum_congr rfl fun k _ => congrArg₂ (· * ·) (a_block m c t r k) (w_block m c t k l)

/-- After the fourth quarter the block holds the whole sum. -/
theorem point (t : Fin cfg0.N) (h : t.val % 4 = 3) (R : Fin 4096) (L : Fin 2048) (r l : Fin 1024)
    (hR : R.val = (t.val / 8 + 2) * 1024 + r.val) (hL : L.val = t.val / 4 % 2 * 1024 + l.val) :
    (outsAt0 m c t.val t.isLt).1 (ix2 r l) = product (lhs m c) (rhs m c) R L := by
  rw [out_last m c t h, Cert.Reference23Ideal.InProjDxBottom.product_split]
  refine (pay4_apply _ _ _).trans ((pay3_apply _ _ _ _ _).trans (congrArg₂ (· + ·) ?_ (part m c t R L 3 (by omega) r l hR hL h)))
  refine (congrFun (acc_next m c ⟨t.val - 1, by omega⟩ (by show 1 ≤ (t.val - 1) % 4; omega) (by show ¬(t.val - 1) % 4 = 3; omega)) (ix2 r l)).trans ?_
  refine (pay3_apply _ _ _ _ _).trans (congrArg₂ (· + ·) ?_ (part m c ⟨t.val - 1, by omega⟩ R L 2 (by omega) r l
    (by show _ = ((t.val - 1) / 8 + 2) * 1024 + r.val; omega) (by show _ = (t.val - 1) / 4 % 2 * 1024 + l.val; omega) (by show (t.val - 1) % 4 = 2; omega)))
  refine (congrFun (acc_next m c ⟨t.val - 1 - 1, by omega⟩ (by show 1 ≤ (t.val - 1 - 1) % 4; omega) (by show ¬(t.val - 1 - 1) % 4 = 3; omega)) (ix2 r l)).trans ?_
  refine (pay3_apply _ _ _ _ _).trans (congrArg₂ (· + ·) ?_ (part m c ⟨t.val - 1 - 1, by omega⟩ R L 1 (by omega) r l
    (by show _ = ((t.val - 1 - 1) / 8 + 2) * 1024 + r.val; omega) (by show _ = (t.val - 1 - 1) / 4 % 2 * 1024 + l.val; omega) (by show (t.val - 1 - 1) % 4 = 1; omega)))
  refine (congrFun (acc_first m c ⟨t.val - 1 - 1 - 1, by omega⟩ (by show (t.val - 1 - 1 - 1) % 4 = 0; omega)) (ix2 r l)).trans ?_
  exact (pay2_apply _ _ _ _).trans (part m c ⟨t.val - 1 - 1 - 1, by omega⟩ R L 0 (by omega) r l
    (by show _ = ((t.val - 1 - 1 - 1) / 8 + 2) * 1024 + r.val; omega) (by show _ = (t.val - 1 - 1 - 1) / 4 % 2 * 1024 + l.val; omega) (by show (t.val - 1 - 1 - 1) % 4 = 0; omega))

/-- The product as an array. -/
def whole : (⟨S4096x2048, .bf16⟩ : BufTy).Contents (Elt Ideal) := fun i => product (lhs m c) (rhs m c) (i 0) (i 1)

/-- The lower rows are written, the rest is as before the call. -/
theorem final2 : (dats m 0 c).arrAt 2 cfg0.N = fun i => if 2048 ≤ (i 0).val then whole m c i else V m c main_v2 i := by
  refine (dats m 0 c).arrAt_eq_of_coversWhere 2 _ (fun β => 2 ≤ β 0) (by decide +kernel) (fun t hf y => ?_)
    (fun j => by blk_simp [Pipeline.Window.cell_apply]; omega)
  rw [after0_2]
  obtain ⟨r, l, rfl⟩ : ∃ (r : Fin 1024) (l : Fin 1024), y = ix2 r l := ⟨y 0, y 1, eq_ix2 y⟩
  rw [at_block]
  exact point m c t (written t hf) _ _ r l rfl rfl

theorem entry_into : V m c main_v2 = (m ((c : Thread nD τ).loc main_arg2)) := by
  unfold V
  simp only [hostOps0]
  run_tidy
/-- The whole result: the upper rows as passed in, the lower rows the gradient's. -/
theorem result2 : (dats m 0 c).arrAt 2 cfg0.N = Cert.Reference23Ideal.Read.val_main_v7 (F := Ideal) (m ((c : Thread nD τ).loc main_arg0)) (m ((c : Thread nD τ).loc main_arg1)) (m ((c : Thread nD τ).loc main_arg2)) := by
  rw [final2, entry_into]
  funext i
  obtain ⟨r, l, rfl⟩ : ∃ (r : Fin 4096) (l : Fin 2048), i = ix2 r l := ⟨i 0, i 1, eq_ix2 i⟩
  exact (Cert.Reference23Ideal.InProjDxBottom.apply _ _ _ _ _).symm

/-- What a run leaves in the result and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v2) = Cert.Reference23Ideal.Read.val_main_v7 (F := Ideal) (m ((c.tc : Thread nD τ).loc main_arg0)) (m ((c.tc : Thread nD τ).loc main_arg1)) (m ((c.tc : Thread nD τ).loc main_arg2))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))) :=
  (θ_run _ _ _).mono (fun r h c => ⟨((h.1 c).1 2).trans (result2 m c), h.2 c⟩)
    (θ_run_and (run_main m g) (unchanged m g))

end Cert.Kernel23Ideal.InProjDxBottom
-- ==== Proof.RelBiasFwd.lean ====
/- The relative-position bias of every pair of positions, picked out of its table by a product with rows of ones and
   zeros: what the tiled kernel stores, element by element, and that it is the table looked up. -/
module

public import proofs.«01_k».proof.Defs
public import proofs.«01_k».proof.Pre_pre_rel_bias_fwd
public import proofs.«01_k».proof.Proof.Gen.Kernel24Ideal.Frame
public import proofs.«01_k».proof.Proof.Gen.Reference24Ideal.Run
public import proofs.«01_k».proof.Proof.Gen.Reference24Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WordCmp
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_pre_rel_bias_fwd

/-! The precondition read back: every bucket is one of the thirty-two. -/

theorem facts : Facts where
  bcast_S_S128x256 := by decide +kernel
  reducesTo_S128x256_S_d0_1 := by decide +kernel
  h_S_ := by decide +kernel

theorem bucket_lt (b : BitVec 32) (h0 : IntOp.cmpi .sge b 0#32 = 1#1) (h1 : IntOp.cmpi .slt b 32#32 = 1#1) : b.toNat < 32 := by
  simp only [IntOp.cmpi] at h0 h1
  have e0 : (0#32).sle b = true := by
    cases h : (0#32).sle b
    · rw [h] at h0; exact absurd h0 (by decide)
    · rfl
  have e1 : b.slt 32#32 = true := by
    cases h : b.slt 32#32
    · rw [h] at h1; exact absurd h1 (by decide)
    · rfl
  rw [BitVec.sle_iff_toInt_le] at e0
  rw [BitVec.slt_iff_toInt_lt] at e1
  have z : (0#32).toInt = 0 := by decide
  have y : (32#32).toInt = 32 := by decide
  rw [z] at e0
  rw [y] at e1
  rw [BitVec.toInt_eq_toNat_cond] at e0 e1
  have := b.isLt
  split at e0 <;> omega

theorem bounds (x0 : FVec Ideal S32x32 .f32) (x1 : IVec S128x256 32)
    (h : (haveI : Facts := facts; fn (F := Ideal) x0 x1) = fun _ => 1#1) (i : S128x256.Idx) : (x1 i).toNat < 32 := by
  haveI : Facts := facts
  have e := congrFun h (Shape.Idx.first Facts.h_S_)
  unfold fn at e
  have e' := Host.reduce_andi_all _ _ _ _ _ e i
  obtain ⟨e0, e1⟩ := IntOp.andi_eq_one.1 e'
  exact bucket_lt _ e0 e1

end Cert.Pre_pre_rel_bias_fwd

namespace Cert.Reference24Ideal.RelBiasFwd
open Cert.Reference24Ideal Cert.Reference24Ideal.Gen Cert.Reference24Ideal.Read

/-- The place of the bucket of a pair of positions. -/
abbrev place (r : Fin 128) (c : Fin 256) : S128x256x1.Idx := ix3 r c 0

theorem gather_apply (x : FVec Ideal S32x32 .f32) (b : IVec S128x256x1 32) (r : Fin 128) (c : Fin 256) (h : Fin 32) :
    Host.gather gather_S32x32_S128x256x1_S128x256x32_2_0_n_n_0_2_132 x b (ix3 r c h)
      = x (ix2 ⟨min (b (place r c)).toInt.toNat 31, by omega⟩ h) := by
  unfold Host.gather
  congr 1
  funext a
  refine Fin.ext ?_
  match a with
  | ⟨0, _⟩ =>
    show GatherDims.start _ (ix3 r c h) b 0 + GatherDims.batchCoord _ (ix3 r c h) 0 + GatherDims.offCoord _ (ix3 r c h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x32_S128x256x1_S128x256x32_2_0_n_n_0_2_132 from List.mem_singleton.mpr rfl)]
    have hs : GatherDims.siIdx gather_S32x32_S128x256x1_S128x256x32_2_0_n_n_0_2_132 (ix3 r c h)
        ⟨List.idxOf (0 : Fin 2) (GatherDims.startIndexMap gather_S32x32_S128x256x1_S128x256x32_2_0_n_n_0_2_132), List.idxOf_lt_length_iff.2 (List.mem_singleton.mpr rfl)⟩ = place r c := by
      funext k
      refine Fin.ext ?_
      match k with
      | ⟨0, _⟩ => rfl
      | ⟨1, _⟩ => rfl
      | ⟨2, _⟩ => rfl
    rw [hs]
    rfl
  | ⟨1, _⟩ =>
    show GatherDims.start _ (ix3 r c h) b 1 + GatherDims.batchCoord _ (ix3 r c h) 1 + GatherDims.offCoord _ (ix3 r c h) 1 = h.val
    rw [GatherDims.batchCoord_eq_zero _ _ _ List.not_mem_nil]
    unfold GatherDims.start
    rw [dif_neg (show (1 : Fin 2) ∉ GatherDims.startIndexMap gather_S32x32_S128x256x1_S128x256x32_2_0_n_n_0_2_132 from by decide)]
    simp only [Nat.zero_add]
    rfl

theorem apply (x0 : FVec Ideal S32x32 .f32) (x1 : IVec S128x256 32) (hb : ∀ i, (x1 i).toNat < 32) (h : Fin 32) (r : Fin 128) (c : Fin 256) :
    val_main_v7 (F := Ideal) x0 x1 (ix3 h r c) = x0 (ix2 ⟨(x1 (ix2 r c)).toNat, hb _⟩ h) := by
  have e7 : val_main_v7 (F := Ideal) x0 x1 (ix3 h r c) = val_main_v6 (F := Ideal) x0 x1 (ix3 r c h) := by
    pointwise [val_main_v7]
  have e5 : val_main_v5 (F := Ideal) x1 (place r c) = val_main_v4 (F := Ideal) x1 (ix2 r c) := by
    pointwise [val_main_v5]
  have hlt := hb (ix2 r c)
  have hi : (x1 (ix2 r c)).toInt = ((x1 (ix2 r c)).toNat : ℤ) := by
    rw [BitVec.toInt_eq_toNat_cond]; rw [if_pos (by omega)]
  have e4 : val_main_v4 (F := Ideal) x1 (ix2 r c) = x1 (ix2 r c) := by
    rw [val_main_v4_apply, val_main_v1_apply, val_main_v0_apply, val_main_c_apply]
    have : IntOp.cmpi .slt (x1 (ix2 r c)) 0#32 = 0#1 := by
      have n : ¬(x1 (ix2 r c)).slt 0#32 = true := by
        rw [BitVec.slt_iff_toInt_lt, hi]
        have z : (0#32).toInt = 0 := by decide
        omega
      simp only [IntOp.cmpi]
      rw [Bool.eq_false_iff.2 n]
      rfl
    rw [this]
    rfl
  rw [e7]
  unfold val_main_v6
  rw [gather_apply]
  congr 2
  refine Fin.ext ?_
  show min (val_main_v5 (F := Ideal) x1 (place r c)).toInt.toNat 31 = (x1 (ix2 r c)).toNat
  rw [e5, e4, hi]
  omega

end Cert.Reference24Ideal.RelBiasFwd

namespace Cert.Kernel24Ideal.RelBiasFwd
open Cert.Kernel24Ideal Cert.Kernel24Ideal.Gen
variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem pay1_apply (a : FVec Ideal S32x32 .f32) (b : FVec Ideal S32x8192 .f32) (h : Fin 32) (p : Fin 8192) :
    k0_pay1 (F := Ideal) a b (ix2 h p) = ∑ k : Fin 32, a (ix2 k h) * b (ix2 k p) := by
  pointwise [k0_pay1]

/-- The two arguments. -/
abbrev table : FVec Ideal S32x32 .f32 := (m ((c : Thread nD τ).loc main_arg0))
abbrev bucket : IVec S128x256 32 := (m ((c : Thread nD τ).loc main_arg1))
/-- One where the pair of positions at a place of the flattened rows has this bucket, zero elsewhere. -/
def hot (B : IVec S128x256 32) (k : Fin 32) (p : Fin 32768) : EReal :=
  FloatOps.uitofp (F := Ideal) .f32 (IntOp.cmpi .eq (B (ix2 ⟨p.val / 256, by omega⟩ ⟨p.val % 256, by omega⟩)) (BitVec.ofNat 32 k.val))

theorem hot_eq (B : IVec S128x256 32) (k : Fin 32) (p : Fin 32768) :
    hot B k p = if B (ix2 ⟨p.val / 256, by omega⟩ ⟨p.val % 256, by omega⟩) = BitVec.ofNat 32 k.val then 1 else 0 := by
  unfold hot
  simp only [IntOp.cmpi]
  split
  · rename_i e
    rw [beq_iff_eq.2 e]
    show (((1 : ℕ) : ℝ) : EReal) = 1
    simp
  · rename_i e
    rw [beq_eq_false_iff_ne.2 e]
    show (((0 : ℕ) : ℝ) : EReal) = 0
    simp

/-- The rows of ones and zeros the call reads. -/
abbrev rows (B : IVec S128x256 32) : FVec Ideal S32x32768 .f32 :=
  uitofp .f32 (cmpi .eq (broadcastInDim S32x32768 ![0, 1] bcast_S1x32768_S32x32768_0_1 (shapeCast S1x32768 B shapeCasts_S128x256_S1x32768))
    (broadcastInDim S32x32768 ![0, 1] bcast_S32x1_S32x32768_0_1 (broadcastInDim S32x1 ![0] bcast_S32_S32x1_0 (iotaInDim S32 32 0))))

theorem rows_apply (B : IVec S128x256 32) (k : Fin 32) (p : Fin 32768) : rows B (ix2 k p) = hot B k p := by
  unfold hot
  pointwise []

theorem o_entry : V m c main_v6 = rows (bucket m c) := by
  unfold V V0
  simp only [hostOps0, List.flatten_cons, List.flatten_nil, List.append_nil]
  run_tidy
  rfl

theorem t_block (t : Fin cfg0.N) (k h : Fin 32) : (iblk m c 0 t : FVec Ideal S32x32 .f32) (ix2 k h) = table m c (ix2 k h) := by
  have e : (iblk m c 0 t : FVec Ideal S32x32 .f32) (ix2 k h) = V m c main_arg0 (ix2 k h) := by
    blk_point [iblk, idx t]
  rw [e, V_main_arg0]
theorem lt_col (t : Fin cfg0.N) (p : Fin 8192) : t.val * 8192 + p.val < 32768 := by
  have : t.val < 4 := t.isLt
  omega
theorem o_block (t : Fin cfg0.N) (k : Fin 32) (p : Fin 8192) :
    (iblk m c 1 t : FVec Ideal S32x8192 .f32) (ix2 k p) = hot (bucket m c) k ⟨t.val * 8192 + p.val, lt_col t p⟩ := by
  have e : (iblk m c 1 t : FVec Ideal S32x8192 .f32) (ix2 k p) = V m c main_v6 (ix2 k ⟨t.val * 8192 + p.val, lt_col t p⟩) := by
    blk_point [iblk, idx t]
  rw [e, o_entry, rows_apply]
theorem at_block (t : Fin cfg0.N) (h : Fin 32) (p : Fin 8192) :
    ((cfg0.win 2).blk t).view.emb (ix2 h p) = ix2 (h : Fin 32) (⟨t.val * 8192 + p.val, lt_col t p⟩ : Fin 32768) := by
  blk_simp
  blk_ext
  all_goals simp [idx t]

/-- The product as an array, head by flattened pair of positions. -/
def whole : (⟨S32x32768, .f32⟩ : BufTy).Contents (Elt Ideal) := fun i => ∑ k : Fin 32, table m c (ix2 k (i 0)) * hot (bucket m c) k (i 1)

theorem final2 : (dats m 0 c).arrAt 2 cfg0.N = whole m c := by
  refine (dats m 0 c).arrAt_eq_of_covers 2 _ (by decide +kernel) fun t hf y => ?_
  rw [after0_2]
  unfold out0_2
  frame_out
  obtain ⟨h, p, rfl⟩ : ∃ (h : Fin 32) (p : Fin 8192), y = ix2 h p := ⟨y 0, y 1, eq_ix2 y⟩
  rw [at_block]
  refine (pay1_apply _ _ _ _).trans ?_
  exact Finset.sum_congr rfl fun k _ => congrArg₂ (· * ·) (t_block m c t k h) (o_block m c t k p)

/-- With every bucket in the table the product picks the bucket's row. -/
theorem whole_apply (hb : ∀ i, (bucket m c i).toNat < 32) (h : Fin 32) (p : Fin 32768) :
    whole m c (ix2 h p) = table m c (ix2 ⟨(bucket m c (ix2 ⟨p.val / 256, by omega⟩ ⟨p.val % 256, by omega⟩)).toNat, hb _⟩ h) := by
  show ∑ k : Fin 32, table m c (ix2 k h) * hot (bucket m c) k p = _
  rw [Finset.sum_eq_single ⟨(bucket m c (ix2 ⟨p.val / 256, by omega⟩ ⟨p.val % 256, by omega⟩)).toNat, hb _⟩]
  · rw [hot_eq, if_pos (by simp), mul_one]
  · intro k _ hk
    rw [hot_eq, if_neg, mul_zero]
    intro e
    refine hk (Fin.ext ?_)
    show k.val = (bucket m c _).toNat
    rw [e, BitVec.toNat_ofNat, Nat.mod_eq_of_lt (by omega)]
  · intro h; exact absurd (Finset.mem_univ _) h

theorem cast_apply (A : FVec Ideal S32x32768 .f32) (h : Fin 32) (r : Fin 128) (q : Fin 256) :
    shapeCast S32x128x256 A shapeCasts_S32x32768_S32x128x256 (ix3 h r q) = A (ix2 h ⟨r.val * 256 + q.val, by omega⟩) := by
  pointwise []

theorem cast2 (hb : ∀ i, (bucket m c i).toNat < 32) :
    shapeCast S32x128x256 ((dats m 0 c).arrAt 2 cfg0.N : FVec Ideal S32x32768 .f32) shapeCasts_S32x32768_S32x128x256
    = Cert.Reference24Ideal.Read.val_main_v7 (F := Ideal) (table m c) (bucket m c) := by
  funext i
  obtain ⟨h, r, q, rfl⟩ : ∃ (h : Fin 32) (r : Fin 128) (q : Fin 256), i = ix3 h r q := ⟨i 0, i 1, i 2, eq_ix3 i⟩
  refine (cast_apply _ _ _ _).trans (.trans ?_ (Cert.Reference24Ideal.RelBiasFwd.apply _ _ hb _ _ _).symm)
  rw [final2]
  refine (whole_apply m c hb _ _).trans ?_
  congr 2
  refine Fin.ext ?_
  show (bucket m c _).toNat = (bucket m c _).toNat
  congr 3
  · refine Fin.ext ?_
    show (r.val * 256 + q.val) / 256 = r.val
    omega
  · refine Fin.ext ?_
    show (r.val * 256 + q.val) % 256 = q.val
    omega

theorem tail2 (hb : ∀ i, (bucket m c i).toNat < 32) :
    Pipeline.afterTail₀ cfgs (dats m) 0 (V0 m) [hostOps1] c main_v8 = Cert.Reference24Ideal.Read.val_main_v7 (F := Ideal) (table m c) (bucket m c) := by
  refine .trans ?_ (cast2 m c hb)
  have h := Pipeline.withArrays_arr cfg0.spec (by decide) c (V0 m c) (fun w => (dats m 0 c).arrAt w cfg0.N) 2
  unfold Pipeline.afterTail₀
  rw [← h]
  simp only [hostOps1, List.flatten_cons, List.flatten_nil, List.append_nil]
  run_tidy
  rfl

/-- What a run leaves in the result and the arguments. -/
theorem run (hb : ∀ (c : Dev nD) i, (bucket m c i).toNat < 32) (g : Dev nD → PrngReg) : θ_run (defs (F := Ideal)) (onTc (τ := τ) (main (F := Ideal))) ⟨m, fun _ => 0, g⟩ (fun r => ∀ c : Dev nD,
    r.2.mem ((c.tc : Thread nD τ).loc main_v8) = Cert.Reference24Ideal.Read.val_main_v7 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).2 main_v8 (Pipeline.mem_restRefs_of main_v8 (by decide) (by decide))).trans (tail2 m c (hb c)), h.2 c⟩)
    (θ_run_and (run_main m g) (unchanged m g))

end Cert.Kernel24Ideal.RelBiasFwd
-- ==== Proof.RelBiasBwd.lean ====
/- The gradient of the table of relative-position biases, summed over the pairs of positions by a product with rows of
   ones and zeros: what the kernel stores, element by element, and that it is the sum over the pairs in each bucket. -/
module

public import proofs.«01_k».proof.Defs
public import proofs.«01_k».proof.Pre_pre_rel_bias_bwd
public import proofs.«01_k».proof.Proof.RelBiasFwd
public import proofs.«01_k».proof.Proof.Gen.Kernel25Ideal.Frame
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WordCmp
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_pre_rel_bias_bwd

/-! The precondition read back: every bucket is one of the thirty-two. -/

theorem facts : Facts where
  bcast_S_S128x256 := by decide +kernel
  reducesTo_S128x256_S_d0_1 := by decide +kernel
  h_S_ := by decide +kernel

theorem bounds (x0 : FVec Ideal S32x128x256 .f32) (x1 : IVec S128x256 32)
    (h : (haveI : Facts := facts; fn (F := Ideal) x0 x1) = fun _ => 1#1) (i : S128x256.Idx) : (x1 i).toNat < 32 := by
  haveI : Facts := facts
  have e := congrFun h (Shape.Idx.first Facts.h_S_)
  unfold fn at e
  have e' := Host.reduce_andi_all _ _ _ _ _ e i
  obtain ⟨e0, e1⟩ := IntOp.andi_eq_one.1 e'
  exact Cert.Pre_pre_rel_bias_fwd.bucket_lt _ e0 e1

end Cert.Pre_pre_rel_bias_bwd

namespace Cert.Reference25Ideal.RelBiasBwd
open Cert.Reference25Ideal Cert.Reference25Ideal.Gen Cert.Reference25Ideal.Read

/-- The scatter's dimension numbers, by a short name. -/
abbrev D := scatter_S32x32_S128x256x1_S128x256x32_2_0_0_2

theorem start0 (b : IVec S128x256x1 32) (r : Fin 128) (c : Fin 256) (h : Fin 32) : D.start (ix3 r c h) b 0 = (b (ix3 r c 0)).toInt := by
  unfold ScatterDims.start
  rw [dif_pos (show (0 : Fin 2) ∈ D.scatterDimsToOperandDims from List.mem_singleton.mpr rfl)]
  have hs : D.siIdx (ix3 r c h) ⟨List.idxOf (0 : Fin 2) D.scatterDimsToOperandDims, List.idxOf_lt_length_iff.2 (List.mem_singleton.mpr rfl)⟩ = ix3 r c 0 := by
    funext k
    refine Fin.ext ?_
    match k with
    | ⟨0, _⟩ => rfl
    | ⟨1, _⟩ => rfl
    | ⟨2, _⟩ => rfl
  rw [hs]
theorem start1 (b : IVec S128x256x1 32) (r : Fin 128) (c : Fin 256) (h : Fin 32) : D.start (ix3 r c h) b 1 = 0 := by
  unfold ScatterDims.start
  rw [dif_neg (show (1 : Fin 2) ∉ D.scatterDimsToOperandDims from by decide)]
theorem window0 (r : Fin 128) (c : Fin 256) (h : Fin 32) : D.window (ix3 r c h) 0 = 0 := rfl
theorem window1 (r : Fin 128) (c : Fin 256) (h : Fin 32) : D.window (ix3 r c h) 1 = h.val := rfl

/-- Where an update lands: the row of its pair's bucket, the column of its head. -/
theorem lands (b : IVec S128x256x1 32) (r : Fin 128) (c : Fin 256) (h : Fin 32) (n : ℕ) (hn : n < 32) (e : (b (ix3 r c 0)).toInt = (n : ℤ)) :
    D.resultIdx? (ix3 r c h) b = some (ix2 ⟨n, hn⟩ h) := by
  unfold ScatterDims.resultIdx?
  rw [dif_pos]
  · congr 1
    funext a
    refine Fin.ext ?_
    match a with
    | ⟨0, _⟩ =>
      show (D.start (ix3 r c h) b 0 + D.window (ix3 r c h) 0).toNat = n
      rw [start0, window0, e]; simp
    | ⟨1, _⟩ =>
      show (D.start (ix3 r c h) b 1 + D.window (ix3 r c h) 1).toNat = h.val
      rw [start1, window1]; simp
  · intro a
    match a with
    | ⟨0, _⟩ =>
      show 0 ≤ D.start (ix3 r c h) b 0 + D.window (ix3 r c h) 0 ∧ D.start (ix3 r c h) b 0 + D.window (ix3 r c h) 0 < ((32 : ℕ) : ℤ)
      rw [start0, window0, e]; omega
    | ⟨1, _⟩ =>
      show 0 ≤ D.start (ix3 r c h) b 1 + D.window (ix3 r c h) 1 ∧ D.start (ix3 r c h) b 1 + D.window (ix3 r c h) 1 < ((32 : ℕ) : ℤ)
      rw [start1, window1]; have := h.isLt; omega

/-- The buckets as the scatter reads them: none is negative, so none is moved. -/
theorem starts (x1 : IVec S128x256 32) (hb : ∀ i, (x1 i).toNat < 32) (r : Fin 128) (c : Fin 256) :
    (val_main_v6 (F := Ideal) x1 (ix3 r c 0)).toInt = ((x1 (ix2 r c)).toNat : ℤ) := by
  have e5 : val_main_v6 (F := Ideal) x1 (ix3 r c 0) = val_main_v5 (F := Ideal) x1 (ix2 r c) := by
    pointwise [val_main_v6]
  have hlt := hb (ix2 r c)
  have hi : (x1 (ix2 r c)).toInt = ((x1 (ix2 r c)).toNat : ℤ) := by
    rw [BitVec.toInt_eq_toNat_cond]; rw [if_pos (by omega)]
  have e4 : val_main_v5 (F := Ideal) x1 (ix2 r c) = x1 (ix2 r c) := by
    rw [val_main_v5_apply, val_main_v2_apply, val_main_v1_apply, val_main_c_apply]
    have : IntOp.cmpi .slt (x1 (ix2 r c)) 0#32 = 0#1 := by
      have n : ¬(x1 (ix2 r c)).slt 0#32 = true := by
        rw [BitVec.slt_iff_toInt_lt, hi]
        have z : (0#32).toInt = 0 := by decide
        omega
      simp only [IntOp.cmpi]
      rw [Bool.eq_false_iff.2 n]
      rfl
    rw [this]
    rfl
  rw [e5, e4, hi]

/-- The place of a pair of positions among the flattened ones, and back. -/
abbrev rowOf (p : Fin 32768) : Fin 128 := ⟨p.val / 256, by omega⟩
abbrev colOf (p : Fin 32768) : Fin 256 := ⟨p.val % 256, by omega⟩

theorem row_flat (r : Fin 128) (c : Fin 256) : rowOf ⟨r.val * 256 + c.val, by omega⟩ = r := Fin.ext (by show (r.val * 256 + c.val) / 256 = r.val; omega)
theorem col_flat (r : Fin 128) (c : Fin 256) : colOf ⟨r.val * 256 + c.val, by omega⟩ = c := Fin.ext (by show (r.val * 256 + c.val) % 256 = c.val; omega)
theorem lt_flat (r : Fin 128) (c : Fin 256) : r.val * 256 + c.val < 32768 := by omega

/-- Each entry of the table's gradient is the sum of the bias gradients over the pairs in its bucket. -/
theorem apply (x0 : FVec Ideal S32x128x256 .f32) (x1 : IVec S128x256 32) (hb : ∀ i, (x1 i).toNat < 32) (k h : Fin 32) :
    val_main_v11 (F := Ideal) x0 x1 (ix2 k h)
      = ∑ p : Fin 32768, if (x1 (ix2 (rowOf p) (colOf p))).toNat = k.val then x0 (ix3 h (rowOf p) (colOf p)) else 0 := by
  rw [← Finset.sum_filter]
  unfold val_main_v11
  show val_main_v10 (F := Ideal) (ix2 k h) + ∑ j ∈ Finset.univ.filter (fun j => D.resultIdx? j (val_main_v6 (F := Ideal) x1) = some (ix2 k h)), val_main_v9 (F := Ideal) x0 j = _
  have z : val_main_v10 (F := Ideal) (ix2 k h) = (0 : EReal) := by
    pointwise [val_main_v10, val_main_cst_1]
  rw [z, zero_add]
  have u : ∀ (r : Fin 128) (c : Fin 256) (h : Fin 32), val_main_v9 (F := Ideal) x0 (ix3 r c h) = x0 (ix3 h r c) := by
    intro r c h
    pointwise [val_main_v9]
  have l : ∀ (r : Fin 128) (c : Fin 256) (h' : Fin 32), D.resultIdx? (ix3 r c h') (val_main_v6 (F := Ideal) x1) = some (ix2 ⟨(x1 (ix2 r c)).toNat, hb _⟩ h') :=
    fun r c h' => lands _ r c h' _ (hb _) (starts x1 hb r c)
  refine Finset.sum_nbij' (fun j : S128x256x32.Idx => (⟨(j 0 : Fin 128).val * 256 + (j 1 : Fin 256).val, lt_flat (j 0) (j 1)⟩ : Fin 32768)) (fun p => (ix3 (rowOf p) (colOf p) h : S128x256x32.Idx)) ?_ ?_ ?_ ?_ ?_
  · intro j hj
    obtain ⟨r, c, h', rfl⟩ : ∃ (r : Fin 128) (c : Fin 256) (h' : Fin 32), j = ix3 r c h' := ⟨j 0, j 1, j 2, eq_ix3 j⟩
    have e := (Finset.mem_filter.1 hj).2
    rw [l] at e
    have e0 : (x1 (ix2 r c)).toNat = k.val := congrArg Fin.val (congrFun (Option.some.inj e) 0)
    refine Finset.mem_filter.2 ⟨Finset.mem_univ _, ?_⟩
    exact (congrArg₂ (fun (a : Fin 128) (b : Fin 256) => (x1 (ix2 a b)).toNat) (row_flat r c) (col_flat r c)).trans e0
  · intro p hp
    have e := (Finset.mem_filter.1 hp).2
    refine Finset.mem_filter.2 ⟨Finset.mem_univ _, ?_⟩
    rw [l]
    congr 2
    exact Fin.ext e
  · intro j hj
    obtain ⟨r, c, h', rfl⟩ : ∃ (r : Fin 128) (c : Fin 256) (h' : Fin 32), j = ix3 r c h' := ⟨j 0, j 1, j 2, eq_ix3 j⟩
    have e := (Finset.mem_filter.1 hj).2
    rw [l] at e
    have e1 : h' = h := congrFun (Option.some.inj e) 1
    rw [e1]
    exact (congrArg₂ (fun (a : Fin 128) (b : Fin 256) => (ix3 a b h : S128x256x32.Idx)) (row_flat r c) (col_flat r c))
  · intro p _
    refine Fin.ext ?_
    show p.val / 256 * 256 + p.val % 256 = p.val
    omega
  · intro j hj
    obtain ⟨r, c, h', rfl⟩ : ∃ (r : Fin 128) (c : Fin 256) (h' : Fin 32), j = ix3 r c h' := ⟨j 0, j 1, j 2, eq_ix3 j⟩
    have e := (Finset.mem_filter.1 hj).2
    rw [l] at e
    have e1 : h' = h := congrFun (Option.some.inj e) 1
    rw [u, e1]
    exact (congrArg₂ (fun (a : Fin 128) (b : Fin 256) => x0 (ix3 h a b)) (row_flat r c) (col_flat r c)).symm

end Cert.Reference25Ideal.RelBiasBwd

namespace Cert.Kernel25Ideal.RelBiasBwd
open Cert.Kernel25Ideal Cert.Kernel25Ideal.Gen
open Cert.Kernel24Ideal.RelBiasFwd (hot hot_eq)
open Cert.Reference25Ideal.RelBiasBwd (rowOf colOf)
variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem pay1_apply (a b : FVec Ideal S32x32768 .f32) (h k : Fin 32) :
    k0_pay1 (F := Ideal) a b (ix2 h k) = ∑ p : Fin 32768, a (ix2 h p) * b (ix2 k p) := by
  pointwise [k0_pay1]

/-- The two arguments. -/
abbrev grad : FVec Ideal S32x128x256 .f32 := (m ((c : Thread nD τ).loc main_arg0))
abbrev bucket : IVec S128x256 32 := (m ((c : Thread nD τ).loc main_arg1))
/-- The bias gradient with the pairs of positions flattened, and the rows of ones and zeros. -/
abbrev flat (A : FVec Ideal S32x128x256 .f32) : FVec Ideal S32x32768 .f32 := shapeCast S32x32768 A shapeCasts_S32x128x256_S32x32768
abbrev rows (B : IVec S128x256 32) : FVec Ideal S32x32768 .f32 :=
  uitofp .f32 (cmpi .eq (broadcastInDim S32x32768 ![0, 1] bcast_S1x32768_S32x32768_0_1 (shapeCast S1x32768 B shapeCasts_S128x256_S1x32768))
    (broadcastInDim S32x32768 ![0, 1] bcast_S32x1_S32x32768_0_1 (broadcastInDim S32x1 ![0] bcast_S32_S32x1_0 (iotaInDim S32 32 0))))

theorem flat_apply (A : FVec Ideal S32x128x256 .f32) (h : Fin 32) (p : Fin 32768) : flat A (ix2 h p) = A (ix3 h (rowOf p) (colOf p)) := by
  pointwise []
theorem rows_apply (B : IVec S128x256 32) (k : Fin 32) (p : Fin 32768) : rows B (ix2 k p) = hot B k p := by
  unfold hot
  pointwise []

theorem a_entry : V m c main_v0 = flat (grad m c) := by
  unfold V V0
  simp only [hostOps0, List.flatten_cons, List.flatten_nil, List.append_nil]
  run_tidy
  rfl
theorem o_entry : V m c main_v7 = rows (bucket m c) := by
  unfold V V0
  simp only [hostOps0, List.flatten_cons, List.flatten_nil, List.append_nil]
  run_tidy
  rfl
theorem a_block (t : Fin cfg0.N) (h : Fin 32) (p : Fin 32768) : (iblk m c 0 t : FVec Ideal S32x32768 .f32) (ix2 h p) = grad m c (ix3 h (rowOf p) (colOf p)) := by
  have e : (iblk m c 0 t : FVec Ideal S32x32768 .f32) (ix2 h p) = V m c main_v0 (ix2 h p) := by
    blk_point [iblk, idx t]
  rw [e, a_entry, flat_apply]
theorem o_block (t : Fin cfg0.N) (k : Fin 32) (p : Fin 32768) : (iblk m c 1 t : FVec Ideal S32x32768 .f32) (ix2 k p) = hot (bucket m c) k p := by
  have e : (iblk m c 1 t : FVec Ideal S32x32768 .f32) (ix2 k p) = V m c main_v7 (ix2 k p) := by
    blk_point [iblk, idx t]
  rw [e, o_entry, rows_apply]
theorem at_block (t : Fin cfg0.N) (h k : Fin 32) : ((cfg0.win 2).blk t).view.emb (ix2 h k) = ix2 (h : Fin 32) (k : Fin 32) := by
  blk_simp
  blk_ext
  all_goals simp [idx t]

/-- The product as an array, head by bucket. -/
def whole : (⟨S32x32, .f32⟩ : BufTy).Contents (Elt Ideal) := fun i => ∑ p : Fin 32768, grad m c (ix3 (i 0) (rowOf p) (colOf p)) * hot (bucket m c) (i 1) p

theorem final2 : (dats m 0 c).arrAt 2 cfg0.N = whole m c := by
  refine (dats m 0 c).arrAt_eq_of_covers 2 _ (by decide +kernel) fun t hf y => ?_
  rw [after0_2]
  unfold out0_2
  frame_out
  obtain ⟨h, k, rfl⟩ : ∃ (h : Fin 32) (k : Fin 32), y = ix2 h k := ⟨y 0, y 1, eq_ix2 y⟩
  rw [at_block]
  refine (pay1_apply _ _ _ _).trans ?_
  exact Finset.sum_congr rfl fun p _ => congrArg₂ (· * ·) (a_block m c t h p) (o_block m c t k p)

/-- A term of the product is the gradient where the pair is in the bucket and zero elsewhere. -/
theorem term (hb : ∀ i, (bucket m c i).toNat < 32) (h k : Fin 32) (p : Fin 32768) :
    grad m c (ix3 h (rowOf p) (colOf p)) * hot (bucket m c) k p
      = if (bucket m c (ix2 (rowOf p) (colOf p))).toNat = k.val then grad m c (ix3 h (rowOf p) (colOf p)) else 0 := by
  rw [hot_eq]
  have hk : (BitVec.ofNat 32 k.val).toNat = k.val := by
    rw [BitVec.toNat_ofNat, Nat.mod_eq_of_lt (by omega)]
  by_cases e : (bucket m c (ix2 (rowOf p) (colOf p))).toNat = k.val
  · rw [if_pos e, if_pos (BitVec.eq_of_toNat_eq (e.trans hk.symm)), mul_one]
  · rw [if_neg e, if_neg (fun e' => e ((congrArg BitVec.toNat e').trans hk)), mul_zero]

theorem turn_apply (A : FVec Ideal S32x32 .f32) (k h : Fin 32) : transpose S32x32 [1, 0] A transposes_S32x32_S32x32_1_0 (ix2 k h) = A (ix2 h k) := by
  pointwise []

theorem turn2 (hb : ∀ i, (bucket m c i).toNat < 32) :
    transpose S32x32 [1, 0] ((dats m 0 c).arrAt 2 cfg0.N : FVec Ideal S32x32 .f32) transposes_S32x32_S32x32_1_0
    = Cert.Reference25Ideal.Read.val_main_v11 (F := Ideal) (grad m c) (bucket m c) := by
  funext i
  obtain ⟨k, h, rfl⟩ : ∃ (k : Fin 32) (h : Fin 32), i = ix2 k h := ⟨i 0, i 1, eq_ix2 i⟩
  refine (turn_apply _ _ _).trans (.trans ?_ (Cert.Reference25Ideal.RelBiasBwd.apply _ _ hb _ _).symm)
  rw [final2]
  exact Finset.sum_congr rfl fun p _ => term m c hb h k p

theorem tail2 (hb : ∀ i, (bucket m c i).toNat < 32) :
    Pipeline.afterTail₀ cfgs (dats m) 0 (V0 m) [hostOps1] c main_v9 = Cert.Reference25Ideal.Read.val_main_v11 (F := Ideal) (grad m c) (bucket m c) := by
  refine .trans ?_ (turn2 m c hb)
  have h := Pipeline.withArrays_arr cfg0.spec (by decide) c (V0 m c) (fun w => (dats m 0 c).arrAt w cfg0.N) 2
  unfold Pipeline.afterTail₀
  rw [← h]
  simp only [hostOps1, List.flatten_cons, List.flatten_nil, List.append_nil]
  run_tidy

/-- What a run leaves in the result and the arguments. -/
theorem run (hb : ∀ (c : Dev nD) i, (bucket m c i).toNat < 32) (g : Dev nD → PrngReg) : θ_run (defs (F := Ideal)) (onTc (τ := τ) (main (F := Ideal))) ⟨m, fun _ => 0, g⟩ (fun r => ∀ c : Dev nD,
    r.2.mem ((c.tc : Thread nD τ).loc main_v9) = Cert.Reference25Ideal.Read.val_main_v11 (F := Ideal) (m ((c.tc : Thread nD τ).loc main_arg0)) (m ((c.tc : Thread nD τ).loc main_arg1))
    ∧ r.2.mem ((c.tc : Thread nD τ).loc main_arg0) = (m ((c.tc : Thread nD τ).loc main_arg0))
    ∧ r.2.mem ((c.tc : Thread nD τ).loc main_arg1) = (m ((c.tc : Thread nD τ).loc main_arg1))) :=
  (θ_run _ _ _).mono (fun r h c => ⟨((h.1 c).2 main_v9 (Pipeline.mem_restRefs_of main_v9 (by decide) (by decide))).trans (tail2 m c (hb c)), h.2 c⟩)
    (θ_run_and (run_main m g) (unchanged m g))

end Cert.Kernel25Ideal.RelBiasBwd
-- ==== Proof.AdamW.lean ====
/- One element of an AdamW update: the two new moments and the step, the moments divided by their corrections; and the
   same step with each division written as a product with the correction's reciprocal. -/
module

public import proofs.«01_k».proof.Defs
public import Idealize.ShloMosaic.Lib.Pointwise

@[expose] public section

noncomputable section

open Idealize.ShloMosaic

namespace Cert.AdamW

/-- The first moment after the update. -/
def first (p g : EReal) : EReal := Ideal.ofBits .f32 0x3F666666#32 * p + Ideal.ofBits .f32 0x3DCCCCCD#32 * g
/-- The second moment after the update. -/
def second (q g : EReal) : EReal := Ideal.ofBits .f32 0x3F7FBE77#32 * q + Ideal.ofBits .f32 0x3A83126F#32 * (g * g)
/-- The step: the corrected first moment over the root of the corrected second one, and the decay of the weight. -/
def step (w p q g : EReal) : EReal :=
  Ideal.ofBits .f32 0xBA83126F#32 * (Ideal.div (Ideal.div (first p g) (Ideal.ofBits .f32 0x3F26BD02#32))
      (Ideal.sqrt (Ideal.div (second q g) (Ideal.ofBits .f32 0x3C231ACC#32)) + Ideal.ofBits .f32 0x322BCC77#32)
    + Ideal.ofBits .f32 0x3C23D70A#32 * w)
/-- The step with the corrections' reciprocals. -/
def scaled (w p q g : EReal) : EReal :=
  Ideal.ofBits .f32 0xBA83126F#32 * (Ideal.div (first p g * ((8388608 / 5463681 : ℝ) : EReal))
      (Ideal.sqrt (second q g * ((268435456 / 2672307 : ℝ) : EReal)) + Ideal.ofBits .f32 0x322BCC77#32)
    + Ideal.ofBits .f32 0x3C23D70A#32 * w)

theorem lit1 : Ideal.ofBits .f32 0x3F26BD02#32 = ((5463681 / 8388608 : ℝ) : EReal) := by
  simp [Ideal.ofBits, Ideal.ieee, -EReal.coe_mul]; norm_num
theorem lit2 : Ideal.ofBits .f32 0x3C231ACC#32 = ((2672307 / 268435456 : ℝ) : EReal) := by
  simp [Ideal.ofBits, Ideal.ieee, -EReal.coe_mul]; norm_num

/-- A product with the reciprocal is the division. -/
theorem scaled_eq (w p q g : EReal) : scaled w p q g = step w p q g := by
  unfold scaled step
  rw [lit1, lit2, Ideal.div_coe (by norm_num), Ideal.div_coe (by norm_num)]
  norm_num

end Cert.AdamW
-- ==== Proof.AdamAda.lean ====
/- One AdamW update, of the conditioning weights: what the tiled kernel stores is the gradient, the step and the two new
   moments, element by element; its product with a reciprocal is the reference's division. -/
module

public import proofs.«01_k».proof.Defs
public import proofs.«01_k».proof.Proof.AdamW
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Reference26Ideal.AdamAda
open Cert.Reference26Ideal Cert.Reference26Ideal.Gen Cert.Reference26Ideal.Read
variable (x0 x1 x2 x3 : FVec Ideal S2048x1536 .f32) (r : Fin 2048) (l : Fin 1536)

theorem v4_apply : val_main_v4 (F := Ideal) x1 x3 (ix2 r l) = first (x1 (ix2 r l)) (x3 (ix2 r l)) := by
  pointwise [val_main_v4, val_main_v3, val_main_v2, val_main_v1, val_main_v0, val_main_cst, val_main_cst_0, first]
theorem v10_apply : val_main_v10 (F := Ideal) x2 x3 (ix2 r l) = second (x2 (ix2 r l)) (x3 (ix2 r l)) := by
  pointwise [val_main_v10, val_main_v9, val_main_v8, val_main_v7, val_main_v6, val_main_v5, val_main_cst_1, val_main_cst_2, second]
theorem v23_apply : val_main_v23 (F := Ideal) x0 x1 x2 x3 (ix2 r l) = step (x0 (ix2 r l)) (x1 (ix2 r l)) (x2 (ix2 r l)) (x3 (ix2 r l)) := by
  pointwise [val_main_v23, val_main_v22, val_main_v21, val_main_v20, val_main_v19, val_main_v18, val_main_v17, val_main_v16, val_main_v15, val_main_v14, val_main_v13, val_main_v12, val_main_v11, v4_apply, v10_apply, val_main_cst_3, val_main_cst_4, val_main_cst_5, val_main_cst_6, val_main_cst_7, step]

end Cert.Reference26Ideal.AdamAda

namespace Cert.Kernel26Ideal.AdamAda
open Cert.Kernel26Ideal Cert.Kernel26Ideal.Gen

theorem corr1_named : (Named.named κ "corr1" 0x3FC48605#32 : Ideal .f32) = ((8388608 / 5463681 : ℝ) : EReal) := rfl
theorem corr2_named : (Named.named κ "corr2" 0x42C8E6D3#32 : Ideal .f32) = ((268435456 / 2672307 : ℝ) : EReal) := rfl

section
variable (g w p q : FVec Ideal S128x1536 .f32) (r : Fin 128) (l : Fin 1536)
theorem pay1_apply : k0_pay1 (F := Ideal) g p (ix2 r l) = first (p (ix2 r l)) (g (ix2 r l)) := by
  pointwise [k0_pay1, first]
theorem pay2_apply : k0_pay2 (F := Ideal) g q (ix2 r l) = second (q (ix2 r l)) (g (ix2 r l)) := by
  pointwise [k0_pay2, second]
theorem pay3_apply : k0_pay3 (F := Ideal) g p q w (ix2 r l) = step (w (ix2 r l)) (p (ix2 r l)) (q (ix2 r l)) (g (ix2 r l)) := by
  rw [← scaled_eq]
  pointwise [k0_pay3, pay1_apply, pay2_apply, corr1_named, corr2_named, scaled]
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem lt_row (t : Fin cfg0.N) (r : Fin 128) : t.val * 128 + r.val < 2048 := by
  have : t.val < 16 := t.isLt
  omega
theorem block0 (t : Fin cfg0.N) (r : Fin 128) (l : Fin 1536) : iblk m c 0 t (ix2 r l) = (m ((c : Thread nD τ).loc main_arg0)) (ix2 ⟨t.val * 128 + r.val, lt_row t r⟩ l) := by
  blk_point [iblk, V, idx t]
theorem block1 (t : Fin cfg0.N) (r : Fin 128) (l : Fin 1536) : iblk m c 1 t (ix2 r l) = (m ((c : Thread nD τ).loc main_arg1)) (ix2 ⟨t.val * 128 + r.val, lt_row t r⟩ l) := by
  blk_point [iblk, V, idx t]
theorem block2 (t : Fin cfg0.N) (r : Fin 128) (l : Fin 1536) : iblk m c 2 t (ix2 r l) = (m ((c : Thread nD τ).loc main_arg2)) (ix2 ⟨t.val * 128 + r.val, lt_row t r⟩ l) := by
  blk_point [iblk, V, idx t]
theorem block3 (t : Fin cfg0.N) (r : Fin 128) (l : Fin 1536) : iblk m c 3 t (ix2 r l) = (m ((c : Thread nD τ).loc main_arg3)) (ix2 ⟨t.val * 128 + r.val, lt_row t r⟩ l) := by
  blk_point [iblk, V, idx t]
theorem at_block4 (t : Fin cfg0.N) (r : Fin 128) (l : Fin 1536) :
    ((cfg0.win 4).blk t).view.emb (ix2 r l) = ix2 (⟨t.val * 128 + r.val, lt_row t r⟩ : Fin 2048) l := by
  blk_simp
  blk_ext
  all_goals simp [idx t]
theorem at_block5 (t : Fin cfg0.N) (r : Fin 128) (l : Fin 1536) :
    ((cfg0.win 5).blk t).view.emb (ix2 r l) = ix2 (⟨t.val * 128 + r.val, lt_row t r⟩ : Fin 2048) l := by
  blk_simp
  blk_ext
  all_goals simp [idx t]
theorem at_block6 (t : Fin cfg0.N) (r : Fin 128) (l : Fin 1536) :
    ((cfg0.win 6).blk t).view.emb (ix2 r l) = ix2 (⟨t.val * 128 + r.val, lt_row t r⟩ : Fin 2048) l := by
  blk_simp
  blk_ext
  all_goals simp [idx t]
theorem at_block7 (t : Fin cfg0.N) (r : Fin 128) (l : Fin 1536) :
    ((cfg0.win 7).blk t).view.emb (ix2 r l) = ix2 (⟨t.val * 128 + r.val, lt_row t r⟩ : Fin 2048) l := by
  blk_simp
  blk_ext
  all_goals simp [idx t]

theorem point4 (t : Fin cfg0.N) (y : S128x1536.Idx) :
    iblk m c 3 t y
    = ((m ((c : Thread nD τ).loc main_arg3))) (((cfg0.win 4).blk t).view.emb y) := by
  obtain ⟨r, l, rfl⟩ : ∃ (r : Fin 128) (l : Fin 1536), y = ix2 r l := ⟨y 0, y 1, eq_ix2 y⟩
  rw [at_block4]
  exact block3 m c t r l
theorem final4 : (dats m 0 c).arrAt 4 (cfgs 0).N
    = (m ((c : Thread nD τ).loc main_arg3)) := by
  refine (dats m 0 c).arrAt_eq_of_covers 4 _ (by decide +kernel) fun t _ y => ?_
  blk_simp
  rw [after0_4]; unfold out0_4; frame_out
  exact point4 m c t y

theorem point5 (t : Fin cfg0.N) (y : S128x1536.Idx) :
    k0_pay3 (F := Ideal) (iblk m c 3 t) (iblk m c 1 t) (iblk m c 2 t) (iblk m c 0 t) y
    = (Cert.Reference26Ideal.Read.val_main_v23 (F := Ideal) (m ((c : Thread nD τ).loc main_arg0)) (m ((c : Thread nD τ).loc main_arg1)) (m ((c : Thread nD τ).loc main_arg2)) (m ((c : Thread nD τ).loc main_arg3))) (((cfg0.win 5).blk t).view.emb y) := by
  obtain ⟨r, l, rfl⟩ : ∃ (r : Fin 128) (l : Fin 1536), y = ix2 r l := ⟨y 0, y 1, eq_ix2 y⟩
  rw [at_block5]
  refine (pay3_apply _ _ _ _ _ _).trans (.trans ?_ (Cert.Reference26Ideal.AdamAda.v23_apply _ _ _ _ _ _).symm)
  simp only [block0, block1, block2, block3]
theorem final5 : (dats m 0 c).arrAt 5 (cfgs 0).N
    = Cert.Reference26Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  exact point5 m c t y

theorem point6 (t : Fin cfg0.N) (y : S128x1536.Idx) :
    k0_pay1 (F := Ideal) (iblk m c 3 t) (iblk m c 1 t) y
    = (Cert.Reference26Ideal.Read.val_main_v4 (F := Ideal) (m ((c : Thread nD τ).loc main_arg1)) (m ((c : Thread nD τ).loc main_arg3))) (((cfg0.win 6).blk t).view.emb y) := by
  obtain ⟨r, l, rfl⟩ : ∃ (r : Fin 128) (l : Fin 1536), y = ix2 r l := ⟨y 0, y 1, eq_ix2 y⟩
  rw [at_block6]
  refine (pay1_apply _ _ _ _).trans (.trans ?_ (Cert.Reference26Ideal.AdamAda.v4_apply _ _ _ _).symm)
  simp only [block1, block3]
theorem final6 : (dats m 0 c).arrAt 6 (cfgs 0).N
    = Cert.Reference26Ideal.Read.val_main_v4 (F := Ideal) (m ((c : Thread nD τ).loc main_arg1)) (m ((c : Thread nD τ).loc main_arg3)) := by
  refine (dats m 0 c).arrAt_eq_of_covers 6 _ (by decide +kernel) fun t _ y => ?_
  blk_simp
  rw [after0_6]; unfold out0_6; frame_out
  exact point6 m c t y

theorem point7 (t : Fin cfg0.N) (y : S128x1536.Idx) :
    k0_pay2 (F := Ideal) (iblk m c 3 t) (iblk m c 2 t) y
    = (Cert.Reference26Ideal.Read.val_main_v10 (F := Ideal) (m ((c : Thread nD τ).loc main_arg2)) (m ((c : Thread nD τ).loc main_arg3))) (((cfg0.win 7).blk t).view.emb y) := by
  obtain ⟨r, l, rfl⟩ : ∃ (r : Fin 128) (l : Fin 1536), y = ix2 r l := ⟨y 0, y 1, eq_ix2 y⟩
  rw [at_block7]
  refine (pay2_apply _ _ _ _).trans (.trans ?_ (Cert.Reference26Ideal.AdamAda.v10_apply _ _ _ _).symm)
  simp only [block2, block3]
theorem final7 : (dats m 0 c).arrAt 7 (cfgs 0).N
    = Cert.Reference26Ideal.Read.val_main_v10 (F := Ideal) (m ((c : Thread nD τ).loc main_arg2)) (m ((c : Thread nD τ).loc main_arg3)) := by
  refine (dats m 0 c).arrAt_eq_of_covers 7 _ (by decide +kernel) fun t _ y => ?_
  blk_simp
  rw [after0_7]; unfold out0_7; frame_out
  exact point7 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0_0) = (m ((c.tc : Thread nD τ).loc main_arg3))
    ∧ r.2.mem ((c.tc : Thread nD τ).loc main_v0_1) = Cert.Reference26Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = Cert.Reference26Ideal.Read.val_main_v4 (F := Ideal) (m ((c.tc : Thread nD τ).loc main_arg1)) (m ((c.tc : Thread nD τ).loc main_arg3))
    ∧ r.2.mem ((c.tc : Thread nD τ).loc main_v0_3) = Cert.Reference26Ideal.Read.val_main_v10 (F := Ideal) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 4).trans (final4 m c), ((h.1 c).1 5).trans (final5 m c), ((h.1 c).1 6).trans (final6 m c), ((h.1 c).1 7).trans (final7 m c), h.2 c⟩)
    (θ_run_and (run_main m g) (unchanged m g))

end Cert.Kernel26Ideal.AdamAda
-- ==== Proof.AdamFf1.lean ====
/- One AdamW update, of the first feed-forward weights: what the tiled kernel stores is the gradient, the step and the two new
   moments, element by element; its product with a reciprocal is the reference's division. -/
module

public import proofs.«01_k».proof.Defs
public import proofs.«01_k».proof.Proof.AdamW
public import proofs.«01_k».proof.Proof.Gen.Kernel27Ideal.Frame
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Reference27Ideal.AdamFf1
open Cert.Reference27Ideal Cert.Reference27Ideal.Gen Cert.Reference27Ideal.Read
variable (x0 x1 x2 x3 : FVec Ideal S2048x1024 .f32) (r : Fin 2048) (l : Fin 1024)

theorem v4_apply : val_main_v4 (F := Ideal) x1 x3 (ix2 r l) = first (x1 (ix2 r l)) (x3 (ix2 r l)) := by
  pointwise [val_main_v4, val_main_v3, val_main_v2, val_main_v1, val_main_v0, val_main_cst, val_main_cst_0, first]
theorem v10_apply : val_main_v10 (F := Ideal) x2 x3 (ix2 r l) = second (x2 (ix2 r l)) (x3 (ix2 r l)) := by
  pointwise [val_main_v10, val_main_v9, val_main_v8, val_main_v7, val_main_v6, val_main_v5, val_main_cst_1, val_main_cst_2, second]
theorem v23_apply : val_main_v23 (F := Ideal) x0 x1 x2 x3 (ix2 r l) = step (x0 (ix2 r l)) (x1 (ix2 r l)) (x2 (ix2 r l)) (x3 (ix2 r l)) := by
  pointwise [val_main_v23, val_main_v22, val_main_v21, val_main_v20, val_main_v19, val_main_v18, val_main_v17, val_main_v16, val_main_v15, val_main_v14, val_main_v13, val_main_v12, val_main_v11, v4_apply, v10_apply, val_main_cst_3, val_main_cst_4, val_main_cst_5, val_main_cst_6, val_main_cst_7, step]

end Cert.Reference27Ideal.AdamFf1

namespace Cert.Kernel27Ideal.AdamFf1
open Cert.Kernel27Ideal Cert.Kernel27Ideal.Gen

theorem corr1_named : (Named.named κ "corr1" 0x3FC48605#32 : Ideal .f32) = ((8388608 / 5463681 : ℝ) : EReal) := rfl
theorem corr2_named : (Named.named κ "corr2" 0x42C8E6D3#32 : Ideal .f32) = ((268435456 / 2672307 : ℝ) : EReal) := rfl

section
variable (g w p q : FVec Ideal S128x1024 .f32) (r : Fin 128) (l : Fin 1024)
theorem pay1_apply : k0_pay1 (F := Ideal) g p (ix2 r l) = first (p (ix2 r l)) (g (ix2 r l)) := by
  pointwise [k0_pay1, first]
theorem pay2_apply : k0_pay2 (F := Ideal) g q (ix2 r l) = second (q (ix2 r l)) (g (ix2 r l)) := by
  pointwise [k0_pay2, second]
theorem pay3_apply : k0_pay3 (F := Ideal) g p q w (ix2 r l) = step (w (ix2 r l)) (p (ix2 r l)) (q (ix2 r l)) (g (ix2 r l)) := by
  rw [← scaled_eq]
  pointwise [k0_pay3, pay1_apply, pay2_apply, corr1_named, corr2_named, scaled]
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem lt_row (t : Fin cfg0.N) (r : Fin 128) : t.val * 128 + r.val < 2048 := by
  have : t.val < 16 := t.isLt
  omega
theorem block0 (t : Fin cfg0.N) (r : Fin 128) (l : Fin 1024) : iblk m c 0 t (ix2 r l) = (m ((c : Thread nD τ).loc main_arg0)) (ix2 ⟨t.val * 128 + r.val, lt_row t r⟩ l) := by
  blk_point [iblk, V, idx t]
theorem block1 (t : Fin cfg0.N) (r : Fin 128) (l : Fin 1024) : iblk m c 1 t (ix2 r l) = (m ((c : Thread nD τ).loc main_arg1)) (ix2 ⟨t.val * 128 + r.val, lt_row t r⟩ l) := by
  blk_point [iblk, V, idx t]
theorem block2 (t : Fin cfg0.N) (r : Fin 128) (l : Fin 1024) : iblk m c 2 t (ix2 r l) = (m ((c : Thread nD τ).loc main_arg2)) (ix2 ⟨t.val * 128 + r.val, lt_row t r⟩ l) := by
  blk_point [iblk, V, idx t]
theorem block3 (t : Fin cfg0.N) (r : Fin 128) (l : Fin 1024) : iblk m c 3 t (ix2 r l) = (m ((c : Thread nD τ).loc main_arg3)) (ix2 ⟨t.val * 128 + r.val, lt_row t r⟩ l) := by
  blk_point [iblk, V, idx t]
theorem at_block4 (t : Fin cfg0.N) (r : Fin 128) (l : Fin 1024) :
    ((cfg0.win 4).blk t).view.emb (ix2 r l) = ix2 (⟨t.val * 128 + r.val, lt_row t r⟩ : Fin 2048) l := by
  blk_simp
  blk_ext
  all_goals simp [idx t]
theorem at_block5 (t : Fin cfg0.N) (r : Fin 128) (l : Fin 1024) :
    ((cfg0.win 5).blk t).view.emb (ix2 r l) = ix2 (⟨t.val * 128 + r.val, lt_row t r⟩ : Fin 2048) l := by
  blk_simp
  blk_ext
  all_goals simp [idx t]
theorem at_block6 (t : Fin cfg0.N) (r : Fin 128) (l : Fin 1024) :
    ((cfg0.win 6).blk t).view.emb (ix2 r l) = ix2 (⟨t.val * 128 + r.val, lt_row t r⟩ : Fin 2048) l := by
  blk_simp
  blk_ext
  all_goals simp [idx t]
theorem at_block7 (t : Fin cfg0.N) (r : Fin 128) (l : Fin 1024) :
    ((cfg0.win 7).blk t).view.emb (ix2 r l) = ix2 (⟨t.val * 128 + r.val, lt_row t r⟩ : Fin 2048) l := by
  blk_simp
  blk_ext
  all_goals simp [idx t]

theorem point4 (t : Fin cfg0.N) (y : S128x1024.Idx) :
    iblk m c 3 t y
    = ((m ((c : Thread nD τ).loc main_arg3))) (((cfg0.win 4).blk t).view.emb y) := by
  obtain ⟨r, l, rfl⟩ : ∃ (r : Fin 128) (l : Fin 1024), y = ix2 r l := ⟨y 0, y 1, eq_ix2 y⟩
  rw [at_block4]
  exact block3 m c t r l
theorem final4 : (dats m 0 c).arrAt 4 (cfgs 0).N
    = (m ((c : Thread nD τ).loc main_arg3)) := by
  refine (dats m 0 c).arrAt_eq_of_covers 4 _ (by decide +kernel) fun t _ y => ?_
  blk_simp
  rw [after0_4]; unfold out0_4; frame_out
  exact point4 m c t y

theorem point5 (t : Fin cfg0.N) (y : S128x1024.Idx) :
    k0_pay3 (F := Ideal) (iblk m c 3 t) (iblk m c 1 t) (iblk m c 2 t) (iblk m c 0 t) y
    = (Cert.Reference27Ideal.Read.val_main_v23 (F := Ideal) (m ((c : Thread nD τ).loc main_arg0)) (m ((c : Thread nD τ).loc main_arg1)) (m ((c : Thread nD τ).loc main_arg2)) (m ((c : Thread nD τ).loc main_arg3))) (((cfg0.win 5).blk t).view.emb y) := by
  obtain ⟨r, l, rfl⟩ : ∃ (r : Fin 128) (l : Fin 1024), y = ix2 r l := ⟨y 0, y 1, eq_ix2 y⟩
  rw [at_block5]
  refine (pay3_apply _ _ _ _ _ _).trans (.trans ?_ (Cert.Reference27Ideal.AdamFf1.v23_apply _ _ _ _ _ _).symm)
  simp only [block0, block1, block2, block3]
theorem final5 : (dats m 0 c).arrAt 5 (cfgs 0).N
    = Cert.Reference27Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  exact point5 m c t y

theorem point6 (t : Fin cfg0.N) (y : S128x1024.Idx) :
    k0_pay1 (F := Ideal) (iblk m c 3 t) (iblk m c 1 t) y
    = (Cert.Reference27Ideal.Read.val_main_v4 (F := Ideal) (m ((c : Thread nD τ).loc main_arg1)) (m ((c : Thread nD τ).loc main_arg3))) (((cfg0.win 6).blk t).view.emb y) := by
  obtain ⟨r, l, rfl⟩ : ∃ (r : Fin 128) (l : Fin 1024), y = ix2 r l := ⟨y 0, y 1, eq_ix2 y⟩
  rw [at_block6]
  refine (pay1_apply _ _ _ _).trans (.trans ?_ (Cert.Reference27Ideal.AdamFf1.v4_apply _ _ _ _).symm)
  simp only [block1, block3]
theorem final6 : (dats m 0 c).arrAt 6 (cfgs 0).N
    = Cert.Reference27Ideal.Read.val_main_v4 (F := Ideal) (m ((c : Thread nD τ).loc main_arg1)) (m ((c : Thread nD τ).loc main_arg3)) := by
  refine (dats m 0 c).arrAt_eq_of_covers 6 _ (by decide +kernel) fun t _ y => ?_
  blk_simp
  rw [after0_6]; unfold out0_6; frame_out
  exact point6 m c t y

theorem point7 (t : Fin cfg0.N) (y : S128x1024.Idx) :
    k0_pay2 (F := Ideal) (iblk m c 3 t) (iblk m c 2 t) y
    = (Cert.Reference27Ideal.Read.val_main_v10 (F := Ideal) (m ((c : Thread nD τ).loc main_arg2)) (m ((c : Thread nD τ).loc main_arg3))) (((cfg0.win 7).blk t).view.emb y) := by
  obtain ⟨r, l, rfl⟩ : ∃ (r : Fin 128) (l : Fin 1024), y = ix2 r l := ⟨y 0, y 1, eq_ix2 y⟩
  rw [at_block7]
  refine (pay2_apply _ _ _ _).trans (.trans ?_ (Cert.Reference27Ideal.AdamFf1.v10_apply _ _ _ _).symm)
  simp only [block2, block3]
theorem final7 : (dats m 0 c).arrAt 7 (cfgs 0).N
    = Cert.Reference27Ideal.Read.val_main_v10 (F := Ideal) (m ((c : Thread nD τ).loc main_arg2)) (m ((c : Thread nD τ).loc main_arg3)) := by
  refine (dats m 0 c).arrAt_eq_of_covers 7 _ (by decide +kernel) fun t _ y => ?_
  blk_simp
  rw [after0_7]; unfold out0_7; frame_out
  exact point7 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0_0) = (m ((c.tc : Thread nD τ).loc main_arg3))
    ∧ r.2.mem ((c.tc : Thread nD τ).loc main_v0_1) = Cert.Reference27Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = Cert.Reference27Ideal.Read.val_main_v4 (F := Ideal) (m ((c.tc : Thread nD τ).loc main_arg1)) (m ((c.tc : Thread nD τ).loc main_arg3))
    ∧ r.2.mem ((c.tc : Thread nD τ).loc main_v0_3) = Cert.Reference27Ideal.Read.val_main_v10 (F := Ideal) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 4).trans (final4 m c), ((h.1 c).1 5).trans (final5 m c), ((h.1 c).1 6).trans (final6 m c), ((h.1 c).1 7).trans (final7 m c), h.2 c⟩)
    (θ_run_and (run_main m g) (unchanged m g))

end Cert.Kernel27Ideal.AdamFf1
-- ==== Proof.AdamIn.lean ====
/- One AdamW update, of the input projection: what the tiled kernel stores is the gradient, the step and the two new
   moments, element by element; its product with a reciprocal is the reference's division. -/
module

public import proofs.«01_k».proof.Defs
public import proofs.«01_k».proof.Proof.AdamW
public import proofs.«01_k».proof.Proof.Gen.Kernel28Ideal.Frame
public import proofs.«01_k».proof.Proof.Gen.Reference28Ideal.Run
public import proofs.«01_k».proof.Proof.Gen.Reference28Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Reference28Ideal.AdamIn
open Cert.Reference28Ideal Cert.Reference28Ideal.Gen Cert.Reference28Ideal.Read
variable (x0 x1 x2 x3 : FVec Ideal S2048x1344 .f32) (r : Fin 2048) (l : Fin 1344)

theorem v4_apply : val_main_v4 (F := Ideal) x1 x3 (ix2 r l) = first (x1 (ix2 r l)) (x3 (ix2 r l)) := by
  pointwise [val_main_v4, val_main_v3, val_main_v2, val_main_v1, val_main_v0, val_main_cst, val_main_cst_0, first]
theorem v10_apply : val_main_v10 (F := Ideal) x2 x3 (ix2 r l) = second (x2 (ix2 r l)) (x3 (ix2 r l)) := by
  pointwise [val_main_v10, val_main_v9, val_main_v8, val_main_v7, val_main_v6, val_main_v5, val_main_cst_1, val_main_cst_2, second]
theorem v23_apply : val_main_v23 (F := Ideal) x0 x1 x2 x3 (ix2 r l) = step (x0 (ix2 r l)) (x1 (ix2 r l)) (x2 (ix2 r l)) (x3 (ix2 r l)) := by
  pointwise [val_main_v23, val_main_v22, val_main_v21, val_main_v20, val_main_v19, val_main_v18, val_main_v17, val_main_v16, val_main_v15, val_main_v14, val_main_v13, val_main_v12, val_main_v11, v4_apply, v10_apply, val_main_cst_3, val_main_cst_4, val_main_cst_5, val_main_cst_6, val_main_cst_7, step]

end Cert.Reference28Ideal.AdamIn

namespace Cert.Kernel28Ideal.AdamIn
open Cert.Kernel28Ideal Cert.Kernel28Ideal.Gen

theorem corr1_named : (Named.named κ "corr1" 0x3FC48605#32 : Ideal .f32) = ((8388608 / 5463681 : ℝ) : EReal) := rfl
theorem corr2_named : (Named.named κ "corr2" 0x42C8E6D3#32 : Ideal .f32) = ((268435456 / 2672307 : ℝ) : EReal) := rfl

section
variable (g w p q : FVec Ideal S128x1344 .f32) (r : Fin 128) (l : Fin 1344)
theorem pay1_apply : k0_pay1 (F := Ideal) g p (ix2 r l) = first (p (ix2 r l)) (g (ix2 r l)) := by
  pointwise [k0_pay1, first]
theorem pay2_apply : k0_pay2 (F := Ideal) g q (ix2 r l) = second (q (ix2 r l)) (g (ix2 r l)) := by
  pointwise [k0_pay2, second]
theorem pay3_apply : k0_pay3 (F := Ideal) g p q w (ix2 r l) = step (w (ix2 r l)) (p (ix2 r l)) (q (ix2 r l)) (g (ix2 r l)) := by
  rw [← scaled_eq]
  pointwise [k0_pay3, pay1_apply, pay2_apply, corr1_named, corr2_named, scaled]
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem lt_row (t : Fin cfg0.N) (r : Fin 128) : t.val * 128 + r.val < 2048 := by
  have : t.val < 16 := t.isLt
  omega
theorem block0 (t : Fin cfg0.N) (r : Fin 128) (l : Fin 1344) : iblk m c 0 t (ix2 r l) = (m ((c : Thread nD τ).loc main_arg0)) (ix2 ⟨t.val * 128 + r.val, lt_row t r⟩ l) := by
  blk_point [iblk, V, idx t]
theorem block1 (t : Fin cfg0.N) (r : Fin 128) (l : Fin 1344) : iblk m c 1 t (ix2 r l) = (m ((c : Thread nD τ).loc main_arg1)) (ix2 ⟨t.val * 128 + r.val, lt_row t r⟩ l) := by
  blk_point [iblk, V, idx t]
theorem block2 (t : Fin cfg0.N) (r : Fin 128) (l : Fin 1344) : iblk m c 2 t (ix2 r l) = (m ((c : Thread nD τ).loc main_arg2)) (ix2 ⟨t.val * 128 + r.val, lt_row t r⟩ l) := by
  blk_point [iblk, V, idx t]
theorem block3 (t : Fin cfg0.N) (r : Fin 128) (l : Fin 1344) : iblk m c 3 t (ix2 r l) = (m ((c : Thread nD τ).loc main_arg3)) (ix2 ⟨t.val * 128 + r.val, lt_row t r⟩ l) := by
  blk_point [iblk, V, idx t]
theorem at_block4 (t : Fin cfg0.N) (r : Fin 128) (l : Fin 1344) :
    ((cfg0.win 4).blk t).view.emb (ix2 r l) = ix2 (⟨t.val * 128 + r.val, lt_row t r⟩ : Fin 2048) l := by
  blk_simp
  blk_ext
  all_goals simp [idx t]
theorem at_block5 (t : Fin cfg0.N) (r : Fin 128) (l : Fin 1344) :
    ((cfg0.win 5).blk t).view.emb (ix2 r l) = ix2 (⟨t.val * 128 + r.val, lt_row t r⟩ : Fin 2048) l := by
  blk_simp
  blk_ext
  all_goals simp [idx t]
theorem at_block6 (t : Fin cfg0.N) (r : Fin 128) (l : Fin 1344) :
    ((cfg0.win 6).blk t).view.emb (ix2 r l) = ix2 (⟨t.val * 128 + r.val, lt_row t r⟩ : Fin 2048) l := by
  blk_simp
  blk_ext
  all_goals simp [idx t]
theorem at_block7 (t : Fin cfg0.N) (r : Fin 128) (l : Fin 1344) :
    ((cfg0.win 7).blk t).view.emb (ix2 r l) = ix2 (⟨t.val * 128 + r.val, lt_row t r⟩ : Fin 2048) l := by
  blk_simp
  blk_ext
  all_goals simp [idx t]

theorem point4 (t : Fin cfg0.N) (y : S128x1344.Idx) :
    iblk m c 3 t y
    = ((m ((c : Thread nD τ).loc main_arg3))) (((cfg0.win 4).blk t).view.emb y) := by
  obtain ⟨r, l, rfl⟩ : ∃ (r : Fin 128) (l : Fin 1344), y = ix2 r l := ⟨y 0, y 1, eq_ix2 y⟩
  rw [at_block4]
  exact block3 m c t r l
theorem final4 : (dats m 0 c).arrAt 4 (cfgs 0).N
    = (m ((c : Thread nD τ).loc main_arg3)) := by
  refine (dats m 0 c).arrAt_eq_of_covers 4 _ (by decide +kernel) fun t _ y => ?_
  blk_simp
  rw [after0_4]; unfold out0_4; frame_out
  exact point4 m c t y

theorem point5 (t : Fin cfg0.N) (y : S128x1344.Idx) :
    k0_pay3 (F := Ideal) (iblk m c 3 t) (iblk m c 1 t) (iblk m c 2 t) (iblk m c 0 t) y
    = (Cert.Reference28Ideal.Read.val_main_v23 (F := Ideal) (m ((c : Thread nD τ).loc main_arg0)) (m ((c : Thread nD τ).loc main_arg1)) (m ((c : Thread nD τ).loc main_arg2)) (m ((c : Thread nD τ).loc main_arg3))) (((cfg0.win 5).blk t).view.emb y) := by
  obtain ⟨r, l, rfl⟩ : ∃ (r : Fin 128) (l : Fin 1344), y = ix2 r l := ⟨y 0, y 1, eq_ix2 y⟩
  rw [at_block5]
  refine (pay3_apply _ _ _ _ _ _).trans (.trans ?_ (Cert.Reference28Ideal.AdamIn.v23_apply _ _ _ _ _ _).symm)
  simp only [block0, block1, block2, block3]
theorem final5 : (dats m 0 c).arrAt 5 (cfgs 0).N
    = Cert.Reference28Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  exact point5 m c t y

theorem point6 (t : Fin cfg0.N) (y : S128x1344.Idx) :
    k0_pay1 (F := Ideal) (iblk m c 3 t) (iblk m c 1 t) y
    = (Cert.Reference28Ideal.Read.val_main_v4 (F := Ideal) (m ((c : Thread nD τ).loc main_arg1)) (m ((c : Thread nD τ).loc main_arg3))) (((cfg0.win 6).blk t).view.emb y) := by
  obtain ⟨r, l, rfl⟩ : ∃ (r : Fin 128) (l : Fin 1344), y = ix2 r l := ⟨y 0, y 1, eq_ix2 y⟩
  rw [at_block6]
  refine (pay1_apply _ _ _ _).trans (.trans ?_ (Cert.Reference28Ideal.AdamIn.v4_apply _ _ _ _).symm)
  simp only [block1, block3]
theorem final6 : (dats m 0 c).arrAt 6 (cfgs 0).N
    = Cert.Reference28Ideal.Read.val_main_v4 (F := Ideal) (m ((c : Thread nD τ).loc main_arg1)) (m ((c : Thread nD τ).loc main_arg3)) := by
  refine (dats m 0 c).arrAt_eq_of_covers 6 _ (by decide +kernel) fun t _ y => ?_
  blk_simp
  rw [after0_6]; unfold out0_6; frame_out
  exact point6 m c t y

theorem point7 (t : Fin cfg0.N) (y : S128x1344.Idx) :
    k0_pay2 (F := Ideal) (iblk m c 3 t) (iblk m c 2 t) y
    = (Cert.Reference28Ideal.Read.val_main_v10 (F := Ideal) (m ((c : Thread nD τ).loc main_arg2)) (m ((c : Thread nD τ).loc main_arg3))) (((cfg0.win 7).blk t).view.emb y) := by
  obtain ⟨r, l, rfl⟩ : ∃ (r : Fin 128) (l : Fin 1344), y = ix2 r l := ⟨y 0, y 1, eq_ix2 y⟩
  rw [at_block7]
  refine (pay2_apply _ _ _ _).trans (.trans ?_ (Cert.Reference28Ideal.AdamIn.v10_apply _ _ _ _).symm)
  simp only [block2, block3]
theorem final7 : (dats m 0 c).arrAt 7 (cfgs 0).N
    = Cert.Reference28Ideal.Read.val_main_v10 (F := Ideal) (m ((c : Thread nD τ).loc main_arg2)) (m ((c : Thread nD τ).loc main_arg3)) := by
  refine (dats m 0 c).arrAt_eq_of_covers 7 _ (by decide +kernel) fun t _ y => ?_
  blk_simp
  rw [after0_7]; unfold out0_7; frame_out
  exact point7 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0_0) = (m ((c.tc : Thread nD τ).loc main_arg3))
    ∧ r.2.mem ((c.tc : Thread nD τ).loc main_v0_1) = Cert.Reference28Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = Cert.Reference28Ideal.Read.val_main_v4 (F := Ideal) (m ((c.tc : Thread nD τ).loc main_arg1)) (m ((c.tc : Thread nD τ).loc main_arg3))
    ∧ r.2.mem ((c.tc : Thread nD τ).loc main_v0_3) = Cert.Reference28Ideal.Read.val_main_v10 (F := Ideal) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 4).trans (final4 m c), ((h.1 c).1 5).trans (final5 m c), ((h.1 c).1 6).trans (final6 m c), ((h.1 c).1 7).trans (final7 m c), h.2 c⟩)
    (θ_run_and (run_main m g) (unchanged m g))

end Cert.Kernel28Ideal.AdamIn
-- ==== Proof.AdamConv.lean ====
/- One AdamW update, of the convolution taps: what the kernel stores is the gradient, the step and the two new
   moments, element by element; its product with a reciprocal is the reference's division. -/
module

public import proofs.«01_k».proof.Defs
public import proofs.«01_k».proof.Proof.AdamW
public import proofs.«01_k».proof.Proof.Gen.Kernel29Ideal.Frame
public import proofs.«01_k».proof.Proof.Gen.Reference29Ideal.Run
public import proofs.«01_k».proof.Proof.Gen.Reference29Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Reference29Ideal.AdamConv
open Cert.Reference29Ideal Cert.Reference29Ideal.Gen Cert.Reference29Ideal.Read
variable (x0 x1 x2 x3 : FVec Ideal S4x256 .f32) (r : Fin 4) (l : Fin 256)

theorem v4_apply : val_main_v4 (F := Ideal) x1 x3 (ix2 r l) = first (x1 (ix2 r l)) (x3 (ix2 r l)) := by
  pointwise [val_main_v4, val_main_v3, val_main_v2, val_main_v1, val_main_v0, val_main_cst, val_main_cst_0, first]
theorem v10_apply : val_main_v10 (F := Ideal) x2 x3 (ix2 r l) = second (x2 (ix2 r l)) (x3 (ix2 r l)) := by
  pointwise [val_main_v10, val_main_v9, val_main_v8, val_main_v7, val_main_v6, val_main_v5, val_main_cst_1, val_main_cst_2, second]
theorem v23_apply : val_main_v23 (F := Ideal) x0 x1 x2 x3 (ix2 r l) = step (x0 (ix2 r l)) (x1 (ix2 r l)) (x2 (ix2 r l)) (x3 (ix2 r l)) := by
  pointwise [val_main_v23, val_main_v22, val_main_v21, val_main_v20, val_main_v19, val_main_v18, val_main_v17, val_main_v16, val_main_v15, val_main_v14, val_main_v13, val_main_v12, val_main_v11, v4_apply, v10_apply, val_main_cst_3, val_main_cst_4, val_main_cst_5, val_main_cst_6, val_main_cst_7, step]

end Cert.Reference29Ideal.AdamConv

namespace Cert.Kernel29Ideal.AdamConv
open Cert.Kernel29Ideal Cert.Kernel29Ideal.Gen

theorem corr1_named : (Named.named κ "corr1" 0x3FC48605#32 : Ideal .f32) = ((8388608 / 5463681 : ℝ) : EReal) := rfl
theorem corr2_named : (Named.named κ "corr2" 0x42C8E6D3#32 : Ideal .f32) = ((268435456 / 2672307 : ℝ) : EReal) := rfl

section
variable (g w p q : FVec Ideal S4x256 .f32) (r : Fin 4) (l : Fin 256)
theorem pay1_apply : k0_pay1 (F := Ideal) g p (ix2 r l) = first (p (ix2 r l)) (g (ix2 r l)) := by
  pointwise [k0_pay1, first]
theorem pay2_apply : k0_pay2 (F := Ideal) g q (ix2 r l) = second (q (ix2 r l)) (g (ix2 r l)) := by
  pointwise [k0_pay2, second]
theorem pay3_apply : k0_pay3 (F := Ideal) g p q w (ix2 r l) = step (w (ix2 r l)) (p (ix2 r l)) (q (ix2 r l)) (g (ix2 r l)) := by
  rw [← scaled_eq]
  pointwise [k0_pay3, pay1_apply, pay2_apply, corr1_named, corr2_named, scaled]
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem lt_row (t : Fin cfg0.N) (r : Fin 4) : t.val * 4 + r.val < 4 := by
  have : t.val < 1 := t.isLt
  omega
theorem block0 (t : Fin cfg0.N) (r : Fin 4) (l : Fin 256) : iblk m c 0 t (ix2 r l) = (m ((c : Thread nD τ).loc main_arg0)) (ix2 ⟨t.val * 4 + r.val, lt_row t r⟩ l) := by
  blk_point [iblk, V, idx t]
theorem block1 (t : Fin cfg0.N) (r : Fin 4) (l : Fin 256) : iblk m c 1 t (ix2 r l) = (m ((c : Thread nD τ).loc main_arg1)) (ix2 ⟨t.val * 4 + r.val, lt_row t r⟩ l) := by
  blk_point [iblk, V, idx t]
theorem block2 (t : Fin cfg0.N) (r : Fin 4) (l : Fin 256) : iblk m c 2 t (ix2 r l) = (m ((c : Thread nD τ).loc main_arg2)) (ix2 ⟨t.val * 4 + r.val, lt_row t r⟩ l) := by
  blk_point [iblk, V, idx t]
theorem block3 (t : Fin cfg0.N) (r : Fin 4) (l : Fin 256) : iblk m c 3 t (ix2 r l) = (m ((c : Thread nD τ).loc main_arg3)) (ix2 ⟨t.val * 4 + r.val, lt_row t r⟩ l) := by
  blk_point [iblk, V, idx t]
theorem at_block4 (t : Fin cfg0.N) (r : Fin 4) (l : Fin 256) :
    ((cfg0.win 4).blk t).view.emb (ix2 r l) = ix2 (⟨t.val * 4 + r.val, lt_row t r⟩ : Fin 4) l := by
  blk_simp
  blk_ext
  all_goals simp [idx t]
theorem at_block5 (t : Fin cfg0.N) (r : Fin 4) (l : Fin 256) :
    ((cfg0.win 5).blk t).view.emb (ix2 r l) = ix2 (⟨t.val * 4 + r.val, lt_row t r⟩ : Fin 4) l := by
  blk_simp
  blk_ext
  all_goals simp [idx t]
theorem at_block6 (t : Fin cfg0.N) (r : Fin 4) (l : Fin 256) :
    ((cfg0.win 6).blk t).view.emb (ix2 r l) = ix2 (⟨t.val * 4 + r.val, lt_row t r⟩ : Fin 4) l := by
  blk_simp
  blk_ext
  all_goals simp [idx t]
theorem at_block7 (t : Fin cfg0.N) (r : Fin 4) (l : Fin 256) :
    ((cfg0.win 7).blk t).view.emb (ix2 r l) = ix2 (⟨t.val * 4 + r.val, lt_row t r⟩ : Fin 4) l := by
  blk_simp
  blk_ext
  all_goals simp [idx t]

theorem point4 (t : Fin cfg0.N) (y : S4x256.Idx) :
    iblk m c 3 t y
    = ((m ((c : Thread nD τ).loc main_arg3))) (((cfg0.win 4).blk t).view.emb y) := by
  obtain ⟨r, l, rfl⟩ : ∃ (r : Fin 4) (l : Fin 256), y = ix2 r l := ⟨y 0, y 1, eq_ix2 y⟩
  rw [at_block4]
  exact block3 m c t r l
theorem final4 : (dats m 0 c).arrAt 4 (cfgs 0).N
    = (m ((c : Thread nD τ).loc main_arg3)) := by
  refine (dats m 0 c).arrAt_eq_of_covers 4 _ (by decide +kernel) fun t _ y => ?_
  blk_simp
  rw [after0_4]; unfold out0_4; frame_out
  exact point4 m c t y

theorem point5 (t : Fin cfg0.N) (y : S4x256.Idx) :
    k0_pay3 (F := Ideal) (iblk m c 3 t) (iblk m c 1 t) (iblk m c 2 t) (iblk m c 0 t) y
    = (Cert.Reference29Ideal.Read.val_main_v23 (F := Ideal) (m ((c : Thread nD τ).loc main_arg0)) (m ((c : Thread nD τ).loc main_arg1)) (m ((c : Thread nD τ).loc main_arg2)) (m ((c : Thread nD τ).loc main_arg3))) (((cfg0.win 5).blk t).view.emb y) := by
  obtain ⟨r, l, rfl⟩ : ∃ (r : Fin 4) (l : Fin 256), y = ix2 r l := ⟨y 0, y 1, eq_ix2 y⟩
  rw [at_block5]
  refine (pay3_apply _ _ _ _ _ _).trans (.trans ?_ (Cert.Reference29Ideal.AdamConv.v23_apply _ _ _ _ _ _).symm)
  simp only [block0, block1, block2, block3]
theorem final5 : (dats m 0 c).arrAt 5 (cfgs 0).N
    = Cert.Reference29Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  exact point5 m c t y

theorem point6 (t : Fin cfg0.N) (y : S4x256.Idx) :
    k0_pay1 (F := Ideal) (iblk m c 3 t) (iblk m c 1 t) y
    = (Cert.Reference29Ideal.Read.val_main_v4 (F := Ideal) (m ((c : Thread nD τ).loc main_arg1)) (m ((c : Thread nD τ).loc main_arg3))) (((cfg0.win 6).blk t).view.emb y) := by
  obtain ⟨r, l, rfl⟩ : ∃ (r : Fin 4) (l : Fin 256), y = ix2 r l := ⟨y 0, y 1, eq_ix2 y⟩
  rw [at_block6]
  refine (pay1_apply _ _ _ _).trans (.trans ?_ (Cert.Reference29Ideal.AdamConv.v4_apply _ _ _ _).symm)
  simp only [block1, block3]
theorem final6 : (dats m 0 c).arrAt 6 (cfgs 0).N
    = Cert.Reference29Ideal.Read.val_main_v4 (F := Ideal) (m ((c : Thread nD τ).loc main_arg1)) (m ((c : Thread nD τ).loc main_arg3)) := by
  refine (dats m 0 c).arrAt_eq_of_covers 6 _ (by decide +kernel) fun t _ y => ?_
  blk_simp
  rw [after0_6]; unfold out0_6; frame_out
  exact point6 m c t y

theorem point7 (t : Fin cfg0.N) (y : S4x256.Idx) :
    k0_pay2 (F := Ideal) (iblk m c 3 t) (iblk m c 2 t) y
    = (Cert.Reference29Ideal.Read.val_main_v10 (F := Ideal) (m ((c : Thread nD τ).loc main_arg2)) (m ((c : Thread nD τ).loc main_arg3))) (((cfg0.win 7).blk t).view.emb y) := by
  obtain ⟨r, l, rfl⟩ : ∃ (r : Fin 4) (l : Fin 256), y = ix2 r l := ⟨y 0, y 1, eq_ix2 y⟩
  rw [at_block7]
  refine (pay2_apply _ _ _ _).trans (.trans ?_ (Cert.Reference29Ideal.AdamConv.v10_apply _ _ _ _).symm)
  simp only [block2, block3]
theorem final7 : (dats m 0 c).arrAt 7 (cfgs 0).N
    = Cert.Reference29Ideal.Read.val_main_v10 (F := Ideal) (m ((c : Thread nD τ).loc main_arg2)) (m ((c : Thread nD τ).loc main_arg3)) := by
  refine (dats m 0 c).arrAt_eq_of_covers 7 _ (by decide +kernel) fun t _ y => ?_
  blk_simp
  rw [after0_7]; unfold out0_7; frame_out
  exact point7 m c t y

/-- What a run leaves in the results and the arguments. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v0_0) = (m ((c.tc : Thread nD τ).loc main_arg3))
    ∧ r.2.mem ((c.tc : Thread nD τ).loc main_v0_1) = Cert.Reference29Ideal.Read.val_main_v23 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = Cert.Reference29Ideal.Read.val_main_v4 (F := Ideal) (m ((c.tc : Thread nD τ).loc main_arg1)) (m ((c.tc : Thread nD τ).loc main_arg3))
    ∧ r.2.mem ((c.tc : Thread nD τ).loc main_v0_3) = Cert.Reference29Ideal.Read.val_main_v10 (F := Ideal) (m ((c.tc : Thread nD τ).loc main_arg2)) (m ((c.tc : Thread nD τ).loc main_arg3))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))) :=
  (θ_run _ _ _).mono (fun r h c => ⟨((h.1 c).1 4).trans (final4 m c), ((h.1 c).1 5).trans (final5 m c), ((h.1 c).1 6).trans (final6 m c), ((h.1 c).1 7).trans (final7 m c), h.2 c⟩)
    (θ_run_and (run_main m g) (unchanged m g))

end Cert.Kernel29Ideal.AdamConv
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import proofs.«01_k».proof.Proof.Attn.Final
public import proofs.«01_k».proof.Proof.Attn.Finite
public import proofs.«01_k».proof.Proof.Ff2dx
public import proofs.«01_k».proof.Proof.AttnFwd.Final
public import proofs.«01_k».proof.Proof.AttnFwd.Finite
public import proofs.«01_k».proof.Proof.Ada
public import proofs.«01_k».proof.Proof.Loss.Final
public import proofs.«01_k».proof.Proof.Loss.Finite
public import proofs.«01_k».proof.Proof.Gates
public import proofs.«01_k».proof.Proof.Merge
public import proofs.«01_k».proof.Proof.Norm1
public import proofs.«01_k».proof.Proof.Norm2
public import proofs.«01_k».proof.Proof.OutProj
public import proofs.«01_k».proof.Proof.Ff1
public import proofs.«01_k».proof.Proof.AdaFwd
public import proofs.«01_k».proof.Proof.LruOut
public import proofs.«01_k».proof.Proof.AttnOutDx
public import proofs.«01_k».proof.Proof.LruOutDx
public import proofs.«01_k».proof.Proof.OutProjDw
public import proofs.«01_k».proof.Proof.AttnOutDw
public import proofs.«01_k».proof.Proof.LruOutDw
public import proofs.«01_k».proof.Proof.Ff2Dw
public import proofs.«01_k».proof.Proof.Ff1Dw
public import proofs.«01_k».proof.Proof.InProjDw
public import proofs.«01_k».proof.Proof.InProjDxTop
public import proofs.«01_k».proof.Proof.InProjDxBottom
public import proofs.«01_k».proof.Proof.RelBiasFwd
public import proofs.«01_k».proof.Proof.RelBiasBwd
public import proofs.«01_k».proof.Proof.AdamAda
public import proofs.«01_k».proof.Proof.AdamFf1
public import proofs.«01_k».proof.Proof.AdamIn
public import proofs.«01_k».proof.Proof.AdamConv
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Idealize.ShloMosaic.StableHlo

theorem quiescent_Kernel : Cert.quiescent_Kernel := fun m ρ _ => Cert.Kernel.Gen.frame m ρ
theorem quiescent_KernelIdeal : Cert.quiescent_KernelIdeal := fun m ρ _ => Cert.KernelIdeal.Gen.frame m ρ
theorem quiescent_ReferenceIdeal : Cert.quiescent_ReferenceIdeal := by
  intro m ρ _
  exact (θ_run _ _ _).mono (fun r h => ⟨fun c => (h c).2.2.2.2.2, sem_eq_zero_of_no_sems (by decide) r.2⟩) (Cert.ReferenceIdeal.Value.run (F := Ideal) m ρ)

section
local instance : Cert.Pre_pre.Facts := Cert.Pre_pre.facts

theorem preserves : Cert.preserves_Kernel_KernelIdeal := IdealRules.named_const.statement Cert.KernelIdeal.κ "mask" .f32 0xF149F2CA#32 ⊥ rfl

theorem args (m : (ℓ : Loc Cert.KernelIdeal.nD Cert.KernelIdeal.τ Cert.KernelIdeal.sig) → Buf (Elt Ideal) ℓ) (h : Cert.Pre_KernelIdeal_pre m) (c : Dev Cert.KernelIdeal.nD) :
    Cert.ReferenceIdeal.Attn.Args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.Pre_pre.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := Cert.Pre_pre.args (h c)

set_option maxHeartbeats 1000000 in
/-- The reference runs: its results are its terms of the arguments, which it leaves as they were. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v185) = Cert.ReferenceIdeal.Read.val_main_v185 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v186) = Cert.ReferenceIdeal.Read.val_main_v186 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v187) = Cert.ReferenceIdeal.Read.val_main_v187 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v164) = Cert.ReferenceIdeal.Read.val_main_v164 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v188) = Cert.ReferenceIdeal.Read.val_main_v188 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun r h c => ⟨(h c).1.trans (Cert.ReferenceIdeal.Read.val_main_v185_eq (launchContents m c)), (h c).2.1.trans (Cert.ReferenceIdeal.Read.val_main_v186_eq (launchContents m c)), (h c).2.2.1.trans (Cert.ReferenceIdeal.Read.val_main_v187_eq (launchContents m c)), (h c).2.2.2.1.trans (Cert.ReferenceIdeal.Read.val_main_v164_eq (launchContents m c)), (h c).2.2.2.2.1.trans (Cert.ReferenceIdeal.Read.val_main_v188_eq (launchContents m c)), (h c).2.2.2.2.2⟩) (Cert.ReferenceIdeal.Value.run (F := Ideal) m ρ)

theorem algebraic : Cert.algebraic_KernelIdeal_ReferenceIdeal_pre_pre := by
  intro m g m' g' hp hm
  refine ⟨fun c => Cert.ReferenceIdeal.Read.val_main_v185 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.ReferenceIdeal.Read.val_main_v186 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v187 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (Cert.KernelIdeal.Value.run_blocks m g)
    obtain ⟨h9, h10, h11, h12, h13, kept⟩ := h c
    exact ⟨h9.trans (Cert.KernelIdeal.Attn.final9 m c _ (args m hp c)), h10.trans (Cert.KernelIdeal.Attn.final10 m c _ (args m hp c)), h11.trans (Cert.KernelIdeal.Attn.final11 m c _ (args m hp c)), h12.trans (Cert.KernelIdeal.Attn.final12 m c _ (args m hp c)), h13.trans (Cert.KernelIdeal.Attn.final13 m c _ (args m hp c)), kept⟩
  · refine (θ_run _ _ _).mono (fun r h c => ?_) (reference_run m' g')
    obtain ⟨e0, e1, e2, e3, e4⟩ := hm c
    obtain ⟨h0, h1, h2, h3, h4, kept⟩ := h c
    rw [e0, e1, e2, e3] at h0 h1 h2 h3 h4
    rw [e4] at h0
    exact ⟨h0, h1, h2, h3, h4, kept⟩
end

theorem quiescent_Kernel2 : Cert.quiescent_Kernel2 := fun m ρ _ => Cert.Kernel2.Gen.frame m ρ

theorem quiescent_Kernel2Ideal : Cert.quiescent_Kernel2Ideal := fun m ρ _ => Cert.Kernel2Ideal.Gen.frame m ρ

theorem quiescent_Reference2Ideal : Cert.quiescent_Reference2Ideal := by
  intro m ρ _
  exact (θ_run _ _ _).mono (fun r h => ⟨fun c => (h c).2, sem_eq_zero_of_no_sems (by decide) r.2⟩) (Cert.Reference2Ideal.Value.run m ρ)

theorem algebraic2 : Cert.algebraic_Kernel2Ideal_Reference2Ideal := by
  pair_intro
  · run_from Cert.Kernel2Ideal.Gen.run_main m g
  · hlo_run
    exact (Cert.Kernel2Ideal.Ff2dx.final m c).symm

theorem quiescent_Kernel3 : Cert.quiescent_Kernel3 := fun m ρ _ => Cert.Kernel3.Gen.frame m ρ
theorem quiescent_Kernel3Ideal : Cert.quiescent_Kernel3Ideal := fun m ρ _ => Cert.Kernel3Ideal.Gen.frame m ρ
theorem quiescent_Reference3Ideal : Cert.quiescent_Reference3Ideal := by
  intro m ρ _
  exact (θ_run _ _ _).mono (fun r h => ⟨fun c => (h c).2.2, sem_eq_zero_of_no_sems (by decide) r.2⟩) (Cert.Reference3Ideal.Value.run (F := Ideal) m ρ)

section
local instance : Cert.Pre_pre_attn_fwd.Facts := Cert.Pre_pre_attn_fwd.facts

theorem preserves3 : Cert.preserves_Kernel3_Kernel3Ideal := IdealRules.named_const.statement Cert.Kernel3Ideal.κ "mask" .f32 0xF149F2CA#32 ⊥ rfl

set_option maxHeartbeats 1000000 in
/-- The forward attention's reference runs: its results are its terms of the arguments, which it leaves as they were. -/
theorem reference3_run (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => ∀ c : Dev Cert.Reference3Ideal.nD,
      r.2.mem ((c.tc : Thread Cert.Reference3Ideal.nD Cert.Reference3Ideal.τ).loc Cert.Reference3Ideal.main_v155) = Cert.Reference3Ideal.Read.val_main_v155 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v156) = Cert.Reference3Ideal.Read.val_main_v156 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)) :=
  (θ_run _ _ _).mono (fun r h c => ⟨(h c).1.trans (Cert.Reference3Ideal.Read.val_main_v155_eq (launchContents m c)), (h c).2.1.trans (Cert.Reference3Ideal.Read.val_main_v156_eq (launchContents m c)), (h c).2.2⟩) (Cert.Reference3Ideal.Value.run (F := Ideal) m ρ)

theorem algebraic3 : Cert.algebraic_Kernel3Ideal_Reference3Ideal_pre_pre_attn_fwd := by
  intro m g m' g' hp hm
  refine ⟨fun c => Cert.Reference3Ideal.Read.val_main_v155 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => Cert.Reference3Ideal.Read.val_main_v156 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run _ _ _).mono (fun r h c => ?_) (Cert.Kernel3Ideal.Value.run_blocks m g)
    obtain ⟨h7, h8, kept⟩ := h c
    exact ⟨h7.trans (Cert.Kernel3Ideal.Attn.final7 m c _ (Cert.Pre_pre_attn_fwd.args (hp c))), h8.trans (Cert.Kernel3Ideal.Attn.final8 m c _ (Cert.Pre_pre_attn_fwd.args (hp c))), kept⟩
  · refine (θ_run _ _ _).mono (fun r h c => ?_) (reference3_run m' g')
    obtain ⟨e0, e1, e2⟩ := hm c
    obtain ⟨h0, h1, kept⟩ := h c
    rw [e0, e1, e2] at h0 h1
    exact ⟨h0, h1, kept⟩
end

theorem quiescent_Kernel4 : Cert.quiescent_Kernel4 := fun m ρ _ => Cert.Kernel4.Gen.frame m ρ
theorem quiescent_Kernel4Ideal : Cert.quiescent_Kernel4Ideal := fun m ρ _ => Cert.Kernel4Ideal.Gen.frame m ρ
theorem quiescent_Reference4Ideal : Cert.quiescent_Reference4Ideal := by
  intro m ρ _
  exact (θ_run _ _ _).mono (fun r h => ⟨fun c => (h c).2, sem_eq_zero_of_no_sems (by decide) r.2⟩) (Cert.Reference4Ideal.Value.run (F := Ideal) m ρ)

theorem algebraic4 : Cert.algebraic_Kernel4Ideal_Reference4Ideal := by
  pair_intro
  · run_from Cert.Kernel4Ideal.Gen.run_main m g
  · hlo_run
    exact (Cert.Kernel4Ideal.Ada.final m c).symm

theorem quiescent_Kernel5 : Cert.quiescent_Kernel5 := fun m ρ _ => Cert.Kernel5.Gen.frame m ρ
theorem quiescent_Kernel5Ideal : Cert.quiescent_Kernel5Ideal := fun m ρ _ => Cert.Kernel5Ideal.Gen.frame m ρ
theorem quiescent_Reference5Ideal : Cert.quiescent_Reference5Ideal := by
  intro m ρ _
  exact (θ_run _ _ _).mono (fun r h => ⟨fun c => (h c).2.2.2.2, sem_eq_zero_of_no_sems (by decide) r.2⟩) (Cert.Reference5Ideal.Value.run (F := Ideal) m ρ)

section
local instance : Cert.Pre_pre_final_loss.Facts := Cert.Pre_pre_final_loss.facts

set_option maxHeartbeats 1000000 in
/-- The loss: the reference runs, its results are its terms of the arguments, which it leaves as they were. -/
theorem reference5_run (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => ∀ c : Dev Cert.Reference5Ideal.nD,
      r.2.mem ((c.tc : Thread Cert.Reference5Ideal.nD Cert.Reference5Ideal.τ).loc Cert.Reference5Ideal.main_v69) = Cert.Reference5Ideal.Read.val_main_v69 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v60) = Cert.Reference5Ideal.Read.val_main_v60 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v70) = Cert.Reference5Ideal.Read.val_main_v70 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v68) = Cert.Reference5Ideal.Read.val_main_v68 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)) :=
  (θ_run _ _ _).mono (fun r h c => ⟨(h c).1.trans (Cert.Reference5Ideal.Read.val_main_v69_eq _ _ _ _ _), (h c).2.1.trans (Cert.Reference5Ideal.Read.val_main_v60_eq m c), (h c).2.2.1.trans (Cert.Reference5Ideal.Read.val_main_v70_eq m c), (h c).2.2.2.1.trans (Cert.Reference5Ideal.Read.val_main_v68_eq m c), (h c).2.2.2.2⟩) (Cert.Reference5Ideal.Value.run (F := Ideal) m ρ)

theorem algebraic5 : Cert.algebraic_Kernel5Ideal_Reference5Ideal_pre_pre_final_loss := by
  intro m g m' g' hp hm
  refine ⟨fun c => Cert.Reference5Ideal.Read.val_main_v69 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), fun c => Cert.Reference5Ideal.Read.val_main_v60 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), fun c => Cert.Reference5Ideal.Read.val_main_v70 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), fun c => Cert.Reference5Ideal.Read.val_main_v68 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · refine (θ_run _ _ _).mono (fun r h c => ?_) (Cert.Kernel5Ideal.Value.run_blocks m g)
    obtain ⟨h5, h6, h7, h8, kept⟩ := h c
    exact ⟨h5.trans (Cert.Kernel5Ideal.Loss.final5 m c _ (Cert.Pre_pre_final_loss.args (hp c))), h6.trans (Cert.Kernel5Ideal.Loss.final6 m c _ (Cert.Pre_pre_final_loss.args (hp c))), h7.trans (Cert.Kernel5Ideal.Loss.final7 m c _ (Cert.Pre_pre_final_loss.args (hp c))), h8.trans (Cert.Kernel5Ideal.Loss.final8 m c _ (Cert.Pre_pre_final_loss.args (hp c))), kept⟩
  · refine (θ_run _ _ _).mono (fun r h c => ?_) (reference5_run m' g')
    obtain ⟨e0, e1, e2, e3, e4⟩ := hm c
    obtain ⟨h5, h6, h7, h8, kept⟩ := h c
    rw [e0, e1, e2, e3, e4] at h5
    rw [e0, e1, e2, e3, e4] at h6
    rw [e0, e1, e2, e3, e4] at h7
    rw [e0, e1, e2, e3, e4] at h8
    exact ⟨h5, h6, h7, h8, kept⟩
end

theorem quiescent_Kernel6 : Cert.quiescent_Kernel6 := fun m ρ _ => Cert.Kernel6.Gen.frame m ρ
theorem quiescent_Kernel6Ideal : Cert.quiescent_Kernel6Ideal := fun m ρ _ => Cert.Kernel6Ideal.Gen.frame m ρ
theorem quiescent_Reference6Ideal : Cert.quiescent_Reference6Ideal := by
  intro m ρ _
  exact (θ_run _ _ _).mono (fun r h => ⟨fun c => (h c).2.2.2.2, sem_eq_zero_of_no_sems (by decide) r.2⟩) (Cert.Reference6Ideal.Value.run (F := Ideal) m ρ)

theorem algebraic6 : Cert.algebraic_Kernel6Ideal_Reference6Ideal := by
  intro m g m' g' hp hm
  refine ⟨fun c => Cert.Reference6Ideal.Read.val_main_v40 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Reference6Ideal.Read.val_main_v41 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Reference6Ideal.Read.val_main_v42 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Reference6Ideal.Read.val_main_v43 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    Cert.Kernel6Ideal.Gates.run m g, ?_⟩
  refine (θ_run _ _ _).mono (fun r h c => ?_) (Cert.Reference6Ideal.Value.run (F := Ideal) m' g')
  obtain ⟨e0, e1, e2, e3, e4⟩ := hm c
  obtain ⟨h40, h41, h42, h43, kept⟩ := h c
  rw [e0, e3, e4] at h40
  rw [e0, e3, e4] at h41
  rw [e0, e1, e3, e4] at h42
  rw [e0, e2, e3, e4] at h43
  exact ⟨h40.trans (Cert.Reference6Ideal.Read.val_main_v40_eq _ _ _), h41.trans (Cert.Reference6Ideal.Read.val_main_v41_eq _ _ _), h42.trans (Cert.Reference6Ideal.Read.val_main_v42_eq _ _ _ _), h43.trans (Cert.Reference6Ideal.Read.val_main_v43_eq _ _ _ _), kept⟩

theorem quiescent_Kernel7 : Cert.quiescent_Kernel7 := fun m ρ _ => Cert.Kernel7.Gen.frame m ρ
theorem quiescent_Kernel7Ideal : Cert.quiescent_Kernel7Ideal := fun m ρ _ => Cert.Kernel7Ideal.Gen.frame m ρ
theorem quiescent_Reference7Ideal : Cert.quiescent_Reference7Ideal := by
  intro m ρ _
  exact (θ_run _ _ _).mono (fun r h => ⟨fun c => (h c).2.2, sem_eq_zero_of_no_sems (by decide) r.2⟩) (Cert.Reference7Ideal.Value.run (F := Ideal) m ρ)

theorem algebraic7 : Cert.algebraic_Kernel7Ideal_Reference7Ideal := by
  intro m g m' g' hp hm
  refine ⟨fun c => Cert.Reference7Ideal.Read.val_main_v26 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Reference7Ideal.Read.val_main_v27 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    Cert.Kernel7Ideal.Merge.run m g, ?_⟩
  refine (θ_run _ _ _).mono (fun r h c => ?_) (Cert.Reference7Ideal.Value.run (F := Ideal) m' g')
  obtain ⟨e0, e1, e2, e3⟩ := hm c
  obtain ⟨h26, h27, kept⟩ := h c
  rw [e0, e1] at h26
  rw [e0, e1, e2, e3] at h27
  exact ⟨h26.trans (Cert.Reference7Ideal.Read.val_main_v26_eq _ _), h27.trans (Cert.Reference7Ideal.Read.val_main_v27_eq _ _ _ _), kept⟩

theorem quiescent_Kernel8 : Cert.quiescent_Kernel8 := fun m ρ _ => Cert.Kernel8.Gen.frame m ρ
theorem quiescent_Kernel8Ideal : Cert.quiescent_Kernel8Ideal := fun m ρ _ => Cert.Kernel8Ideal.Gen.frame m ρ
theorem quiescent_Reference8Ideal : Cert.quiescent_Reference8Ideal := by
  intro m ρ _
  exact (θ_run _ _ _).mono (fun r h => ⟨fun c => (h c).2, sem_eq_zero_of_no_sems (by decide) r.2⟩) (Cert.Reference8Ideal.Value.run (F := Ideal) m ρ)

theorem algebraic8 : Cert.algebraic_Kernel8Ideal_Reference8Ideal := by
  intro m g m' g' hp hm
  refine ⟨fun c => Cert.Reference8Ideal.Read.val_main_v24 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    Cert.Kernel8Ideal.Norm1.run m g, ?_⟩
  refine (θ_run _ _ _).mono (fun r h c => ?_) (Cert.Reference8Ideal.Value.run (F := Ideal) m' g')
  obtain ⟨e0, e1, e2⟩ := hm c
  obtain ⟨h24, kept⟩ := h c
  rw [e0, e1, e2] at h24
  exact ⟨h24.trans (Cert.Reference8Ideal.Read.val_main_v24_eq _ _ _), kept⟩

theorem quiescent_Kernel9 : Cert.quiescent_Kernel9 := fun m ρ _ => Cert.Kernel9.Gen.frame m ρ
theorem quiescent_Kernel9Ideal : Cert.quiescent_Kernel9Ideal := fun m ρ _ => Cert.Kernel9Ideal.Gen.frame m ρ
theorem quiescent_Reference9Ideal : Cert.quiescent_Reference9Ideal := by
  intro m ρ _
  exact (θ_run _ _ _).mono (fun r h => ⟨fun c => (h c).2, sem_eq_zero_of_no_sems (by decide) r.2⟩) (Cert.Reference9Ideal.Value.run (F := Ideal) m ρ)

theorem algebraic9 : Cert.algebraic_Kernel9Ideal_Reference9Ideal := by
  intro m g m' g' hp hm
  refine ⟨fun c => Cert.Reference9Ideal.Read.val_main_v24 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    Cert.Kernel9Ideal.Norm2.run m g, ?_⟩
  refine (θ_run _ _ _).mono (fun r h c => ?_) (Cert.Reference9Ideal.Value.run (F := Ideal) m' g')
  obtain ⟨e0, e1, e2⟩ := hm c
  obtain ⟨h24, kept⟩ := h c
  rw [e0, e1, e2] at h24
  exact ⟨h24.trans (Cert.Reference9Ideal.Read.val_main_v24_eq _ _ _), kept⟩

theorem quiescent_Kernel10 : Cert.quiescent_Kernel10 := fun m ρ _ => Cert.Kernel10.Gen.frame m ρ
theorem quiescent_Kernel10Ideal : Cert.quiescent_Kernel10Ideal := fun m ρ _ => Cert.Kernel10Ideal.Gen.frame m ρ
theorem quiescent_Reference10Ideal : Cert.quiescent_Reference10Ideal := by
  intro m ρ _
  exact (θ_run _ _ _).mono (fun r h => ⟨fun c => (h c).2.2, sem_eq_zero_of_no_sems (by decide) r.2⟩) (Cert.Reference10Ideal.Value.run (F := Ideal) m ρ)

theorem algebraic10 : Cert.algebraic_Kernel10Ideal_Reference10Ideal := by
  intro m g m' g' hp hm
  refine ⟨fun c => Cert.Reference10Ideal.Read.val_main_v8 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    fun c => Cert.Reference10Ideal.Read.val_main_v11 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    Cert.Kernel10Ideal.OutProj.run m g, ?_⟩
  refine (θ_run _ _ _).mono (fun r h c => ?_) (Cert.Reference10Ideal.Value.run (F := Ideal) m' g')
  obtain ⟨e0, e1, e2, e3⟩ := hm c
  obtain ⟨h8, h11, kept⟩ := h c
  rw [e0, e1] at h8
  rw [e0, e1, e2, e3] at h11
  exact ⟨h8.trans (Cert.Reference10Ideal.Read.val_main_v8_eq _ _), h11.trans (Cert.Reference10Ideal.Read.val_main_v11_eq _ _ _ _), kept⟩

theorem quiescent_Kernel11 : Cert.quiescent_Kernel11 := fun m ρ _ => Cert.Kernel11.Gen.frame m ρ
theorem quiescent_Kernel11Ideal : Cert.quiescent_Kernel11Ideal := fun m ρ _ => Cert.Kernel11Ideal.Gen.frame m ρ
theorem quiescent_Reference11Ideal : Cert.quiescent_Reference11Ideal := by
  intro m ρ _
  exact (θ_run _ _ _).mono (fun r h => ⟨fun c => (h c).2.2, sem_eq_zero_of_no_sems (by decide) r.2⟩) (Cert.Reference11Ideal.Value.run (F := Ideal) m ρ)

theorem algebraic11 : Cert.algebraic_Kernel11Ideal_Reference11Ideal := by
  intro m g m' g' hp hm
  refine ⟨fun c => Cert.Reference11Ideal.Read.val_main_v2 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    fun c => Cert.Reference11Ideal.Read.val_main_v5 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    Cert.Kernel11Ideal.Ff1.run m g, ?_⟩
  refine (θ_run _ _ _).mono (fun r h c => ?_) (Cert.Reference11Ideal.Value.run (F := Ideal) m' g')
  obtain ⟨e0, e1⟩ := hm c
  obtain ⟨h2, h5, kept⟩ := h c
  rw [e0, e1] at h2
  rw [e0, e1] at h5
  exact ⟨h2.trans (Cert.Reference11Ideal.Read.val_main_v2_eq _ _), h5.trans (Cert.Reference11Ideal.Read.val_main_v5_eq _ _), kept⟩

theorem quiescent_Kernel12 : Cert.quiescent_Kernel12 := fun m ρ _ => Cert.Kernel12.Gen.frame m ρ
theorem quiescent_Kernel12Ideal : Cert.quiescent_Kernel12Ideal := fun m ρ _ => Cert.Kernel12Ideal.Gen.frame m ρ
theorem quiescent_Reference12Ideal : Cert.quiescent_Reference12Ideal := by
  intro m ρ _
  exact (θ_run _ _ _).mono (fun r h => ⟨fun c => (h c).2, sem_eq_zero_of_no_sems (by decide) r.2⟩) (Cert.Reference12Ideal.Value.run (F := Ideal) m ρ)

theorem algebraic12 : Cert.algebraic_Kernel12Ideal_Reference12Ideal := by
  intro m g m' g' hp hm
  refine ⟨fun c => Cert.Reference12Ideal.Read.val_main_v3 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    Cert.Kernel12Ideal.AdaFwd.run m g, ?_⟩
  refine (θ_run _ _ _).mono (fun r h c => ?_) (Cert.Reference12Ideal.Value.run (F := Ideal) m' g')
  obtain ⟨e0, e1, e2⟩ := hm c
  obtain ⟨h3, kept⟩ := h c
  rw [e0, e1, e2] at h3
  exact ⟨h3.trans (Cert.Reference12Ideal.Read.val_main_v3_eq _ _ _), kept⟩

theorem quiescent_Kernel13 : Cert.quiescent_Kernel13 := fun m ρ _ => Cert.Kernel13.Gen.frame m ρ
theorem quiescent_Kernel13Ideal : Cert.quiescent_Kernel13Ideal := fun m ρ _ => Cert.Kernel13Ideal.Gen.frame m ρ
theorem quiescent_Reference13Ideal : Cert.quiescent_Reference13Ideal := by
  intro m ρ _
  exact (θ_run _ _ _).mono (fun r h => ⟨fun c => (h c).2, sem_eq_zero_of_no_sems (by decide) r.2⟩) (Cert.Reference13Ideal.Value.run (F := Ideal) m ρ)

theorem algebraic13 : Cert.algebraic_Kernel13Ideal_Reference13Ideal := by
  intro m g m' g' hp hm
  refine ⟨fun c => Cert.Reference13Ideal.Read.val_main_v2 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    Cert.Kernel13Ideal.LruOut.run m g, ?_⟩
  refine (θ_run _ _ _).mono (fun r h c => ?_) (Cert.Reference13Ideal.Value.run (F := Ideal) m' g')
  obtain ⟨e0, e1⟩ := hm c
  obtain ⟨h2, kept⟩ := h c
  rw [e0, e1] at h2
  exact ⟨h2.trans (Cert.Reference13Ideal.Read.val_main_v2_eq _ _), kept⟩

theorem quiescent_Kernel14 : Cert.quiescent_Kernel14 := fun m ρ _ => Cert.Kernel14.Gen.frame m ρ
theorem quiescent_Kernel14Ideal : Cert.quiescent_Kernel14Ideal := fun m ρ _ => Cert.Kernel14Ideal.Gen.frame m ρ
theorem quiescent_Reference14Ideal : Cert.quiescent_Reference14Ideal := by
  intro m ρ _
  exact (θ_run _ _ _).mono (fun r h => ⟨fun c => (h c).2, sem_eq_zero_of_no_sems (by decide) r.2⟩) (Cert.Reference14Ideal.Value.run (F := Ideal) m ρ)

theorem algebraic14 : Cert.algebraic_Kernel14Ideal_Reference14Ideal := by
  intro m g m' g' hp hm
  refine ⟨fun c => Cert.Reference14Ideal.Read.val_main_v4 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    Cert.Kernel14Ideal.AttnOutDx.run m g, ?_⟩
  refine (θ_run _ _ _).mono (fun r h c => ?_) (Cert.Reference14Ideal.Value.run (F := Ideal) m' g')
  obtain ⟨e0, e1⟩ := hm c
  obtain ⟨h4, kept⟩ := h c
  rw [e0, e1] at h4
  exact ⟨h4.trans (Cert.Reference14Ideal.Read.val_main_v4_eq _ _), kept⟩

theorem quiescent_Kernel15 : Cert.quiescent_Kernel15 := fun m ρ _ => Cert.Kernel15.Gen.frame m ρ
theorem quiescent_Kernel15Ideal : Cert.quiescent_Kernel15Ideal := fun m ρ _ => Cert.Kernel15Ideal.Gen.frame m ρ
theorem quiescent_Reference15Ideal : Cert.quiescent_Reference15Ideal := by
  intro m ρ _
  exact (θ_run _ _ _).mono (fun r h => ⟨fun c => (h c).2, sem_eq_zero_of_no_sems (by decide) r.2⟩) (Cert.Reference15Ideal.Value.run (F := Ideal) m ρ)

theorem algebraic15 : Cert.algebraic_Kernel15Ideal_Reference15Ideal := by
  intro m g m' g' hp hm
  refine ⟨fun c => Cert.Reference15Ideal.Read.val_main_v4 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    Cert.Kernel15Ideal.LruOutDx.run m g, ?_⟩
  refine (θ_run _ _ _).mono (fun r h c => ?_) (Cert.Reference15Ideal.Value.run (F := Ideal) m' g')
  obtain ⟨e0, e1⟩ := hm c
  obtain ⟨h4, kept⟩ := h c
  rw [e0, e1] at h4
  exact ⟨h4.trans (Cert.Reference15Ideal.Read.val_main_v4_eq _ _), kept⟩

theorem quiescent_Kernel16 : Cert.quiescent_Kernel16 := fun m ρ _ => Cert.Kernel16.Gen.frame m ρ
theorem quiescent_Kernel16Ideal : Cert.quiescent_Kernel16Ideal := fun m ρ _ => Cert.Kernel16Ideal.Gen.frame m ρ
theorem quiescent_Reference16Ideal : Cert.quiescent_Reference16Ideal := by
  intro m ρ _
  exact (θ_run _ _ _).mono (fun r h => ⟨fun c => (h c).2, sem_eq_zero_of_no_sems (by decide) r.2⟩) (Cert.Reference16Ideal.Value.run (F := Ideal) m ρ)

theorem algebraic16 : Cert.algebraic_Kernel16Ideal_Reference16Ideal := by
  intro m g m' g' hp hm
  refine ⟨fun c => Cert.Reference16Ideal.Read.val_main_v6 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    Cert.Kernel16Ideal.OutProjDw.run m g, ?_⟩
  refine (θ_run _ _ _).mono (fun r h c => ?_) (Cert.Reference16Ideal.Value.run (F := Ideal) m' g')
  obtain ⟨e0, e1⟩ := hm c
  obtain ⟨h6, kept⟩ := h c
  rw [e0, e1] at h6
  exact ⟨h6.trans (Cert.Reference16Ideal.Read.val_main_v6_eq _ _), kept⟩

theorem quiescent_Kernel17 : Cert.quiescent_Kernel17 := fun m ρ _ => Cert.Kernel17.Gen.frame m ρ
theorem quiescent_Kernel17Ideal : Cert.quiescent_Kernel17Ideal := fun m ρ _ => Cert.Kernel17Ideal.Gen.frame m ρ
theorem quiescent_Reference17Ideal : Cert.quiescent_Reference17Ideal := by
  intro m ρ _
  exact (θ_run _ _ _).mono (fun r h => ⟨fun c => (h c).2, sem_eq_zero_of_no_sems (by decide) r.2⟩) (Cert.Reference17Ideal.Value.run (F := Ideal) m ρ)

theorem algebraic17 : Cert.algebraic_Kernel17Ideal_Reference17Ideal := by
  intro m g m' g' hp hm
  refine ⟨fun c => Cert.Reference17Ideal.Read.val_main_v6 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    Cert.Kernel17Ideal.AttnOutDw.run m g, ?_⟩
  refine (θ_run _ _ _).mono (fun r h c => ?_) (Cert.Reference17Ideal.Value.run (F := Ideal) m' g')
  obtain ⟨e0, e1⟩ := hm c
  obtain ⟨h6, kept⟩ := h c
  rw [e0, e1] at h6
  exact ⟨h6.trans (Cert.Reference17Ideal.Read.val_main_v6_eq _ _), kept⟩

theorem quiescent_Kernel18 : Cert.quiescent_Kernel18 := fun m ρ _ => Cert.Kernel18.Gen.frame m ρ
theorem quiescent_Kernel18Ideal : Cert.quiescent_Kernel18Ideal := fun m ρ _ => Cert.Kernel18Ideal.Gen.frame m ρ
theorem quiescent_Reference18Ideal : Cert.quiescent_Reference18Ideal := by
  intro m ρ _
  exact (θ_run _ _ _).mono (fun r h => ⟨fun c => (h c).2, sem_eq_zero_of_no_sems (by decide) r.2⟩) (Cert.Reference18Ideal.Value.run (F := Ideal) m ρ)

theorem algebraic18 : Cert.algebraic_Kernel18Ideal_Reference18Ideal := by
  intro m g m' g' hp hm
  refine ⟨fun c => Cert.Reference18Ideal.Read.val_main_v6 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    Cert.Kernel18Ideal.LruOutDw.run m g, ?_⟩
  refine (θ_run _ _ _).mono (fun r h c => ?_) (Cert.Reference18Ideal.Value.run (F := Ideal) m' g')
  obtain ⟨e0, e1⟩ := hm c
  obtain ⟨h6, kept⟩ := h c
  rw [e0, e1] at h6
  exact ⟨h6.trans (Cert.Reference18Ideal.Read.val_main_v6_eq _ _), kept⟩

theorem quiescent_Kernel19 : Cert.quiescent_Kernel19 := fun m ρ _ => Cert.Kernel19.Gen.frame m ρ
theorem quiescent_Kernel19Ideal : Cert.quiescent_Kernel19Ideal := fun m ρ _ => Cert.Kernel19Ideal.Gen.frame m ρ
theorem quiescent_Reference19Ideal : Cert.quiescent_Reference19Ideal := by
  intro m ρ _
  exact (θ_run _ _ _).mono (fun r h => ⟨fun c => (h c).2, sem_eq_zero_of_no_sems (by decide) r.2⟩) (Cert.Reference19Ideal.Value.run (F := Ideal) m ρ)

theorem algebraic19 : Cert.algebraic_Kernel19Ideal_Reference19Ideal := by
  intro m g m' g' hp hm
  refine ⟨fun c => Cert.Reference19Ideal.Read.val_main_v6 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    Cert.Kernel19Ideal.Ff2Dw.run m g, ?_⟩
  refine (θ_run _ _ _).mono (fun r h c => ?_) (Cert.Reference19Ideal.Value.run (F := Ideal) m' g')
  obtain ⟨e0, e1⟩ := hm c
  obtain ⟨h6, kept⟩ := h c
  rw [e0, e1] at h6
  exact ⟨h6.trans (Cert.Reference19Ideal.Read.val_main_v6_eq _ _), kept⟩

theorem quiescent_Kernel20 : Cert.quiescent_Kernel20 := fun m ρ _ => Cert.Kernel20.Gen.frame m ρ
theorem quiescent_Kernel20Ideal : Cert.quiescent_Kernel20Ideal := fun m ρ _ => Cert.Kernel20Ideal.Gen.frame m ρ
theorem quiescent_Reference20Ideal : Cert.quiescent_Reference20Ideal := by
  intro m ρ _
  exact (θ_run _ _ _).mono (fun r h => ⟨fun c => (h c).2, sem_eq_zero_of_no_sems (by decide) r.2⟩) (Cert.Reference20Ideal.Value.run (F := Ideal) m ρ)

theorem algebraic20 : Cert.algebraic_Kernel20Ideal_Reference20Ideal := by
  intro m g m' g' hp hm
  refine ⟨fun c => Cert.Reference20Ideal.Read.val_main_v7 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    Cert.Kernel20Ideal.Ff1Dw.run m g, ?_⟩
  refine (θ_run _ _ _).mono (fun r h c => ?_) (Cert.Reference20Ideal.Value.run (F := Ideal) m' g')
  obtain ⟨e0, e1⟩ := hm c
  obtain ⟨h7, kept⟩ := h c
  rw [e0, e1] at h7
  exact ⟨h7.trans (Cert.Reference20Ideal.Read.val_main_v7_eq _ _), kept⟩

theorem quiescent_Kernel21 : Cert.quiescent_Kernel21 := fun m ρ _ => Cert.Kernel21.Gen.frame m ρ
theorem quiescent_Kernel21Ideal : Cert.quiescent_Kernel21Ideal := fun m ρ _ => Cert.Kernel21Ideal.Gen.frame m ρ
theorem quiescent_Reference21Ideal : Cert.quiescent_Reference21Ideal := by
  intro m ρ _
  exact (θ_run _ _ _).mono (fun r h => ⟨fun c => (h c).2, sem_eq_zero_of_no_sems (by decide) r.2⟩) (Cert.Reference21Ideal.Value.run (F := Ideal) m ρ)

theorem algebraic21 : Cert.algebraic_Kernel21Ideal_Reference21Ideal := by
  intro m g m' g' hp hm
  refine ⟨fun c => Cert.Reference21Ideal.Read.val_main_v7 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    Cert.Kernel21Ideal.InProjDw.run m g, ?_⟩
  refine (θ_run _ _ _).mono (fun r h c => ?_) (Cert.Reference21Ideal.Value.run (F := Ideal) m' g')
  obtain ⟨e0, e1⟩ := hm c
  obtain ⟨h7, kept⟩ := h c
  rw [e0, e1] at h7
  exact ⟨h7.trans (Cert.Reference21Ideal.Read.val_main_v7_eq _ _), kept⟩

theorem quiescent_Kernel22 : Cert.quiescent_Kernel22 := fun m ρ _ => Cert.Kernel22.Gen.frame m ρ
theorem quiescent_Kernel22Ideal : Cert.quiescent_Kernel22Ideal := fun m ρ _ => Cert.Kernel22Ideal.Gen.frame m ρ
theorem quiescent_Reference22Ideal : Cert.quiescent_Reference22Ideal := by
  intro m ρ _
  exact (θ_run _ _ _).mono (fun r h => ⟨fun c => (h c).2, sem_eq_zero_of_no_sems (by decide) r.2⟩) (Cert.Reference22Ideal.Value.run (F := Ideal) m ρ)

theorem algebraic22 : Cert.algebraic_Kernel22Ideal_Reference22Ideal := by
  intro m g m' g' hp hm
  refine ⟨fun c => Cert.Reference22Ideal.Read.val_main_v5 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)),
    Cert.Kernel22Ideal.InProjDxTop.run m g, ?_⟩
  refine (θ_run _ _ _).mono (fun r h c => ?_) (Cert.Reference22Ideal.Value.run (F := Ideal) m' g')
  obtain ⟨e0, e1⟩ := hm c
  obtain ⟨h5, kept⟩ := h c
  rw [e0, e1] at h5
  exact ⟨h5.trans (Cert.Reference22Ideal.Read.val_main_v5_eq _ _), kept⟩

theorem quiescent_Kernel23 : Cert.quiescent_Kernel23 := fun m ρ _ => Cert.Kernel23.Gen.frame m ρ
theorem quiescent_Kernel23Ideal : Cert.quiescent_Kernel23Ideal := fun m ρ _ => Cert.Kernel23Ideal.Gen.frame m ρ
theorem quiescent_Reference23Ideal : Cert.quiescent_Reference23Ideal := by
  intro m ρ _
  exact (θ_run _ _ _).mono (fun r h => ⟨fun c => (h c).2, sem_eq_zero_of_no_sems (by decide) r.2⟩) (Cert.Reference23Ideal.Value.run (F := Ideal) m ρ)

theorem algebraic23 : Cert.algebraic_Kernel23Ideal_Reference23Ideal := by
  intro m g m' g' hp hm
  refine ⟨fun c => Cert.Reference23Ideal.Read.val_main_v7 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    Cert.Kernel23Ideal.InProjDxBottom.run m g, ?_⟩
  refine (θ_run _ _ _).mono (fun r h c => ?_) (Cert.Reference23Ideal.Value.run (F := Ideal) m' g')
  obtain ⟨e0, e1, e2⟩ := hm c
  obtain ⟨h7, kept⟩ := h c
  rw [e0, e1, e2] at h7
  exact ⟨h7.trans (Cert.Reference23Ideal.Read.val_main_v7_eq _ _ _), kept⟩

theorem quiescent_Kernel24 : Cert.quiescent_Kernel24 := fun m ρ _ => Cert.Kernel24.Gen.frame m ρ
theorem quiescent_Kernel24Ideal : Cert.quiescent_Kernel24Ideal := fun m ρ _ => Cert.Kernel24Ideal.Gen.frame m ρ
theorem quiescent_Reference24Ideal : Cert.quiescent_Reference24Ideal := by
  intro m ρ _
  exact (θ_run _ _ _).mono (fun r h => ⟨fun c => (h c).2, sem_eq_zero_of_no_sems (by decide) r.2⟩) (Cert.Reference24Ideal.Value.run (F := Ideal) m ρ)

section
local instance : Cert.Pre_pre_rel_bias_fwd.Facts := Cert.Pre_pre_rel_bias_fwd.facts

theorem algebraic24 : Cert.algebraic_Kernel24Ideal_Reference24Ideal_pre_pre_rel_bias_fwd := by
  intro m g m' g' hp hm
  refine ⟨fun c => Cert.Reference24Ideal.Read.val_main_v7 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)),
    Cert.Kernel24Ideal.RelBiasFwd.run m (fun c => Cert.Pre_pre_rel_bias_fwd.bounds _ _ (hp c)) g, ?_⟩
  refine (θ_run _ _ _).mono (fun r h c => ?_) (Cert.Reference24Ideal.Value.run (F := Ideal) m' g')
  obtain ⟨e0, e1⟩ := hm c
  obtain ⟨h0, kept⟩ := h c
  rw [e0, e1] at h0
  exact ⟨h0.trans (Cert.Reference24Ideal.Read.val_main_v7_eq _ _), kept⟩
end

theorem quiescent_Kernel25 : Cert.quiescent_Kernel25 := fun m ρ _ => Cert.Kernel25.Gen.frame m ρ
theorem quiescent_Kernel25Ideal : Cert.quiescent_Kernel25Ideal := fun m ρ _ => Cert.Kernel25Ideal.Gen.frame m ρ
theorem quiescent_Reference25Ideal : Cert.quiescent_Reference25Ideal := by
  intro m ρ _
  exact (θ_run _ _ _).mono (fun r h => ⟨fun c => (h c).2, sem_eq_zero_of_no_sems (by decide) r.2⟩) (Cert.Reference25Ideal.Value.run (F := Ideal) m ρ)

section
local instance : Cert.Pre_pre_rel_bias_bwd.Facts := Cert.Pre_pre_rel_bias_bwd.facts

theorem algebraic25 : Cert.algebraic_Kernel25Ideal_Reference25Ideal_pre_pre_rel_bias_bwd := by
  intro m g m' g' hp hm
  refine ⟨fun c => Cert.Reference25Ideal.Read.val_main_v11 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    Cert.Kernel25Ideal.RelBiasBwd.run m (fun c => Cert.Pre_pre_rel_bias_bwd.bounds _ _ (hp c)) g, ?_⟩
  refine (θ_run _ _ _).mono (fun r h c => ?_) (Cert.Reference25Ideal.Value.run (F := Ideal) m' g')
  obtain ⟨e0, e1⟩ := hm c
  obtain ⟨h0, kept⟩ := h c
  rw [e0, e1] at h0
  exact ⟨h0.trans (Cert.Reference25Ideal.Read.val_main_v11_eq _ _), kept⟩
end

theorem quiescent_Kernel26 : Cert.quiescent_Kernel26 := fun m ρ _ => Cert.Kernel26.Gen.frame m ρ
theorem quiescent_Kernel26Ideal : Cert.quiescent_Kernel26Ideal := fun m ρ _ => Cert.Kernel26Ideal.Gen.frame m ρ
theorem quiescent_Reference26Ideal : Cert.quiescent_Reference26Ideal := by
  intro m ρ _
  exact (θ_run _ _ _).mono (fun r h => ⟨fun c => (h c).2.2.2.2, sem_eq_zero_of_no_sems (by decide) r.2⟩) (Cert.Reference26Ideal.Value.run (F := Ideal) m ρ)

theorem preserves26 : Cert.preserves_Kernel26_Kernel26Ideal :=
  ⟨IdealRules.named_const.statement Cert.Kernel26Ideal.κ "corr1" .f32 0x3FC48605#32 _ rfl, IdealRules.named_const.statement Cert.Kernel26Ideal.κ "corr2" .f32 0x42C8E6D3#32 _ rfl⟩

theorem algebraic26 : Cert.algebraic_Kernel26Ideal_Reference26Ideal := by
  intro m g m' g' hp hm
  refine ⟨fun c => (m ((c.tc : Thread Cert.Kernel26Ideal.nD Cert.Kernel26Ideal.τ).loc Cert.Kernel26Ideal.main_arg3)),
    fun c => Cert.Reference26Ideal.Read.val_main_v23 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    fun c => Cert.Reference26Ideal.Read.val_main_v4 (F := Ideal) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)),
    fun c => Cert.Reference26Ideal.Read.val_main_v10 (F := Ideal) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    Cert.Kernel26Ideal.AdamAda.run m g, ?_⟩
  refine (θ_run _ _ _).mono (fun r h c => ?_) (Cert.Reference26Ideal.Value.run (F := Ideal) m' g')
  obtain ⟨e0, e1, e2, e3⟩ := hm c
  obtain ⟨hg, h23, h4, h10, kept⟩ := h c
  rw [e0, e1, e2, e3] at h23
  rw [e1, e3] at h4
  rw [e2, e3] at h10
  exact ⟨hg.trans e3, h23.trans (Cert.Reference26Ideal.Read.val_main_v23_eq _ _ _ _), h4.trans (Cert.Reference26Ideal.Read.val_main_v4_eq _ _), h10.trans (Cert.Reference26Ideal.Read.val_main_v10_eq _ _), kept⟩

theorem quiescent_Kernel27 : Cert.quiescent_Kernel27 := fun m ρ _ => Cert.Kernel27.Gen.frame m ρ
theorem quiescent_Kernel27Ideal : Cert.quiescent_Kernel27Ideal := fun m ρ _ => Cert.Kernel27Ideal.Gen.frame m ρ
theorem quiescent_Reference27Ideal : Cert.quiescent_Reference27Ideal := by
  intro m ρ _
  exact (θ_run _ _ _).mono (fun r h => ⟨fun c => (h c).2.2.2.2, sem_eq_zero_of_no_sems (by decide) r.2⟩) (Cert.Reference27Ideal.Value.run (F := Ideal) m ρ)

theorem preserves27 : Cert.preserves_Kernel27_Kernel27Ideal :=
  ⟨IdealRules.named_const.statement Cert.Kernel27Ideal.κ "corr1" .f32 0x3FC48605#32 _ rfl, IdealRules.named_const.statement Cert.Kernel27Ideal.κ "corr2" .f32 0x42C8E6D3#32 _ rfl⟩

theorem algebraic27 : Cert.algebraic_Kernel27Ideal_Reference27Ideal := by
  intro m g m' g' hp hm
  refine ⟨fun c => (m ((c.tc : Thread Cert.Kernel27Ideal.nD Cert.Kernel27Ideal.τ).loc Cert.Kernel27Ideal.main_arg3)),
    fun c => Cert.Reference27Ideal.Read.val_main_v23 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    fun c => Cert.Reference27Ideal.Read.val_main_v4 (F := Ideal) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg3)),
    fun c => Cert.Reference27Ideal.Read.val_main_v10 (F := Ideal) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    Cert.Kernel27Ideal.AdamFf1.run m g, ?_⟩
  refine (θ_run _ _ _).mono (fun r h c => ?_) (Cert.Reference27Ideal.Value.run (F := Ideal) m' g')
  obtain ⟨e0, e1, e2, e3⟩ := hm c
  obtain ⟨hg, h23, h4, h10, kept⟩ := h c
  rw [e0, e1, e2, e3] at h23
  rw [e1, e3] at h4
  rw [e2, e3] at h10
  exact ⟨hg.trans e3, h23.trans (Cert.Reference27Ideal.Read.val_main_v23_eq _ _ _ _), h4.trans (Cert.Reference27Ideal.Read.val_main_v4_eq _ _), h10.trans (Cert.Reference27Ideal.Read.val_main_v10_eq _ _), kept⟩

theorem quiescent_Kernel28 : Cert.quiescent_Kernel28 := fun m ρ _ => Cert.Kernel28.Gen.frame m ρ
theorem quiescent_Kernel28Ideal : Cert.quiescent_Kernel28Ideal := fun m ρ _ => Cert.Kernel28Ideal.Gen.frame m ρ
theorem quiescent_Reference28Ideal : Cert.quiescent_Reference28Ideal := by
  intro m ρ _
  exact (θ_run _ _ _).mono (fun r h => ⟨fun c => (h c).2.2.2.2, sem_eq_zero_of_no_sems (by decide) r.2⟩) (Cert.Reference28Ideal.Value.run (F := Ideal) m ρ)

theorem preserves28 : Cert.preserves_Kernel28_Kernel28Ideal :=
  ⟨IdealRules.named_const.statement Cert.Kernel28Ideal.κ "corr1" .f32 0x3FC48605#32 _ rfl, IdealRules.named_const.statement Cert.Kernel28Ideal.κ "corr2" .f32 0x42C8E6D3#32 _ rfl⟩

theorem algebraic28 : Cert.algebraic_Kernel28Ideal_Reference28Ideal := by
  intro m g m' g' hp hm
  refine ⟨fun c => (m ((c.tc : Thread Cert.Kernel28Ideal.nD Cert.Kernel28Ideal.τ).loc Cert.Kernel28Ideal.main_arg3)),
    fun c => Cert.Reference28Ideal.Read.val_main_v23 (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.Reference28Ideal.Read.val_main_v4 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)),
    fun c => Cert.Reference28Ideal.Read.val_main_v10 (F := Ideal) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    Cert.Kernel28Ideal.AdamIn.run m g, ?_⟩
  refine (θ_run _ _ _).mono (fun r h c => ?_) (Cert.Reference28Ideal.Value.run (F := Ideal) m' g')
  obtain ⟨e0, e1, e2, e3⟩ := hm c
  obtain ⟨hg, h23, h4, h10, kept⟩ := h c
  rw [e0, e1, e2, e3] at h23
  rw [e1, e3] at h4
  rw [e2, e3] at h10
  exact ⟨hg.trans e3, h23.trans (Cert.Reference28Ideal.Read.val_main_v23_eq _ _ _ _), h4.trans (Cert.Reference28Ideal.Read.val_main_v4_eq _ _), h10.trans (Cert.Reference28Ideal.Read.val_main_v10_eq _ _), kept⟩

theorem quiescent_Kernel29 : Cert.quiescent_Kernel29 := fun m ρ _ => Cert.Kernel29.Gen.frame m ρ
theorem quiescent_Kernel29Ideal : Cert.quiescent_Kernel29Ideal := fun m ρ _ => Cert.Kernel29Ideal.Gen.frame m ρ
theorem quiescent_Reference29Ideal : Cert.quiescent_Reference29Ideal := by
  intro m ρ _
  exact (θ_run _ _ _).mono (fun r h => ⟨fun c => (h c).2.2.2.2, sem_eq_zero_of_no_sems (by decide) r.2⟩) (Cert.Reference29Ideal.Value.run (F := Ideal) m ρ)

theorem preserves29 : Cert.preserves_Kernel29_Kernel29Ideal :=
  ⟨IdealRules.named_const.statement Cert.Kernel29Ideal.κ "corr1" .f32 0x3FC48605#32 _ rfl, IdealRules.named_const.statement Cert.Kernel29Ideal.κ "corr2" .f32 0x42C8E6D3#32 _ rfl⟩

theorem algebraic29 : Cert.algebraic_Kernel29Ideal_Reference29Ideal := by
  intro m g m' g' hp hm
  refine ⟨fun c => (m ((c.tc : Thread Cert.Kernel29Ideal.nD Cert.Kernel29Ideal.τ).loc Cert.Kernel29Ideal.main_arg3)),
    fun c => Cert.Reference29Ideal.Read.val_main_v23 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)),
    fun c => Cert.Reference29Ideal.Read.val_main_v4 (F := Ideal) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)),
    fun c => Cert.Reference29Ideal.Read.val_main_v10 (F := Ideal) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)),
    Cert.Kernel29Ideal.AdamConv.run m g, ?_⟩
  refine (θ_run _ _ _).mono (fun r h c => ?_) (Cert.Reference29Ideal.Value.run (F := Ideal) m' g')
  obtain ⟨e0, e1, e2, e3⟩ := hm c
  obtain ⟨hg, h23, h4, h10, kept⟩ := h c
  rw [e0, e1, e2, e3] at h23
  rw [e1, e3] at h4
  rw [e2, e3] at h10
  exact ⟨hg.trans e3, h23.trans (Cert.Reference29Ideal.Read.val_main_v23_eq _ _ _ _), h4.trans (Cert.Reference29Ideal.Read.val_main_v4_eq _ _), h10.trans (Cert.Reference29Ideal.Read.val_main_v10_eq _ _), kept⟩

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   Cert.Kernel21.Gen.facts, Cert.Kernel21Ideal.Gen.facts, Cert.Reference21Ideal.Gen.facts,
   Cert.Kernel22.Gen.facts, Cert.Kernel22Ideal.Gen.facts, Cert.Reference22Ideal.Gen.facts,
   Cert.Kernel23.Gen.facts, Cert.Kernel23Ideal.Gen.facts, Cert.Reference23Ideal.Gen.facts,
   Cert.Kernel24.Gen.facts, Cert.Kernel24Ideal.Gen.facts, Cert.Reference24Ideal.Gen.facts,
   Cert.Kernel25.Gen.facts, Cert.Kernel25Ideal.Gen.facts, Cert.Reference25Ideal.Gen.facts,
   Cert.Kernel26.Gen.facts, Cert.Kernel26Ideal.Gen.facts, Cert.Reference26Ideal.Gen.facts,
   Cert.Kernel27.Gen.facts, Cert.Kernel27Ideal.Gen.facts, Cert.Reference27Ideal.Gen.facts,
   Cert.Kernel28.Gen.facts, Cert.Kernel28Ideal.Gen.facts, Cert.Reference28Ideal.Gen.facts,
   Cert.Kernel29.Gen.facts, Cert.Kernel29Ideal.Gen.facts, Cert.Reference29Ideal.Gen.facts,
   Cert.Pre_pre.facts, Cert.Pre_pre_attn_fwd.facts, Cert.Pre_pre_final_loss.facts, Cert.Pre_pre_rel_bias_fwd.facts, Cert.Pre_pre_rel_bias_bwd.facts,
   quiescent_Kernel, quiescent_KernelIdeal, fun m ρ _ => quiescent_KernelIdeal m ρ trivial,
   quiescent_ReferenceIdeal, fun m ρ _ => quiescent_ReferenceIdeal m ρ trivial,
   quiescent_Kernel2, quiescent_Kernel2Ideal, quiescent_Reference2Ideal,
   quiescent_Kernel3, quiescent_Kernel3Ideal, fun m ρ _ => quiescent_Kernel3Ideal m ρ trivial,
   quiescent_Reference3Ideal, fun m ρ _ => quiescent_Reference3Ideal m ρ trivial,
   quiescent_Kernel4, quiescent_Kernel4Ideal, quiescent_Reference4Ideal,
   quiescent_Kernel5, quiescent_Kernel5Ideal, fun m ρ _ => quiescent_Kernel5Ideal m ρ trivial,
   quiescent_Reference5Ideal, fun m ρ _ => quiescent_Reference5Ideal m ρ trivial,
   quiescent_Kernel6, quiescent_Kernel6Ideal, quiescent_Reference6Ideal,
   quiescent_Kernel7, quiescent_Kernel7Ideal, quiescent_Reference7Ideal,
   quiescent_Kernel8, quiescent_Kernel8Ideal, quiescent_Reference8Ideal,
   quiescent_Kernel9, quiescent_Kernel9Ideal, quiescent_Reference9Ideal,
   quiescent_Kernel10, quiescent_Kernel10Ideal, quiescent_Reference10Ideal,
   quiescent_Kernel11, quiescent_Kernel11Ideal, quiescent_Reference11Ideal,
   quiescent_Kernel12, quiescent_Kernel12Ideal, quiescent_Reference12Ideal,
   quiescent_Kernel13, quiescent_Kernel13Ideal, quiescent_Reference13Ideal,
   quiescent_Kernel14, quiescent_Kernel14Ideal, quiescent_Reference14Ideal,
   quiescent_Kernel15, quiescent_Kernel15Ideal, quiescent_Reference15Ideal,
   quiescent_Kernel16, quiescent_Kernel16Ideal, quiescent_Reference16Ideal,
   quiescent_Kernel17, quiescent_Kernel17Ideal, quiescent_Reference17Ideal,
   quiescent_Kernel18, quiescent_Kernel18Ideal, quiescent_Reference18Ideal,
   quiescent_Kernel19, quiescent_Kernel19Ideal, quiescent_Reference19Ideal,
   quiescent_Kernel20, quiescent_Kernel20Ideal, quiescent_Reference20Ideal,
   quiescent_Kernel21, quiescent_Kernel21Ideal, quiescent_Reference21Ideal,
   quiescent_Kernel22, quiescent_Kernel22Ideal, quiescent_Reference22Ideal,
   quiescent_Kernel23, quiescent_Kernel23Ideal, quiescent_Reference23Ideal,
   quiescent_Kernel24, quiescent_Kernel24Ideal, fun m ρ _ => quiescent_Kernel24Ideal m ρ trivial,
   quiescent_Reference24Ideal, fun m ρ _ => quiescent_Reference24Ideal m ρ trivial,
   quiescent_Kernel25, quiescent_Kernel25Ideal, fun m ρ _ => quiescent_Kernel25Ideal m ρ trivial,
   quiescent_Reference25Ideal, fun m ρ _ => quiescent_Reference25Ideal m ρ trivial,
   quiescent_Kernel26, quiescent_Kernel26Ideal, quiescent_Reference26Ideal,
   quiescent_Kernel27, quiescent_Kernel27Ideal, quiescent_Reference27Ideal,
   quiescent_Kernel28, quiescent_Kernel28Ideal, quiescent_Reference28Ideal,
   quiescent_Kernel29, quiescent_Kernel29Ideal, quiescent_Reference29Ideal,
   preserves, algebraic, trivial, algebraic2, preserves3, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, preserves26, algebraic26, preserves27, algebraic27, preserves28, algebraic28, preserves29, algebraic29⟩

end Cert.Proof

end
